-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite [hPre_finite : Cert.Pre_finite.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite [hPre_finite : Cert.Pre_finite.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1))) = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9)
      ∧ r.2.mem ((c.tc : Thread Cert.Kernel19.nD Cert.Kernel19.τ).loc Cert.Kernel19.main_arg10) = m ((c.tc : Thread Cert.Kernel19.nD Cert.Kernel19.τ).loc Cert.Kernel19.main_arg10)
      ∧ r.2.mem ((c.tc : Thread Cert.Kernel19.nD Cert.Kernel19.τ).loc Cert.Kernel19.main_arg11) = m ((c.tc : Thread Cert.Kernel19.nD Cert.Kernel19.τ).loc Cert.Kernel19.main_arg11)
      ∧ r.2.mem ((c.tc : Thread Cert.Kernel19.nD Cert.Kernel19.τ).loc Cert.Kernel19.main_arg12) = m ((c.tc : Thread Cert.Kernel19.nD Cert.Kernel19.τ).loc Cert.Kernel19.main_arg12)
      ∧ r.2.mem ((c.tc : Thread Cert.Kernel19.nD Cert.Kernel19.τ).loc Cert.Kernel19.main_arg13) = m ((c.tc : Thread Cert.Kernel19.nD Cert.Kernel19.τ).loc Cert.Kernel19.main_arg13)
      ∧ r.2.mem ((c.tc : Thread Cert.Kernel19.nD Cert.Kernel19.τ).loc Cert.Kernel19.main_arg14) = m ((c.tc : Thread Cert.Kernel19.nD Cert.Kernel19.τ).loc Cert.Kernel19.main_arg14)
      ∧ r.2.mem ((c.tc : Thread Cert.Kernel19.nD Cert.Kernel19.τ).loc Cert.Kernel19.main_arg15) = m ((c.tc : Thread Cert.Kernel19.nD Cert.Kernel19.τ).loc Cert.Kernel19.main_arg15)
      ∧ r.2.mem ((c.tc : Thread Cert.Kernel19.nD Cert.Kernel19.τ).loc Cert.Kernel19.main_arg16) = m ((c.tc : Thread Cert.Kernel19.nD Cert.Kernel19.τ).loc Cert.Kernel19.main_arg16)
      ∧ r.2.mem ((c.tc : Thread Cert.Kernel19.nD Cert.Kernel19.τ).loc Cert.Kernel19.main_arg17) = m ((c.tc : Thread Cert.Kernel19.nD Cert.Kernel19.τ).loc Cert.Kernel19.main_arg17)
      ∧ r.2.mem ((c.tc : Thread Cert.Kernel19.nD Cert.Kernel19.τ).loc Cert.Kernel19.main_arg18) = m ((c.tc : Thread Cert.Kernel19.nD Cert.Kernel19.τ).loc Cert.Kernel19.main_arg18)
      ∧ r.2.mem ((c.tc : Thread Cert.Kernel19.nD Cert.Kernel19.τ).loc Cert.Kernel19.main_arg19) = m ((c.tc : Thread Cert.Kernel19.nD Cert.Kernel19.τ).loc Cert.Kernel19.main_arg19)
      ∧ r.2.mem ((c.tc : Thread Cert.Kernel19.nD Cert.Kernel19.τ).loc Cert.Kernel19.main_arg20) = m ((c.tc : Thread Cert.Kernel19.nD Cert.Kernel19.τ).loc Cert.Kernel19.main_arg20)
      ∧ r.2.mem ((c.tc : Thread Cert.Kernel19.nD Cert.Kernel19.τ).loc Cert.Kernel19.main_arg21) = m ((c.tc : Thread Cert.Kernel19.nD Cert.Kernel19.τ).loc Cert.Kernel19.main_arg21)
      ∧ r.2.mem ((c.tc : Thread Cert.Kernel19.nD Cert.Kernel19.τ).loc Cert.Kernel19.main_arg22) = m ((c.tc : Thread Cert.Kernel19.nD Cert.Kernel19.τ).loc Cert.Kernel19.main_arg22)
      ∧ r.2.mem ((c.tc : Thread Cert.Kernel19.nD Cert.Kernel19.τ).loc Cert.Kernel19.main_arg23) = m ((c.tc : Thread Cert.Kernel19.nD Cert.Kernel19.τ).loc Cert.Kernel19.main_arg23)
      ∧ r.2.mem ((c.tc : Thread Cert.Kernel19.nD Cert.Kernel19.τ).loc Cert.Kernel19.main_arg24) = m ((c.tc : Thread Cert.Kernel19.nD Cert.Kernel19.τ).loc Cert.Kernel19.main_arg24)
      ∧ r.2.mem ((c.tc : Thread Cert.Kernel19.nD Cert.Kernel19.τ).loc Cert.Kernel19.main_arg25) = m ((c.tc : Thread Cert.Kernel19.nD Cert.Kernel19.τ).loc Cert.Kernel19.main_arg25)
      ∧ r.2.mem ((c.tc : Thread Cert.Kernel19.nD Cert.Kernel19.τ).loc Cert.Kernel19.main_arg26) = m ((c.tc : Thread Cert.Kernel19.nD Cert.Kernel19.τ).loc Cert.Kernel19.main_arg26)
      ∧ r.2.mem ((c.tc : Thread Cert.Kernel19.nD Cert.Kernel19.τ).loc Cert.Kernel19.main_arg27) = m ((c.tc : Thread Cert.Kernel19.nD Cert.Kernel19.τ).loc Cert.Kernel19.main_arg27)
      ∧ r.2.mem ((c.tc : Thread Cert.Kernel19.nD Cert.Kernel19.τ).loc Cert.Kernel19.main_arg28) = m ((c.tc : Thread Cert.Kernel19.nD Cert.Kernel19.τ).loc Cert.Kernel19.main_arg28)
      ∧ r.2.mem ((c.tc : Thread Cert.Kernel19.nD Cert.Kernel19.τ).loc Cert.Kernel19.main_arg29) = m ((c.tc : Thread Cert.Kernel19.nD Cert.Kernel19.τ).loc Cert.Kernel19.main_arg29)
      ∧ r.2.mem ((c.tc : Thread Cert.Kernel19.nD Cert.Kernel19.τ).loc Cert.Kernel19.main_arg30) = m ((c.tc : Thread Cert.Kernel19.nD Cert.Kernel19.τ).loc Cert.Kernel19.main_arg30)
      ∧ r.2.mem ((c.tc : Thread Cert.Kernel19.nD Cert.Kernel19.τ).loc Cert.Kernel19.main_arg31) = m ((c.tc : Thread Cert.Kernel19.nD Cert.Kernel19.τ).loc Cert.Kernel19.main_arg31)
      ∧ r.2.mem ((c.tc : Thread Cert.Kernel19.nD Cert.Kernel19.τ).loc Cert.Kernel19.main_arg32) = m ((c.tc : Thread Cert.Kernel19.nD Cert.Kernel19.τ).loc Cert.Kernel19.main_arg32)
      ∧ r.2.mem ((c.tc : Thread Cert.Kernel19.nD Cert.Kernel19.τ).loc Cert.Kernel19.main_arg33) = m ((c.tc : Thread Cert.Kernel19.nD Cert.Kernel19.τ).loc Cert.Kernel19.main_arg33)
      ∧ r.2.mem ((c.tc : Thread Cert.Kernel19.nD Cert.Kernel19.τ).loc Cert.Kernel19.main_arg34) = m ((c.tc : Thread Cert.Kernel19.nD Cert.Kernel19.τ).loc Cert.Kernel19.main_arg34)
      ∧ r.2.mem ((c.tc : Thread Cert.Kernel19.nD Cert.Kernel19.τ).loc Cert.Kernel19.main_arg35) = m ((c.tc : Thread Cert.Kernel19.nD Cert.Kernel19.τ).loc Cert.Kernel19.main_arg35)
      ∧ r.2.mem ((c.tc : Thread Cert.Kernel19.nD Cert.Kernel19.τ).loc Cert.Kernel19.main_arg36) = m ((c.tc : Thread Cert.Kernel19.nD Cert.Kernel19.τ).loc Cert.Kernel19.main_arg36)
      ∧ r.2.mem ((c.tc : Thread Cert.Kernel19.nD Cert.Kernel19.τ).loc Cert.Kernel19.main_arg37) = m ((c.tc : Thread Cert.Kernel19.nD Cert.Kernel19.τ).loc Cert.Kernel19.main_arg37)
      ∧ r.2.mem ((c.tc : Thread Cert.Kernel19.nD Cert.Kernel19.τ).loc Cert.Kernel19.main_arg38) = m ((c.tc : Thread Cert.Kernel19.nD Cert.Kernel19.τ).loc Cert.Kernel19.main_arg38)
      ∧ r.2.mem ((c.tc : Thread Cert.Kernel19.nD Cert.Kernel19.τ).loc Cert.Kernel19.main_arg39) = m ((c.tc : Thread Cert.Kernel19.nD Cert.Kernel19.τ).loc Cert.Kernel19.main_arg39)
      ∧ r.2.mem ((c.tc : Thread Cert.Kernel19.nD Cert.Kernel19.τ).loc Cert.Kernel19.main_arg40) = m ((c.tc : Thread Cert.Kernel19.nD Cert.Kernel19.τ).loc Cert.Kernel19.main_arg40)
      ∧ r.2.mem ((c.tc : Thread Cert.Kernel19.nD Cert.Kernel19.τ).loc Cert.Kernel19.main_arg41) = m ((c.tc : Thread Cert.Kernel19.nD Cert.Kernel19.τ).loc Cert.Kernel19.main_arg41)
      ∧ r.2.mem ((c.tc : Thread Cert.Kernel19.nD Cert.Kernel19.τ).loc Cert.Kernel19.main_arg42) = m ((c.tc : Thread Cert.Kernel19.nD Cert.Kernel19.τ).loc Cert.Kernel19.main_arg42)
      ∧ r.2.mem ((c.tc : Thread Cert.Kernel19.nD Cert.Kernel19.τ).loc Cert.Kernel19.main_arg43) = m ((c.tc : Thread Cert.Kernel19.nD Cert.Kernel19.τ).loc Cert.Kernel19.main_arg43))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
      ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
      ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
      ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
      ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
      ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
      ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15)
      ∧ r.2.mem ((c.tc : Thread Cert.Kernel19Ideal.nD Cert.Kernel19Ideal.τ).loc Cert.Kernel19Ideal.main_arg16) = m ((c.tc : Thread Cert.Kernel19Ideal.nD Cert.Kernel19Ideal.τ).loc Cert.Kernel19Ideal.main_arg16)
      ∧ r.2.mem ((c.tc : Thread Cert.Kernel19Ideal.nD Cert.Kernel19Ideal.τ).loc Cert.Kernel19Ideal.main_arg17) = m ((c.tc : Thread Cert.Kernel19Ideal.nD Cert.Kernel19Ideal.τ).loc Cert.Kernel19Ideal.main_arg17)
      ∧ r.2.mem ((c.tc : Thread Cert.Kernel19Ideal.nD Cert.Kernel19Ideal.τ).loc Cert.Kernel19Ideal.main_arg18) = m ((c.tc : Thread Cert.Kernel19Ideal.nD Cert.Kernel19Ideal.τ).loc Cert.Kernel19Ideal.main_arg18)
      ∧ r.2.mem ((c.tc : Thread Cert.Kernel19Ideal.nD Cert.Kernel19Ideal.τ).loc Cert.Kernel19Ideal.main_arg19) = m ((c.tc : Thread Cert.Kernel19Ideal.nD Cert.Kernel19Ideal.τ).loc Cert.Kernel19Ideal.main_arg19)
      ∧ r.2.mem ((c.tc : Thread Cert.Kernel19Ideal.nD Cert.Kernel19Ideal.τ).loc Cert.Kernel19Ideal.main_arg20) = m ((c.tc : Thread Cert.Kernel19Ideal.nD Cert.Kernel19Ideal.τ).loc Cert.Kernel19Ideal.main_arg20)
      ∧ r.2.mem ((c.tc : Thread Cert.Kernel19Ideal.nD Cert.Kernel19Ideal.τ).loc Cert.Kernel19Ideal.main_arg21) = m ((c.tc : Thread Cert.Kernel19Ideal.nD Cert.Kernel19Ideal.τ).loc Cert.Kernel19Ideal.main_arg21)
      ∧ r.2.mem ((c.tc : Thread Cert.Kernel19Ideal.nD Cert.Kernel19Ideal.τ).loc Cert.Kernel19Ideal.main_arg22) = m ((c.tc : Thread Cert.Kernel19Ideal.nD Cert.Kernel19Ideal.τ).loc Cert.Kernel19Ideal.main_arg22)
      ∧ r.2.mem ((c.tc : Thread Cert.Kernel19Ideal.nD Cert.Kernel19Ideal.τ).loc Cert.Kernel19Ideal.main_arg23) = m ((c.tc : Thread Cert.Kernel19Ideal.nD Cert.Kernel19Ideal.τ).loc Cert.Kernel19Ideal.main_arg23)
      ∧ r.2.mem ((c.tc : Thread Cert.Kernel19Ideal.nD Cert.Kernel19Ideal.τ).loc Cert.Kernel19Ideal.main_arg24) = m ((c.tc : Thread Cert.Kernel19Ideal.nD Cert.Kernel19Ideal.τ).loc Cert.Kernel19Ideal.main_arg24)
      ∧ r.2.mem ((c.tc : Thread Cert.Kernel19Ideal.nD Cert.Kernel19Ideal.τ).loc Cert.Kernel19Ideal.main_arg25) = m ((c.tc : Thread Cert.Kernel19Ideal.nD Cert.Kernel19Ideal.τ).loc Cert.Kernel19Ideal.main_arg25)
      ∧ r.2.mem ((c.tc : Thread Cert.Kernel19Ideal.nD Cert.Kernel19Ideal.τ).loc Cert.Kernel19Ideal.main_arg26) = m ((c.tc : Thread Cert.Kernel19Ideal.nD Cert.Kernel19Ideal.τ).loc Cert.Kernel19Ideal.main_arg26)
      ∧ r.2.mem ((c.tc : Thread Cert.Kernel19Ideal.nD Cert.Kernel19Ideal.τ).loc Cert.Kernel19Ideal.main_arg27) = m ((c.tc : Thread Cert.Kernel19Ideal.nD Cert.Kernel19Ideal.τ).loc Cert.Kernel19Ideal.main_arg27)
      ∧ r.2.mem ((c.tc : Thread Cert.Kernel19Ideal.nD Cert.Kernel19Ideal.τ).loc Cert.Kernel19Ideal.main_arg28) = m ((c.tc : Thread Cert.Kernel19Ideal.nD Cert.Kernel19Ideal.τ).loc Cert.Kernel19Ideal.main_arg28)
      ∧ r.2.mem ((c.tc : Thread Cert.Kernel19Ideal.nD Cert.Kernel19Ideal.τ).loc Cert.Kernel19Ideal.main_arg29) = m ((c.tc : Thread Cert.Kernel19Ideal.nD Cert.Kernel19Ideal.τ).loc Cert.Kernel19Ideal.main_arg29)
      ∧ r.2.mem ((c.tc : Thread Cert.Kernel19Ideal.nD Cert.Kernel19Ideal.τ).loc Cert.Kernel19Ideal.main_arg30) = m ((c.tc : Thread Cert.Kernel19Ideal.nD Cert.Kernel19Ideal.τ).loc Cert.Kernel19Ideal.main_arg30)
      ∧ r.2.mem ((c.tc : Thread Cert.Kernel19Ideal.nD Cert.Kernel19Ideal.τ).loc Cert.Kernel19Ideal.main_arg31) = m ((c.tc : Thread Cert.Kernel19Ideal.nD Cert.Kernel19Ideal.τ).loc Cert.Kernel19Ideal.main_arg31)
      ∧ r.2.mem ((c.tc : Thread Cert.Kernel19Ideal.nD Cert.Kernel19Ideal.τ).loc Cert.Kernel19Ideal.main_arg32) = m ((c.tc : Thread Cert.Kernel19Ideal.nD Cert.Kernel19Ideal.τ).loc Cert.Kernel19Ideal.main_arg32)
      ∧ r.2.mem ((c.tc : Thread Cert.Kernel19Ideal.nD Cert.Kernel19Ideal.τ).loc Cert.Kernel19Ideal.main_arg33) = m ((c.tc : Thread Cert.Kernel19Ideal.nD Cert.Kernel19Ideal.τ).loc Cert.Kernel19Ideal.main_arg33)
      ∧ r.2.mem ((c.tc : Thread Cert.Kernel19Ideal.nD Cert.Kernel19Ideal.τ).loc Cert.Kernel19Ideal.main_arg34) = m ((c.tc : Thread Cert.Kernel19Ideal.nD Cert.Kernel19Ideal.τ).loc Cert.Kernel19Ideal.main_arg34)
      ∧ r.2.mem ((c.tc : Thread Cert.Kernel19Ideal.nD Cert.Kernel19Ideal.τ).loc Cert.Kernel19Ideal.main_arg35) = m ((c.tc : Thread Cert.Kernel19Ideal.nD Cert.Kernel19Ideal.τ).loc Cert.Kernel19Ideal.main_arg35)
      ∧ r.2.mem ((c.tc : Thread Cert.Kernel19Ideal.nD Cert.Kernel19Ideal.τ).loc Cert.Kernel19Ideal.main_arg36) = m ((c.tc : Thread Cert.Kernel19Ideal.nD Cert.Kernel19Ideal.τ).loc Cert.Kernel19Ideal.main_arg36)
      ∧ r.2.mem ((c.tc : Thread Cert.Kernel19Ideal.nD Cert.Kernel19Ideal.τ).loc Cert.Kernel19Ideal.main_arg37) = m ((c.tc : Thread Cert.Kernel19Ideal.nD Cert.Kernel19Ideal.τ).loc Cert.Kernel19Ideal.main_arg37)
      ∧ r.2.mem ((c.tc : Thread Cert.Kernel19Ideal.nD Cert.Kernel19Ideal.τ).loc Cert.Kernel19Ideal.main_arg38) = m ((c.tc : Thread Cert.Kernel19Ideal.nD Cert.Kernel19Ideal.τ).loc Cert.Kernel19Ideal.main_arg38)
      ∧ r.2.mem ((c.tc : Thread Cert.Kernel19Ideal.nD Cert.Kernel19Ideal.τ).loc Cert.Kernel19Ideal.main_arg39) = m ((c.tc : Thread Cert.Kernel19Ideal.nD Cert.Kernel19Ideal.τ).loc Cert.Kernel19Ideal.main_arg39)
      ∧ r.2.mem ((c.tc : Thread Cert.Kernel19Ideal.nD Cert.Kernel19Ideal.τ).loc Cert.Kernel19Ideal.main_arg40) = m ((c.tc : Thread Cert.Kernel19Ideal.nD Cert.Kernel19Ideal.τ).loc Cert.Kernel19Ideal.main_arg40)
      ∧ r.2.mem ((c.tc : Thread Cert.Kernel19Ideal.nD Cert.Kernel19Ideal.τ).loc Cert.Kernel19Ideal.main_arg41) = m ((c.tc : Thread Cert.Kernel19Ideal.nD Cert.Kernel19Ideal.τ).loc Cert.Kernel19Ideal.main_arg41)
      ∧ r.2.mem ((c.tc : Thread Cert.Kernel19Ideal.nD Cert.Kernel19Ideal.τ).loc Cert.Kernel19Ideal.main_arg42) = m ((c.tc : Thread Cert.Kernel19Ideal.nD Cert.Kernel19Ideal.τ).loc Cert.Kernel19Ideal.main_arg42)
      ∧ r.2.mem ((c.tc : Thread Cert.Kernel19Ideal.nD Cert.Kernel19Ideal.τ).loc Cert.Kernel19Ideal.main_arg43) = m ((c.tc : Thread Cert.Kernel19Ideal.nD Cert.Kernel19Ideal.τ).loc Cert.Kernel19Ideal.main_arg43))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9)
      ∧ r.2.mem ((c.tc : Thread Cert.Reference19Ideal.nD Cert.Reference19Ideal.τ).loc Cert.Reference19Ideal.main_arg10) = m ((c.tc : Thread Cert.Reference19Ideal.nD Cert.Reference19Ideal.τ).loc Cert.Reference19Ideal.main_arg10)
      ∧ r.2.mem ((c.tc : Thread Cert.Reference19Ideal.nD Cert.Reference19Ideal.τ).loc Cert.Reference19Ideal.main_arg11) = m ((c.tc : Thread Cert.Reference19Ideal.nD Cert.Reference19Ideal.τ).loc Cert.Reference19Ideal.main_arg11)
      ∧ r.2.mem ((c.tc : Thread Cert.Reference19Ideal.nD Cert.Reference19Ideal.τ).loc Cert.Reference19Ideal.main_arg12) = m ((c.tc : Thread Cert.Reference19Ideal.nD Cert.Reference19Ideal.τ).loc Cert.Reference19Ideal.main_arg12)
      ∧ r.2.mem ((c.tc : Thread Cert.Reference19Ideal.nD Cert.Reference19Ideal.τ).loc Cert.Reference19Ideal.main_arg13) = m ((c.tc : Thread Cert.Reference19Ideal.nD Cert.Reference19Ideal.τ).loc Cert.Reference19Ideal.main_arg13)
      ∧ r.2.mem ((c.tc : Thread Cert.Reference19Ideal.nD Cert.Reference19Ideal.τ).loc Cert.Reference19Ideal.main_arg14) = m ((c.tc : Thread Cert.Reference19Ideal.nD Cert.Reference19Ideal.τ).loc Cert.Reference19Ideal.main_arg14)
      ∧ r.2.mem ((c.tc : Thread Cert.Reference19Ideal.nD Cert.Reference19Ideal.τ).loc Cert.Reference19Ideal.main_arg15) = m ((c.tc : Thread Cert.Reference19Ideal.nD Cert.Reference19Ideal.τ).loc Cert.Reference19Ideal.main_arg15)
      ∧ r.2.mem ((c.tc : Thread Cert.Reference19Ideal.nD Cert.Reference19Ideal.τ).loc Cert.Reference19Ideal.main_arg16) = m ((c.tc : Thread Cert.Reference19Ideal.nD Cert.Reference19Ideal.τ).loc Cert.Reference19Ideal.main_arg16)
      ∧ r.2.mem ((c.tc : Thread Cert.Reference19Ideal.nD Cert.Reference19Ideal.τ).loc Cert.Reference19Ideal.main_arg17) = m ((c.tc : Thread Cert.Reference19Ideal.nD Cert.Reference19Ideal.τ).loc Cert.Reference19Ideal.main_arg17)
      ∧ r.2.mem ((c.tc : Thread Cert.Reference19Ideal.nD Cert.Reference19Ideal.τ).loc Cert.Reference19Ideal.main_arg18) = m ((c.tc : Thread Cert.Reference19Ideal.nD Cert.Reference19Ideal.τ).loc Cert.Reference19Ideal.main_arg18)
      ∧ r.2.mem ((c.tc : Thread Cert.Reference19Ideal.nD Cert.Reference19Ideal.τ).loc Cert.Reference19Ideal.main_arg19) = m ((c.tc : Thread Cert.Reference19Ideal.nD Cert.Reference19Ideal.τ).loc Cert.Reference19Ideal.main_arg19)
      ∧ r.2.mem ((c.tc : Thread Cert.Reference19Ideal.nD Cert.Reference19Ideal.τ).loc Cert.Reference19Ideal.main_arg20) = m ((c.tc : Thread Cert.Reference19Ideal.nD Cert.Reference19Ideal.τ).loc Cert.Reference19Ideal.main_arg20)
      ∧ r.2.mem ((c.tc : Thread Cert.Reference19Ideal.nD Cert.Reference19Ideal.τ).loc Cert.Reference19Ideal.main_arg21) = m ((c.tc : Thread Cert.Reference19Ideal.nD Cert.Reference19Ideal.τ).loc Cert.Reference19Ideal.main_arg21)
      ∧ r.2.mem ((c.tc : Thread Cert.Reference19Ideal.nD Cert.Reference19Ideal.τ).loc Cert.Reference19Ideal.main_arg22) = m ((c.tc : Thread Cert.Reference19Ideal.nD Cert.Reference19Ideal.τ).loc Cert.Reference19Ideal.main_arg22)
      ∧ r.2.mem ((c.tc : Thread Cert.Reference19Ideal.nD Cert.Reference19Ideal.τ).loc Cert.Reference19Ideal.main_arg23) = m ((c.tc : Thread Cert.Reference19Ideal.nD Cert.Reference19Ideal.τ).loc Cert.Reference19Ideal.main_arg23)
      ∧ r.2.mem ((c.tc : Thread Cert.Reference19Ideal.nD Cert.Reference19Ideal.τ).loc Cert.Reference19Ideal.main_arg24) = m ((c.tc : Thread Cert.Reference19Ideal.nD Cert.Reference19Ideal.τ).loc Cert.Reference19Ideal.main_arg24)
      ∧ r.2.mem ((c.tc : Thread Cert.Reference19Ideal.nD Cert.Reference19Ideal.τ).loc Cert.Reference19Ideal.main_arg25) = m ((c.tc : Thread Cert.Reference19Ideal.nD Cert.Reference19Ideal.τ).loc Cert.Reference19Ideal.main_arg25)
      ∧ r.2.mem ((c.tc : Thread Cert.Reference19Ideal.nD Cert.Reference19Ideal.τ).loc Cert.Reference19Ideal.main_arg26) = m ((c.tc : Thread Cert.Reference19Ideal.nD Cert.Reference19Ideal.τ).loc Cert.Reference19Ideal.main_arg26)
      ∧ r.2.mem ((c.tc : Thread Cert.Reference19Ideal.nD Cert.Reference19Ideal.τ).loc Cert.Reference19Ideal.main_arg27) = m ((c.tc : Thread Cert.Reference19Ideal.nD Cert.Reference19Ideal.τ).loc Cert.Reference19Ideal.main_arg27)
      ∧ r.2.mem ((c.tc : Thread Cert.Reference19Ideal.nD Cert.Reference19Ideal.τ).loc Cert.Reference19Ideal.main_arg28) = m ((c.tc : Thread Cert.Reference19Ideal.nD Cert.Reference19Ideal.τ).loc Cert.Reference19Ideal.main_arg28)
      ∧ r.2.mem ((c.tc : Thread Cert.Reference19Ideal.nD Cert.Reference19Ideal.τ).loc Cert.Reference19Ideal.main_arg29) = m ((c.tc : Thread Cert.Reference19Ideal.nD Cert.Reference19Ideal.τ).loc Cert.Reference19Ideal.main_arg29)
      ∧ r.2.mem ((c.tc : Thread Cert.Reference19Ideal.nD Cert.Reference19Ideal.τ).loc Cert.Reference19Ideal.main_arg30) = m ((c.tc : Thread Cert.Reference19Ideal.nD Cert.Reference19Ideal.τ).loc Cert.Reference19Ideal.main_arg30)
      ∧ r.2.mem ((c.tc : Thread Cert.Reference19Ideal.nD Cert.Reference19Ideal.τ).loc Cert.Reference19Ideal.main_arg31) = m ((c.tc : Thread Cert.Reference19Ideal.nD Cert.Reference19Ideal.τ).loc Cert.Reference19Ideal.main_arg31)
      ∧ r.2.mem ((c.tc : Thread Cert.Reference19Ideal.nD Cert.Reference19Ideal.τ).loc Cert.Reference19Ideal.main_arg32) = m ((c.tc : Thread Cert.Reference19Ideal.nD Cert.Reference19Ideal.τ).loc Cert.Reference19Ideal.main_arg32)
      ∧ r.2.mem ((c.tc : Thread Cert.Reference19Ideal.nD Cert.Reference19Ideal.τ).loc Cert.Reference19Ideal.main_arg33) = m ((c.tc : Thread Cert.Reference19Ideal.nD Cert.Reference19Ideal.τ).loc Cert.Reference19Ideal.main_arg33)
      ∧ r.2.mem ((c.tc : Thread Cert.Reference19Ideal.nD Cert.Reference19Ideal.τ).loc Cert.Reference19Ideal.main_arg34) = m ((c.tc : Thread Cert.Reference19Ideal.nD Cert.Reference19Ideal.τ).loc Cert.Reference19Ideal.main_arg34)
      ∧ r.2.mem ((c.tc : Thread Cert.Reference19Ideal.nD Cert.Reference19Ideal.τ).loc Cert.Reference19Ideal.main_arg35) = m ((c.tc : Thread Cert.Reference19Ideal.nD Cert.Reference19Ideal.τ).loc Cert.Reference19Ideal.main_arg35)
      ∧ r.2.mem ((c.tc : Thread Cert.Reference19Ideal.nD Cert.Reference19Ideal.τ).loc Cert.Reference19Ideal.main_arg36) = m ((c.tc : Thread Cert.Reference19Ideal.nD Cert.Reference19Ideal.τ).loc Cert.Reference19Ideal.main_arg36)
      ∧ r.2.mem ((c.tc : Thread Cert.Reference19Ideal.nD Cert.Reference19Ideal.τ).loc Cert.Reference19Ideal.main_arg37) = m ((c.tc : Thread Cert.Reference19Ideal.nD Cert.Reference19Ideal.τ).loc Cert.Reference19Ideal.main_arg37)
      ∧ r.2.mem ((c.tc : Thread Cert.Reference19Ideal.nD Cert.Reference19Ideal.τ).loc Cert.Reference19Ideal.main_arg38) = m ((c.tc : Thread Cert.Reference19Ideal.nD Cert.Reference19Ideal.τ).loc Cert.Reference19Ideal.main_arg38)
      ∧ r.2.mem ((c.tc : Thread Cert.Reference19Ideal.nD Cert.Reference19Ideal.τ).loc Cert.Reference19Ideal.main_arg39) = m ((c.tc : Thread Cert.Reference19Ideal.nD Cert.Reference19Ideal.τ).loc Cert.Reference19Ideal.main_arg39)
      ∧ r.2.mem ((c.tc : Thread Cert.Reference19Ideal.nD Cert.Reference19Ideal.τ).loc Cert.Reference19Ideal.main_arg40) = m ((c.tc : Thread Cert.Reference19Ideal.nD Cert.Reference19Ideal.τ).loc Cert.Reference19Ideal.main_arg40)
      ∧ r.2.mem ((c.tc : Thread Cert.Reference19Ideal.nD Cert.Reference19Ideal.τ).loc Cert.Reference19Ideal.main_arg41) = m ((c.tc : Thread Cert.Reference19Ideal.nD Cert.Reference19Ideal.τ).loc Cert.Reference19Ideal.main_arg41)
      ∧ r.2.mem ((c.tc : Thread Cert.Reference19Ideal.nD Cert.Reference19Ideal.τ).loc Cert.Reference19Ideal.main_arg42) = m ((c.tc : Thread Cert.Reference19Ideal.nD Cert.Reference19Ideal.τ).loc Cert.Reference19Ideal.main_arg42)
      ∧ r.2.mem ((c.tc : Thread Cert.Reference19Ideal.nD Cert.Reference19Ideal.τ).loc Cert.Reference19Ideal.main_arg43) = m ((c.tc : Thread Cert.Reference19Ideal.nD Cert.Reference19Ideal.τ).loc Cert.Reference19Ideal.main_arg43))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7)
      ∧ r.2.mem ((c.tc : Thread Cert.Kernel20.nD Cert.Kernel20.τ).loc Cert.Kernel20.main_arg8) = m ((c.tc : Thread Cert.Kernel20.nD Cert.Kernel20.τ).loc Cert.Kernel20.main_arg8)
      ∧ r.2.mem ((c.tc : Thread Cert.Kernel20.nD Cert.Kernel20.τ).loc Cert.Kernel20.main_arg9) = m ((c.tc : Thread Cert.Kernel20.nD Cert.Kernel20.τ).loc Cert.Kernel20.main_arg9))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8)
      ∧ r.2.mem ((c.tc : Thread Cert.Kernel20Ideal.nD Cert.Kernel20Ideal.τ).loc Cert.Kernel20Ideal.main_arg9) = m ((c.tc : Thread Cert.Kernel20Ideal.nD Cert.Kernel20Ideal.τ).loc Cert.Kernel20Ideal.main_arg9))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8)
      ∧ r.2.mem ((c.tc : Thread Cert.Reference20Ideal.nD Cert.Reference20Ideal.τ).loc Cert.Reference20Ideal.main_arg9) = m ((c.tc : Thread Cert.Reference20Ideal.nD Cert.Reference20Ideal.τ).loc Cert.Reference20Ideal.main_arg9))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Kernel21Ideal_pre_finite [hKernel21Ideal : Cert.Kernel21Ideal.Facts] [hPre_finite : Cert.Pre_finite.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Reference21Ideal_pre_finite [hReference21Ideal : Cert.Reference21Ideal.Facts] [hPre_finite : Cert.Pre_finite.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)) (v6 : (c : Dev Cert.KernelIdeal.nD) → Buf (Elt Ideal) ((c.tc : Thread Cert.KernelIdeal.nD Cert.KernelIdeal.τ).loc Cert.KernelIdeal.main_v6_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_v6_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_v83) = v4 c
          ∧ r.2.mem ((c.tc : Thread Cert.ReferenceIdeal.nD Cert.ReferenceIdeal.τ).loc Cert.ReferenceIdeal.main_v84) = v5 c
          ∧ r.2.mem ((c.tc : Thread Cert.ReferenceIdeal.nD Cert.ReferenceIdeal.τ).loc Cert.ReferenceIdeal.main_v85) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v27) = v0 c
          ∧ r.2.mem ((c.tc : Thread Cert.Reference11Ideal.nD Cert.Reference11Ideal.τ).loc Cert.Reference11Ideal.main_v28) = v1 c
          ∧ r.2.mem ((c.tc : Thread Cert.Reference11Ideal.nD Cert.Reference11Ideal.τ).loc Cert.Reference11Ideal.main_v29) = v2 c
          ∧ r.2.mem ((c.tc : Thread Cert.Reference11Ideal.nD Cert.Reference11Ideal.τ).loc Cert.Reference11Ideal.main_v30) = v3 c
          ∧ r.2.mem ((c.tc : Thread Cert.Reference11Ideal.nD Cert.Reference11Ideal.τ).loc Cert.Reference11Ideal.main_v26) = v4 c
          ∧ r.2.mem ((c.tc : Thread Cert.Reference11Ideal.nD Cert.Reference11Ideal.τ).loc Cert.Reference11Ideal.main_v43) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v15) = v0 c
          ∧ r.2.mem ((c.tc : Thread Cert.Reference13Ideal.nD Cert.Reference13Ideal.τ).loc Cert.Reference13Ideal.main_v13) = v1 c
          ∧ r.2.mem ((c.tc : Thread Cert.Reference13Ideal.nD Cert.Reference13Ideal.τ).loc Cert.Reference13Ideal.main_v11) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  IdealRules.named_const.Statement Cert.Kernel14Ideal.κ "inv_c1" .f32 0x3FC48605#32 ((8388608 / 5463681 : ℝ) : EReal)
  ∧ IdealRules.named_const.Statement Cert.Kernel14Ideal.κ "inv_c2" .f32 0x42C8E6D3#32 ((268435456 / 2672307 : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)) (v3 : (c : Dev Cert.Kernel14Ideal.nD) → Buf (Elt Ideal) ((c.tc : Thread Cert.Kernel14Ideal.nD Cert.Kernel14Ideal.τ).loc Cert.Kernel14Ideal.main_v3_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_v3_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v28) = v0 c
          ∧ r.2.mem ((c.tc : Thread Cert.Reference14Ideal.nD Cert.Reference14Ideal.τ).loc Cert.Reference14Ideal.main_v29) = v1 c
          ∧ r.2.mem ((c.tc : Thread Cert.Reference14Ideal.nD Cert.Reference14Ideal.τ).loc Cert.Reference14Ideal.main_v30) = v2 c
          ∧ r.2.mem ((c.tc : Thread Cert.Reference14Ideal.nD Cert.Reference14Ideal.τ).loc Cert.Reference14Ideal.main_v31) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  IdealRules.named_const.Statement Cert.Kernel15Ideal.κ "inv_c1" .f32 0x3FC48605#32 ((8388608 / 5463681 : ℝ) : EReal)
  ∧ IdealRules.named_const.Statement Cert.Kernel15Ideal.κ "inv_c2" .f32 0x42C8E6D3#32 ((268435456 / 2672307 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  IdealRules.named_const.Statement Cert.Kernel16Ideal.κ "inv_c1" .f32 0x3FC48605#32 ((8388608 / 5463681 : ℝ) : EReal)
  ∧ IdealRules.named_const.Statement Cert.Kernel16Ideal.κ "inv_c2" .f32 0x42C8E6D3#32 ((268435456 / 2672307 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v26) = v1 c
          ∧ r.2.mem ((c.tc : Thread Cert.Reference16Ideal.nD Cert.Reference16Ideal.τ).loc Cert.Reference16Ideal.main_v7) = v2 c
          ∧ r.2.mem ((c.tc : Thread Cert.Reference16Ideal.nD Cert.Reference16Ideal.τ).loc Cert.Reference16Ideal.main_v13) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  IdealRules.named_const.Statement Cert.Kernel17Ideal.κ "inv_c1" .f32 0x3FC48605#32 ((8388608 / 5463681 : ℝ) : EReal)
  ∧ IdealRules.named_const.Statement Cert.Kernel17Ideal.κ "inv_c2" .f32 0x42C8E6D3#32 ((268435456 / 2672307 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v7) = v2 c
          ∧ r.2.mem ((c.tc : Thread Cert.Reference17Ideal.nD Cert.Reference17Ideal.τ).loc Cert.Reference17Ideal.main_v13) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  IdealRules.named_const.Statement Cert.Kernel18Ideal.κ "inv_c1" .f32 0x3FC48605#32 ((8388608 / 5463681 : ℝ) : EReal)
  ∧ IdealRules.named_const.Statement Cert.Kernel18Ideal.κ "inv_c2" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v26) = v1 c
          ∧ r.2.mem ((c.tc : Thread Cert.Reference18Ideal.nD Cert.Reference18Ideal.τ).loc Cert.Reference18Ideal.main_v7) = v2 c
          ∧ r.2.mem ((c.tc : Thread Cert.Reference18Ideal.nD Cert.Reference18Ideal.τ).loc Cert.Reference18Ideal.main_v13) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  IdealRules.named_const.Statement Cert.Kernel19Ideal.κ "inv_c1" .f32 0x3FC48605#32 ((8388608 / 5463681 : ℝ) : EReal)
  ∧ IdealRules.named_const.Statement Cert.Kernel19Ideal.κ "inv_c2" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)
      ∧ m' ((c.tc : Thread Cert.Reference19Ideal.nD Cert.Reference19Ideal.τ).loc Cert.Reference19Ideal.main_arg10) = m ((c.tc : Thread Cert.Kernel19Ideal.nD Cert.Kernel19Ideal.τ).loc Cert.Kernel19Ideal.main_arg10)
      ∧ m' ((c.tc : Thread Cert.Reference19Ideal.nD Cert.Reference19Ideal.τ).loc Cert.Reference19Ideal.main_arg11) = m ((c.tc : Thread Cert.Kernel19Ideal.nD Cert.Kernel19Ideal.τ).loc Cert.Kernel19Ideal.main_arg11)
      ∧ m' ((c.tc : Thread Cert.Reference19Ideal.nD Cert.Reference19Ideal.τ).loc Cert.Reference19Ideal.main_arg12) = m ((c.tc : Thread Cert.Kernel19Ideal.nD Cert.Kernel19Ideal.τ).loc Cert.Kernel19Ideal.main_arg12)
      ∧ m' ((c.tc : Thread Cert.Reference19Ideal.nD Cert.Reference19Ideal.τ).loc Cert.Reference19Ideal.main_arg13) = m ((c.tc : Thread Cert.Kernel19Ideal.nD Cert.Kernel19Ideal.τ).loc Cert.Kernel19Ideal.main_arg13)
      ∧ m' ((c.tc : Thread Cert.Reference19Ideal.nD Cert.Reference19Ideal.τ).loc Cert.Reference19Ideal.main_arg14) = m ((c.tc : Thread Cert.Kernel19Ideal.nD Cert.Kernel19Ideal.τ).loc Cert.Kernel19Ideal.main_arg14)
      ∧ m' ((c.tc : Thread Cert.Reference19Ideal.nD Cert.Reference19Ideal.τ).loc Cert.Reference19Ideal.main_arg15) = m ((c.tc : Thread Cert.Kernel19Ideal.nD Cert.Kernel19Ideal.τ).loc Cert.Kernel19Ideal.main_arg15)
      ∧ m' ((c.tc : Thread Cert.Reference19Ideal.nD Cert.Reference19Ideal.τ).loc Cert.Reference19Ideal.main_arg16) = m ((c.tc : Thread Cert.Kernel19Ideal.nD Cert.Kernel19Ideal.τ).loc Cert.Kernel19Ideal.main_arg16)
      ∧ m' ((c.tc : Thread Cert.Reference19Ideal.nD Cert.Reference19Ideal.τ).loc Cert.Reference19Ideal.main_arg17) = m ((c.tc : Thread Cert.Kernel19Ideal.nD Cert.Kernel19Ideal.τ).loc Cert.Kernel19Ideal.main_arg17)
      ∧ m' ((c.tc : Thread Cert.Reference19Ideal.nD Cert.Reference19Ideal.τ).loc Cert.Reference19Ideal.main_arg18) = m ((c.tc : Thread Cert.Kernel19Ideal.nD Cert.Kernel19Ideal.τ).loc Cert.Kernel19Ideal.main_arg18)
      ∧ m' ((c.tc : Thread Cert.Reference19Ideal.nD Cert.Reference19Ideal.τ).loc Cert.Reference19Ideal.main_arg19) = m ((c.tc : Thread Cert.Kernel19Ideal.nD Cert.Kernel19Ideal.τ).loc Cert.Kernel19Ideal.main_arg19)
      ∧ m' ((c.tc : Thread Cert.Reference19Ideal.nD Cert.Reference19Ideal.τ).loc Cert.Reference19Ideal.main_arg20) = m ((c.tc : Thread Cert.Kernel19Ideal.nD Cert.Kernel19Ideal.τ).loc Cert.Kernel19Ideal.main_arg20)
      ∧ m' ((c.tc : Thread Cert.Reference19Ideal.nD Cert.Reference19Ideal.τ).loc Cert.Reference19Ideal.main_arg21) = m ((c.tc : Thread Cert.Kernel19Ideal.nD Cert.Kernel19Ideal.τ).loc Cert.Kernel19Ideal.main_arg21)
      ∧ m' ((c.tc : Thread Cert.Reference19Ideal.nD Cert.Reference19Ideal.τ).loc Cert.Reference19Ideal.main_arg22) = m ((c.tc : Thread Cert.Kernel19Ideal.nD Cert.Kernel19Ideal.τ).loc Cert.Kernel19Ideal.main_arg22)
      ∧ m' ((c.tc : Thread Cert.Reference19Ideal.nD Cert.Reference19Ideal.τ).loc Cert.Reference19Ideal.main_arg23) = m ((c.tc : Thread Cert.Kernel19Ideal.nD Cert.Kernel19Ideal.τ).loc Cert.Kernel19Ideal.main_arg23)
      ∧ m' ((c.tc : Thread Cert.Reference19Ideal.nD Cert.Reference19Ideal.τ).loc Cert.Reference19Ideal.main_arg24) = m ((c.tc : Thread Cert.Kernel19Ideal.nD Cert.Kernel19Ideal.τ).loc Cert.Kernel19Ideal.main_arg24)
      ∧ m' ((c.tc : Thread Cert.Reference19Ideal.nD Cert.Reference19Ideal.τ).loc Cert.Reference19Ideal.main_arg25) = m ((c.tc : Thread Cert.Kernel19Ideal.nD Cert.Kernel19Ideal.τ).loc Cert.Kernel19Ideal.main_arg25)
      ∧ m' ((c.tc : Thread Cert.Reference19Ideal.nD Cert.Reference19Ideal.τ).loc Cert.Reference19Ideal.main_arg26) = m ((c.tc : Thread Cert.Kernel19Ideal.nD Cert.Kernel19Ideal.τ).loc Cert.Kernel19Ideal.main_arg26)
      ∧ m' ((c.tc : Thread Cert.Reference19Ideal.nD Cert.Reference19Ideal.τ).loc Cert.Reference19Ideal.main_arg27) = m ((c.tc : Thread Cert.Kernel19Ideal.nD Cert.Kernel19Ideal.τ).loc Cert.Kernel19Ideal.main_arg27)
      ∧ m' ((c.tc : Thread Cert.Reference19Ideal.nD Cert.Reference19Ideal.τ).loc Cert.Reference19Ideal.main_arg28) = m ((c.tc : Thread Cert.Kernel19Ideal.nD Cert.Kernel19Ideal.τ).loc Cert.Kernel19Ideal.main_arg28)
      ∧ m' ((c.tc : Thread Cert.Reference19Ideal.nD Cert.Reference19Ideal.τ).loc Cert.Reference19Ideal.main_arg29) = m ((c.tc : Thread Cert.Kernel19Ideal.nD Cert.Kernel19Ideal.τ).loc Cert.Kernel19Ideal.main_arg29)
      ∧ m' ((c.tc : Thread Cert.Reference19Ideal.nD Cert.Reference19Ideal.τ).loc Cert.Reference19Ideal.main_arg30) = m ((c.tc : Thread Cert.Kernel19Ideal.nD Cert.Kernel19Ideal.τ).loc Cert.Kernel19Ideal.main_arg30)
      ∧ m' ((c.tc : Thread Cert.Reference19Ideal.nD Cert.Reference19Ideal.τ).loc Cert.Reference19Ideal.main_arg31) = m ((c.tc : Thread Cert.Kernel19Ideal.nD Cert.Kernel19Ideal.τ).loc Cert.Kernel19Ideal.main_arg31)
      ∧ m' ((c.tc : Thread Cert.Reference19Ideal.nD Cert.Reference19Ideal.τ).loc Cert.Reference19Ideal.main_arg32) = m ((c.tc : Thread Cert.Kernel19Ideal.nD Cert.Kernel19Ideal.τ).loc Cert.Kernel19Ideal.main_arg32)
      ∧ m' ((c.tc : Thread Cert.Reference19Ideal.nD Cert.Reference19Ideal.τ).loc Cert.Reference19Ideal.main_arg33) = m ((c.tc : Thread Cert.Kernel19Ideal.nD Cert.Kernel19Ideal.τ).loc Cert.Kernel19Ideal.main_arg33)
      ∧ m' ((c.tc : Thread Cert.Reference19Ideal.nD Cert.Reference19Ideal.τ).loc Cert.Reference19Ideal.main_arg34) = m ((c.tc : Thread Cert.Kernel19Ideal.nD Cert.Kernel19Ideal.τ).loc Cert.Kernel19Ideal.main_arg34)
      ∧ m' ((c.tc : Thread Cert.Reference19Ideal.nD Cert.Reference19Ideal.τ).loc Cert.Reference19Ideal.main_arg35) = m ((c.tc : Thread Cert.Kernel19Ideal.nD Cert.Kernel19Ideal.τ).loc Cert.Kernel19Ideal.main_arg35)
      ∧ m' ((c.tc : Thread Cert.Reference19Ideal.nD Cert.Reference19Ideal.τ).loc Cert.Reference19Ideal.main_arg36) = m ((c.tc : Thread Cert.Kernel19Ideal.nD Cert.Kernel19Ideal.τ).loc Cert.Kernel19Ideal.main_arg36)
      ∧ m' ((c.tc : Thread Cert.Reference19Ideal.nD Cert.Reference19Ideal.τ).loc Cert.Reference19Ideal.main_arg37) = m ((c.tc : Thread Cert.Kernel19Ideal.nD Cert.Kernel19Ideal.τ).loc Cert.Kernel19Ideal.main_arg37)
      ∧ m' ((c.tc : Thread Cert.Reference19Ideal.nD Cert.Reference19Ideal.τ).loc Cert.Reference19Ideal.main_arg38) = m ((c.tc : Thread Cert.Kernel19Ideal.nD Cert.Kernel19Ideal.τ).loc Cert.Kernel19Ideal.main_arg38)
      ∧ m' ((c.tc : Thread Cert.Reference19Ideal.nD Cert.Reference19Ideal.τ).loc Cert.Reference19Ideal.main_arg39) = m ((c.tc : Thread Cert.Kernel19Ideal.nD Cert.Kernel19Ideal.τ).loc Cert.Kernel19Ideal.main_arg39)
      ∧ m' ((c.tc : Thread Cert.Reference19Ideal.nD Cert.Reference19Ideal.τ).loc Cert.Reference19Ideal.main_arg40) = m ((c.tc : Thread Cert.Kernel19Ideal.nD Cert.Kernel19Ideal.τ).loc Cert.Kernel19Ideal.main_arg40)
      ∧ m' ((c.tc : Thread Cert.Reference19Ideal.nD Cert.Reference19Ideal.τ).loc Cert.Reference19Ideal.main_arg41) = m ((c.tc : Thread Cert.Kernel19Ideal.nD Cert.Kernel19Ideal.τ).loc Cert.Kernel19Ideal.main_arg41)
      ∧ m' ((c.tc : Thread Cert.Reference19Ideal.nD Cert.Reference19Ideal.τ).loc Cert.Reference19Ideal.main_arg42) = m ((c.tc : Thread Cert.Kernel19Ideal.nD Cert.Kernel19Ideal.τ).loc Cert.Kernel19Ideal.main_arg42)
      ∧ m' ((c.tc : Thread Cert.Reference19Ideal.nD Cert.Reference19Ideal.τ).loc Cert.Reference19Ideal.main_arg43) = m ((c.tc : Thread Cert.Kernel19Ideal.nD Cert.Kernel19Ideal.τ).loc Cert.Kernel19Ideal.main_arg43)) →
    ∃ (v0 : (c : Dev Cert.Kernel19Ideal.nD) → Buf (Elt Ideal) ((c.tc : Thread Cert.Kernel19Ideal.nD Cert.Kernel19Ideal.τ).loc Cert.Kernel19Ideal.main_v60_0)) (v1 : (c : Dev Cert.Kernel19Ideal.nD) → Buf (Elt Ideal) ((c.tc : Thread Cert.Kernel19Ideal.nD Cert.Kernel19Ideal.τ).loc Cert.Kernel19Ideal.main_v60_1)) (v2 : (c : Dev Cert.Kernel19Ideal.nD) → Buf (Elt Ideal) ((c.tc : Thread Cert.Kernel19Ideal.nD Cert.Kernel19Ideal.τ).loc Cert.Kernel19Ideal.main_v60_2)) (v3 : (c : Dev Cert.Kernel19Ideal.nD) → Buf (Elt Ideal) ((c.tc : Thread Cert.Kernel19Ideal.nD Cert.Kernel19Ideal.τ).loc Cert.Kernel19Ideal.main_v60_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v60_0) = v0 c
          ∧ r.2.mem ((c.tc : Thread Cert.Kernel19Ideal.nD Cert.Kernel19Ideal.τ).loc Cert.Kernel19Ideal.main_v60_1) = v1 c
          ∧ r.2.mem ((c.tc : Thread Cert.Kernel19Ideal.nD Cert.Kernel19Ideal.τ).loc Cert.Kernel19Ideal.main_v60_2) = v2 c
          ∧ r.2.mem ((c.tc : Thread Cert.Kernel19Ideal.nD Cert.Kernel19Ideal.τ).loc Cert.Kernel19Ideal.main_v60_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
          ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
          ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
          ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
          ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
          ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
          ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15)
          ∧ r.2.mem ((c.tc : Thread Cert.Kernel19Ideal.nD Cert.Kernel19Ideal.τ).loc Cert.Kernel19Ideal.main_arg16) = m ((c.tc : Thread Cert.Kernel19Ideal.nD Cert.Kernel19Ideal.τ).loc Cert.Kernel19Ideal.main_arg16)
          ∧ r.2.mem ((c.tc : Thread Cert.Kernel19Ideal.nD Cert.Kernel19Ideal.τ).loc Cert.Kernel19Ideal.main_arg17) = m ((c.tc : Thread Cert.Kernel19Ideal.nD Cert.Kernel19Ideal.τ).loc Cert.Kernel19Ideal.main_arg17)
          ∧ r.2.mem ((c.tc : Thread Cert.Kernel19Ideal.nD Cert.Kernel19Ideal.τ).loc Cert.Kernel19Ideal.main_arg18) = m ((c.tc : Thread Cert.Kernel19Ideal.nD Cert.Kernel19Ideal.τ).loc Cert.Kernel19Ideal.main_arg18)
          ∧ r.2.mem ((c.tc : Thread Cert.Kernel19Ideal.nD Cert.Kernel19Ideal.τ).loc Cert.Kernel19Ideal.main_arg19) = m ((c.tc : Thread Cert.Kernel19Ideal.nD Cert.Kernel19Ideal.τ).loc Cert.Kernel19Ideal.main_arg19)
          ∧ r.2.mem ((c.tc : Thread Cert.Kernel19Ideal.nD Cert.Kernel19Ideal.τ).loc Cert.Kernel19Ideal.main_arg20) = m ((c.tc : Thread Cert.Kernel19Ideal.nD Cert.Kernel19Ideal.τ).loc Cert.Kernel19Ideal.main_arg20)
          ∧ r.2.mem ((c.tc : Thread Cert.Kernel19Ideal.nD Cert.Kernel19Ideal.τ).loc Cert.Kernel19Ideal.main_arg21) = m ((c.tc : Thread Cert.Kernel19Ideal.nD Cert.Kernel19Ideal.τ).loc Cert.Kernel19Ideal.main_arg21)
          ∧ r.2.mem ((c.tc : Thread Cert.Kernel19Ideal.nD Cert.Kernel19Ideal.τ).loc Cert.Kernel19Ideal.main_arg22) = m ((c.tc : Thread Cert.Kernel19Ideal.nD Cert.Kernel19Ideal.τ).loc Cert.Kernel19Ideal.main_arg22)
          ∧ r.2.mem ((c.tc : Thread Cert.Kernel19Ideal.nD Cert.Kernel19Ideal.τ).loc Cert.Kernel19Ideal.main_arg23) = m ((c.tc : Thread Cert.Kernel19Ideal.nD Cert.Kernel19Ideal.τ).loc Cert.Kernel19Ideal.main_arg23)
          ∧ r.2.mem ((c.tc : Thread Cert.Kernel19Ideal.nD Cert.Kernel19Ideal.τ).loc Cert.Kernel19Ideal.main_arg24) = m ((c.tc : Thread Cert.Kernel19Ideal.nD Cert.Kernel19Ideal.τ).loc Cert.Kernel19Ideal.main_arg24)
          ∧ r.2.mem ((c.tc : Thread Cert.Kernel19Ideal.nD Cert.Kernel19Ideal.τ).loc Cert.Kernel19Ideal.main_arg25) = m ((c.tc : Thread Cert.Kernel19Ideal.nD Cert.Kernel19Ideal.τ).loc Cert.Kernel19Ideal.main_arg25)
          ∧ r.2.mem ((c.tc : Thread Cert.Kernel19Ideal.nD Cert.Kernel19Ideal.τ).loc Cert.Kernel19Ideal.main_arg26) = m ((c.tc : Thread Cert.Kernel19Ideal.nD Cert.Kernel19Ideal.τ).loc Cert.Kernel19Ideal.main_arg26)
          ∧ r.2.mem ((c.tc : Thread Cert.Kernel19Ideal.nD Cert.Kernel19Ideal.τ).loc Cert.Kernel19Ideal.main_arg27) = m ((c.tc : Thread Cert.Kernel19Ideal.nD Cert.Kernel19Ideal.τ).loc Cert.Kernel19Ideal.main_arg27)
          ∧ r.2.mem ((c.tc : Thread Cert.Kernel19Ideal.nD Cert.Kernel19Ideal.τ).loc Cert.Kernel19Ideal.main_arg28) = m ((c.tc : Thread Cert.Kernel19Ideal.nD Cert.Kernel19Ideal.τ).loc Cert.Kernel19Ideal.main_arg28)
          ∧ r.2.mem ((c.tc : Thread Cert.Kernel19Ideal.nD Cert.Kernel19Ideal.τ).loc Cert.Kernel19Ideal.main_arg29) = m ((c.tc : Thread Cert.Kernel19Ideal.nD Cert.Kernel19Ideal.τ).loc Cert.Kernel19Ideal.main_arg29)
          ∧ r.2.mem ((c.tc : Thread Cert.Kernel19Ideal.nD Cert.Kernel19Ideal.τ).loc Cert.Kernel19Ideal.main_arg30) = m ((c.tc : Thread Cert.Kernel19Ideal.nD Cert.Kernel19Ideal.τ).loc Cert.Kernel19Ideal.main_arg30)
          ∧ r.2.mem ((c.tc : Thread Cert.Kernel19Ideal.nD Cert.Kernel19Ideal.τ).loc Cert.Kernel19Ideal.main_arg31) = m ((c.tc : Thread Cert.Kernel19Ideal.nD Cert.Kernel19Ideal.τ).loc Cert.Kernel19Ideal.main_arg31)
          ∧ r.2.mem ((c.tc : Thread Cert.Kernel19Ideal.nD Cert.Kernel19Ideal.τ).loc Cert.Kernel19Ideal.main_arg32) = m ((c.tc : Thread Cert.Kernel19Ideal.nD Cert.Kernel19Ideal.τ).loc Cert.Kernel19Ideal.main_arg32)
          ∧ r.2.mem ((c.tc : Thread Cert.Kernel19Ideal.nD Cert.Kernel19Ideal.τ).loc Cert.Kernel19Ideal.main_arg33) = m ((c.tc : Thread Cert.Kernel19Ideal.nD Cert.Kernel19Ideal.τ).loc Cert.Kernel19Ideal.main_arg33)
          ∧ r.2.mem ((c.tc : Thread Cert.Kernel19Ideal.nD Cert.Kernel19Ideal.τ).loc Cert.Kernel19Ideal.main_arg34) = m ((c.tc : Thread Cert.Kernel19Ideal.nD Cert.Kernel19Ideal.τ).loc Cert.Kernel19Ideal.main_arg34)
          ∧ r.2.mem ((c.tc : Thread Cert.Kernel19Ideal.nD Cert.Kernel19Ideal.τ).loc Cert.Kernel19Ideal.main_arg35) = m ((c.tc : Thread Cert.Kernel19Ideal.nD Cert.Kernel19Ideal.τ).loc Cert.Kernel19Ideal.main_arg35)
          ∧ r.2.mem ((c.tc : Thread Cert.Kernel19Ideal.nD Cert.Kernel19Ideal.τ).loc Cert.Kernel19Ideal.main_arg36) = m ((c.tc : Thread Cert.Kernel19Ideal.nD Cert.Kernel19Ideal.τ).loc Cert.Kernel19Ideal.main_arg36)
          ∧ r.2.mem ((c.tc : Thread Cert.Kernel19Ideal.nD Cert.Kernel19Ideal.τ).loc Cert.Kernel19Ideal.main_arg37) = m ((c.tc : Thread Cert.Kernel19Ideal.nD Cert.Kernel19Ideal.τ).loc Cert.Kernel19Ideal.main_arg37)
          ∧ r.2.mem ((c.tc : Thread Cert.Kernel19Ideal.nD Cert.Kernel19Ideal.τ).loc Cert.Kernel19Ideal.main_arg38) = m ((c.tc : Thread Cert.Kernel19Ideal.nD Cert.Kernel19Ideal.τ).loc Cert.Kernel19Ideal.main_arg38)
          ∧ r.2.mem ((c.tc : Thread Cert.Kernel19Ideal.nD Cert.Kernel19Ideal.τ).loc Cert.Kernel19Ideal.main_arg39) = m ((c.tc : Thread Cert.Kernel19Ideal.nD Cert.Kernel19Ideal.τ).loc Cert.Kernel19Ideal.main_arg39)
          ∧ r.2.mem ((c.tc : Thread Cert.Kernel19Ideal.nD Cert.Kernel19Ideal.τ).loc Cert.Kernel19Ideal.main_arg40) = m ((c.tc : Thread Cert.Kernel19Ideal.nD Cert.Kernel19Ideal.τ).loc Cert.Kernel19Ideal.main_arg40)
          ∧ r.2.mem ((c.tc : Thread Cert.Kernel19Ideal.nD Cert.Kernel19Ideal.τ).loc Cert.Kernel19Ideal.main_arg41) = m ((c.tc : Thread Cert.Kernel19Ideal.nD Cert.Kernel19Ideal.τ).loc Cert.Kernel19Ideal.main_arg41)
          ∧ r.2.mem ((c.tc : Thread Cert.Kernel19Ideal.nD Cert.Kernel19Ideal.τ).loc Cert.Kernel19Ideal.main_arg42) = m ((c.tc : Thread Cert.Kernel19Ideal.nD Cert.Kernel19Ideal.τ).loc Cert.Kernel19Ideal.main_arg42)
          ∧ r.2.mem ((c.tc : Thread Cert.Kernel19Ideal.nD Cert.Kernel19Ideal.τ).loc Cert.Kernel19Ideal.main_arg43) = m ((c.tc : Thread Cert.Kernel19Ideal.nD Cert.Kernel19Ideal.τ).loc Cert.Kernel19Ideal.main_arg43))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v278) = v0 c
          ∧ r.2.mem ((c.tc : Thread Cert.Reference19Ideal.nD Cert.Reference19Ideal.τ).loc Cert.Reference19Ideal.main_v293) = v1 c
          ∧ r.2.mem ((c.tc : Thread Cert.Reference19Ideal.nD Cert.Reference19Ideal.τ).loc Cert.Reference19Ideal.main_v308) = v2 c
          ∧ r.2.mem ((c.tc : Thread Cert.Reference19Ideal.nD Cert.Reference19Ideal.τ).loc Cert.Reference19Ideal.main_v323) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9)
          ∧ r.2.mem ((c.tc : Thread Cert.Reference19Ideal.nD Cert.Reference19Ideal.τ).loc Cert.Reference19Ideal.main_arg10) = m' ((c.tc : Thread Cert.Reference19Ideal.nD Cert.Reference19Ideal.τ).loc Cert.Reference19Ideal.main_arg10)
          ∧ r.2.mem ((c.tc : Thread Cert.Reference19Ideal.nD Cert.Reference19Ideal.τ).loc Cert.Reference19Ideal.main_arg11) = m' ((c.tc : Thread Cert.Reference19Ideal.nD Cert.Reference19Ideal.τ).loc Cert.Reference19Ideal.main_arg11)
          ∧ r.2.mem ((c.tc : Thread Cert.Reference19Ideal.nD Cert.Reference19Ideal.τ).loc Cert.Reference19Ideal.main_arg12) = m' ((c.tc : Thread Cert.Reference19Ideal.nD Cert.Reference19Ideal.τ).loc Cert.Reference19Ideal.main_arg12)
          ∧ r.2.mem ((c.tc : Thread Cert.Reference19Ideal.nD Cert.Reference19Ideal.τ).loc Cert.Reference19Ideal.main_arg13) = m' ((c.tc : Thread Cert.Reference19Ideal.nD Cert.Reference19Ideal.τ).loc Cert.Reference19Ideal.main_arg13)
          ∧ r.2.mem ((c.tc : Thread Cert.Reference19Ideal.nD Cert.Reference19Ideal.τ).loc Cert.Reference19Ideal.main_arg14) = m' ((c.tc : Thread Cert.Reference19Ideal.nD Cert.Reference19Ideal.τ).loc Cert.Reference19Ideal.main_arg14)
          ∧ r.2.mem ((c.tc : Thread Cert.Reference19Ideal.nD Cert.Reference19Ideal.τ).loc Cert.Reference19Ideal.main_arg15) = m' ((c.tc : Thread Cert.Reference19Ideal.nD Cert.Reference19Ideal.τ).loc Cert.Reference19Ideal.main_arg15)
          ∧ r.2.mem ((c.tc : Thread Cert.Reference19Ideal.nD Cert.Reference19Ideal.τ).loc Cert.Reference19Ideal.main_arg16) = m' ((c.tc : Thread Cert.Reference19Ideal.nD Cert.Reference19Ideal.τ).loc Cert.Reference19Ideal.main_arg16)
          ∧ r.2.mem ((c.tc : Thread Cert.Reference19Ideal.nD Cert.Reference19Ideal.τ).loc Cert.Reference19Ideal.main_arg17) = m' ((c.tc : Thread Cert.Reference19Ideal.nD Cert.Reference19Ideal.τ).loc Cert.Reference19Ideal.main_arg17)
          ∧ r.2.mem ((c.tc : Thread Cert.Reference19Ideal.nD Cert.Reference19Ideal.τ).loc Cert.Reference19Ideal.main_arg18) = m' ((c.tc : Thread Cert.Reference19Ideal.nD Cert.Reference19Ideal.τ).loc Cert.Reference19Ideal.main_arg18)
          ∧ r.2.mem ((c.tc : Thread Cert.Reference19Ideal.nD Cert.Reference19Ideal.τ).loc Cert.Reference19Ideal.main_arg19) = m' ((c.tc : Thread Cert.Reference19Ideal.nD Cert.Reference19Ideal.τ).loc Cert.Reference19Ideal.main_arg19)
          ∧ r.2.mem ((c.tc : Thread Cert.Reference19Ideal.nD Cert.Reference19Ideal.τ).loc Cert.Reference19Ideal.main_arg20) = m' ((c.tc : Thread Cert.Reference19Ideal.nD Cert.Reference19Ideal.τ).loc Cert.Reference19Ideal.main_arg20)
          ∧ r.2.mem ((c.tc : Thread Cert.Reference19Ideal.nD Cert.Reference19Ideal.τ).loc Cert.Reference19Ideal.main_arg21) = m' ((c.tc : Thread Cert.Reference19Ideal.nD Cert.Reference19Ideal.τ).loc Cert.Reference19Ideal.main_arg21)
          ∧ r.2.mem ((c.tc : Thread Cert.Reference19Ideal.nD Cert.Reference19Ideal.τ).loc Cert.Reference19Ideal.main_arg22) = m' ((c.tc : Thread Cert.Reference19Ideal.nD Cert.Reference19Ideal.τ).loc Cert.Reference19Ideal.main_arg22)
          ∧ r.2.mem ((c.tc : Thread Cert.Reference19Ideal.nD Cert.Reference19Ideal.τ).loc Cert.Reference19Ideal.main_arg23) = m' ((c.tc : Thread Cert.Reference19Ideal.nD Cert.Reference19Ideal.τ).loc Cert.Reference19Ideal.main_arg23)
          ∧ r.2.mem ((c.tc : Thread Cert.Reference19Ideal.nD Cert.Reference19Ideal.τ).loc Cert.Reference19Ideal.main_arg24) = m' ((c.tc : Thread Cert.Reference19Ideal.nD Cert.Reference19Ideal.τ).loc Cert.Reference19Ideal.main_arg24)
          ∧ r.2.mem ((c.tc : Thread Cert.Reference19Ideal.nD Cert.Reference19Ideal.τ).loc Cert.Reference19Ideal.main_arg25) = m' ((c.tc : Thread Cert.Reference19Ideal.nD Cert.Reference19Ideal.τ).loc Cert.Reference19Ideal.main_arg25)
          ∧ r.2.mem ((c.tc : Thread Cert.Reference19Ideal.nD Cert.Reference19Ideal.τ).loc Cert.Reference19Ideal.main_arg26) = m' ((c.tc : Thread Cert.Reference19Ideal.nD Cert.Reference19Ideal.τ).loc Cert.Reference19Ideal.main_arg26)
          ∧ r.2.mem ((c.tc : Thread Cert.Reference19Ideal.nD Cert.Reference19Ideal.τ).loc Cert.Reference19Ideal.main_arg27) = m' ((c.tc : Thread Cert.Reference19Ideal.nD Cert.Reference19Ideal.τ).loc Cert.Reference19Ideal.main_arg27)
          ∧ r.2.mem ((c.tc : Thread Cert.Reference19Ideal.nD Cert.Reference19Ideal.τ).loc Cert.Reference19Ideal.main_arg28) = m' ((c.tc : Thread Cert.Reference19Ideal.nD Cert.Reference19Ideal.τ).loc Cert.Reference19Ideal.main_arg28)
          ∧ r.2.mem ((c.tc : Thread Cert.Reference19Ideal.nD Cert.Reference19Ideal.τ).loc Cert.Reference19Ideal.main_arg29) = m' ((c.tc : Thread Cert.Reference19Ideal.nD Cert.Reference19Ideal.τ).loc Cert.Reference19Ideal.main_arg29)
          ∧ r.2.mem ((c.tc : Thread Cert.Reference19Ideal.nD Cert.Reference19Ideal.τ).loc Cert.Reference19Ideal.main_arg30) = m' ((c.tc : Thread Cert.Reference19Ideal.nD Cert.Reference19Ideal.τ).loc Cert.Reference19Ideal.main_arg30)
          ∧ r.2.mem ((c.tc : Thread Cert.Reference19Ideal.nD Cert.Reference19Ideal.τ).loc Cert.Reference19Ideal.main_arg31) = m' ((c.tc : Thread Cert.Reference19Ideal.nD Cert.Reference19Ideal.τ).loc Cert.Reference19Ideal.main_arg31)
          ∧ r.2.mem ((c.tc : Thread Cert.Reference19Ideal.nD Cert.Reference19Ideal.τ).loc Cert.Reference19Ideal.main_arg32) = m' ((c.tc : Thread Cert.Reference19Ideal.nD Cert.Reference19Ideal.τ).loc Cert.Reference19Ideal.main_arg32)
          ∧ r.2.mem ((c.tc : Thread Cert.Reference19Ideal.nD Cert.Reference19Ideal.τ).loc Cert.Reference19Ideal.main_arg33) = m' ((c.tc : Thread Cert.Reference19Ideal.nD Cert.Reference19Ideal.τ).loc Cert.Reference19Ideal.main_arg33)
          ∧ r.2.mem ((c.tc : Thread Cert.Reference19Ideal.nD Cert.Reference19Ideal.τ).loc Cert.Reference19Ideal.main_arg34) = m' ((c.tc : Thread Cert.Reference19Ideal.nD Cert.Reference19Ideal.τ).loc Cert.Reference19Ideal.main_arg34)
          ∧ r.2.mem ((c.tc : Thread Cert.Reference19Ideal.nD Cert.Reference19Ideal.τ).loc Cert.Reference19Ideal.main_arg35) = m' ((c.tc : Thread Cert.Reference19Ideal.nD Cert.Reference19Ideal.τ).loc Cert.Reference19Ideal.main_arg35)
          ∧ r.2.mem ((c.tc : Thread Cert.Reference19Ideal.nD Cert.Reference19Ideal.τ).loc Cert.Reference19Ideal.main_arg36) = m' ((c.tc : Thread Cert.Reference19Ideal.nD Cert.Reference19Ideal.τ).loc Cert.Reference19Ideal.main_arg36)
          ∧ r.2.mem ((c.tc : Thread Cert.Reference19Ideal.nD Cert.Reference19Ideal.τ).loc Cert.Reference19Ideal.main_arg37) = m' ((c.tc : Thread Cert.Reference19Ideal.nD Cert.Reference19Ideal.τ).loc Cert.Reference19Ideal.main_arg37)
          ∧ r.2.mem ((c.tc : Thread Cert.Reference19Ideal.nD Cert.Reference19Ideal.τ).loc Cert.Reference19Ideal.main_arg38) = m' ((c.tc : Thread Cert.Reference19Ideal.nD Cert.Reference19Ideal.τ).loc Cert.Reference19Ideal.main_arg38)
          ∧ r.2.mem ((c.tc : Thread Cert.Reference19Ideal.nD Cert.Reference19Ideal.τ).loc Cert.Reference19Ideal.main_arg39) = m' ((c.tc : Thread Cert.Reference19Ideal.nD Cert.Reference19Ideal.τ).loc Cert.Reference19Ideal.main_arg39)
          ∧ r.2.mem ((c.tc : Thread Cert.Reference19Ideal.nD Cert.Reference19Ideal.τ).loc Cert.Reference19Ideal.main_arg40) = m' ((c.tc : Thread Cert.Reference19Ideal.nD Cert.Reference19Ideal.τ).loc Cert.Reference19Ideal.main_arg40)
          ∧ r.2.mem ((c.tc : Thread Cert.Reference19Ideal.nD Cert.Reference19Ideal.τ).loc Cert.Reference19Ideal.main_arg41) = m' ((c.tc : Thread Cert.Reference19Ideal.nD Cert.Reference19Ideal.τ).loc Cert.Reference19Ideal.main_arg41)
          ∧ r.2.mem ((c.tc : Thread Cert.Reference19Ideal.nD Cert.Reference19Ideal.τ).loc Cert.Reference19Ideal.main_arg42) = m' ((c.tc : Thread Cert.Reference19Ideal.nD Cert.Reference19Ideal.τ).loc Cert.Reference19Ideal.main_arg42)
          ∧ r.2.mem ((c.tc : Thread Cert.Reference19Ideal.nD Cert.Reference19Ideal.τ).loc Cert.Reference19Ideal.main_arg43) = m' ((c.tc : Thread Cert.Reference19Ideal.nD Cert.Reference19Ideal.τ).loc Cert.Reference19Ideal.main_arg43))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)
      ∧ m' ((c.tc : Thread Cert.Reference20Ideal.nD Cert.Reference20Ideal.τ).loc Cert.Reference20Ideal.main_arg8) = m ((c.tc : Thread Cert.Kernel20Ideal.nD Cert.Kernel20Ideal.τ).loc Cert.Kernel20Ideal.main_arg8)
      ∧ m' ((c.tc : Thread Cert.Reference20Ideal.nD Cert.Reference20Ideal.τ).loc Cert.Reference20Ideal.main_arg9) = m ((c.tc : Thread Cert.Kernel20Ideal.nD Cert.Kernel20Ideal.τ).loc Cert.Kernel20Ideal.main_arg9)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)) (v3 : (c : Dev Cert.Kernel20Ideal.nD) → Buf (Elt Ideal) ((c.tc : Thread Cert.Kernel20Ideal.nD Cert.Kernel20Ideal.τ).loc Cert.Kernel20Ideal.main_v1_3)) (v4 : (c : Dev Cert.Kernel20Ideal.nD) → Buf (Elt Ideal) ((c.tc : Thread Cert.Kernel20Ideal.nD Cert.Kernel20Ideal.τ).loc Cert.Kernel20Ideal.main_v1_4)) (v5 : (c : Dev Cert.Kernel20Ideal.nD) → Buf (Elt Ideal) ((c.tc : Thread Cert.Kernel20Ideal.nD Cert.Kernel20Ideal.τ).loc Cert.Kernel20Ideal.main_v1_5)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_v1_3) = v3 c
          ∧ r.2.mem ((c.tc : Thread Cert.Kernel20Ideal.nD Cert.Kernel20Ideal.τ).loc Cert.Kernel20Ideal.main_v1_4) = v4 c
          ∧ r.2.mem ((c.tc : Thread Cert.Kernel20Ideal.nD Cert.Kernel20Ideal.τ).loc Cert.Kernel20Ideal.main_v1_5) = v5 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
          ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8)
          ∧ r.2.mem ((c.tc : Thread Cert.Kernel20Ideal.nD Cert.Kernel20Ideal.τ).loc Cert.Kernel20Ideal.main_arg9) = m ((c.tc : Thread Cert.Kernel20Ideal.nD Cert.Kernel20Ideal.τ).loc Cert.Kernel20Ideal.main_arg9))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v44) = v0 c
          ∧ r.2.mem ((c.tc : Thread Cert.Reference20Ideal.nD Cert.Reference20Ideal.τ).loc Cert.Reference20Ideal.main_v45) = v1 c
          ∧ r.2.mem ((c.tc : Thread Cert.Reference20Ideal.nD Cert.Reference20Ideal.τ).loc Cert.Reference20Ideal.main_v46) = v2 c
          ∧ r.2.mem ((c.tc : Thread Cert.Reference20Ideal.nD Cert.Reference20Ideal.τ).loc Cert.Reference20Ideal.main_v47) = v3 c
          ∧ r.2.mem ((c.tc : Thread Cert.Reference20Ideal.nD Cert.Reference20Ideal.τ).loc Cert.Reference20Ideal.main_v43) = v4 c
          ∧ r.2.mem ((c.tc : Thread Cert.Reference20Ideal.nD Cert.Reference20Ideal.τ).loc Cert.Reference20Ideal.main_v48) = v5 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7)
          ∧ r.2.mem ((c.tc : Thread Cert.Reference20Ideal.nD Cert.Reference20Ideal.τ).loc Cert.Reference20Ideal.main_arg8) = m' ((c.tc : Thread Cert.Reference20Ideal.nD Cert.Reference20Ideal.τ).loc Cert.Reference20Ideal.main_arg8)
          ∧ r.2.mem ((c.tc : Thread Cert.Reference20Ideal.nD Cert.Reference20Ideal.τ).loc Cert.Reference20Ideal.main_arg9) = m' ((c.tc : Thread Cert.Reference20Ideal.nD Cert.Reference20Ideal.τ).loc Cert.Reference20Ideal.main_arg9))

def preserves_Kernel21_Kernel21Ideal : Prop :=
  True

def algebraic_Kernel21Ideal_Reference21Ideal_pre_finite [hKernel21Ideal : Cert.Kernel21Ideal.Facts] [hReference21Ideal : Cert.Reference21Ideal.Facts] [hPre_finite : Cert.Pre_finite.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v51) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v15) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_finite (hKernel21Ideal := hKernel21Ideal) (hPre_finite := hPre_finite)
    ∧ quiescent_Reference21Ideal (hReference21Ideal := hReference21Ideal)
    ∧ quiescent_Reference21Ideal_pre_finite (hReference21Ideal := hReference21Ideal) (hPre_finite := hPre_finite)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_finite (hKernel21Ideal := hKernel21Ideal) (hReference21Ideal := hReference21Ideal) (hPre_finite := hPre_finite)
    ∧ preserves_Kernel22_Kernel22Ideal
    ∧ algebraic_Kernel22Ideal_Reference22Ideal (hKernel22Ideal := hKernel22Ideal) (hReference22Ideal := hReference22Ideal)
-- ==== Pre_finite.lean ====
abbrev S4x512 : Shape := ⟨2, ![4, 512]⟩
abbrev S_ : Shape := ⟨0, ![]⟩

class Facts : Prop where
  bcast_S_S4x512 : S_.BroadcastsInDim S4x512 (![] : Fin 0 → Fin S4x512.rank)

variable [Facts]

def fn {F : FTy → Type} [FloatOps F] (main_arg0 : FVec F S4x512 .f32) (main_arg1 : FVec F S4x512 .f32) : IVec S4x512 1 :=
  let main_v0 : FVec F S4x512 .f32 := Host.absf main_arg0
  let main_cst : FVec F S_ .f32 := constant S_ .f32 0x7F800000#32
  let main_v1 : FVec F S4x512 .f32 := broadcastInDim S4x512 ![] bcast_S_S4x512 main_cst
  let main_v2 : IVec S4x512 1 := cmpf .olt main_v0 main_v1
  let main_v3 : FVec F S4x512 .f32 := Host.absf main_arg1
  let main_cst_0 : FVec F S_ .f32 := constant S_ .f32 0x7F800000#32
  let main_v4 : FVec F S4x512 .f32 := broadcastInDim S4x512 ![] bcast_S_S4x512 main_cst_0
  let main_v5 : IVec S4x512 1 := cmpf .olt main_v3 main_v4
  let main_v6 : IVec S4x512 1 := andi main_v2 main_v5
  main_v6
-- ==== Kernel.lean ====
abbrev S16640x1024 : Shape := ⟨2, ![16640, 1024]⟩
abbrev S16640x512 : Shape := ⟨2, ![16640, 512]⟩
abbrev S16640x3072 : Shape := ⟨2, ![16640, 3072]⟩
abbrev S512x1024 : Shape := ⟨2, ![512, 1024]⟩
abbrev S1024x1024 : Shape := ⟨2, ![1024, 1024]⟩
abbrev S320x1024 : Shape := ⟨2, ![320, 1024]⟩
abbrev S320x3072 : Shape := ⟨2, ![320, 3072]⟩
abbrev S320x512 : Shape := ⟨2, ![320, 512]⟩

abbrev nBuf : Space → Nat
  | .hbm => 22
  | .vmem => 28
  | .smem => 0
  | _ => 0

abbrev bufTy : (tb : Table) → Fin (tcTables nBuf tb) → BufTy
  | .hbm, ⟨0, _⟩ => ⟨S16640x1024, .f32⟩
  | .hbm, ⟨1, _⟩ => ⟨S16640x512, .bf16⟩
  | .hbm, ⟨2, _⟩ => ⟨S16640x512, .bf16⟩
  | .hbm, ⟨3, _⟩ => ⟨S16640x512, .bf16⟩
  | .hbm, ⟨4, _⟩ => ⟨S16640x3072, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S16640x1024, .f32⟩
  | .hbm, ⟨10, _⟩ => ⟨S16640x1024, .bf16⟩
  | .hbm, ⟨11, _⟩ => ⟨S16640x1024, .f32⟩
  | .hbm, ⟨12, _⟩ => ⟨S16640x1024, .bf16⟩
  | .hbm, ⟨13, _⟩ => ⟨S16640x1024, .f32⟩
  | .hbm, ⟨14, _⟩ => ⟨S16640x1024, .bf16⟩
  | .hbm, ⟨15, _⟩ => ⟨S16640x3072, .bf16⟩
  | .hbm, ⟨16, _⟩ => ⟨S16640x1024, .bf16⟩
  | .hbm, ⟨17, _⟩ => ⟨S16640x1024, .bf16⟩
  | .hbm, ⟨18, _⟩ => ⟨S16640x1024, .bf16⟩
  | .hbm, ⟨19, _⟩ => ⟨S16640x512, .bf16⟩
  | .hbm, ⟨20, _⟩ => ⟨S16640x512, .bf16⟩
  | .hbm, ⟨21, _⟩ => ⟨S16640x512, .bf16⟩
  | .local _ .vmem, ⟨0, _⟩ => ⟨S320x1024, .f32⟩
  | .local _ .vmem, ⟨1, _⟩ => ⟨S320x1024, .f32⟩
  | .local _ .vmem, ⟨2, _⟩ => ⟨S320x1024, .bf16⟩
  | .local _ .vmem, ⟨3, _⟩ => ⟨S320x1024, .bf16⟩
  | .local _ .vmem, ⟨4, _⟩ => ⟨S320x1024, .bf16⟩
  | .local _ .vmem, ⟨5, _⟩ => ⟨S320x1024, .bf16⟩
  | .local _ .vmem, ⟨6, _⟩ => ⟨S320x1024, .bf16⟩
  | .local _ .vmem, ⟨7, _⟩ => ⟨S320x1024, .bf16⟩
  | .local _ .vmem, ⟨8, _⟩ => ⟨S320x3072, .bf16⟩
  | .local _ .vmem, ⟨9, _⟩ => ⟨S320x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S320x3072, .bf16⟩
  | .local _ .vmem, ⟨15, _⟩ => ⟨S320x3072, .bf16⟩
  | .local _ .vmem, ⟨16, _⟩ => ⟨S320x1024, .bf16⟩
  | .local _ .vmem, ⟨17, _⟩ => ⟨S320x1024, .bf16⟩
  | .local _ .vmem, ⟨18, _⟩ => ⟨S320x1024, .bf16⟩
  | .local _ .vmem, ⟨19, _⟩ => ⟨S320x1024, .bf16⟩
  | .local _ .vmem, ⟨20, _⟩ => ⟨S320x1024, .bf16⟩
  | .local _ .vmem, ⟨21, _⟩ => ⟨S320x1024, .bf16⟩
  | .local _ .vmem, ⟨22, _⟩ => ⟨S320x512, .bf16⟩
  | .local _ .vmem, ⟨23, _⟩ => ⟨S320x512, .bf16⟩
  | .local _ .vmem, ⟨24, _⟩ => ⟨S320x512, .bf16⟩
  | .local _ .vmem, ⟨25, _⟩ => ⟨S320x512, .bf16⟩
  | .local _ .vmem, ⟨26, _⟩ => ⟨S320x512, .bf16⟩
  | .local _ .vmem, ⟨27, _⟩ => ⟨S320x512, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S320x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S320x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S320x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S320x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S320x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S320x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S16640x1024 : Shape := ⟨2, ![16640, 1024]⟩
abbrev S16640x512 : Shape := ⟨2, ![16640, 512]⟩
abbrev S16640x3072 : Shape := ⟨2, ![16640, 3072]⟩
abbrev S512x1024 : Shape := ⟨2, ![512, 1024]⟩
abbrev S1024x1024 : Shape := ⟨2, ![1024, 1024]⟩
abbrev S_ : Shape := ⟨0, ![]⟩

abbrev nBuf : Space → Nat
  | .hbm => 107
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x512, .bf16⟩
  | .hbm, ⟨2, _⟩ => ⟨S16640x512, .bf16⟩
  | .hbm, ⟨3, _⟩ => ⟨S16640x512, .bf16⟩
  | .hbm, ⟨4, _⟩ => ⟨S16640x3072, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S16640x512, .f32⟩
  | .hbm, ⟨10, _⟩ => ⟨S16640x512, .f32⟩
  | .hbm, ⟨11, _⟩ => ⟨S16640x512, .f32⟩
  | .hbm, ⟨12, _⟩ => ⟨S16640x3072, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S1024x1024, .f32⟩
  | .hbm, ⟨17, _⟩ => ⟨S16640x1024, .f32⟩
  | .hbm, ⟨18, _⟩ => ⟨S16640x1024, .f32⟩
  | .hbm, ⟨19, _⟩ => ⟨S16640x1024, .f32⟩
  | .hbm, ⟨20, _⟩ => ⟨S16640x3072, .f32⟩
  | .hbm, ⟨21, _⟩ => ⟨S16640x3072, .f32⟩
  | .hbm, ⟨22, _⟩ => ⟨S_, .f32⟩
  | .hbm, ⟨23, _⟩ => ⟨S16640x3072, .f32⟩
  | .hbm, ⟨24, _⟩ => ⟨S16640x3072, .f32⟩
  | .hbm, ⟨25, _⟩ => ⟨S_, .f32⟩
  | .hbm, ⟨26, _⟩ => ⟨S16640x3072, .f32⟩
  | .hbm, ⟨27, _⟩ => ⟨S16640x3072, .f32⟩
  | .hbm, ⟨28, _⟩ => ⟨S_, .f32⟩
  | .hbm, ⟨29, _⟩ => ⟨S16640x3072, .f32⟩
  | .hbm, ⟨30, _⟩ => ⟨S16640x3072, .f32⟩
  | .hbm, ⟨31, _⟩ => ⟨S16640x3072, .f32⟩
  | .hbm, ⟨32, _⟩ => ⟨S16640x1024, .f32⟩
  | .hbm, ⟨33, _⟩ => ⟨S16640x1024, .f32⟩
  | .hbm, ⟨34, _⟩ => ⟨S16640x1024, .f32⟩
  | .hbm, ⟨35, _⟩ => ⟨S16640x1024, .f32⟩
  | .hbm, ⟨36, _⟩ => ⟨S16640x1024, .f32⟩
  | .hbm, ⟨37, _⟩ => ⟨S16640x1024, .f32⟩
  | .hbm, ⟨38, _⟩ => ⟨S16640x1024, .f32⟩
  | .hbm, ⟨39, _⟩ => ⟨S16640x1024, .f32⟩
  | .hbm, ⟨40, _⟩ => ⟨S16640x1024, .f32⟩
  | .hbm, ⟨41, _⟩ => ⟨S16640x1024, .f32⟩
  | .hbm, ⟨42, _⟩ => ⟨S16640x1024, .f32⟩
  | .hbm, ⟨43, _⟩ => ⟨S16640x1024, .f32⟩
  | .hbm, ⟨44, _⟩ => ⟨S_, .f32⟩
  | .hbm, ⟨45, _⟩ => ⟨S16640x3072, .f32⟩
  | .hbm, ⟨46, _⟩ => ⟨S16640x1024, .f32⟩
  | .hbm, ⟨47, _⟩ => ⟨S16640x1024, .f32⟩
  | .hbm, ⟨48, _⟩ => ⟨S_, .f32⟩
  | .hbm, ⟨49, _⟩ => ⟨S16640x3072, .f32⟩
  | .hbm, ⟨50, _⟩ => ⟨S16640x3072, .f32⟩
  | .hbm, ⟨51, _⟩ => ⟨S16640x1024, .f32⟩
  | .hbm, ⟨52, _⟩ => ⟨S16640x1024, .f32⟩
  | .hbm, ⟨53, _⟩ => ⟨S_, .f32⟩
  | .hbm, ⟨54, _⟩ => ⟨S16640x3072, .f32⟩
  | .hbm, ⟨55, _⟩ => ⟨S16640x3072, .f32⟩
  | .hbm, ⟨56, _⟩ => ⟨S16640x3072, .f32⟩
  | .hbm, ⟨57, _⟩ => ⟨S16640x512, .f32⟩
  | .hbm, ⟨58, _⟩ => ⟨S16640x512, .f32⟩
  | .hbm, ⟨59, _⟩ => ⟨S16640x512, .f32⟩
  | .hbm, ⟨60, _⟩ => ⟨S16640x1024, .f32⟩
  | .hbm, ⟨61, _⟩ => ⟨S16640x1024, .f32⟩
  | .hbm, ⟨62, _⟩ => ⟨S16640x1024, .f32⟩
  | .hbm, ⟨63, _⟩ => ⟨S16640x3072, .f32⟩
  | .hbm, ⟨64, _⟩ => ⟨S16640x3072, .f32⟩
  | .hbm, ⟨65, _⟩ => ⟨S_, .f32⟩
  | .hbm, ⟨66, _⟩ => ⟨S16640x3072, .f32⟩
  | .hbm, ⟨67, _⟩ => ⟨S16640x3072, .f32⟩
  | .hbm, ⟨68, _⟩ => ⟨S_, .f32⟩
  | .hbm, ⟨69, _⟩ => ⟨S16640x3072, .f32⟩
  | .hbm, ⟨70, _⟩ => ⟨S16640x3072, .f32⟩
  | .hbm, ⟨71, _⟩ => ⟨S_, .f32⟩
  | .hbm, ⟨72, _⟩ => ⟨S16640x3072, .f32⟩
  | .hbm, ⟨73, _⟩ => ⟨S16640x3072, .f32⟩
  | .hbm, ⟨74, _⟩ => ⟨S16640x3072, .f32⟩
  | .hbm, ⟨75, _⟩ => ⟨S16640x1024, .f32⟩
  | .hbm, ⟨76, _⟩ => ⟨S16640x1024, .f32⟩
  | .hbm, ⟨77, _⟩ => ⟨S16640x1024, .f32⟩
  | .hbm, ⟨78, _⟩ => ⟨S16640x1024, .f32⟩
  | .hbm, ⟨79, _⟩ => ⟨S16640x1024, .f32⟩
  | .hbm, ⟨80, _⟩ => ⟨S16640x1024, .f32⟩
  | .hbm, ⟨81, _⟩ => ⟨S16640x1024, .f32⟩
  | .hbm, ⟨82, _⟩ => ⟨S16640x1024, .f32⟩
  | .hbm, ⟨83, _⟩ => ⟨S16640x1024, .f32⟩
  | .hbm, ⟨84, _⟩ => ⟨S16640x1024, .f32⟩
  | .hbm, ⟨85, _⟩ => ⟨S16640x1024, .f32⟩
  | .hbm, ⟨86, _⟩ => ⟨S16640x1024, .f32⟩
  | .hbm, ⟨87, _⟩ => ⟨S_, .f32⟩
  | .hbm, ⟨88, _⟩ => ⟨S16640x3072, .f32⟩
  | .hbm, ⟨89, _⟩ => ⟨S16640x1024, .f32⟩
  | .hbm, ⟨90, _⟩ => ⟨S16640x1024, .f32⟩
  | .hbm, ⟨91, _⟩ => ⟨S_, .f32⟩
  | .hbm, ⟨92, _⟩ => ⟨S16640x3072, .f32⟩
  | .hbm, ⟨93, _⟩ => ⟨S16640x3072, .f32⟩
  | .hbm, ⟨94, _⟩ => ⟨S16640x1024, .f32⟩
  | .hbm, ⟨95, _⟩ => ⟨S16640x1024, .f32⟩
  | .hbm, ⟨96, _⟩ => ⟨S_, .f32⟩
  | .hbm, ⟨97, _⟩ => ⟨S16640x3072, .f32⟩
  | .hbm, ⟨98, _⟩ => ⟨S16640x3072, .f32⟩
  | .hbm, ⟨99, _⟩ => ⟨S16640x3072, .f32⟩
  | .hbm, ⟨100, _⟩ => ⟨S16640x3072, .bf16⟩
  | .hbm, ⟨101, _⟩ => ⟨S16640x1024, .bf16⟩
  | .hbm, ⟨102, _⟩ => ⟨S16640x1024, .bf16⟩
  | .hbm, ⟨103, _⟩ => ⟨S16640x1024, .bf16⟩
  | .hbm, ⟨104, _⟩ => ⟨S16640x512, .bf16⟩
  | .hbm, ⟨105, _⟩ => ⟨S16640x512, .bf16⟩
  | .hbm, ⟨106, _⟩ => ⟨S16640x512, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_10 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩

abbrev nD : Nat := 1
abbrev τ : Topo := Topo.v7x

variable {F : FTy → Type} [FloatOps F]
-- ==== Kernel2.lean ====
abbrev S16640x3072 : Shape := ⟨2, ![16640, 3072]⟩
abbrev S16640x1536 : Shape := ⟨2, ![16640, 1536]⟩
abbrev S16640x2048 : Shape := ⟨2, ![16640, 2048]⟩
abbrev S16640x1280 : Shape := ⟨2, ![16640, 1280]⟩
abbrev S1024x7936 : Shape := ⟨2, ![1024, 7936]⟩
abbrev S16640x1024 : Shape := ⟨2, ![16640, 1024]⟩
abbrev S1x1024 : Shape := ⟨2, ![1, 1024]⟩
abbrev S7936x1024 : Shape := ⟨2, ![7936, 1024]⟩
abbrev S1536x1024 : Shape := ⟨2, ![1536, 1024]⟩
abbrev S2048x1024 : Shape := ⟨2, ![2048, 1024]⟩
abbrev S512x1024 : Shape := ⟨2, ![512, 1024]⟩
abbrev S256x1024 : Shape := ⟨2, ![256, 1024]⟩
abbrev S1280x1024 : Shape := ⟨2, ![1280, 1024]⟩
abbrev S3072x1024 : Shape := ⟨2, ![3072, 1024]⟩
abbrev S8x1024 : Shape := ⟨2, ![8, 1024]⟩
abbrev S320x3072 : Shape := ⟨2, ![320, 3072]⟩
abbrev S320x1536 : Shape := ⟨2, ![320, 1536]⟩
abbrev S320x2048 : Shape := ⟨2, ![320, 2048]⟩
abbrev S320x1280 : Shape := ⟨2, ![320, 1280]⟩
abbrev S320x1024 : Shape := ⟨2, ![320, 1024]⟩
abbrev S320 : Shape := ⟨1, ![320]⟩
abbrev S320x1 : Shape := ⟨2, ![320, 1]⟩
abbrev S1024 : Shape := ⟨1, ![1024]⟩

abbrev nBuf : Space → Nat
  | .hbm => 19
  | .vmem => 20
  | .smem => 0
  | _ => 0

abbrev bufTy : (tb : Table) → Fin (tcTables nBuf tb) → BufTy
  | .hbm, ⟨0, _⟩ => ⟨S16640x3072, .bf16⟩
  | .hbm, ⟨1, _⟩ => ⟨S16640x1536, .bf16⟩
  | .hbm, ⟨2, _⟩ => ⟨S16640x2048, .bf16⟩
  | .hbm, ⟨3, _⟩ => ⟨S16640x1280, .bf16⟩
  | .hbm, ⟨4, _⟩ => ⟨S1024x7936, .f32⟩
  | .hbm, ⟨5, _⟩ => ⟨S16640x1024, .f32⟩
  | .hbm, ⟨6, _⟩ => ⟨S16640x1024, .f32⟩
  | .hbm, ⟨7, _⟩ => ⟨S1x1024, .f32⟩
  | .hbm, ⟨8, _⟩ => ⟨S7936x1024, .f32⟩
  | .hbm, ⟨9, _⟩ => ⟨S7936x1024, .bf16⟩
  | .hbm, ⟨10, _⟩ => ⟨S1536x1024, .bf16⟩
  | .hbm, ⟨11, _⟩ => ⟨S2048x1024, .bf16⟩
  | .hbm, ⟨12, _⟩ => ⟨S512x1024, .bf16⟩
  | .hbm, ⟨13, _⟩ => ⟨S512x1024, .bf16⟩
  | .hbm, ⟨14, _⟩ => ⟨S256x1024, .bf16⟩
  | .hbm, ⟨15, _⟩ => ⟨S1280x1024, .bf16⟩
  | .hbm, ⟨16, _⟩ => ⟨S3072x1024, .bf16⟩
  | .hbm, ⟨17, _⟩ => ⟨S16640x1024, .f32⟩
  | .hbm, ⟨18, _⟩ => ⟨S8x1024, .f32⟩
  | .local _ .vmem, ⟨0, _⟩ => ⟨S320x3072, .bf16⟩
  | .local _ .vmem, ⟨1, _⟩ => ⟨S320x3072, .bf16⟩
  | .local _ .vmem, ⟨2, _⟩ => ⟨S320x1536, .bf16⟩
  | .local _ .vmem, ⟨3, _⟩ => ⟨S320x1536, .bf16⟩
  | .local _ .vmem, ⟨4, _⟩ => ⟨S320x2048, .bf16⟩
  | .local _ .vmem, ⟨5, _⟩ => ⟨S320x2048, .bf16⟩
  | .local _ .vmem, ⟨6, _⟩ => ⟨S320x1280, .bf16⟩
  | .local _ .vmem, ⟨7, _⟩ => ⟨S320x1280, .bf16⟩
  | .local _ .vmem, ⟨8, _⟩ => ⟨S3072x1024, .bf16⟩
  | .local _ .vmem, ⟨9, _⟩ => ⟨S1536x1024, .bf16⟩
  | .local _ .vmem, ⟨10, _⟩ => ⟨S2048x1024, .bf16⟩
  | .local _ .vmem, ⟨11, _⟩ => ⟨S1280x1024, .bf16⟩
  | .local _ .vmem, ⟨12, _⟩ => ⟨S320x1024, .f32⟩
  | .local _ .vmem, ⟨13, _⟩ => ⟨S320x1024, .f32⟩
  | .local _ .vmem, ⟨14, _⟩ => ⟨S320x1024, .f32⟩
  | .local _ .vmem, ⟨15, _⟩ => ⟨S320x1024, .f32⟩
  | .local _ .vmem, ⟨16, _⟩ => ⟨S1x1024, .f32⟩
  | .local _ .vmem, ⟨17, _⟩ => ⟨S320x1024, .f32⟩
  | .local _ .vmem, ⟨18, _⟩ => ⟨S320x1024, .f32⟩
  | .local _ .vmem, ⟨19, _⟩ => ⟨S8x1024, .f32⟩
  | _, _ => ⟨S16640x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1280x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S320x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S320x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S16640x3072 : Shape := ⟨2, ![16640, 3072]⟩
abbrev S16640x1536 : Shape := ⟨2, ![16640, 1536]⟩
abbrev S16640x2048 : Shape := ⟨2, ![16640, 2048]⟩
abbrev S16640x1280 : Shape := ⟨2, ![16640, 1280]⟩
abbrev S1024x7936 : Shape := ⟨2, ![1024, 7936]⟩
abbrev S16640x1024 : Shape := ⟨2, ![16640, 1024]⟩
abbrev S1x1024 : Shape := ⟨2, ![1, 1024]⟩
abbrev S_ : Shape := ⟨0, ![]⟩
abbrev S16640 : Shape := ⟨1, ![16640]⟩
abbrev S16640x1 : Shape := ⟨2, ![16640, 1]⟩
abbrev S16640x7936 : Shape := ⟨2, ![16640, 7936]⟩
abbrev S16640x512 : Shape := ⟨2, ![16640, 512]⟩
abbrev S16640x128 : Shape := ⟨2, ![16640, 128]⟩
abbrev S1024 : Shape := ⟨1, ![1024]⟩
abbrev S8x1024 : Shape := ⟨2, ![8, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16640x3072, .bf16⟩
  | .hbm, ⟨1, _⟩ => ⟨S16640x1536, .bf16⟩
  | .hbm, ⟨2, _⟩ => ⟨S16640x2048, .bf16⟩
  | .hbm, ⟨3, _⟩ => ⟨S16640x1280, .bf16⟩
  | .hbm, ⟨4, _⟩ => ⟨S1024x7936, .f32⟩
  | .hbm, ⟨5, _⟩ => ⟨S16640x1024, .f32⟩
  | .hbm, ⟨6, _⟩ => ⟨S16640x1024, .f32⟩
  | .hbm, ⟨7, _⟩ => ⟨S1x1024, .f32⟩
  | .hbm, ⟨8, _⟩ => ⟨S16640x1024, .f32⟩
  | .hbm, ⟨9, _⟩ => ⟨S_, .f32⟩
  | .hbm, ⟨10, _⟩ => ⟨S16640, .f32⟩
  | .hbm, ⟨11, _⟩ => ⟨S16640x1, .f32⟩
  | .hbm, ⟨12, _⟩ => ⟨S_, .f32⟩
  | .hbm, ⟨13, _⟩ => ⟨S16640x1, .f32⟩
  | .hbm, ⟨14, _⟩ => ⟨S16640x1, .f32⟩
  | .hbm, ⟨15, _⟩ => ⟨S_, .f32⟩
  | .hbm, ⟨16, _⟩ => ⟨S16640x1, .f32⟩
  | .hbm, ⟨17, _⟩ => ⟨S16640x1, .f32⟩
  | .hbm, ⟨18, _⟩ => ⟨S16640x1, .f32⟩
  | .hbm, ⟨19, _⟩ => ⟨S16640x1, .f32⟩
  | .hbm, ⟨20, _⟩ => ⟨S_, .f32⟩
  | .hbm, ⟨21, _⟩ => ⟨S16640x1, .f32⟩
  | .hbm, ⟨22, _⟩ => ⟨S16640x1, .f32⟩
  | .hbm, ⟨23, _⟩ => ⟨S16640x1024, .f32⟩
  | .hbm, ⟨24, _⟩ => ⟨S16640x1024, .f32⟩
  | .hbm, ⟨25, _⟩ => ⟨S16640x1024, .f32⟩
  | .hbm, ⟨26, _⟩ => ⟨S16640x1024, .f32⟩
  | .hbm, ⟨27, _⟩ => ⟨S16640x7936, .f32⟩
  | .hbm, ⟨28, _⟩ => ⟨S16640x1536, .f32⟩
  | .hbm, ⟨29, _⟩ => ⟨S16640x2048, .f32⟩
  | .hbm, ⟨30, _⟩ => ⟨S16640x512, .f32⟩
  | .hbm, ⟨31, _⟩ => ⟨S16640x128, .f32⟩
  | .hbm, ⟨32, _⟩ => ⟨S16640x128, .f32⟩
  | .hbm, ⟨33, _⟩ => ⟨S16640x512, .f32⟩
  | .hbm, ⟨34, _⟩ => ⟨S16640x3072, .f32⟩
  | .hbm, ⟨35, _⟩ => ⟨S16640x1280, .f32⟩
  | .hbm, ⟨36, _⟩ => ⟨S16640x3072, .f32⟩
  | .hbm, ⟨37, _⟩ => ⟨S16640x1536, .f32⟩
  | .hbm, ⟨38, _⟩ => ⟨S16640x2048, .f32⟩
  | .hbm, ⟨39, _⟩ => ⟨S16640x1280, .f32⟩
  | .hbm, ⟨40, _⟩ => ⟨S16640x512, .f32⟩
  | .hbm, ⟨41, _⟩ => ⟨S16640x512, .f32⟩
  | .hbm, ⟨42, _⟩ => ⟨S16640x128, .f32⟩
  | .hbm, ⟨43, _⟩ => ⟨S16640x128, .f32⟩
  | .hbm, ⟨44, _⟩ => ⟨S16640x7936, .f32⟩
  | .hbm, ⟨45, _⟩ => ⟨S16640x1024, .f32⟩
  | .hbm, ⟨46, _⟩ => ⟨S16640x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16640x1024, .f32⟩
  | .hbm, ⟨51, _⟩ => ⟨S16640x1024, .f32⟩
  | .hbm, ⟨52, _⟩ => ⟨S16640x1024, .f32⟩
  | .hbm, ⟨53, _⟩ => ⟨S_, .f32⟩
  | .hbm, ⟨54, _⟩ => ⟨S16640, .f32⟩
  | .hbm, ⟨55, _⟩ => ⟨S16640x1, .f32⟩
  | .hbm, ⟨56, _⟩ => ⟨S16640x1024, .f32⟩
  | .hbm, ⟨57, _⟩ => ⟨S16640x1024, .f32⟩
  | .hbm, ⟨58, _⟩ => ⟨S16640x1024, .f32⟩
  | .hbm, ⟨59, _⟩ => ⟨S16640x1, .f32⟩
  | .hbm, ⟨60, _⟩ => ⟨S_, .f32⟩
  | .hbm, ⟨61, _⟩ => ⟨S16640x1, .f32⟩
  | .hbm, ⟨62, _⟩ => ⟨S16640x1, .f32⟩
  | .hbm, ⟨63, _⟩ => ⟨S_, .f32⟩
  | .hbm, ⟨64, _⟩ => ⟨S16640, .f32⟩
  | .hbm, ⟨65, _⟩ => ⟨S16640x1024, .f32⟩
  | .hbm, ⟨66, _⟩ => ⟨S16640x1024, .f32⟩
  | .hbm, ⟨67, _⟩ => ⟨S16640x1024, .f32⟩
  | .hbm, ⟨68, _⟩ => ⟨S16640x1024, .f32⟩
  | .hbm, ⟨69, _⟩ => ⟨S16640x1024, .f32⟩
  | .hbm, ⟨70, _⟩ => ⟨S_, .i32⟩
  | .hbm, ⟨71, _⟩ => ⟨S_, .f32⟩
  | .hbm, ⟨72, _⟩ => ⟨S8x1024, .f32⟩
  | _, _ => ⟨S16640x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c : Ref sig .tc := ⟨.hbm, 70, rfl⟩
abbrev main_call0_v0 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Kernel3.lean ====
abbrev S16640x3072 : Shape := ⟨2, ![16640, 3072]⟩
abbrev S16640x1024 : Shape := ⟨2, ![16640, 1024]⟩
abbrev S3072x1024 : Shape := ⟨2, ![3072, 1024]⟩
abbrev S1280x1536 : Shape := ⟨2, ![1280, 1536]⟩
abbrev S1280x1024 : Shape := ⟨2, ![1280, 1024]⟩
abbrev S1536x1024 : Shape := ⟨2, ![1536, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16640x3072, .bf16⟩
  | .hbm, ⟨1, _⟩ => ⟨S16640x1024, .bf16⟩
  | .hbm, ⟨2, _⟩ => ⟨S3072x1024, .f32⟩
  | .local _ .vmem, ⟨0, _⟩ => ⟨S1280x1536, .bf16⟩
  | .local _ .vmem, ⟨1, _⟩ => ⟨S1280x1536, .bf16⟩
  | .local _ .vmem, ⟨2, _⟩ => ⟨S1280x1024, .bf16⟩
  | .local _ .vmem, ⟨3, _⟩ => ⟨S1280x1024, .bf16⟩
  | .local _ .vmem, ⟨4, _⟩ => ⟨S1536x1024, .f32⟩
  | .local _ .vmem, ⟨5, _⟩ => ⟨S1536x1024, .f32⟩
  | _, _ => ⟨S16640x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 13], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16640x3072 : Shape := ⟨2, ![16640, 3072]⟩
abbrev S16640x1024 : Shape := ⟨2, ![16640, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S16640x3072, .bf16⟩
  | .hbm, ⟨1, _⟩ => ⟨S16640x1024, .bf16⟩
  | .hbm, ⟨2, _⟩ => ⟨S_, .f32⟩
  | .hbm, ⟨3, _⟩ => ⟨S3072x1024, .f32⟩
  | .hbm, ⟨4, _⟩ => ⟨S16640x1024, .f32⟩
  | .hbm, ⟨5, _⟩ => ⟨S1024x3072, .f32⟩
  | .hbm, ⟨6, _⟩ => ⟨S16640x3072, .f32⟩
  | .hbm, ⟨7, _⟩ => ⟨S16640x3072, .f32⟩
  | .hbm, ⟨8, _⟩ => ⟨S3072x1024, .f32⟩
  | .hbm, ⟨9, _⟩ => ⟨S1024x3072, .f32⟩
  | .hbm, ⟨10, _⟩ => ⟨S3072x1024, .f32⟩
  | _, _ => ⟨S16640x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S16640x1536 : Shape := ⟨2, ![16640, 1536]⟩
abbrev S16640x1024 : Shape := ⟨2, ![16640, 1024]⟩
abbrev S1536x1024 : Shape := ⟨2, ![1536, 1024]⟩
abbrev S1280x1536 : Shape := ⟨2, ![1280, 1536]⟩
abbrev S1280x1024 : Shape := ⟨2, ![1280, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16640x1536, .bf16⟩
  | .hbm, ⟨1, _⟩ => ⟨S16640x1024, .bf16⟩
  | .hbm, ⟨2, _⟩ => ⟨S1536x1024, .f32⟩
  | .local _ .vmem, ⟨0, _⟩ => ⟨S1280x1536, .bf16⟩
  | .local _ .vmem, ⟨1, _⟩ => ⟨S1280x1536, .bf16⟩
  | .local _ .vmem, ⟨2, _⟩ => ⟨S1280x1024, .bf16⟩
  | .local _ .vmem, ⟨3, _⟩ => ⟨S1280x1024, .bf16⟩
  | .local _ .vmem, ⟨4, _⟩ => ⟨S1536x1024, .f32⟩
  | _, _ => ⟨S16640x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 13], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1536x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S16640x1536 : Shape := ⟨2, ![16640, 1536]⟩
abbrev S16640x1024 : Shape := ⟨2, ![16640, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 11
  | .vmem => 0
  | .smem => 0
  | _ => 0

abbrev bufTy : (tb : Table) → Fin (tcTables nBuf tb) → BufTy
  | .hbm, ⟨0, _⟩ => ⟨S16640x1536, .bf16⟩
  | .hbm, ⟨1, _⟩ => ⟨S16640x1024, .bf16⟩
  | .hbm, ⟨2, _⟩ => ⟨S_, .f32⟩
  | .hbm, ⟨3, _⟩ => ⟨S1536x1024, .f32⟩
  | .hbm, ⟨4, _⟩ => ⟨S16640x1024, .f32⟩
  | .hbm, ⟨5, _⟩ => ⟨S1024x1536, .f32⟩
  | .hbm, ⟨6, _⟩ => ⟨S16640x1536, .f32⟩
  | .hbm, ⟨7, _⟩ => ⟨S16640x1536, .f32⟩
  | .hbm, ⟨8, _⟩ => ⟨S1536x1024, .f32⟩
  | .hbm, ⟨9, _⟩ => ⟨S1024x1536, .f32⟩
  | .hbm, ⟨10, _⟩ => ⟨S1536x1024, .f32⟩
  | _, _ => ⟨S16640x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S16640x2048 : Shape := ⟨2, ![16640, 2048]⟩
abbrev S16640x1024 : Shape := ⟨2, ![16640, 1024]⟩
abbrev S2048x1024 : Shape := ⟨2, ![2048, 1024]⟩
abbrev S1280x2048 : Shape := ⟨2, ![1280, 2048]⟩
abbrev S1280x1024 : Shape := ⟨2, ![1280, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16640x2048, .bf16⟩
  | .hbm, ⟨1, _⟩ => ⟨S16640x1024, .bf16⟩
  | .hbm, ⟨2, _⟩ => ⟨S2048x1024, .f32⟩
  | .local _ .vmem, ⟨0, _⟩ => ⟨S1280x2048, .bf16⟩
  | .local _ .vmem, ⟨1, _⟩ => ⟨S1280x2048, .bf16⟩
  | .local _ .vmem, ⟨2, _⟩ => ⟨S1280x1024, .bf16⟩
  | .local _ .vmem, ⟨3, _⟩ => ⟨S1280x1024, .bf16⟩
  | .local _ .vmem, ⟨4, _⟩ => ⟨S2048x1024, .f32⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 13], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S16640x2048 : Shape := ⟨2, ![16640, 2048]⟩
abbrev S16640x1024 : Shape := ⟨2, ![16640, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S16640x1024, .bf16⟩
  | .hbm, ⟨2, _⟩ => ⟨S_, .f32⟩
  | .hbm, ⟨3, _⟩ => ⟨S2048x1024, .f32⟩
  | .hbm, ⟨4, _⟩ => ⟨S16640x1024, .f32⟩
  | .hbm, ⟨5, _⟩ => ⟨S1024x2048, .f32⟩
  | .hbm, ⟨6, _⟩ => ⟨S16640x2048, .f32⟩
  | .hbm, ⟨7, _⟩ => ⟨S16640x2048, .f32⟩
  | .hbm, ⟨8, _⟩ => ⟨S2048x1024, .f32⟩
  | .hbm, ⟨9, _⟩ => ⟨S1024x2048, .f32⟩
  | .hbm, ⟨10, _⟩ => ⟨S2048x1024, .f32⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S16640x1280 : Shape := ⟨2, ![16640, 1280]⟩
abbrev S16640x1024 : Shape := ⟨2, ![16640, 1024]⟩
abbrev S1280x1024 : Shape := ⟨2, ![1280, 1024]⟩
abbrev S1280x1280 : Shape := ⟨2, ![1280, 1280]⟩

abbrev nBuf : Space → Nat
  | .hbm => 3
  | .vmem => 5
  | .smem => 0
  | _ => 0

abbrev bufTy : (tb : Table) → Fin (tcTables nBuf tb) → BufTy
  | .hbm, ⟨0, _⟩ => ⟨S16640x1280, .bf16⟩
  | .hbm, ⟨1, _⟩ => ⟨S16640x1024, .bf16⟩
  | .hbm, ⟨2, _⟩ => ⟨S1280x1024, .f32⟩
  | .local _ .vmem, ⟨0, _⟩ => ⟨S1280x1280, .bf16⟩
  | .local _ .vmem, ⟨1, _⟩ => ⟨S1280x1280, .bf16⟩
  | .local _ .vmem, ⟨2, _⟩ => ⟨S1280x1024, .bf16⟩
  | .local _ .vmem, ⟨3, _⟩ => ⟨S1280x1024, .bf16⟩
  | .local _ .vmem, ⟨4, _⟩ => ⟨S1280x1024, .f32⟩
  | _, _ => ⟨S16640x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 13], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S16640x1280 : Shape := ⟨2, ![16640, 1280]⟩
abbrev S16640x1024 : Shape := ⟨2, ![16640, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 11
  | .vmem => 0
  | .smem => 0
  | _ => 0

abbrev bufTy : (tb : Table) → Fin (tcTables nBuf tb) → BufTy
  | .hbm, ⟨0, _⟩ => ⟨S16640x1280, .bf16⟩
  | .hbm, ⟨1, _⟩ => ⟨S16640x1024, .bf16⟩
  | .hbm, ⟨2, _⟩ => ⟨S_, .f32⟩
  | .hbm, ⟨3, _⟩ => ⟨S1280x1024, .f32⟩
  | .hbm, ⟨4, _⟩ => ⟨S16640x1024, .f32⟩
  | .hbm, ⟨5, _⟩ => ⟨S1024x1280, .f32⟩
  | .hbm, ⟨6, _⟩ => ⟨S16640x1280, .f32⟩
  | .hbm, ⟨7, _⟩ => ⟨S16640x1280, .f32⟩
  | .hbm, ⟨8, _⟩ => ⟨S1280x1024, .f32⟩
  | .hbm, ⟨9, _⟩ => ⟨S1024x1280, .f32⟩
  | .hbm, ⟨10, _⟩ => ⟨S1280x1024, .f32⟩
  | _, _ => ⟨S16640x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S16640x1024 : Shape := ⟨2, ![16640, 1024]⟩
abbrev S1024x7936 : Shape := ⟨2, ![1024, 7936]⟩
abbrev S7936x1024 : Shape := ⟨2, ![7936, 1024]⟩
abbrev S1536x1024 : Shape := ⟨2, ![1536, 1024]⟩
abbrev S2048x1024 : Shape := ⟨2, ![2048, 1024]⟩
abbrev S512x1024 : Shape := ⟨2, ![512, 1024]⟩
abbrev S256x1024 : Shape := ⟨2, ![256, 1024]⟩
abbrev S1280x1024 : Shape := ⟨2, ![1280, 1024]⟩
abbrev S3072x1024 : Shape := ⟨2, ![3072, 1024]⟩
abbrev S16640x3072 : Shape := ⟨2, ![16640, 3072]⟩
abbrev S640x1024 : Shape := ⟨2, ![640, 1024]⟩
abbrev S640x1536 : Shape := ⟨2, ![640, 1536]⟩

abbrev nBuf : Space → Nat
  | .hbm => 12
  | .vmem => 6
  | .smem => 0
  | _ => 0

abbrev bufTy : (tb : Table) → Fin (tcTables nBuf tb) → BufTy
  | .hbm, ⟨0, _⟩ => ⟨S16640x1024, .bf16⟩
  | .hbm, ⟨1, _⟩ => ⟨S1024x7936, .f32⟩
  | .hbm, ⟨2, _⟩ => ⟨S7936x1024, .f32⟩
  | .hbm, ⟨3, _⟩ => ⟨S7936x1024, .bf16⟩
  | .hbm, ⟨4, _⟩ => ⟨S1536x1024, .bf16⟩
  | .hbm, ⟨5, _⟩ => ⟨S2048x1024, .bf16⟩
  | .hbm, ⟨6, _⟩ => ⟨S512x1024, .bf16⟩
  | .hbm, ⟨7, _⟩ => ⟨S512x1024, .bf16⟩
  | .hbm, ⟨8, _⟩ => ⟨S256x1024, .bf16⟩
  | .hbm, ⟨9, _⟩ => ⟨S1280x1024, .bf16⟩
  | .hbm, ⟨10, _⟩ => ⟨S3072x1024, .bf16⟩
  | .hbm, ⟨11, _⟩ => ⟨S16640x3072, .bf16⟩
  | .local _ .vmem, ⟨0, _⟩ => ⟨S640x1024, .bf16⟩
  | .local _ .vmem, ⟨1, _⟩ => ⟨S640x1024, .bf16⟩
  | .local _ .vmem, ⟨2, _⟩ => ⟨S1536x1024, .bf16⟩
  | .local _ .vmem, ⟨3, _⟩ => ⟨S1536x1024, .bf16⟩
  | .local _ .vmem, ⟨4, _⟩ => ⟨S640x1536, .bf16⟩
  | .local _ .vmem, ⟨5, _⟩ => ⟨S640x1536, .bf16⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 26, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S640x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16640x1024 : Shape := ⟨2, ![16640, 1024]⟩
abbrev S1024x7936 : Shape := ⟨2, ![1024, 7936]⟩
abbrev S16640x7936 : Shape := ⟨2, ![16640, 7936]⟩
abbrev S16640x1536 : Shape := ⟨2, ![16640, 1536]⟩
abbrev S16640x2048 : Shape := ⟨2, ![16640, 2048]⟩
abbrev S16640x512 : Shape := ⟨2, ![16640, 512]⟩
abbrev S16640x128 : Shape := ⟨2, ![16640, 128]⟩
abbrev S16640x3072 : Shape := ⟨2, ![16640, 3072]⟩
abbrev S16640x1280 : Shape := ⟨2, ![16640, 1280]⟩

abbrev nBuf : Space → Nat
  | .hbm => 13
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S1024x7936, .f32⟩
  | .hbm, ⟨2, _⟩ => ⟨S16640x1024, .f32⟩
  | .hbm, ⟨3, _⟩ => ⟨S16640x7936, .f32⟩
  | .hbm, ⟨4, _⟩ => ⟨S16640x1536, .f32⟩
  | .hbm, ⟨5, _⟩ => ⟨S16640x2048, .f32⟩
  | .hbm, ⟨6, _⟩ => ⟨S16640x512, .f32⟩
  | .hbm, ⟨7, _⟩ => ⟨S16640x128, .f32⟩
  | .hbm, ⟨8, _⟩ => ⟨S16640x128, .f32⟩
  | .hbm, ⟨9, _⟩ => ⟨S16640x512, .f32⟩
  | .hbm, ⟨10, _⟩ => ⟨S16640x3072, .f32⟩
  | .hbm, ⟨11, _⟩ => ⟨S16640x1280, .f32⟩
  | .hbm, ⟨12, _⟩ => ⟨S16640x3072, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel8.lean ====
abbrev S16640x1024 : Shape := ⟨2, ![16640, 1024]⟩
abbrev S1024x7936 : Shape := ⟨2, ![1024, 7936]⟩
abbrev S7936x1024 : Shape := ⟨2, ![7936, 1024]⟩
abbrev S1536x1024 : Shape := ⟨2, ![1536, 1024]⟩
abbrev S2048x1024 : Shape := ⟨2, ![2048, 1024]⟩
abbrev S512x1024 : Shape := ⟨2, ![512, 1024]⟩
abbrev S256x1024 : Shape := ⟨2, ![256, 1024]⟩
abbrev S1280x1024 : Shape := ⟨2, ![1280, 1024]⟩
abbrev S3072x1024 : Shape := ⟨2, ![3072, 1024]⟩
abbrev S16640x1536 : Shape := ⟨2, ![16640, 1536]⟩
abbrev S640x1024 : Shape := ⟨2, ![640, 1024]⟩
abbrev S640x1536 : Shape := ⟨2, ![640, 1536]⟩

abbrev nBuf : Space → Nat
  | .hbm => 12
  | .vmem => 5
  | .smem => 0
  | _ => 0

abbrev bufTy : (tb : Table) → Fin (tcTables nBuf tb) → BufTy
  | .hbm, ⟨0, _⟩ => ⟨S16640x1024, .bf16⟩
  | .hbm, ⟨1, _⟩ => ⟨S1024x7936, .f32⟩
  | .hbm, ⟨2, _⟩ => ⟨S7936x1024, .f32⟩
  | .hbm, ⟨3, _⟩ => ⟨S7936x1024, .bf16⟩
  | .hbm, ⟨4, _⟩ => ⟨S1536x1024, .bf16⟩
  | .hbm, ⟨5, _⟩ => ⟨S2048x1024, .bf16⟩
  | .hbm, ⟨6, _⟩ => ⟨S512x1024, .bf16⟩
  | .hbm, ⟨7, _⟩ => ⟨S512x1024, .bf16⟩
  | .hbm, ⟨8, _⟩ => ⟨S256x1024, .bf16⟩
  | .hbm, ⟨9, _⟩ => ⟨S1280x1024, .bf16⟩
  | .hbm, ⟨10, _⟩ => ⟨S3072x1024, .bf16⟩
  | .hbm, ⟨11, _⟩ => ⟨S16640x1536, .bf16⟩
  | .local _ .vmem, ⟨0, _⟩ => ⟨S640x1024, .bf16⟩
  | .local _ .vmem, ⟨1, _⟩ => ⟨S640x1024, .bf16⟩
  | .local _ .vmem, ⟨2, _⟩ => ⟨S1536x1024, .bf16⟩
  | .local _ .vmem, ⟨3, _⟩ => ⟨S640x1536, .bf16⟩
  | .local _ .vmem, ⟨4, _⟩ => ⟨S640x1536, .bf16⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 26, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16640x1024 : Shape := ⟨2, ![16640, 1024]⟩
abbrev S1024x7936 : Shape := ⟨2, ![1024, 7936]⟩
abbrev S16640x7936 : Shape := ⟨2, ![16640, 7936]⟩
abbrev S16640x1536 : Shape := ⟨2, ![16640, 1536]⟩
abbrev S16640x2048 : Shape := ⟨2, ![16640, 2048]⟩
abbrev S16640x512 : Shape := ⟨2, ![16640, 512]⟩
abbrev S16640x128 : Shape := ⟨2, ![16640, 128]⟩
abbrev S16640x3072 : Shape := ⟨2, ![16640, 3072]⟩
abbrev S16640x1280 : Shape := ⟨2, ![16640, 1280]⟩

abbrev nBuf : Space → Nat
  | .hbm => 13
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S1024x7936, .f32⟩
  | .hbm, ⟨2, _⟩ => ⟨S16640x1024, .f32⟩
  | .hbm, ⟨3, _⟩ => ⟨S16640x7936, .f32⟩
  | .hbm, ⟨4, _⟩ => ⟨S16640x1536, .f32⟩
  | .hbm, ⟨5, _⟩ => ⟨S16640x2048, .f32⟩
  | .hbm, ⟨6, _⟩ => ⟨S16640x512, .f32⟩
  | .hbm, ⟨7, _⟩ => ⟨S16640x128, .f32⟩
  | .hbm, ⟨8, _⟩ => ⟨S16640x128, .f32⟩
  | .hbm, ⟨9, _⟩ => ⟨S16640x512, .f32⟩
  | .hbm, ⟨10, _⟩ => ⟨S16640x3072, .f32⟩
  | .hbm, ⟨11, _⟩ => ⟨S16640x1280, .f32⟩
  | .hbm, ⟨12, _⟩ => ⟨S16640x1536, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel9.lean ====
abbrev S16640x1024 : Shape := ⟨2, ![16640, 1024]⟩
abbrev S1024x7936 : Shape := ⟨2, ![1024, 7936]⟩
abbrev S7936x1024 : Shape := ⟨2, ![7936, 1024]⟩
abbrev S1536x1024 : Shape := ⟨2, ![1536, 1024]⟩
abbrev S2048x1024 : Shape := ⟨2, ![2048, 1024]⟩
abbrev S512x1024 : Shape := ⟨2, ![512, 1024]⟩
abbrev S256x1024 : Shape := ⟨2, ![256, 1024]⟩
abbrev S1280x1024 : Shape := ⟨2, ![1280, 1024]⟩
abbrev S3072x1024 : Shape := ⟨2, ![3072, 1024]⟩
abbrev S16640x2048 : Shape := ⟨2, ![16640, 2048]⟩
abbrev S640x1024 : Shape := ⟨2, ![640, 1024]⟩
abbrev S640x2048 : Shape := ⟨2, ![640, 2048]⟩

abbrev nBuf : Space → Nat
  | .hbm => 12
  | .vmem => 5
  | .smem => 0
  | _ => 0

abbrev bufTy : (tb : Table) → Fin (tcTables nBuf tb) → BufTy
  | .hbm, ⟨0, _⟩ => ⟨S16640x1024, .bf16⟩
  | .hbm, ⟨1, _⟩ => ⟨S1024x7936, .f32⟩
  | .hbm, ⟨2, _⟩ => ⟨S7936x1024, .f32⟩
  | .hbm, ⟨3, _⟩ => ⟨S7936x1024, .bf16⟩
  | .hbm, ⟨4, _⟩ => ⟨S1536x1024, .bf16⟩
  | .hbm, ⟨5, _⟩ => ⟨S2048x1024, .bf16⟩
  | .hbm, ⟨6, _⟩ => ⟨S512x1024, .bf16⟩
  | .hbm, ⟨7, _⟩ => ⟨S512x1024, .bf16⟩
  | .hbm, ⟨8, _⟩ => ⟨S256x1024, .bf16⟩
  | .hbm, ⟨9, _⟩ => ⟨S1280x1024, .bf16⟩
  | .hbm, ⟨10, _⟩ => ⟨S3072x1024, .bf16⟩
  | .hbm, ⟨11, _⟩ => ⟨S16640x2048, .bf16⟩
  | .local _ .vmem, ⟨0, _⟩ => ⟨S640x1024, .bf16⟩
  | .local _ .vmem, ⟨1, _⟩ => ⟨S640x1024, .bf16⟩
  | .local _ .vmem, ⟨2, _⟩ => ⟨S2048x1024, .bf16⟩
  | .local _ .vmem, ⟨3, _⟩ => ⟨S640x2048, .bf16⟩
  | .local _ .vmem, ⟨4, _⟩ => ⟨S640x2048, .bf16⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 26, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16640x1024 : Shape := ⟨2, ![16640, 1024]⟩
abbrev S1024x7936 : Shape := ⟨2, ![1024, 7936]⟩
abbrev S16640x7936 : Shape := ⟨2, ![16640, 7936]⟩
abbrev S16640x1536 : Shape := ⟨2, ![16640, 1536]⟩
abbrev S16640x2048 : Shape := ⟨2, ![16640, 2048]⟩
abbrev S16640x512 : Shape := ⟨2, ![16640, 512]⟩
abbrev S16640x128 : Shape := ⟨2, ![16640, 128]⟩
abbrev S16640x3072 : Shape := ⟨2, ![16640, 3072]⟩
abbrev S16640x1280 : Shape := ⟨2, ![16640, 1280]⟩

abbrev nBuf : Space → Nat
  | .hbm => 13
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S1024x7936, .f32⟩
  | .hbm, ⟨2, _⟩ => ⟨S16640x1024, .f32⟩
  | .hbm, ⟨3, _⟩ => ⟨S16640x7936, .f32⟩
  | .hbm, ⟨4, _⟩ => ⟨S16640x1536, .f32⟩
  | .hbm, ⟨5, _⟩ => ⟨S16640x2048, .f32⟩
  | .hbm, ⟨6, _⟩ => ⟨S16640x512, .f32⟩
  | .hbm, ⟨7, _⟩ => ⟨S16640x128, .f32⟩
  | .hbm, ⟨8, _⟩ => ⟨S16640x128, .f32⟩
  | .hbm, ⟨9, _⟩ => ⟨S16640x512, .f32⟩
  | .hbm, ⟨10, _⟩ => ⟨S16640x3072, .f32⟩
  | .hbm, ⟨11, _⟩ => ⟨S16640x1280, .f32⟩
  | .hbm, ⟨12, _⟩ => ⟨S16640x2048, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel10.lean ====
abbrev S16640x1024 : Shape := ⟨2, ![16640, 1024]⟩
abbrev S1024x7936 : Shape := ⟨2, ![1024, 7936]⟩
abbrev S7936x1024 : Shape := ⟨2, ![7936, 1024]⟩
abbrev S1536x1024 : Shape := ⟨2, ![1536, 1024]⟩
abbrev S2048x1024 : Shape := ⟨2, ![2048, 1024]⟩
abbrev S512x1024 : Shape := ⟨2, ![512, 1024]⟩
abbrev S256x1024 : Shape := ⟨2, ![256, 1024]⟩
abbrev S1280x1024 : Shape := ⟨2, ![1280, 1024]⟩
abbrev S3072x1024 : Shape := ⟨2, ![3072, 1024]⟩
abbrev S16640x1280 : Shape := ⟨2, ![16640, 1280]⟩
abbrev S640x1024 : Shape := ⟨2, ![640, 1024]⟩
abbrev S640x1280 : Shape := ⟨2, ![640, 1280]⟩

abbrev nBuf : Space → Nat
  | .hbm => 12
  | .vmem => 5
  | .smem => 0
  | _ => 0

abbrev bufTy : (tb : Table) → Fin (tcTables nBuf tb) → BufTy
  | .hbm, ⟨0, _⟩ => ⟨S16640x1024, .bf16⟩
  | .hbm, ⟨1, _⟩ => ⟨S1024x7936, .f32⟩
  | .hbm, ⟨2, _⟩ => ⟨S7936x1024, .f32⟩
  | .hbm, ⟨3, _⟩ => ⟨S7936x1024, .bf16⟩
  | .hbm, ⟨4, _⟩ => ⟨S1536x1024, .bf16⟩
  | .hbm, ⟨5, _⟩ => ⟨S2048x1024, .bf16⟩
  | .hbm, ⟨6, _⟩ => ⟨S512x1024, .bf16⟩
  | .hbm, ⟨7, _⟩ => ⟨S512x1024, .bf16⟩
  | .hbm, ⟨8, _⟩ => ⟨S256x1024, .bf16⟩
  | .hbm, ⟨9, _⟩ => ⟨S1280x1024, .bf16⟩
  | .hbm, ⟨10, _⟩ => ⟨S3072x1024, .bf16⟩
  | .hbm, ⟨11, _⟩ => ⟨S16640x1280, .bf16⟩
  | .local _ .vmem, ⟨0, _⟩ => ⟨S640x1024, .bf16⟩
  | .local _ .vmem, ⟨1, _⟩ => ⟨S640x1024, .bf16⟩
  | .local _ .vmem, ⟨2, _⟩ => ⟨S1280x1024, .bf16⟩
  | .local _ .vmem, ⟨3, _⟩ => ⟨S640x1280, .bf16⟩
  | .local _ .vmem, ⟨4, _⟩ => ⟨S640x1280, .bf16⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 26, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S16640x1024 : Shape := ⟨2, ![16640, 1024]⟩
abbrev S1024x7936 : Shape := ⟨2, ![1024, 7936]⟩
abbrev S16640x7936 : Shape := ⟨2, ![16640, 7936]⟩
abbrev S16640x1536 : Shape := ⟨2, ![16640, 1536]⟩
abbrev S16640x2048 : Shape := ⟨2, ![16640, 2048]⟩
abbrev S16640x512 : Shape := ⟨2, ![16640, 512]⟩
abbrev S16640x128 : Shape := ⟨2, ![16640, 128]⟩
abbrev S16640x3072 : Shape := ⟨2, ![16640, 3072]⟩
abbrev S16640x1280 : Shape := ⟨2, ![16640, 1280]⟩

abbrev nBuf : Space → Nat
  | .hbm => 13
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S1024x7936, .f32⟩
  | .hbm, ⟨2, _⟩ => ⟨S16640x1024, .f32⟩
  | .hbm, ⟨3, _⟩ => ⟨S16640x7936, .f32⟩
  | .hbm, ⟨4, _⟩ => ⟨S16640x1536, .f32⟩
  | .hbm, ⟨5, _⟩ => ⟨S16640x2048, .f32⟩
  | .hbm, ⟨6, _⟩ => ⟨S16640x512, .f32⟩
  | .hbm, ⟨7, _⟩ => ⟨S16640x128, .f32⟩
  | .hbm, ⟨8, _⟩ => ⟨S16640x128, .f32⟩
  | .hbm, ⟨9, _⟩ => ⟨S16640x512, .f32⟩
  | .hbm, ⟨10, _⟩ => ⟨S16640x3072, .f32⟩
  | .hbm, ⟨11, _⟩ => ⟨S16640x1280, .f32⟩
  | .hbm, ⟨12, _⟩ => ⟨S16640x1280, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel11.lean ====
abbrev S16640x1024 : Shape := ⟨2, ![16640, 1024]⟩
abbrev S16640x512 : Shape := ⟨2, ![16640, 512]⟩
abbrev S16640x3072 : Shape := ⟨2, ![16640, 3072]⟩
abbrev S512x1024 : Shape := ⟨2, ![512, 1024]⟩
abbrev S1024x1024 : Shape := ⟨2, ![1024, 1024]⟩
abbrev S1x1024 : Shape := ⟨2, ![1, 1024]⟩
abbrev S320x1024 : Shape := ⟨2, ![320, 1024]⟩
abbrev S320x512 : Shape := ⟨2, ![320, 512]⟩
abbrev S320x3072 : Shape := ⟨2, ![320, 3072]⟩
abbrev S320 : Shape := ⟨1, ![320]⟩
abbrev S320x1 : Shape := ⟨2, ![320, 1]⟩

abbrev nBuf : Space → Nat
  | .hbm => 16
  | .vmem => 27
  | .smem => 0
  | _ => 0

abbrev bufTy : (tb : Table) → Fin (tcTables nBuf tb) → BufTy
  | .hbm, ⟨0, _⟩ => ⟨S16640x1024, .f32⟩
  | .hbm, ⟨1, _⟩ => ⟨S16640x512, .bf16⟩
  | .hbm, ⟨2, _⟩ => ⟨S16640x512, .bf16⟩
  | .hbm, ⟨3, _⟩ => ⟨S16640x512, .bf16⟩
  | .hbm, ⟨4, _⟩ => ⟨S16640x3072, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S16640x1024, .bf16⟩
  | .hbm, ⟨11, _⟩ => ⟨S16640x1024, .bf16⟩
  | .hbm, ⟨12, _⟩ => ⟨S16640x1024, .bf16⟩
  | .hbm, ⟨13, _⟩ => ⟨S16640x1024, .bf16⟩
  | .hbm, ⟨14, _⟩ => ⟨S16640x1024, .f32⟩
  | .hbm, ⟨15, _⟩ => ⟨S16640x1024, .bf16⟩
  | .local _ .vmem, ⟨0, _⟩ => ⟨S320x1024, .f32⟩
  | .local _ .vmem, ⟨1, _⟩ => ⟨S320x1024, .f32⟩
  | .local _ .vmem, ⟨2, _⟩ => ⟨S320x512, .bf16⟩
  | .local _ .vmem, ⟨3, _⟩ => ⟨S320x512, .bf16⟩
  | .local _ .vmem, ⟨4, _⟩ => ⟨S320x512, .bf16⟩
  | .local _ .vmem, ⟨5, _⟩ => ⟨S320x512, .bf16⟩
  | .local _ .vmem, ⟨6, _⟩ => ⟨S320x512, .bf16⟩
  | .local _ .vmem, ⟨7, _⟩ => ⟨S320x512, .bf16⟩
  | .local _ .vmem, ⟨8, _⟩ => ⟨S320x3072, .bf16⟩
  | .local _ .vmem, ⟨9, _⟩ => ⟨S320x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S320x1024, .bf16⟩
  | .local _ .vmem, ⟨16, _⟩ => ⟨S320x1024, .bf16⟩
  | .local _ .vmem, ⟨17, _⟩ => ⟨S320x1024, .bf16⟩
  | .local _ .vmem, ⟨18, _⟩ => ⟨S320x1024, .bf16⟩
  | .local _ .vmem, ⟨19, _⟩ => ⟨S320x1024, .bf16⟩
  | .local _ .vmem, ⟨20, _⟩ => ⟨S320x1024, .bf16⟩
  | .local _ .vmem, ⟨21, _⟩ => ⟨S320x1024, .bf16⟩
  | .local _ .vmem, ⟨22, _⟩ => ⟨S320x1024, .bf16⟩
  | .local _ .vmem, ⟨23, _⟩ => ⟨S320x1024, .f32⟩
  | .local _ .vmem, ⟨24, _⟩ => ⟨S320x1024, .f32⟩
  | .local _ .vmem, ⟨25, _⟩ => ⟨S320x1024, .bf16⟩
  | .local _ .vmem, ⟨26, _⟩ => ⟨S320x1024, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S320x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S320x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S320x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S320x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S320x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S320x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference11Ideal.lean ====
abbrev S16640x1024 : Shape := ⟨2, ![16640, 1024]⟩
abbrev S16640x512 : Shape := ⟨2, ![16640, 512]⟩
abbrev S16640x3072 : Shape := ⟨2, ![16640, 3072]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S16640 : Shape := ⟨1, ![16640]⟩
abbrev S16640x1 : Shape := ⟨2, ![16640, 1]⟩

abbrev nBuf : Space → Nat
  | .hbm => 59
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x512, .bf16⟩
  | .hbm, ⟨2, _⟩ => ⟨S16640x512, .bf16⟩
  | .hbm, ⟨3, _⟩ => ⟨S16640x512, .bf16⟩
  | .hbm, ⟨4, _⟩ => ⟨S16640x3072, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S16640x512, .f32⟩
  | .hbm, ⟨11, _⟩ => ⟨S16640x512, .f32⟩
  | .hbm, ⟨12, _⟩ => ⟨S16640x512, .f32⟩
  | .hbm, ⟨13, _⟩ => ⟨S16640x3072, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S1024x1024, .f32⟩
  | .hbm, ⟨18, _⟩ => ⟨S16640x1024, .f32⟩
  | .hbm, ⟨19, _⟩ => ⟨S16640x1024, .f32⟩
  | .hbm, ⟨20, _⟩ => ⟨S16640x1024, .f32⟩
  | .hbm, ⟨21, _⟩ => ⟨S16640x3072, .f32⟩
  | .hbm, ⟨22, _⟩ => ⟨S16640x3072, .f32⟩
  | .hbm, ⟨23, _⟩ => ⟨S_, .f32⟩
  | .hbm, ⟨24, _⟩ => ⟨S16640x3072, .f32⟩
  | .hbm, ⟨25, _⟩ => ⟨S16640x3072, .f32⟩
  | .hbm, ⟨26, _⟩ => ⟨S_, .f32⟩
  | .hbm, ⟨27, _⟩ => ⟨S16640x3072, .f32⟩
  | .hbm, ⟨28, _⟩ => ⟨S16640x3072, .f32⟩
  | .hbm, ⟨29, _⟩ => ⟨S16640x1024, .f32⟩
  | .hbm, ⟨30, _⟩ => ⟨S16640x1024, .f32⟩
  | .hbm, ⟨31, _⟩ => ⟨S16640x1024, .f32⟩
  | .hbm, ⟨32, _⟩ => ⟨S16640x1024, .f32⟩
  | .hbm, ⟨33, _⟩ => ⟨S16640x1024, .f32⟩
  | .hbm, ⟨34, _⟩ => ⟨S16640x1024, .f32⟩
  | .hbm, ⟨35, _⟩ => ⟨S16640x1024, .f32⟩
  | .hbm, ⟨36, _⟩ => ⟨S16640x1024, .f32⟩
  | .hbm, ⟨37, _⟩ => ⟨S16640x1024, .f32⟩
  | .hbm, ⟨38, _⟩ => ⟨S16640x1024, .f32⟩
  | .hbm, ⟨39, _⟩ => ⟨S16640x1024, .bf16⟩
  | .hbm, ⟨40, _⟩ => ⟨S16640x1024, .bf16⟩
  | .hbm, ⟨41, _⟩ => ⟨S16640x1024, .bf16⟩
  | .hbm, ⟨42, _⟩ => ⟨S16640x1024, .bf16⟩
  | .hbm, ⟨43, _⟩ => ⟨S16640x1024, .f32⟩
  | .hbm, ⟨44, _⟩ => ⟨S_, .f32⟩
  | .hbm, ⟨45, _⟩ => ⟨S16640, .f32⟩
  | .hbm, ⟨46, _⟩ => ⟨S16640x1, .f32⟩
  | .hbm, ⟨47, _⟩ => ⟨S_, .f32⟩
  | .hbm, ⟨48, _⟩ => ⟨S16640x1, .f32⟩
  | .hbm, ⟨49, _⟩ => ⟨S16640x1, .f32⟩
  | .hbm, ⟨50, _⟩ => ⟨S_, .f32⟩
  | .hbm, ⟨51, _⟩ => ⟨S16640x1, .f32⟩
  | .hbm, ⟨52, _⟩ => ⟨S16640x1, .f32⟩
  | .hbm, ⟨53, _⟩ => ⟨S16640x1, .f32⟩
  | .hbm, ⟨54, _⟩ => ⟨S16640x1024, .f32⟩
  | .hbm, ⟨55, _⟩ => ⟨S16640x1024, .f32⟩
  | .hbm, ⟨56, _⟩ => ⟨S16640x1024, .f32⟩
  | .hbm, ⟨57, _⟩ => ⟨S16640x1024, .f32⟩
  | .hbm, ⟨58, _⟩ => ⟨S16640x1024, .bf16⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel12.lean ====
abbrev S16640x1024 : Shape := ⟨2, ![16640, 1024]⟩
abbrev S1024x1024 : Shape := ⟨2, ![1024, 1024]⟩
abbrev S1280x1024 : Shape := ⟨2, ![1280, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .f32⟩
  | .hbm, ⟨2, _⟩ => ⟨S1024x1024, .f32⟩
  | .local _ .vmem, ⟨0, _⟩ => ⟨S1280x1024, .bf16⟩
  | .local _ .vmem, ⟨1, _⟩ => ⟨S1280x1024, .bf16⟩
  | .local _ .vmem, ⟨2, _⟩ => ⟨S1280x1024, .f32⟩
  | .local _ .vmem, ⟨3, _⟩ => ⟨S1280x1024, .f32⟩
  | .local _ .vmem, ⟨4, _⟩ => ⟨S1024x1024, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 13], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S16640x1024 : Shape := ⟨2, ![16640, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .f32⟩
  | .hbm, ⟨2, _⟩ => ⟨S_, .f32⟩
  | .hbm, ⟨3, _⟩ => ⟨S1024x1024, .f32⟩
  | .hbm, ⟨4, _⟩ => ⟨S16640x1024, .f32⟩
  | .hbm, ⟨5, _⟩ => ⟨S16640x1024, .f32⟩
  | .hbm, ⟨6, _⟩ => ⟨S1024x1024, .f32⟩
  | .hbm, ⟨7, _⟩ => ⟨S1024x1024, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S16640x512 : Shape := ⟨2, ![16640, 512]⟩
abbrev S16640x1024 : Shape := ⟨2, ![16640, 1024]⟩
abbrev S512x1024 : Shape := ⟨2, ![512, 1024]⟩
abbrev S1280x512 : Shape := ⟨2, ![1280, 512]⟩
abbrev S1280x1024 : Shape := ⟨2, ![1280, 1024]⟩

abbrev nBuf : Space → Nat
  | .hbm => 9
  | .vmem => 15
  | .smem => 0
  | _ => 0

abbrev bufTy : (tb : Table) → Fin (tcTables nBuf tb) → BufTy
  | .hbm, ⟨0, _⟩ => ⟨S16640x512, .bf16⟩
  | .hbm, ⟨1, _⟩ => ⟨S16640x512, .bf16⟩
  | .hbm, ⟨2, _⟩ => ⟨S16640x512, .bf16⟩
  | .hbm, ⟨3, _⟩ => ⟨S16640x1024, .bf16⟩
  | .hbm, ⟨4, _⟩ => ⟨S16640x1024, .bf16⟩
  | .hbm, ⟨5, _⟩ => ⟨S16640x1024, .bf16⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S1280x512, .bf16⟩
  | .local _ .vmem, ⟨1, _⟩ => ⟨S1280x512, .bf16⟩
  | .local _ .vmem, ⟨2, _⟩ => ⟨S1280x512, .bf16⟩
  | .local _ .vmem, ⟨3, _⟩ => ⟨S1280x512, .bf16⟩
  | .local _ .vmem, ⟨4, _⟩ => ⟨S1280x512, .bf16⟩
  | .local _ .vmem, ⟨5, _⟩ => ⟨S1280x512, .bf16⟩
  | .local _ .vmem, ⟨6, _⟩ => ⟨S1280x1024, .bf16⟩
  | .local _ .vmem, ⟨7, _⟩ => ⟨S1280x1024, .bf16⟩
  | .local _ .vmem, ⟨8, _⟩ => ⟨S1280x1024, .bf16⟩
  | .local _ .vmem, ⟨9, _⟩ => ⟨S1280x1024, .bf16⟩
  | .local _ .vmem, ⟨10, _⟩ => ⟨S1280x1024, .bf16⟩
  | .local _ .vmem, ⟨11, _⟩ => ⟨S1280x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16640x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg0 : BitVec 32 := BitVec.ofNat 32 (i 0).val
  let c0_i32_4 : BitVec 32 := 0#32
  let v6 : BitVec 1 := Scalar.cmpi .sgt arg0 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg0 : BitVec 32 := BitVec.ofNat 32 (i 0).val
  let c0_i32_11 : BitVec 32 := 0#32
  let v12 : BitVec 1 := Scalar.cmpi .eq arg0 c0_i32_11
  let v13 : BitVec 32 := Scalar.extui v12
  let c0_i32_12 : BitVec 32 := 0#32
  let v14 : BitVec 1 := Scalar.cmpi .ne v13 c0_i32_12
  v14

def k0_cond4 (i : grid0.Coords) : BitVec 1 :=
  let arg0 : BitVec 32 := BitVec.ofNat 32 (i 0).val
  let c0_i32_13 : BitVec 32 := 0#32
  let v15 : BitVec 1 := Scalar.cmpi .sgt arg0 c0_i32_13
  let v16 : BitVec 32 := Scalar.extui v15
  let c0_i32_14 : BitVec 32 := 0#32
  let v17 : BitVec 1 := Scalar.cmpi .ne v16 c0_i32_14
  v17

def k0_cond5 (i : grid0.Coords) : BitVec 1 :=
  let arg0 : BitVec 32 := BitVec.ofNat 32 (i 0).val
  let c0_i32_20 : BitVec 32 := 0#32
  let v21 : BitVec 1 := Scalar.cmpi .eq arg0 c0_i32_20
  let v22 : BitVec 32 := Scalar.extui v21
  let c0_i32_21 : BitVec 32 := 0#32
  let v23 : BitVec 1 := Scalar.cmpi .ne v22 c0_i32_21
  v23

def k0_cond6 (i : grid0.Coords) : BitVec 1 :=
  let arg0 : BitVec 32 := BitVec.ofNat 32 (i 0).val
  let c0_i32_22 : BitVec 32 := 0#32
  let v24 : BitVec 1 := Scalar.cmpi .sgt arg0 c0_i32_22
  let v25 : BitVec 32 := Scalar.extui v24
  let c0_i32_23 : BitVec 32 := 0#32
  let v26 : BitVec 1 := Scalar.cmpi .ne v25 c0_i32_23
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1280x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1280x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference13Ideal.lean ====
abbrev S16640x512 : Shape := ⟨2, ![16640, 512]⟩
abbrev S16640x1024 : Shape := ⟨2, ![16640, 1024]⟩
abbrev S_ : Shape := ⟨0, ![]⟩
abbrev S512x1024 : Shape := ⟨2, ![512, 1024]⟩
abbrev S1024x512 : Shape := ⟨2, ![1024, 512]⟩

abbrev nBuf : Space → Nat
  | .hbm => 23
  | .vmem => 0
  | .smem => 0
  | _ => 0

abbrev bufTy : (tb : Table) → Fin (tcTables nBuf tb) → BufTy
  | .hbm, ⟨0, _⟩ => ⟨S16640x512, .bf16⟩
  | .hbm, ⟨1, _⟩ => ⟨S16640x512, .bf16⟩
  | .hbm, ⟨2, _⟩ => ⟨S16640x512, .bf16⟩
  | .hbm, ⟨3, _⟩ => ⟨S16640x1024, .bf16⟩
  | .hbm, ⟨4, _⟩ => ⟨S16640x1024, .bf16⟩
  | .hbm, ⟨5, _⟩ => ⟨S16640x1024, .bf16⟩
  | .hbm, ⟨6, _⟩ => ⟨S_, .f32⟩
  | .hbm, ⟨7, _⟩ => ⟨S512x1024, .f32⟩
  | .hbm, ⟨8, _⟩ => ⟨S16640x512, .f32⟩
  | .hbm, ⟨9, _⟩ => ⟨S16640x1024, .f32⟩
  | .hbm, ⟨10, _⟩ => ⟨S16640x512, .f32⟩
  | .hbm, ⟨11, _⟩ => ⟨S16640x1024, .f32⟩
  | .hbm, ⟨12, _⟩ => ⟨S16640x512, .f32⟩
  | .hbm, ⟨13, _⟩ => ⟨S16640x1024, .f32⟩
  | .hbm, ⟨14, _⟩ => ⟨S16640x1024, .f32⟩
  | .hbm, ⟨15, _⟩ => ⟨S16640x1024, .f32⟩
  | .hbm, ⟨16, _⟩ => ⟨S16640x1024, .f32⟩
  | .hbm, ⟨17, _⟩ => ⟨S1024x512, .f32⟩
  | .hbm, ⟨18, _⟩ => ⟨S512x1024, .f32⟩
  | .hbm, ⟨19, _⟩ => ⟨S1024x512, .f32⟩
  | .hbm, ⟨20, _⟩ => ⟨S512x1024, .f32⟩
  | .hbm, ⟨21, _⟩ => ⟨S1024x512, .f32⟩
  | .hbm, ⟨22, _⟩ => ⟨S512x1024, .f32⟩
  | _, _ => ⟨S16640x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel14.lean ====
abbrev S4x1024x1984 : Shape := ⟨3, ![4, 1024, 1984]⟩
abbrev S4x1984x1024 : Shape := ⟨3, ![4, 1984, 1024]⟩
abbrev S1x496x1024 : Shape := ⟨3, ![1, 496, 1024]⟩

abbrev nBuf : Space → Nat
  | .hbm => 12
  | .vmem => 18
  | .smem => 0
  | _ => 0

abbrev bufTy : (tb : Table) → Fin (tcTables nBuf tb) → BufTy
  | .hbm, ⟨0, _⟩ => ⟨S4x1024x1984, .f32⟩
  | .hbm, ⟨1, _⟩ => ⟨S4x1024x1984, .f32⟩
  | .hbm, ⟨2, _⟩ => ⟨S4x1024x1984, .f32⟩
  | .hbm, ⟨3, _⟩ => ⟨S4x1984x1024, .bf16⟩
  | .hbm, ⟨4, _⟩ => ⟨S4x1984x1024, .bf16⟩
  | .hbm, ⟨5, _⟩ => ⟨S4x1984x1024, .f32⟩
  | .hbm, ⟨6, _⟩ => ⟨S4x1984x1024, .f32⟩
  | .hbm, ⟨7, _⟩ => ⟨S4x1984x1024, .f32⟩
  | .hbm, ⟨8, _⟩ => ⟨S4x1984x1024, .f32⟩
  | .hbm, ⟨9, _⟩ => ⟨S4x1984x1024, .f32⟩
  | .hbm, ⟨10, _⟩ => ⟨S4x1984x1024, .f32⟩
  | .hbm, ⟨11, _⟩ => ⟨S4x1984x1024, .f32⟩
  | .local _ .vmem, ⟨0, _⟩ => ⟨S1x496x1024, .f32⟩
  | .local _ .vmem, ⟨1, _⟩ => ⟨S1x496x1024, .f32⟩
  | .local _ .vmem, ⟨2, _⟩ => ⟨S1x496x1024, .f32⟩
  | .local _ .vmem, ⟨3, _⟩ => ⟨S1x496x1024, .f32⟩
  | .local _ .vmem, ⟨4, _⟩ => ⟨S1x496x1024, .f32⟩
  | .local _ .vmem, ⟨5, _⟩ => ⟨S1x496x1024, .f32⟩
  | .local _ .vmem, ⟨6, _⟩ => ⟨S1x496x1024, .bf16⟩
  | .local _ .vmem, ⟨7, _⟩ => ⟨S1x496x1024, .bf16⟩
  | .local _ .vmem, ⟨8, _⟩ => ⟨S1x496x1024, .bf16⟩
  | .local _ .vmem, ⟨9, _⟩ => ⟨S1x496x1024, .bf16⟩
  | .local _ .vmem, ⟨10, _⟩ => ⟨S1x496x1024, .f32⟩
  | .local _ .vmem, ⟨11, _⟩ => ⟨S1x496x1024, .f32⟩
  | .local _ .vmem, ⟨12, _⟩ => ⟨S1x496x1024, .f32⟩
  | .local _ .vmem, ⟨13, _⟩ => ⟨S1x496x1024, .f32⟩
  | .local _ .vmem, ⟨14, _⟩ => ⟨S1x496x1024, .f32⟩
  | .local _ .vmem, ⟨15, _⟩ => ⟨S1x496x1024, .f32⟩
  | .local _ .vmem, ⟨16, _⟩ => ⟨S1x496x1024, .f32⟩
  | .local _ .vmem, ⟨17, _⟩ => ⟨S1x496x1024, .f32⟩
  | _, _ => ⟨S4x1024x1984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x496x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x496x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x496x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x496x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x496x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x496x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x496x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x496x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x496x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel14Ideal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== Reference14Ideal.lean ====
abbrev S4x1024x1984 : Shape := ⟨3, ![4, 1024, 1984]⟩
abbrev S4x1984x1024 : Shape := ⟨3, ![4, 1984, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x1024x1984, .f32⟩
  | .hbm, ⟨1, _⟩ => ⟨S4x1024x1984, .f32⟩
  | .hbm, ⟨2, _⟩ => ⟨S4x1024x1984, .f32⟩
  | .hbm, ⟨3, _⟩ => ⟨S4x1984x1024, .bf16⟩
  | .hbm, ⟨4, _⟩ => ⟨S4x1984x1024, .bf16⟩
  | .hbm, ⟨5, _⟩ => ⟨S4x1984x1024, .f32⟩
  | .hbm, ⟨6, _⟩ => ⟨S4x1984x1024, .f32⟩
  | .hbm, ⟨7, _⟩ => ⟨S4x1984x1024, .f32⟩
  | .hbm, ⟨8, _⟩ => ⟨S4x1024x1984, .f32⟩
  | .hbm, ⟨9, _⟩ => ⟨S_, .f32⟩
  | .hbm, ⟨10, _⟩ => ⟨S4x1024x1984, .f32⟩
  | .hbm, ⟨11, _⟩ => ⟨S4x1024x1984, .f32⟩
  | .hbm, ⟨12, _⟩ => ⟨S_, .f32⟩
  | .hbm, ⟨13, _⟩ => ⟨S4x1024x1984, .f32⟩
  | .hbm, ⟨14, _⟩ => ⟨S4x1024x1984, .f32⟩
  | .hbm, ⟨15, _⟩ => ⟨S4x1024x1984, .f32⟩
  | .hbm, ⟨16, _⟩ => ⟨S_, .f32⟩
  | .hbm, ⟨17, _⟩ => ⟨S4x1024x1984, .f32⟩
  | .hbm, ⟨18, _⟩ => ⟨S4x1024x1984, .f32⟩
  | .hbm, ⟨19, _⟩ => ⟨S4x1024x1984, .f32⟩
  | .hbm, ⟨20, _⟩ => ⟨S_, .f32⟩
  | .hbm, ⟨21, _⟩ => ⟨S4x1024x1984, .f32⟩
  | .hbm, ⟨22, _⟩ => ⟨S4x1024x1984, .f32⟩
  | .hbm, ⟨23, _⟩ => ⟨S4x1024x1984, .f32⟩
  | .hbm, ⟨24, _⟩ => ⟨S_, .f32⟩
  | .hbm, ⟨25, _⟩ => ⟨S4x1024x1984, .f32⟩
  | .hbm, ⟨26, _⟩ => ⟨S4x1024x1984, .f32⟩
  | .hbm, ⟨27, _⟩ => ⟨S_, .f32⟩
  | .hbm, ⟨28, _⟩ => ⟨S4x1024x1984, .f32⟩
  | .hbm, ⟨29, _⟩ => ⟨S4x1024x1984, .f32⟩
  | .hbm, ⟨30, _⟩ => ⟨S4x1024x1984, .f32⟩
  | .hbm, ⟨31, _⟩ => ⟨S_, .f32⟩
  | .hbm, ⟨32, _⟩ => ⟨S4x1024x1984, .f32⟩
  | .hbm, ⟨33, _⟩ => ⟨S4x1024x1984, .f32⟩
  | .hbm, ⟨34, _⟩ => ⟨S4x1024x1984, .f32⟩
  | .hbm, ⟨35, _⟩ => ⟨S_, .f32⟩
  | .hbm, ⟨36, _⟩ => ⟨S4x1024x1984, .f32⟩
  | .hbm, ⟨37, _⟩ => ⟨S4x1024x1984, .f32⟩
  | .hbm, ⟨38, _⟩ => ⟨S4x1024x1984, .f32⟩
  | .hbm, ⟨39, _⟩ => ⟨S_, .f32⟩
  | .hbm, ⟨40, _⟩ => ⟨S4x1024x1984, .f32⟩
  | .hbm, ⟨41, _⟩ => ⟨S4x1024x1984, .f32⟩
  | .hbm, ⟨42, _⟩ => ⟨S4x1984x1024, .f32⟩
  | .hbm, ⟨43, _⟩ => ⟨S4x1984x1024, .f32⟩
  | .hbm, ⟨44, _⟩ => ⟨S4x1984x1024, .f32⟩
  | .hbm, ⟨45, _⟩ => ⟨S4x1984x1024, .f32⟩
  | _, _ => ⟨S4x1024x1984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel15.lean ====
abbrev S4x512x256 : Shape := ⟨3, ![4, 512, 256]⟩
abbrev S1x512x256 : Shape := ⟨3, ![1, 512, 256]⟩

abbrev nBuf : Space → Nat
  | .hbm => 9
  | .vmem => 18
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .bf16⟩
  | .hbm, ⟨4, _⟩ => ⟨S4x512x256, .bf16⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel15Ideal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== Reference15Ideal.lean ====
abbrev S4x512x256 : Shape := ⟨3, ![4, 512, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .bf16⟩
  | .hbm, ⟨4, _⟩ => ⟨S4x512x256, .bf16⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S_, .f32⟩
  | .hbm, ⟨9, _⟩ => ⟨S4x512x256, .f32⟩
  | .hbm, ⟨10, _⟩ => ⟨S4x512x256, .f32⟩
  | .hbm, ⟨11, _⟩ => ⟨S_, .f32⟩
  | .hbm, ⟨12, _⟩ => ⟨S4x512x256, .f32⟩
  | .hbm, ⟨13, _⟩ => ⟨S4x512x256, .f32⟩
  | .hbm, ⟨14, _⟩ => ⟨S4x512x256, .f32⟩
  | .hbm, ⟨15, _⟩ => ⟨S_, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512x256, .f32⟩
  | .hbm, ⟨21, _⟩ => ⟨S4x512x256, .f32⟩
  | .hbm, ⟨22, _⟩ => ⟨S4x512x256, .f32⟩
  | .hbm, ⟨23, _⟩ => ⟨S_, .f32⟩
  | .hbm, ⟨24, _⟩ => ⟨S4x512x256, .f32⟩
  | .hbm, ⟨25, _⟩ => ⟨S4x512x256, .f32⟩
  | .hbm, ⟨26, _⟩ => ⟨S_, .f32⟩
  | .hbm, ⟨27, _⟩ => ⟨S4x512x256, .f32⟩
  | .hbm, ⟨28, _⟩ => ⟨S4x512x256, .f32⟩
  | .hbm, ⟨29, _⟩ => ⟨S4x512x256, .f32⟩
  | .hbm, ⟨30, _⟩ => ⟨S_, .f32⟩
  | .hbm, ⟨31, _⟩ => ⟨S4x512x256, .f32⟩
  | .hbm, ⟨32, _⟩ => ⟨S4x512x256, .f32⟩
  | .hbm, ⟨33, _⟩ => ⟨S4x512x256, .f32⟩
  | .hbm, ⟨34, _⟩ => ⟨S_, .f32⟩
  | .hbm, ⟨35, _⟩ => ⟨S4x512x256, .f32⟩
  | .hbm, ⟨36, _⟩ => ⟨S4x512x256, .f32⟩
  | .hbm, ⟨37, _⟩ => ⟨S4x512x256, .f32⟩
  | .hbm, ⟨38, _⟩ => ⟨S_, .f32⟩
  | .hbm, ⟨39, _⟩ => ⟨S4x512x256, .f32⟩
  | .hbm, ⟨40, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel16.lean ====
abbrev S4x512x256 : Shape := ⟨3, ![4, 512, 256]⟩
abbrev S1x512x256 : Shape := ⟨3, ![1, 512, 256]⟩

abbrev nBuf : Space → Nat
  | .hbm => 9
  | .vmem => 18
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .bf16⟩
  | .hbm, ⟨4, _⟩ => ⟨S4x512x256, .bf16⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel16Ideal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== Reference16Ideal.lean ====
abbrev S4x512x256 : Shape := ⟨3, ![4, 512, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .bf16⟩
  | .hbm, ⟨4, _⟩ => ⟨S4x512x256, .bf16⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S_, .f32⟩
  | .hbm, ⟨9, _⟩ => ⟨S4x512x256, .f32⟩
  | .hbm, ⟨10, _⟩ => ⟨S4x512x256, .f32⟩
  | .hbm, ⟨11, _⟩ => ⟨S_, .f32⟩
  | .hbm, ⟨12, _⟩ => ⟨S4x512x256, .f32⟩
  | .hbm, ⟨13, _⟩ => ⟨S4x512x256, .f32⟩
  | .hbm, ⟨14, _⟩ => ⟨S4x512x256, .f32⟩
  | .hbm, ⟨15, _⟩ => ⟨S_, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512x256, .f32⟩
  | .hbm, ⟨21, _⟩ => ⟨S4x512x256, .f32⟩
  | .hbm, ⟨22, _⟩ => ⟨S4x512x256, .f32⟩
  | .hbm, ⟨23, _⟩ => ⟨S_, .f32⟩
  | .hbm, ⟨24, _⟩ => ⟨S4x512x256, .f32⟩
  | .hbm, ⟨25, _⟩ => ⟨S4x512x256, .f32⟩
  | .hbm, ⟨26, _⟩ => ⟨S_, .f32⟩
  | .hbm, ⟨27, _⟩ => ⟨S4x512x256, .f32⟩
  | .hbm, ⟨28, _⟩ => ⟨S4x512x256, .f32⟩
  | .hbm, ⟨29, _⟩ => ⟨S4x512x256, .f32⟩
  | .hbm, ⟨30, _⟩ => ⟨S_, .f32⟩
  | .hbm, ⟨31, _⟩ => ⟨S4x512x256, .f32⟩
  | .hbm, ⟨32, _⟩ => ⟨S4x512x256, .f32⟩
  | .hbm, ⟨33, _⟩ => ⟨S4x512x256, .f32⟩
  | .hbm, ⟨34, _⟩ => ⟨S_, .f32⟩
  | .hbm, ⟨35, _⟩ => ⟨S4x512x256, .f32⟩
  | .hbm, ⟨36, _⟩ => ⟨S4x512x256, .f32⟩
  | .hbm, ⟨37, _⟩ => ⟨S4x512x256, .f32⟩
  | .hbm, ⟨38, _⟩ => ⟨S_, .f32⟩
  | .hbm, ⟨39, _⟩ => ⟨S4x512x256, .f32⟩
  | .hbm, ⟨40, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel17.lean ====
abbrev S4x512x256 : Shape := ⟨3, ![4, 512, 256]⟩
abbrev S1x512x256 : Shape := ⟨3, ![1, 512, 256]⟩

abbrev nBuf : Space → Nat
  | .hbm => 9
  | .vmem => 18
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .bf16⟩
  | .hbm, ⟨4, _⟩ => ⟨S4x512x256, .bf16⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel17Ideal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== Reference17Ideal.lean ====
abbrev S4x512x256 : Shape := ⟨3, ![4, 512, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .bf16⟩
  | .hbm, ⟨4, _⟩ => ⟨S4x512x256, .bf16⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S_, .f32⟩
  | .hbm, ⟨9, _⟩ => ⟨S4x512x256, .f32⟩
  | .hbm, ⟨10, _⟩ => ⟨S4x512x256, .f32⟩
  | .hbm, ⟨11, _⟩ => ⟨S_, .f32⟩
  | .hbm, ⟨12, _⟩ => ⟨S4x512x256, .f32⟩
  | .hbm, ⟨13, _⟩ => ⟨S4x512x256, .f32⟩
  | .hbm, ⟨14, _⟩ => ⟨S4x512x256, .f32⟩
  | .hbm, ⟨15, _⟩ => ⟨S_, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512x256, .f32⟩
  | .hbm, ⟨21, _⟩ => ⟨S4x512x256, .f32⟩
  | .hbm, ⟨22, _⟩ => ⟨S4x512x256, .f32⟩
  | .hbm, ⟨23, _⟩ => ⟨S_, .f32⟩
  | .hbm, ⟨24, _⟩ => ⟨S4x512x256, .f32⟩
  | .hbm, ⟨25, _⟩ => ⟨S4x512x256, .f32⟩
  | .hbm, ⟨26, _⟩ => ⟨S_, .f32⟩
  | .hbm, ⟨27, _⟩ => ⟨S4x512x256, .f32⟩
  | .hbm, ⟨28, _⟩ => ⟨S4x512x256, .f32⟩
  | .hbm, ⟨29, _⟩ => ⟨S4x512x256, .f32⟩
  | .hbm, ⟨30, _⟩ => ⟨S_, .f32⟩
  | .hbm, ⟨31, _⟩ => ⟨S4x512x256, .f32⟩
  | .hbm, ⟨32, _⟩ => ⟨S4x512x256, .f32⟩
  | .hbm, ⟨33, _⟩ => ⟨S4x512x256, .f32⟩
  | .hbm, ⟨34, _⟩ => ⟨S_, .f32⟩
  | .hbm, ⟨35, _⟩ => ⟨S4x512x256, .f32⟩
  | .hbm, ⟨36, _⟩ => ⟨S4x512x256, .f32⟩
  | .hbm, ⟨37, _⟩ => ⟨S4x512x256, .f32⟩
  | .hbm, ⟨38, _⟩ => ⟨S_, .f32⟩
  | .hbm, ⟨39, _⟩ => ⟨S4x512x256, .f32⟩
  | .hbm, ⟨40, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel18.lean ====
abbrev S4x256x1024 : Shape := ⟨3, ![4, 256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .bf16⟩
  | .hbm, ⟨4, _⟩ => ⟨S4x256x1024, .bf16⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel18Ideal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== Reference18Ideal.lean ====
abbrev S4x256x1024 : Shape := ⟨3, ![4, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .bf16⟩
  | .hbm, ⟨4, _⟩ => ⟨S4x256x1024, .bf16⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S_, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .hbm, ⟨23, _⟩ => ⟨S_, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S4x256x1024, .f32⟩
  | .hbm, ⟨38, _⟩ => ⟨S_, .f32⟩
  | .hbm, ⟨39, _⟩ => ⟨S4x256x1024, .f32⟩
  | .hbm, ⟨40, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel19.lean ====
abbrev S16x256 : Shape := ⟨2, ![16, 256]⟩
abbrev S4x1024 : Shape := ⟨2, ![4, 1024]⟩
abbrev S4x31x128 : Shape := ⟨3, ![4, 31, 128]⟩
abbrev S4x512 : Shape := ⟨2, ![4, 512]⟩
abbrev S4x128 : Shape := ⟨2, ![4, 128]⟩
abbrev S4x64 : Shape := ⟨2, ![4, 64]⟩
abbrev S4x8 : Shape := ⟨2, ![4, 8]⟩
abbrev S8x512 : Shape := ⟨2, ![8, 512]⟩
abbrev S124x128 : Shape := ⟨2, ![124, 128]⟩
abbrev S_ : Shape := ⟨0, ![]⟩
abbrev S16x512 : Shape := ⟨2, ![16, 512]⟩
abbrev S128x512 : Shape := ⟨2, ![128, 512]⟩
abbrev S216x512 : Shape := ⟨2, ![216, 512]⟩
abbrev S1x216x512 : Shape := ⟨3, ![1, 216, 512]⟩

abbrev nBuf : Space → Nat
  | .hbm => 196
  | .vmem => 8
  | .smem => 0
  | _ => 0

abbrev hbmTy0_0 (i : Nat) : BufTy := match i % 128 with
  | 0 => ⟨S16x256, .f32⟩
  | 1 => ⟨S4x1024, .f32⟩
  | 2 => ⟨S4x31x128, .f32⟩
  | 3 => ⟨S4x512, .f32⟩
  | 4 => ⟨S4x512, .f32⟩
  | 5 => ⟨S4x512, .f32⟩
  | 6 => ⟨S4x512, .f32⟩
  | 7 => ⟨S4x128, .f32⟩
  | 8 => ⟨S4x64, .f32⟩
  | 9 => ⟨S4x64, .f32⟩
  | 10 => ⟨S4x8, .f32⟩
  | 11 => ⟨S16x256, .f32⟩
  | 12 => ⟨S4x1024, .f32⟩
  | 13 => ⟨S4x31x128, .f32⟩
  | 14 => ⟨S4x512, .f32⟩
  | 15 => ⟨S4x512, .f32⟩
  | 16 => ⟨S4x512, .f32⟩
  | 17 => ⟨S4x512, .f32⟩
  | 18 => ⟨S4x128, .f32⟩
  | 19 => ⟨S4x64, .f32⟩
  | 20 => ⟨S4x64, .f32⟩
  | 21 => ⟨S4x8, .f32⟩
  | 22 => ⟨S16x256, .f32⟩
  | 23 => ⟨S4x1024, .f32⟩
  | 24 => ⟨S4x31x128, .f32⟩
  | 25 => ⟨S4x512, .f32⟩
  | 26 => ⟨S4x512, .f32⟩
  | 27 => ⟨S4x512, .f32⟩
  | 28 => ⟨S4x512, .f32⟩
  | 29 => ⟨S4x128, .f32⟩
  | 30 => ⟨S4x64, .f32⟩
  | 31 => ⟨S4x64, .f32⟩
  | 32 => ⟨S4x8, .f32⟩
  | 33 => ⟨S16x256, .f32⟩
  | 34 => ⟨S4x1024, .f32⟩
  | 35 => ⟨S4x31x128, .f32⟩
  | 36 => ⟨S4x512, .f32⟩
  | 37 => ⟨S4x512, .f32⟩
  | 38 => ⟨S4x512, .f32⟩
  | 39 => ⟨S4x512, .f32⟩
  | 40 => ⟨S4x128, .f32⟩
  | 41 => ⟨S4x64, .f32⟩
  | 42 => ⟨S4x64, .f32⟩
  | 43 => ⟨S4x8, .f32⟩
  | 44 => ⟨S8x512, .f32⟩
  | 45 => ⟨S124x128, .f32⟩
  | 46 => ⟨S_, .i32⟩
  | 47 => ⟨S_, .f32⟩
  | 48 => ⟨S16x512, .f32⟩
  | 49 => ⟨S_, .i32⟩
  | 50 => ⟨S_, .f32⟩
  | 51 => ⟨S8x512, .f32⟩
  | 52 => ⟨S_, .i32⟩
  | 53 => ⟨S_, .f32⟩
  | 54 => ⟨S128x512, .f32⟩
  | 55 => ⟨S_, .i32⟩
  | 56 => ⟨S_, .f32⟩
  | 57 => ⟨S8x512, .f32⟩
  | 58 => ⟨S_, .i32⟩
  | 59 => ⟨S_, .f32⟩
  | 60 => ⟨S8x512, .f32⟩
  | 61 => ⟨S_, .i32⟩
  | 62 => ⟨S_, .f32⟩
  | 63 => ⟨S8x512, .f32⟩
  | 64 => ⟨S_, .i32⟩
  | 65 => ⟨S_, .f32⟩
  | 66 => ⟨S8x512, .f32⟩
  | 67 => ⟨S_, .i32⟩
  | 68 => ⟨S_, .f32⟩
  | 69 => ⟨S8x512, .f32⟩
  | 70 => ⟨S_, .i32⟩
  | 71 => ⟨S_, .f32⟩
  | 72 => ⟨S8x512, .f32⟩
  | 73 => ⟨S_, .i32⟩
  | 74 => ⟨S_, .f32⟩
  | 75 => ⟨S8x512, .f32⟩
  | 76 => ⟨S_, .i32⟩
  | 77 => ⟨S_, .f32⟩
  | 78 => ⟨S8x512, .f32⟩
  | 79 => ⟨S216x512, .f32⟩
  | 80 => ⟨S8x512, .f32⟩
  | 81 => ⟨S124x128, .f32⟩
  | 82 => ⟨S_, .i32⟩
  | 83 => ⟨S_, .f32⟩
  | 84 => ⟨S16x512, .f32⟩
  | 85 => ⟨S_, .i32⟩
  | 86 => ⟨S_, .f32⟩
  | 87 => ⟨S8x512, .f32⟩
  | 88 => ⟨S_, .i32⟩
  | 89 => ⟨S_, .f32⟩
  | 90 => ⟨S128x512, .f32⟩
  | 91 => ⟨S_, .i32⟩
  | 92 => ⟨S_, .f32⟩
  | 93 => ⟨S8x512, .f32⟩
  | 94 => ⟨S_, .i32⟩
  | 95 => ⟨S_, .f32⟩
  | 96 => ⟨S8x512, .f32⟩
  | 97 => ⟨S_, .i32⟩
  | 98 => ⟨S_, .f32⟩
  | 99 => ⟨S8x512, .f32⟩
  | 100 => ⟨S_, .i32⟩
  | 101 => ⟨S_, .f32⟩
  | 102 => ⟨S8x512, .f32⟩
  | 103 => ⟨S_, .i32⟩
  | 104 => ⟨S_, .f32⟩
  | 105 => ⟨S8x512, .f32⟩
  | 106 => ⟨S_, .i32⟩
  | 107 => ⟨S_, .f32⟩
  | 108 => ⟨S8x512, .f32⟩
  | 109 => ⟨S_, .i32⟩
  | 110 => ⟨S_, .f32⟩
  | 111 => ⟨S8x512, .f32⟩
  | 112 => ⟨S_, .i32⟩
  | 113 => ⟨S_, .f32⟩
  | 114 => ⟨S8x512, .f32⟩
  | 115 => ⟨S216x512, .f32⟩
  | 116 => ⟨S8x512, .f32⟩
  | 117 => ⟨S124x128, .f32⟩
  | 118 => ⟨S_, .i32⟩
  | 119 => ⟨S_, .f32⟩
  | 120 => ⟨S16x512, .f32⟩
  | 121 => ⟨S_, .i32⟩
  | 122 => ⟨S_, .f32⟩
  | 123 => ⟨S8x512, .f32⟩
  | 124 => ⟨S_, .i32⟩
  | 125 => ⟨S_, .f32⟩
  | 126 => ⟨S128x512, .f32⟩
  | 127 => ⟨S_, .i32⟩
  | _ => ⟨S16x256, .f32⟩

abbrev hbmTy0_1 (i : Nat) : BufTy := match i % 128 with
  | 0 => ⟨S_, .f32⟩
  | 1 => ⟨S8x512, .f32⟩
  | 2 => ⟨S_, .i32⟩
  | 3 => ⟨S_, .f32⟩
  | 4 => ⟨S8x512, .f32⟩
  | 5 => ⟨S_, .i32⟩
  | 6 => ⟨S_, .f32⟩
  | 7 => ⟨S8x512, .f32⟩
  | 8 => ⟨S_, .i32⟩
  | 9 => ⟨S_, .f32⟩
  | 10 => ⟨S8x512, .f32⟩
  | 11 => ⟨S_, .i32⟩
  | 12 => ⟨S_, .f32⟩
  | 13 => ⟨S8x512, .f32⟩
  | 14 => ⟨S_, .i32⟩
  | 15 => ⟨S_, .f32⟩
  | 16 => ⟨S8x512, .f32⟩
  | 17 => ⟨S_, .i32⟩
  | 18 => ⟨S_, .f32⟩
  | 19 => ⟨S8x512, .f32⟩
  | 20 => ⟨S_, .i32⟩
  | 21 => ⟨S_, .f32⟩
  | 22 => ⟨S8x512, .f32⟩
  | 23 => ⟨S216x512, .f32⟩
  | 24 => ⟨S8x512, .f32⟩
  | 25 => ⟨S124x128, .f32⟩
  | 26 => ⟨S_, .i32⟩
  | 27 => ⟨S_, .f32⟩
  | 28 => ⟨S16x512, .f32⟩
  | 29 => ⟨S_, .i32⟩
  | 30 => ⟨S_, .f32⟩
  | 31 => ⟨S8x512, .f32⟩
  | 32 => ⟨S_, .i32⟩
  | 33 => ⟨S_, .f32⟩
  | 34 => ⟨S128x512, .f32⟩
  | 35 => ⟨S_, .i32⟩
  | 36 => ⟨S_, .f32⟩
  | 37 => ⟨S8x512, .f32⟩
  | 38 => ⟨S_, .i32⟩
  | 39 => ⟨S_, .f32⟩
  | 40 => ⟨S8x512, .f32⟩
  | 41 => ⟨S_, .i32⟩
  | 42 => ⟨S_, .f32⟩
  | 43 => ⟨S8x512, .f32⟩
  | 44 => ⟨S_, .i32⟩
  | 45 => ⟨S_, .f32⟩
  | 46 => ⟨S8x512, .f32⟩
  | 47 => ⟨S_, .i32⟩
  | 48 => ⟨S_, .f32⟩
  | 49 => ⟨S8x512, .f32⟩
  | 50 => ⟨S_, .i32⟩
  | 51 => ⟨S_, .f32⟩
  | 52 => ⟨S8x512, .f32⟩
  | 53 => ⟨S_, .i32⟩
  | 54 => ⟨S_, .f32⟩
  | 55 => ⟨S8x512, .f32⟩
  | 56 => ⟨S_, .i32⟩
  | 57 => ⟨S_, .f32⟩
  | 58 => ⟨S8x512, .f32⟩
  | 59 => ⟨S216x512, .f32⟩
  | 60 => ⟨S1x216x512, .f32⟩
  | 61 => ⟨S1x216x512, .f32⟩
  | 62 => ⟨S1x216x512, .f32⟩
  | 63 => ⟨S1x216x512, .f32⟩
  | 64 => ⟨S1x216x512, .f32⟩
  | 65 => ⟨S1x216x512, .f32⟩
  | 66 => ⟨S1x216x512, .f32⟩
  | 67 => ⟨S1x216x512, .f32⟩
  | _ => ⟨S16x256, .f32⟩

abbrev hbmTy (i : Nat) : BufTy := match i / 128 with
  | 0 => hbmTy0_0 i
  | 1 => hbmTy0_1 i
  | _ => ⟨S16x256, .f32⟩

abbrev bufTy : (tb : Table) → Fin (tcTables nBuf tb) → BufTy
  | .hbm, ⟨i, _⟩ => hbmTy i
  | .local _ .vmem, ⟨0, _⟩ => ⟨S1x216x512, .f32⟩
  | .local _ .vmem, ⟨1, _⟩ => ⟨S1x216x512, .f32⟩
  | .local _ .vmem, ⟨2, _⟩ => ⟨S1x216x512, .f32⟩
  | .local _ .vmem, ⟨3, _⟩ => ⟨S1x216x512, .f32⟩
  | .local _ .vmem, ⟨4, _⟩ => ⟨S1x216x512, .f32⟩
  | .local _ .vmem, ⟨5, _⟩ => ⟨S1x216x512, .f32⟩
  | .local _ .vmem, ⟨6, _⟩ => ⟨S1x216x512, .f32⟩
  | .local _ .vmem, ⟨7, _⟩ => ⟨S1x216x512, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_v1 : Ref sig .tc := ⟨.hbm, 45, rfl⟩
abbrev main_c : Ref sig .tc := ⟨.hbm, 46, rfl⟩
abbrev main_call0_v0 : Ref sig .tc := ⟨.hbm, 47, rfl⟩
abbrev main_v2 : Ref sig .tc := ⟨.hbm, 48, rfl⟩
abbrev main_c_0 : Ref sig .tc := ⟨.hbm, 49, rfl⟩
abbrev main_call1_v0 : Ref sig .tc := ⟨.hbm, 50, rfl⟩
abbrev main_v3 : Ref sig .tc := ⟨.hbm, 51, rfl⟩
abbrev main_c_1 : Ref sig .tc := ⟨.hbm, 52, rfl⟩
abbrev main_call2_v0 : Ref sig .tc := ⟨.hbm, 53, rfl⟩
abbrev main_v4 : Ref sig .tc := ⟨.hbm, 54, rfl⟩
abbrev main_c_2 : Ref sig .tc := ⟨.hbm, 55, rfl⟩
abbrev main_call3_v0 : Ref sig .tc := ⟨.hbm, 56, rfl⟩
abbrev main_v5 : Ref sig .tc := ⟨.hbm, 57, rfl⟩
abbrev main_c_3 : Ref sig .tc := ⟨.hbm, 58, rfl⟩
abbrev main_call4_v0 : Ref sig .tc := ⟨.hbm, 59, rfl⟩
abbrev main_v6 : Ref sig .tc := ⟨.hbm, 60, rfl⟩
abbrev main_c_4 : Ref sig .tc := ⟨.hbm, 61, rfl⟩
abbrev main_call5_v0 : Ref sig .tc := ⟨.hbm, 62, rfl⟩
abbrev main_v7 : Ref sig .tc := ⟨.hbm, 63, rfl⟩
abbrev main_c_5 : Ref sig .tc := ⟨.hbm, 64, rfl⟩
abbrev main_call6_v0 : Ref sig .tc := ⟨.hbm, 65, rfl⟩
abbrev main_v8 : Ref sig .tc := ⟨.hbm, 66, rfl⟩
abbrev main_c_6 : Ref sig .tc := ⟨.hbm, 67, rfl⟩
abbrev main_call7_v0 : Ref sig .tc := ⟨.hbm, 68, rfl⟩
abbrev main_v9 : Ref sig .tc := ⟨.hbm, 69, rfl⟩
abbrev main_c_7 : Ref sig .tc := ⟨.hbm, 70, rfl⟩
abbrev main_call8_v0 : Ref sig .tc := ⟨.hbm, 71, rfl⟩
abbrev main_v10 : Ref sig .tc := ⟨.hbm, 72, rfl⟩
abbrev main_c_8 : Ref sig .tc := ⟨.hbm, 73, rfl⟩
abbrev main_call9_v0 : Ref sig .tc := ⟨.hbm, 74, rfl⟩
abbrev main_v11 : Ref sig .tc := ⟨.hbm, 75, rfl⟩
abbrev main_c_9 : Ref sig .tc := ⟨.hbm, 76, rfl⟩
abbrev main_call10_v0 : Ref sig .tc := ⟨.hbm, 77, rfl⟩
abbrev main_v12 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_c_10 : Ref sig .tc := ⟨.hbm, 82, rfl⟩
abbrev main_call11_v0 : Ref sig .tc := ⟨.hbm, 83, rfl⟩
abbrev main_v16 : Ref sig .tc := ⟨.hbm, 84, rfl⟩
abbrev main_c_11 : Ref sig .tc := ⟨.hbm, 85, rfl⟩
abbrev main_call12_v0 : Ref sig .tc := ⟨.hbm, 86, rfl⟩
abbrev main_v17 : Ref sig .tc := ⟨.hbm, 87, rfl⟩
abbrev main_c_12 : Ref sig .tc := ⟨.hbm, 88, rfl⟩
abbrev main_call13_v0 : Ref sig .tc := ⟨.hbm, 89, rfl⟩
abbrev main_v18 : Ref sig .tc := ⟨.hbm, 90, rfl⟩
abbrev main_c_13 : Ref sig .tc := ⟨.hbm, 91, rfl⟩
abbrev main_call14_v0 : Ref sig .tc := ⟨.hbm, 92, rfl⟩
abbrev main_v19 : Ref sig .tc := ⟨.hbm, 93, rfl⟩
abbrev main_c_14 : Ref sig .tc := ⟨.hbm, 94, rfl⟩
abbrev main_call15_v0 : Ref sig .tc := ⟨.hbm, 95, rfl⟩
abbrev main_v20 : Ref sig .tc := ⟨.hbm, 96, rfl⟩
abbrev main_c_15 : Ref sig .tc := ⟨.hbm, 97, rfl⟩
abbrev main_call16_v0 : Ref sig .tc := ⟨.hbm, 98, rfl⟩
abbrev main_v21 : Ref sig .tc := ⟨.hbm, 99, rfl⟩
abbrev main_c_16 : Ref sig .tc := ⟨.hbm, 100, rfl⟩
abbrev main_call17_v0 : Ref sig .tc := ⟨.hbm, 101, rfl⟩
abbrev main_v22 : Ref sig .tc := ⟨.hbm, 102, rfl⟩
abbrev main_c_17 : Ref sig .tc := ⟨.hbm, 103, rfl⟩
abbrev main_call18_v0 : Ref sig .tc := ⟨.hbm, 104, rfl⟩
abbrev main_v23 : Ref sig .tc := ⟨.hbm, 105, rfl⟩
abbrev main_c_18 : Ref sig .tc := ⟨.hbm, 106, rfl⟩
abbrev main_call19_v0 : Ref sig .tc := ⟨.hbm, 107, rfl⟩
abbrev main_v24 : Ref sig .tc := ⟨.hbm, 108, rfl⟩
abbrev main_c_19 : Ref sig .tc := ⟨.hbm, 109, rfl⟩
abbrev main_call20_v0 : Ref sig .tc := ⟨.hbm, 110, rfl⟩
abbrev main_v25 : Ref sig .tc := ⟨.hbm, 111, rfl⟩
abbrev main_c_20 : Ref sig .tc := ⟨.hbm, 112, rfl⟩
abbrev main_call21_v0 : Ref sig .tc := ⟨.hbm, 113, rfl⟩
abbrev main_v26 : Ref sig .tc := ⟨.hbm, 114, rfl⟩
abbrev main_v27 : Ref sig .tc := ⟨.hbm, 115, rfl⟩
abbrev main_v28 : Ref sig .tc := ⟨.hbm, 116, rfl⟩
abbrev main_v29 : Ref sig .tc := ⟨.hbm, 117, rfl⟩
abbrev main_c_21 : Ref sig .tc := ⟨.hbm, 118, rfl⟩
abbrev main_call22_v0 : Ref sig .tc := ⟨.hbm, 119, rfl⟩
abbrev main_v30 : Ref sig .tc := ⟨.hbm, 120, rfl⟩
abbrev main_c_22 : Ref sig .tc := ⟨.hbm, 121, rfl⟩
abbrev main_call23_v0 : Ref sig .tc := ⟨.hbm, 122, rfl⟩
abbrev main_v31 : Ref sig .tc := ⟨.hbm, 123, rfl⟩
abbrev main_c_23 : Ref sig .tc := ⟨.hbm, 124, rfl⟩
abbrev main_call24_v0 : Ref sig .tc := ⟨.hbm, 125, rfl⟩
abbrev main_v32 : Ref sig .tc := ⟨.hbm, 126, rfl⟩
abbrev main_c_24 : Ref sig .tc := ⟨.hbm, 127, rfl⟩
abbrev main_call25_v0 : Ref sig .tc := ⟨.hbm, 128, rfl⟩
abbrev main_v33 : Ref sig .tc := ⟨.hbm, 129, rfl⟩
abbrev main_c_25 : Ref sig .tc := ⟨.hbm, 130, rfl⟩
abbrev main_call26_v0 : Ref sig .tc := ⟨.hbm, 131, rfl⟩
abbrev main_v34 : Ref sig .tc := ⟨.hbm, 132, rfl⟩
abbrev main_c_26 : Ref sig .tc := ⟨.hbm, 133, rfl⟩
abbrev main_call27_v0 : Ref sig .tc := ⟨.hbm, 134, rfl⟩
abbrev main_v35 : Ref sig .tc := ⟨.hbm, 135, rfl⟩
abbrev main_c_27 : Ref sig .tc := ⟨.hbm, 136, rfl⟩
abbrev main_call28_v0 : Ref sig .tc := ⟨.hbm, 137, rfl⟩
abbrev main_v36 : Ref sig .tc := ⟨.hbm, 138, rfl⟩
abbrev main_c_28 : Ref sig .tc := ⟨.hbm, 139, rfl⟩
abbrev main_call29_v0 : Ref sig .tc := ⟨.hbm, 140, rfl⟩
abbrev main_v37 : Ref sig .tc := ⟨.hbm, 141, rfl⟩
abbrev main_c_29 : Ref sig .tc := ⟨.hbm, 142, rfl⟩
abbrev main_call30_v0 : Ref sig .tc := ⟨.hbm, 143, rfl⟩
abbrev main_v38 : Ref sig .tc := ⟨.hbm, 144, rfl⟩
abbrev main_c_30 : Ref sig .tc := ⟨.hbm, 145, rfl⟩
abbrev main_call31_v0 : Ref sig .tc := ⟨.hbm, 146, rfl⟩
abbrev main_v39 : Ref sig .tc := ⟨.hbm, 147, rfl⟩
abbrev main_c_31 : Ref sig .tc := ⟨.hbm, 148, rfl⟩
abbrev main_call32_v0 : Ref sig .tc := ⟨.hbm, 149, rfl⟩
abbrev main_v40 : Ref sig .tc := ⟨.hbm, 150, rfl⟩
abbrev main_v41 : Ref sig .tc := ⟨.hbm, 151, rfl⟩
abbrev main_v42 : Ref sig .tc := ⟨.hbm, 152, rfl⟩
abbrev main_v43 : Ref sig .tc := ⟨.hbm, 153, rfl⟩
abbrev main_c_32 : Ref sig .tc := ⟨.hbm, 154, rfl⟩
abbrev main_call33_v0 : Ref sig .tc := ⟨.hbm, 155, rfl⟩
abbrev main_v44 : Ref sig .tc := ⟨.hbm, 156, rfl⟩
abbrev main_c_33 : Ref sig .tc := ⟨.hbm, 157, rfl⟩
abbrev main_call34_v0 : Ref sig .tc := ⟨.hbm, 158, rfl⟩
abbrev main_v45 : Ref sig .tc := ⟨.hbm, 159, rfl⟩
abbrev main_c_34 : Ref sig .tc := ⟨.hbm, 160, rfl⟩
abbrev main_call35_v0 : Ref sig .tc := ⟨.hbm, 161, rfl⟩
abbrev main_v46 : Ref sig .tc := ⟨.hbm, 162, rfl⟩
abbrev main_c_35 : Ref sig .tc := ⟨.hbm, 163, rfl⟩
abbrev main_call36_v0 : Ref sig .tc := ⟨.hbm, 164, rfl⟩
abbrev main_v47 : Ref sig .tc := ⟨.hbm, 165, rfl⟩
abbrev main_c_36 : Ref sig .tc := ⟨.hbm, 166, rfl⟩
abbrev main_call37_v0 : Ref sig .tc := ⟨.hbm, 167, rfl⟩
abbrev main_v48 : Ref sig .tc := ⟨.hbm, 168, rfl⟩
abbrev main_c_37 : Ref sig .tc := ⟨.hbm, 169, rfl⟩
abbrev main_call38_v0 : Ref sig .tc := ⟨.hbm, 170, rfl⟩
abbrev main_v49 : Ref sig .tc := ⟨.hbm, 171, rfl⟩
abbrev main_c_38 : Ref sig .tc := ⟨.hbm, 172, rfl⟩
abbrev main_call39_v0 : Ref sig .tc := ⟨.hbm, 173, rfl⟩
abbrev main_v50 : Ref sig .tc := ⟨.hbm, 174, rfl⟩
abbrev main_c_39 : Ref sig .tc := ⟨.hbm, 175, rfl⟩
abbrev main_call40_v0 : Ref sig .tc := ⟨.hbm, 176, rfl⟩
abbrev main_v51 : Ref sig .tc := ⟨.hbm, 177, rfl⟩
abbrev main_c_40 : Ref sig .tc := ⟨.hbm, 178, rfl⟩
abbrev main_call41_v0 : Ref sig .tc := ⟨.hbm, 179, rfl⟩
abbrev main_v52 : Ref sig .tc := ⟨.hbm, 180, rfl⟩
abbrev main_c_41 : Ref sig .tc := ⟨.hbm, 181, rfl⟩
abbrev main_call42_v0 : Ref sig .tc := ⟨.hbm, 182, rfl⟩
abbrev main_v53 : Ref sig .tc := ⟨.hbm, 183, rfl⟩
abbrev main_c_42 : Ref sig .tc := ⟨.hbm, 184, rfl⟩
abbrev main_call43_v0 : Ref sig .tc := ⟨.hbm, 185, rfl⟩
abbrev main_v54 : Ref sig .tc := ⟨.hbm, 186, rfl⟩
abbrev main_v55 : Ref sig .tc := ⟨.hbm, 187, rfl⟩
abbrev main_v56 : Ref sig .tc := ⟨.hbm, 188, rfl⟩
abbrev main_v57 : Ref sig .tc := ⟨.hbm, 189, rfl⟩
abbrev main_v58 : Ref sig .tc := ⟨.hbm, 190, rfl⟩
abbrev main_v59 : Ref sig .tc := ⟨.hbm, 191, rfl⟩
abbrev main_v60_0 : Ref sig .tc := ⟨.hbm, 192, rfl⟩
abbrev main_v60_1 : Ref sig .tc := ⟨.hbm, 193, rfl⟩
abbrev main_v60_2 : Ref sig .tc := ⟨.hbm, 194, rfl⟩
abbrev main_v60_3 : Ref sig .tc := ⟨.hbm, 195, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x216x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x216x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x216x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x216x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x216x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x216x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x216x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x216x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel19Ideal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== Reference19Ideal.lean ====
abbrev S16x256 : Shape := ⟨2, ![16, 256]⟩
abbrev S4x1024 : Shape := ⟨2, ![4, 1024]⟩
abbrev S4x31x128 : Shape := ⟨3, ![4, 31, 128]⟩
abbrev S4x512 : Shape := ⟨2, ![4, 512]⟩
abbrev S4x128 : Shape := ⟨2, ![4, 128]⟩
abbrev S4x64 : Shape := ⟨2, ![4, 64]⟩
abbrev S4x8 : Shape := ⟨2, ![4, 8]⟩
abbrev S_ : Shape := ⟨0, ![]⟩
abbrev S16x512 : Shape := ⟨2, ![16, 512]⟩
abbrev S8x512 : Shape := ⟨2, ![8, 512]⟩
abbrev S124x128 : Shape := ⟨2, ![124, 128]⟩
abbrev S128x512 : Shape := ⟨2, ![128, 512]⟩
abbrev S216x512 : Shape := ⟨2, ![216, 512]⟩
abbrev S1x216x512 : Shape := ⟨3, ![1, 216, 512]⟩

abbrev nBuf : Space → Nat
  | .hbm => 555
  | .vmem => 0
  | .smem => 0
  | _ => 0

abbrev hbmTy0_0 (i : Nat) : BufTy := match i % 128 with
  | 0 => ⟨S16x256, .f32⟩
  | 1 => ⟨S4x1024, .f32⟩
  | 2 => ⟨S4x31x128, .f32⟩
  | 3 => ⟨S4x512, .f32⟩
  | 4 => ⟨S4x512, .f32⟩
  | 5 => ⟨S4x512, .f32⟩
  | 6 => ⟨S4x512, .f32⟩
  | 7 => ⟨S4x128, .f32⟩
  | 8 => ⟨S4x64, .f32⟩
  | 9 => ⟨S4x64, .f32⟩
  | 10 => ⟨S4x8, .f32⟩
  | 11 => ⟨S16x256, .f32⟩
  | 12 => ⟨S4x1024, .f32⟩
  | 13 => ⟨S4x31x128, .f32⟩
  | 14 => ⟨S4x512, .f32⟩
  | 15 => ⟨S4x512, .f32⟩
  | 16 => ⟨S4x512, .f32⟩
  | 17 => ⟨S4x512, .f32⟩
  | 18 => ⟨S4x128, .f32⟩
  | 19 => ⟨S4x64, .f32⟩
  | 20 => ⟨S4x64, .f32⟩
  | 21 => ⟨S4x8, .f32⟩
  | 22 => ⟨S16x256, .f32⟩
  | 23 => ⟨S4x1024, .f32⟩
  | 24 => ⟨S4x31x128, .f32⟩
  | 25 => ⟨S4x512, .f32⟩
  | 26 => ⟨S4x512, .f32⟩
  | 27 => ⟨S4x512, .f32⟩
  | 28 => ⟨S4x512, .f32⟩
  | 29 => ⟨S4x128, .f32⟩
  | 30 => ⟨S4x64, .f32⟩
  | 31 => ⟨S4x64, .f32⟩
  | 32 => ⟨S4x8, .f32⟩
  | 33 => ⟨S16x256, .f32⟩
  | 34 => ⟨S4x1024, .f32⟩
  | 35 => ⟨S4x31x128, .f32⟩
  | 36 => ⟨S4x512, .f32⟩
  | 37 => ⟨S4x512, .f32⟩
  | 38 => ⟨S4x512, .f32⟩
  | 39 => ⟨S4x512, .f32⟩
  | 40 => ⟨S4x128, .f32⟩
  | 41 => ⟨S4x64, .f32⟩
  | 42 => ⟨S4x64, .f32⟩
  | 43 => ⟨S4x8, .f32⟩
  | 44 => ⟨S_, .f32⟩
  | 45 => ⟨S16x256, .f32⟩
  | 46 => ⟨S16x256, .f32⟩
  | 47 => ⟨S_, .f32⟩
  | 48 => ⟨S16x256, .f32⟩
  | 49 => ⟨S16x256, .f32⟩
  | 50 => ⟨S16x256, .f32⟩
  | 51 => ⟨S_, .f32⟩
  | 52 => ⟨S16x256, .f32⟩
  | 53 => ⟨S16x256, .f32⟩
  | 54 => ⟨S16x256, .f32⟩
  | 55 => ⟨S_, .f32⟩
  | 56 => ⟨S16x256, .f32⟩
  | 57 => ⟨S16x256, .f32⟩
  | 58 => ⟨S16x256, .f32⟩
  | 59 => ⟨S_, .f32⟩
  | 60 => ⟨S16x256, .f32⟩
  | 61 => ⟨S16x256, .f32⟩
  | 62 => ⟨S_, .f32⟩
  | 63 => ⟨S16x256, .f32⟩
  | 64 => ⟨S16x256, .f32⟩
  | 65 => ⟨S16x256, .f32⟩
  | 66 => ⟨S_, .f32⟩
  | 67 => ⟨S16x256, .f32⟩
  | 68 => ⟨S16x256, .f32⟩
  | 69 => ⟨S16x256, .f32⟩
  | 70 => ⟨S_, .f32⟩
  | 71 => ⟨S16x256, .f32⟩
  | 72 => ⟨S16x256, .f32⟩
  | 73 => ⟨S16x256, .f32⟩
  | 74 => ⟨S_, .f32⟩
  | 75 => ⟨S16x256, .f32⟩
  | 76 => ⟨S16x256, .f32⟩
  | 77 => ⟨S_, .f32⟩
  | 78 => ⟨S4x1024, .f32⟩
  | 79 => ⟨S4x1024, .f32⟩
  | 80 => ⟨S_, .f32⟩
  | 81 => ⟨S4x1024, .f32⟩
  | 82 => ⟨S4x1024, .f32⟩
  | 83 => ⟨S4x1024, .f32⟩
  | 84 => ⟨S_, .f32⟩
  | 85 => ⟨S4x1024, .f32⟩
  | 86 => ⟨S4x1024, .f32⟩
  | 87 => ⟨S4x1024, .f32⟩
  | 88 => ⟨S_, .f32⟩
  | 89 => ⟨S4x1024, .f32⟩
  | 90 => ⟨S4x1024, .f32⟩
  | 91 => ⟨S4x1024, .f32⟩
  | 92 => ⟨S_, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S4x1024, .f32⟩
  | 99 => ⟨S_, .f32⟩
  | 100 => ⟨S4x1024, .f32⟩
  | 101 => ⟨S4x1024, .f32⟩
  | 102 => ⟨S4x1024, .f32⟩
  | 103 => ⟨S_, .f32⟩
  | 104 => ⟨S4x1024, .f32⟩
  | 105 => ⟨S4x1024, .f32⟩
  | 106 => ⟨S4x1024, .f32⟩
  | 107 => ⟨S_, .f32⟩
  | 108 => ⟨S4x1024, .f32⟩
  | 109 => ⟨S4x1024, .f32⟩
  | 110 => ⟨S_, .f32⟩
  | 111 => ⟨S4x31x128, .f32⟩
  | 112 => ⟨S4x31x128, .f32⟩
  | 113 => ⟨S_, .f32⟩
  | 114 => ⟨S4x31x128, .f32⟩
  | 115 => ⟨S4x31x128, .f32⟩
  | 116 => ⟨S4x31x128, .f32⟩
  | 117 => ⟨S_, .f32⟩
  | 118 => ⟨S4x31x128, .f32⟩
  | 119 => ⟨S4x31x128, .f32⟩
  | 120 => ⟨S4x31x128, .f32⟩
  | 121 => ⟨S_, .f32⟩
  | 122 => ⟨S4x31x128, .f32⟩
  | 123 => ⟨S4x31x128, .f32⟩
  | 124 => ⟨S4x31x128, .f32⟩
  | 125 => ⟨S_, .f32⟩
  | 126 => ⟨S4x31x128, .f32⟩
  | 127 => ⟨S4x31x128, .f32⟩
  | _ => ⟨S16x256, .f32⟩

abbrev hbmTy0_1 (i : Nat) : BufTy := match i % 128 with
  | 0 => ⟨S_, .f32⟩
  | 1 => ⟨S4x31x128, .f32⟩
  | 2 => ⟨S4x31x128, .f32⟩
  | 3 => ⟨S4x31x128, .f32⟩
  | 4 => ⟨S_, .f32⟩
  | 5 => ⟨S4x31x128, .f32⟩
  | 6 => ⟨S4x31x128, .f32⟩
  | 7 => ⟨S4x31x128, .f32⟩
  | 8 => ⟨S_, .f32⟩
  | 9 => ⟨S4x31x128, .f32⟩
  | 10 => ⟨S4x31x128, .f32⟩
  | 11 => ⟨S4x31x128, .f32⟩
  | 12 => ⟨S_, .f32⟩
  | 13 => ⟨S4x31x128, .f32⟩
  | 14 => ⟨S4x31x128, .f32⟩
  | 15 => ⟨S_, .f32⟩
  | 16 => ⟨S4x512, .f32⟩
  | 17 => ⟨S4x512, .f32⟩
  | 18 => ⟨S_, .f32⟩
  | 19 => ⟨S4x512, .f32⟩
  | 20 => ⟨S4x512, .f32⟩
  | 21 => ⟨S4x512, .f32⟩
  | 22 => ⟨S_, .f32⟩
  | 23 => ⟨S4x512, .f32⟩
  | 24 => ⟨S4x512, .f32⟩
  | 25 => ⟨S4x512, .f32⟩
  | 26 => ⟨S_, .f32⟩
  | 27 => ⟨S4x512, .f32⟩
  | 28 => ⟨S4x512, .f32⟩
  | 29 => ⟨S4x512, .f32⟩
  | 30 => ⟨S_, .f32⟩
  | 31 => ⟨S4x512, .f32⟩
  | 32 => ⟨S4x512, .f32⟩
  | 33 => ⟨S_, .f32⟩
  | 34 => ⟨S4x512, .f32⟩
  | 35 => ⟨S4x512, .f32⟩
  | 36 => ⟨S4x512, .f32⟩
  | 37 => ⟨S_, .f32⟩
  | 38 => ⟨S4x512, .f32⟩
  | 39 => ⟨S4x512, .f32⟩
  | 40 => ⟨S4x512, .f32⟩
  | 41 => ⟨S_, .f32⟩
  | 42 => ⟨S4x512, .f32⟩
  | 43 => ⟨S4x512, .f32⟩
  | 44 => ⟨S4x512, .f32⟩
  | 45 => ⟨S_, .f32⟩
  | 46 => ⟨S4x512, .f32⟩
  | 47 => ⟨S4x512, .f32⟩
  | 48 => ⟨S_, .f32⟩
  | 49 => ⟨S4x512, .f32⟩
  | 50 => ⟨S4x512, .f32⟩
  | 51 => ⟨S_, .f32⟩
  | 52 => ⟨S4x512, .f32⟩
  | 53 => ⟨S4x512, .f32⟩
  | 54 => ⟨S4x512, .f32⟩
  | 55 => ⟨S_, .f32⟩
  | 56 => ⟨S4x512, .f32⟩
  | 57 => ⟨S4x512, .f32⟩
  | 58 => ⟨S4x512, .f32⟩
  | 59 => ⟨S_, .f32⟩
  | 60 => ⟨S4x512, .f32⟩
  | 61 => ⟨S4x512, .f32⟩
  | 62 => ⟨S4x512, .f32⟩
  | 63 => ⟨S_, .f32⟩
  | 64 => ⟨S4x512, .f32⟩
  | 65 => ⟨S4x512, .f32⟩
  | 66 => ⟨S_, .f32⟩
  | 67 => ⟨S4x512, .f32⟩
  | 68 => ⟨S4x512, .f32⟩
  | 69 => ⟨S4x512, .f32⟩
  | 70 => ⟨S_, .f32⟩
  | 71 => ⟨S4x512, .f32⟩
  | 72 => ⟨S4x512, .f32⟩
  | 73 => ⟨S4x512, .f32⟩
  | 74 => ⟨S_, .f32⟩
  | 75 => ⟨S4x512, .f32⟩
  | 76 => ⟨S4x512, .f32⟩
  | 77 => ⟨S4x512, .f32⟩
  | 78 => ⟨S_, .f32⟩
  | 79 => ⟨S4x512, .f32⟩
  | 80 => ⟨S4x512, .f32⟩
  | 81 => ⟨S_, .f32⟩
  | 82 => ⟨S4x512, .f32⟩
  | 83 => ⟨S4x512, .f32⟩
  | 84 => ⟨S_, .f32⟩
  | 85 => ⟨S4x512, .f32⟩
  | 86 => ⟨S4x512, .f32⟩
  | 87 => ⟨S4x512, .f32⟩
  | 88 => ⟨S_, .f32⟩
  | 89 => ⟨S4x512, .f32⟩
  | 90 => ⟨S4x512, .f32⟩
  | 91 => ⟨S4x512, .f32⟩
  | 92 => ⟨S_, .f32⟩
  | 93 => ⟨S4x512, .f32⟩
  | 94 => ⟨S4x512, .f32⟩
  | 95 => ⟨S4x512, .f32⟩
  | 96 => ⟨S_, .f32⟩
  | 97 => ⟨S4x512, .f32⟩
  | 98 => ⟨S4x512, .f32⟩
  | 99 => ⟨S_, .f32⟩
  | 100 => ⟨S4x512, .f32⟩
  | 101 => ⟨S4x512, .f32⟩
  | 102 => ⟨S4x512, .f32⟩
  | 103 => ⟨S_, .f32⟩
  | 104 => ⟨S4x512, .f32⟩
  | 105 => ⟨S4x512, .f32⟩
  | 106 => ⟨S4x512, .f32⟩
  | 107 => ⟨S_, .f32⟩
  | 108 => ⟨S4x512, .f32⟩
  | 109 => ⟨S4x512, .f32⟩
  | 110 => ⟨S4x512, .f32⟩
  | 111 => ⟨S_, .f32⟩
  | 112 => ⟨S4x512, .f32⟩
  | 113 => ⟨S4x512, .f32⟩
  | 114 => ⟨S_, .f32⟩
  | 115 => ⟨S4x512, .f32⟩
  | 116 => ⟨S4x512, .f32⟩
  | 117 => ⟨S_, .f32⟩
  | 118 => ⟨S4x512, .f32⟩
  | 119 => ⟨S4x512, .f32⟩
  | 120 => ⟨S4x512, .f32⟩
  | 121 => ⟨S_, .f32⟩
  | 122 => ⟨S4x512, .f32⟩
  | 123 => ⟨S4x512, .f32⟩
  | 124 => ⟨S4x512, .f32⟩
  | 125 => ⟨S_, .f32⟩
  | 126 => ⟨S4x512, .f32⟩
  | 127 => ⟨S4x512, .f32⟩
  | _ => ⟨S16x256, .f32⟩

abbrev hbmTy0_2 (i : Nat) : BufTy := match i % 128 with
  | 0 => ⟨S4x512, .f32⟩
  | 1 => ⟨S_, .f32⟩
  | 2 => ⟨S4x512, .f32⟩
  | 3 => ⟨S4x512, .f32⟩
  | 4 => ⟨S_, .f32⟩
  | 5 => ⟨S4x512, .f32⟩
  | 6 => ⟨S4x512, .f32⟩
  | 7 => ⟨S4x512, .f32⟩
  | 8 => ⟨S_, .f32⟩
  | 9 => ⟨S4x512, .f32⟩
  | 10 => ⟨S4x512, .f32⟩
  | 11 => ⟨S4x512, .f32⟩
  | 12 => ⟨S_, .f32⟩
  | 13 => ⟨S4x512, .f32⟩
  | 14 => ⟨S4x512, .f32⟩
  | 15 => ⟨S4x512, .f32⟩
  | 16 => ⟨S_, .f32⟩
  | 17 => ⟨S4x512, .f32⟩
  | 18 => ⟨S4x512, .f32⟩
  | 19 => ⟨S_, .f32⟩
  | 20 => ⟨S4x128, .f32⟩
  | 21 => ⟨S4x128, .f32⟩
  | 22 => ⟨S_, .f32⟩
  | 23 => ⟨S4x128, .f32⟩
  | 24 => ⟨S4x128, .f32⟩
  | 25 => ⟨S4x128, .f32⟩
  | 26 => ⟨S_, .f32⟩
  | 27 => ⟨S4x128, .f32⟩
  | 28 => ⟨S4x128, .f32⟩
  | 29 => ⟨S4x128, .f32⟩
  | 30 => ⟨S_, .f32⟩
  | 31 => ⟨S4x128, .f32⟩
  | 32 => ⟨S4x128, .f32⟩
  | 33 => ⟨S4x128, .f32⟩
  | 34 => ⟨S_, .f32⟩
  | 35 => ⟨S4x128, .f32⟩
  | 36 => ⟨S4x128, .f32⟩
  | 37 => ⟨S_, .f32⟩
  | 38 => ⟨S4x128, .f32⟩
  | 39 => ⟨S4x128, .f32⟩
  | 40 => ⟨S4x128, .f32⟩
  | 41 => ⟨S_, .f32⟩
  | 42 => ⟨S4x128, .f32⟩
  | 43 => ⟨S4x128, .f32⟩
  | 44 => ⟨S4x128, .f32⟩
  | 45 => ⟨S_, .f32⟩
  | 46 => ⟨S4x128, .f32⟩
  | 47 => ⟨S4x128, .f32⟩
  | 48 => ⟨S4x128, .f32⟩
  | 49 => ⟨S_, .f32⟩
  | 50 => ⟨S4x128, .f32⟩
  | 51 => ⟨S4x128, .f32⟩
  | 52 => ⟨S_, .f32⟩
  | 53 => ⟨S4x64, .f32⟩
  | 54 => ⟨S4x64, .f32⟩
  | 55 => ⟨S_, .f32⟩
  | 56 => ⟨S4x64, .f32⟩
  | 57 => ⟨S4x64, .f32⟩
  | 58 => ⟨S4x64, .f32⟩
  | 59 => ⟨S_, .f32⟩
  | 60 => ⟨S4x64, .f32⟩
  | 61 => ⟨S4x64, .f32⟩
  | 62 => ⟨S4x64, .f32⟩
  | 63 => ⟨S_, .f32⟩
  | 64 => ⟨S4x64, .f32⟩
  | 65 => ⟨S4x64, .f32⟩
  | 66 => ⟨S4x64, .f32⟩
  | 67 => ⟨S_, .f32⟩
  | 68 => ⟨S4x64, .f32⟩
  | 69 => ⟨S4x64, .f32⟩
  | 70 => ⟨S_, .f32⟩
  | 71 => ⟨S4x64, .f32⟩
  | 72 => ⟨S4x64, .f32⟩
  | 73 => ⟨S4x64, .f32⟩
  | 74 => ⟨S_, .f32⟩
  | 75 => ⟨S4x64, .f32⟩
  | 76 => ⟨S4x64, .f32⟩
  | 77 => ⟨S4x64, .f32⟩
  | 78 => ⟨S_, .f32⟩
  | 79 => ⟨S4x64, .f32⟩
  | 80 => ⟨S4x64, .f32⟩
  | 81 => ⟨S4x64, .f32⟩
  | 82 => ⟨S_, .f32⟩
  | 83 => ⟨S4x64, .f32⟩
  | 84 => ⟨S4x64, .f32⟩
  | 85 => ⟨S_, .f32⟩
  | 86 => ⟨S4x64, .f32⟩
  | 87 => ⟨S4x64, .f32⟩
  | 88 => ⟨S_, .f32⟩
  | 89 => ⟨S4x64, .f32⟩
  | 90 => ⟨S4x64, .f32⟩
  | 91 => ⟨S4x64, .f32⟩
  | 92 => ⟨S_, .f32⟩
  | 93 => ⟨S4x64, .f32⟩
  | 94 => ⟨S4x64, .f32⟩
  | 95 => ⟨S4x64, .f32⟩
  | 96 => ⟨S_, .f32⟩
  | 97 => ⟨S4x64, .f32⟩
  | 98 => ⟨S4x64, .f32⟩
  | 99 => ⟨S4x64, .f32⟩
  | 100 => ⟨S_, .f32⟩
  | 101 => ⟨S4x64, .f32⟩
  | 102 => ⟨S4x64, .f32⟩
  | 103 => ⟨S_, .f32⟩
  | 104 => ⟨S4x64, .f32⟩
  | 105 => ⟨S4x64, .f32⟩
  | 106 => ⟨S4x64, .f32⟩
  | 107 => ⟨S_, .f32⟩
  | 108 => ⟨S4x64, .f32⟩
  | 109 => ⟨S4x64, .f32⟩
  | 110 => ⟨S4x64, .f32⟩
  | 111 => ⟨S_, .f32⟩
  | 112 => ⟨S4x64, .f32⟩
  | 113 => ⟨S4x64, .f32⟩
  | 114 => ⟨S4x64, .f32⟩
  | 115 => ⟨S_, .f32⟩
  | 116 => ⟨S4x64, .f32⟩
  | 117 => ⟨S4x64, .f32⟩
  | 118 => ⟨S_, .f32⟩
  | 119 => ⟨S4x8, .f32⟩
  | 120 => ⟨S4x8, .f32⟩
  | 121 => ⟨S_, .f32⟩
  | 122 => ⟨S4x8, .f32⟩
  | 123 => ⟨S4x8, .f32⟩
  | 124 => ⟨S4x8, .f32⟩
  | 125 => ⟨S_, .f32⟩
  | 126 => ⟨S4x8, .f32⟩
  | 127 => ⟨S4x8, .f32⟩
  | _ => ⟨S16x256, .f32⟩

abbrev hbmTy0_3 (i : Nat) : BufTy := match i % 128 with
  | 0 => ⟨S4x8, .f32⟩
  | 1 => ⟨S_, .f32⟩
  | 2 => ⟨S4x8, .f32⟩
  | 3 => ⟨S4x8, .f32⟩
  | 4 => ⟨S4x8, .f32⟩
  | 5 => ⟨S_, .f32⟩
  | 6 => ⟨S4x8, .f32⟩
  | 7 => ⟨S4x8, .f32⟩
  | 8 => ⟨S_, .f32⟩
  | 9 => ⟨S4x8, .f32⟩
  | 10 => ⟨S4x8, .f32⟩
  | 11 => ⟨S4x8, .f32⟩
  | 12 => ⟨S_, .f32⟩
  | 13 => ⟨S4x8, .f32⟩
  | 14 => ⟨S4x8, .f32⟩
  | 15 => ⟨S4x8, .f32⟩
  | 16 => ⟨S_, .f32⟩
  | 17 => ⟨S4x8, .f32⟩
  | 18 => ⟨S4x8, .f32⟩
  | 19 => ⟨S4x8, .f32⟩
  | 20 => ⟨S_, .f32⟩
  | 21 => ⟨S4x8, .f32⟩
  | 22 => ⟨S4x8, .f32⟩
  | 23 => ⟨S_, .i32⟩
  | 24 => ⟨S_, .f32⟩
  | 25 => ⟨S16x512, .f32⟩
  | 26 => ⟨S8x512, .f32⟩
  | 27 => ⟨S_, .i32⟩
  | 28 => ⟨S_, .f32⟩
  | 29 => ⟨S8x512, .f32⟩
  | 30 => ⟨S124x128, .f32⟩
  | 31 => ⟨S_, .i32⟩
  | 32 => ⟨S_, .f32⟩
  | 33 => ⟨S128x512, .f32⟩
  | 34 => ⟨S_, .i32⟩
  | 35 => ⟨S_, .f32⟩
  | 36 => ⟨S8x512, .f32⟩
  | 37 => ⟨S_, .i32⟩
  | 38 => ⟨S_, .f32⟩
  | 39 => ⟨S8x512, .f32⟩
  | 40 => ⟨S_, .i32⟩
  | 41 => ⟨S_, .f32⟩
  | 42 => ⟨S8x512, .f32⟩
  | 43 => ⟨S_, .i32⟩
  | 44 => ⟨S_, .f32⟩
  | 45 => ⟨S8x512, .f32⟩
  | 46 => ⟨S_, .i32⟩
  | 47 => ⟨S_, .f32⟩
  | 48 => ⟨S8x512, .f32⟩
  | 49 => ⟨S_, .i32⟩
  | 50 => ⟨S_, .f32⟩
  | 51 => ⟨S8x512, .f32⟩
  | 52 => ⟨S_, .i32⟩
  | 53 => ⟨S_, .f32⟩
  | 54 => ⟨S8x512, .f32⟩
  | 55 => ⟨S_, .i32⟩
  | 56 => ⟨S_, .f32⟩
  | 57 => ⟨S8x512, .f32⟩
  | 58 => ⟨S216x512, .f32⟩
  | 59 => ⟨S1x216x512, .f32⟩
  | 60 => ⟨S_, .i32⟩
  | 61 => ⟨S_, .f32⟩
  | 62 => ⟨S16x512, .f32⟩
  | 63 => ⟨S8x512, .f32⟩
  | 64 => ⟨S_, .i32⟩
  | 65 => ⟨S_, .f32⟩
  | 66 => ⟨S8x512, .f32⟩
  | 67 => ⟨S124x128, .f32⟩
  | 68 => ⟨S_, .i32⟩
  | 69 => ⟨S_, .f32⟩
  | 70 => ⟨S128x512, .f32⟩
  | 71 => ⟨S_, .i32⟩
  | 72 => ⟨S_, .f32⟩
  | 73 => ⟨S8x512, .f32⟩
  | 74 => ⟨S_, .i32⟩
  | 75 => ⟨S_, .f32⟩
  | 76 => ⟨S8x512, .f32⟩
  | 77 => ⟨S_, .i32⟩
  | 78 => ⟨S_, .f32⟩
  | 79 => ⟨S8x512, .f32⟩
  | 80 => ⟨S_, .i32⟩
  | 81 => ⟨S_, .f32⟩
  | 82 => ⟨S8x512, .f32⟩
  | 83 => ⟨S_, .i32⟩
  | 84 => ⟨S_, .f32⟩
  | 85 => ⟨S8x512, .f32⟩
  | 86 => ⟨S_, .i32⟩
  | 87 => ⟨S_, .f32⟩
  | 88 => ⟨S8x512, .f32⟩
  | 89 => ⟨S_, .i32⟩
  | 90 => ⟨S_, .f32⟩
  | 91 => ⟨S8x512, .f32⟩
  | 92 => ⟨S_, .i32⟩
  | 93 => ⟨S_, .f32⟩
  | 94 => ⟨S8x512, .f32⟩
  | 95 => ⟨S216x512, .f32⟩
  | 96 => ⟨S1x216x512, .f32⟩
  | 97 => ⟨S_, .i32⟩
  | 98 => ⟨S_, .f32⟩
  | 99 => ⟨S16x512, .f32⟩
  | 100 => ⟨S8x512, .f32⟩
  | 101 => ⟨S_, .i32⟩
  | 102 => ⟨S_, .f32⟩
  | 103 => ⟨S8x512, .f32⟩
  | 104 => ⟨S124x128, .f32⟩
  | 105 => ⟨S_, .i32⟩
  | 106 => ⟨S_, .f32⟩
  | 107 => ⟨S128x512, .f32⟩
  | 108 => ⟨S_, .i32⟩
  | 109 => ⟨S_, .f32⟩
  | 110 => ⟨S8x512, .f32⟩
  | 111 => ⟨S_, .i32⟩
  | 112 => ⟨S_, .f32⟩
  | 113 => ⟨S8x512, .f32⟩
  | 114 => ⟨S_, .i32⟩
  | 115 => ⟨S_, .f32⟩
  | 116 => ⟨S8x512, .f32⟩
  | 117 => ⟨S_, .i32⟩
  | 118 => ⟨S_, .f32⟩
  | 119 => ⟨S8x512, .f32⟩
  | 120 => ⟨S_, .i32⟩
  | 121 => ⟨S_, .f32⟩
  | 122 => ⟨S8x512, .f32⟩
  | 123 => ⟨S_, .i32⟩
  | 124 => ⟨S_, .f32⟩
  | 125 => ⟨S8x512, .f32⟩
  | 126 => ⟨S_, .i32⟩
  | 127 => ⟨S_, .f32⟩
  | _ => ⟨S16x256, .f32⟩

abbrev hbmTy0_4 (i : Nat) : BufTy := match i % 128 with
  | 0 => ⟨S8x512, .f32⟩
  | 1 => ⟨S_, .i32⟩
  | 2 => ⟨S_, .f32⟩
  | 3 => ⟨S8x512, .f32⟩
  | 4 => ⟨S216x512, .f32⟩
  | 5 => ⟨S1x216x512, .f32⟩
  | 6 => ⟨S_, .i32⟩
  | 7 => ⟨S_, .f32⟩
  | 8 => ⟨S16x512, .f32⟩
  | 9 => ⟨S8x512, .f32⟩
  | 10 => ⟨S_, .i32⟩
  | 11 => ⟨S_, .f32⟩
  | 12 => ⟨S8x512, .f32⟩
  | 13 => ⟨S124x128, .f32⟩
  | 14 => ⟨S_, .i32⟩
  | 15 => ⟨S_, .f32⟩
  | 16 => ⟨S128x512, .f32⟩
  | 17 => ⟨S_, .i32⟩
  | 18 => ⟨S_, .f32⟩
  | 19 => ⟨S8x512, .f32⟩
  | 20 => ⟨S_, .i32⟩
  | 21 => ⟨S_, .f32⟩
  | 22 => ⟨S8x512, .f32⟩
  | 23 => ⟨S_, .i32⟩
  | 24 => ⟨S_, .f32⟩
  | 25 => ⟨S8x512, .f32⟩
  | 26 => ⟨S_, .i32⟩
  | 27 => ⟨S_, .f32⟩
  | 28 => ⟨S8x512, .f32⟩
  | 29 => ⟨S_, .i32⟩
  | 30 => ⟨S_, .f32⟩
  | 31 => ⟨S8x512, .f32⟩
  | 32 => ⟨S_, .i32⟩
  | 33 => ⟨S_, .f32⟩
  | 34 => ⟨S8x512, .f32⟩
  | 35 => ⟨S_, .i32⟩
  | 36 => ⟨S_, .f32⟩
  | 37 => ⟨S8x512, .f32⟩
  | 38 => ⟨S_, .i32⟩
  | 39 => ⟨S_, .f32⟩
  | 40 => ⟨S8x512, .f32⟩
  | 41 => ⟨S216x512, .f32⟩
  | 42 => ⟨S1x216x512, .f32⟩
  | _ => ⟨S16x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x256, .f32⟩

abbrev bufTy : (tb : Table) → Fin (tcTables nBuf tb) → BufTy
  | .hbm, ⟨i, _⟩ => hbmTy i
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩
abbrev main_c : Ref sig .tc := ⟨.hbm, 407, rfl⟩
abbrev main_call0_v0 : Ref sig .tc := ⟨.hbm, 408, rfl⟩
abbrev main_v264 : Ref sig .tc := ⟨.hbm, 409, rfl⟩
abbrev main_v265 : Ref sig .tc := ⟨.hbm, 410, rfl⟩
abbrev main_c_98 : Ref sig .tc := ⟨.hbm, 411, rfl⟩
abbrev main_call1_v0 : Ref sig .tc := ⟨.hbm, 412, rfl⟩
abbrev main_v266 : Ref sig .tc := ⟨.hbm, 413, rfl⟩
abbrev main_v267 : Ref sig .tc := ⟨.hbm, 414, rfl⟩
abbrev main_c_99 : Ref sig .tc := ⟨.hbm, 415, rfl⟩
abbrev main_call2_v0 : Ref sig .tc := ⟨.hbm, 416, rfl⟩
abbrev main_v268 : Ref sig .tc := ⟨.hbm, 417, rfl⟩
abbrev main_c_100 : Ref sig .tc := ⟨.hbm, 418, rfl⟩
abbrev main_call3_v0 : Ref sig .tc := ⟨.hbm, 419, rfl⟩
abbrev main_v269 : Ref sig .tc := ⟨.hbm, 420, rfl⟩
abbrev main_c_101 : Ref sig .tc := ⟨.hbm, 421, rfl⟩
abbrev main_call4_v0 : Ref sig .tc := ⟨.hbm, 422, rfl⟩
abbrev main_v270 : Ref sig .tc := ⟨.hbm, 423, rfl⟩
abbrev main_c_102 : Ref sig .tc := ⟨.hbm, 424, rfl⟩
abbrev main_call5_v0 : Ref sig .tc := ⟨.hbm, 425, rfl⟩
abbrev main_v271 : Ref sig .tc := ⟨.hbm, 426, rfl⟩
abbrev main_c_103 : Ref sig .tc := ⟨.hbm, 427, rfl⟩
abbrev main_call6_v0 : Ref sig .tc := ⟨.hbm, 428, rfl⟩
abbrev main_v272 : Ref sig .tc := ⟨.hbm, 429, rfl⟩
abbrev main_c_104 : Ref sig .tc := ⟨.hbm, 430, rfl⟩
abbrev main_call7_v0 : Ref sig .tc := ⟨.hbm, 431, rfl⟩
abbrev main_v273 : Ref sig .tc := ⟨.hbm, 432, rfl⟩
abbrev main_c_105 : Ref sig .tc := ⟨.hbm, 433, rfl⟩
abbrev main_call8_v0 : Ref sig .tc := ⟨.hbm, 434, rfl⟩
abbrev main_v274 : Ref sig .tc := ⟨.hbm, 435, rfl⟩
abbrev main_c_106 : Ref sig .tc := ⟨.hbm, 436, rfl⟩
abbrev main_call9_v0 : Ref sig .tc := ⟨.hbm, 437, rfl⟩
abbrev main_v275 : Ref sig .tc := ⟨.hbm, 438, rfl⟩
abbrev main_c_107 : Ref sig .tc := ⟨.hbm, 439, rfl⟩
abbrev main_call10_v0 : Ref sig .tc := ⟨.hbm, 440, rfl⟩
abbrev main_v276 : Ref sig .tc := ⟨.hbm, 441, rfl⟩
abbrev main_v277 : Ref sig .tc := ⟨.hbm, 442, rfl⟩
abbrev main_v278 : Ref sig .tc := ⟨.hbm, 443, rfl⟩
abbrev main_c_108 : Ref sig .tc := ⟨.hbm, 444, rfl⟩
abbrev main_call11_v0 : Ref sig .tc := ⟨.hbm, 445, rfl⟩
abbrev main_v279 : Ref sig .tc := ⟨.hbm, 446, rfl⟩
abbrev main_v280 : Ref sig .tc := ⟨.hbm, 447, rfl⟩
abbrev main_c_109 : Ref sig .tc := ⟨.hbm, 448, rfl⟩
abbrev main_call12_v0 : Ref sig .tc := ⟨.hbm, 449, rfl⟩
abbrev main_v281 : Ref sig .tc := ⟨.hbm, 450, rfl⟩
abbrev main_v282 : Ref sig .tc := ⟨.hbm, 451, rfl⟩
abbrev main_c_110 : Ref sig .tc := ⟨.hbm, 452, rfl⟩
abbrev main_call13_v0 : Ref sig .tc := ⟨.hbm, 453, rfl⟩
abbrev main_v283 : Ref sig .tc := ⟨.hbm, 454, rfl⟩
abbrev main_c_111 : Ref sig .tc := ⟨.hbm, 455, rfl⟩
abbrev main_call14_v0 : Ref sig .tc := ⟨.hbm, 456, rfl⟩
abbrev main_v284 : Ref sig .tc := ⟨.hbm, 457, rfl⟩
abbrev main_c_112 : Ref sig .tc := ⟨.hbm, 458, rfl⟩
abbrev main_call15_v0 : Ref sig .tc := ⟨.hbm, 459, rfl⟩
abbrev main_v285 : Ref sig .tc := ⟨.hbm, 460, rfl⟩
abbrev main_c_113 : Ref sig .tc := ⟨.hbm, 461, rfl⟩
abbrev main_call16_v0 : Ref sig .tc := ⟨.hbm, 462, rfl⟩
abbrev main_v286 : Ref sig .tc := ⟨.hbm, 463, rfl⟩
abbrev main_c_114 : Ref sig .tc := ⟨.hbm, 464, rfl⟩
abbrev main_call17_v0 : Ref sig .tc := ⟨.hbm, 465, rfl⟩
abbrev main_v287 : Ref sig .tc := ⟨.hbm, 466, rfl⟩
abbrev main_c_115 : Ref sig .tc := ⟨.hbm, 467, rfl⟩
abbrev main_call18_v0 : Ref sig .tc := ⟨.hbm, 468, rfl⟩
abbrev main_v288 : Ref sig .tc := ⟨.hbm, 469, rfl⟩
abbrev main_c_116 : Ref sig .tc := ⟨.hbm, 470, rfl⟩
abbrev main_call19_v0 : Ref sig .tc := ⟨.hbm, 471, rfl⟩
abbrev main_v289 : Ref sig .tc := ⟨.hbm, 472, rfl⟩
abbrev main_c_117 : Ref sig .tc := ⟨.hbm, 473, rfl⟩
abbrev main_call20_v0 : Ref sig .tc := ⟨.hbm, 474, rfl⟩
abbrev main_v290 : Ref sig .tc := ⟨.hbm, 475, rfl⟩
abbrev main_c_118 : Ref sig .tc := ⟨.hbm, 476, rfl⟩
abbrev main_call21_v0 : Ref sig .tc := ⟨.hbm, 477, rfl⟩
abbrev main_v291 : Ref sig .tc := ⟨.hbm, 478, rfl⟩
abbrev main_v292 : Ref sig .tc := ⟨.hbm, 479, rfl⟩
abbrev main_v293 : Ref sig .tc := ⟨.hbm, 480, rfl⟩
abbrev main_c_119 : Ref sig .tc := ⟨.hbm, 481, rfl⟩
abbrev main_call22_v0 : Ref sig .tc := ⟨.hbm, 482, rfl⟩
abbrev main_v294 : Ref sig .tc := ⟨.hbm, 483, rfl⟩
abbrev main_v295 : Ref sig .tc := ⟨.hbm, 484, rfl⟩
abbrev main_c_120 : Ref sig .tc := ⟨.hbm, 485, rfl⟩
abbrev main_call23_v0 : Ref sig .tc := ⟨.hbm, 486, rfl⟩
abbrev main_v296 : Ref sig .tc := ⟨.hbm, 487, rfl⟩
abbrev main_v297 : Ref sig .tc := ⟨.hbm, 488, rfl⟩
abbrev main_c_121 : Ref sig .tc := ⟨.hbm, 489, rfl⟩
abbrev main_call24_v0 : Ref sig .tc := ⟨.hbm, 490, rfl⟩
abbrev main_v298 : Ref sig .tc := ⟨.hbm, 491, rfl⟩
abbrev main_c_122 : Ref sig .tc := ⟨.hbm, 492, rfl⟩
abbrev main_call25_v0 : Ref sig .tc := ⟨.hbm, 493, rfl⟩
abbrev main_v299 : Ref sig .tc := ⟨.hbm, 494, rfl⟩
abbrev main_c_123 : Ref sig .tc := ⟨.hbm, 495, rfl⟩
abbrev main_call26_v0 : Ref sig .tc := ⟨.hbm, 496, rfl⟩
abbrev main_v300 : Ref sig .tc := ⟨.hbm, 497, rfl⟩
abbrev main_c_124 : Ref sig .tc := ⟨.hbm, 498, rfl⟩
abbrev main_call27_v0 : Ref sig .tc := ⟨.hbm, 499, rfl⟩
abbrev main_v301 : Ref sig .tc := ⟨.hbm, 500, rfl⟩
abbrev main_c_125 : Ref sig .tc := ⟨.hbm, 501, rfl⟩
abbrev main_call28_v0 : Ref sig .tc := ⟨.hbm, 502, rfl⟩
abbrev main_v302 : Ref sig .tc := ⟨.hbm, 503, rfl⟩
abbrev main_c_126 : Ref sig .tc := ⟨.hbm, 504, rfl⟩
abbrev main_call29_v0 : Ref sig .tc := ⟨.hbm, 505, rfl⟩
abbrev main_v303 : Ref sig .tc := ⟨.hbm, 506, rfl⟩
abbrev main_c_127 : Ref sig .tc := ⟨.hbm, 507, rfl⟩
abbrev main_call30_v0 : Ref sig .tc := ⟨.hbm, 508, rfl⟩
abbrev main_v304 : Ref sig .tc := ⟨.hbm, 509, rfl⟩
abbrev main_c_128 : Ref sig .tc := ⟨.hbm, 510, rfl⟩
abbrev main_call31_v0 : Ref sig .tc := ⟨.hbm, 511, rfl⟩
abbrev main_v305 : Ref sig .tc := ⟨.hbm, 512, rfl⟩
abbrev main_c_129 : Ref sig .tc := ⟨.hbm, 513, rfl⟩
abbrev main_call32_v0 : Ref sig .tc := ⟨.hbm, 514, rfl⟩
abbrev main_v306 : Ref sig .tc := ⟨.hbm, 515, rfl⟩
abbrev main_v307 : Ref sig .tc := ⟨.hbm, 516, rfl⟩
abbrev main_v308 : Ref sig .tc := ⟨.hbm, 517, rfl⟩
abbrev main_c_130 : Ref sig .tc := ⟨.hbm, 518, rfl⟩
abbrev main_call33_v0 : Ref sig .tc := ⟨.hbm, 519, rfl⟩
abbrev main_v309 : Ref sig .tc := ⟨.hbm, 520, rfl⟩
abbrev main_v310 : Ref sig .tc := ⟨.hbm, 521, rfl⟩
abbrev main_c_131 : Ref sig .tc := ⟨.hbm, 522, rfl⟩
abbrev main_call34_v0 : Ref sig .tc := ⟨.hbm, 523, rfl⟩
abbrev main_v311 : Ref sig .tc := ⟨.hbm, 524, rfl⟩
abbrev main_v312 : Ref sig .tc := ⟨.hbm, 525, rfl⟩
abbrev main_c_132 : Ref sig .tc := ⟨.hbm, 526, rfl⟩
abbrev main_call35_v0 : Ref sig .tc := ⟨.hbm, 527, rfl⟩
abbrev main_v313 : Ref sig .tc := ⟨.hbm, 528, rfl⟩
abbrev main_c_133 : Ref sig .tc := ⟨.hbm, 529, rfl⟩
abbrev main_call36_v0 : Ref sig .tc := ⟨.hbm, 530, rfl⟩
abbrev main_v314 : Ref sig .tc := ⟨.hbm, 531, rfl⟩
abbrev main_c_134 : Ref sig .tc := ⟨.hbm, 532, rfl⟩
abbrev main_call37_v0 : Ref sig .tc := ⟨.hbm, 533, rfl⟩
abbrev main_v315 : Ref sig .tc := ⟨.hbm, 534, rfl⟩
abbrev main_c_135 : Ref sig .tc := ⟨.hbm, 535, rfl⟩
abbrev main_call38_v0 : Ref sig .tc := ⟨.hbm, 536, rfl⟩
abbrev main_v316 : Ref sig .tc := ⟨.hbm, 537, rfl⟩
abbrev main_c_136 : Ref sig .tc := ⟨.hbm, 538, rfl⟩
abbrev main_call39_v0 : Ref sig .tc := ⟨.hbm, 539, rfl⟩
abbrev main_v317 : Ref sig .tc := ⟨.hbm, 540, rfl⟩
abbrev main_c_137 : Ref sig .tc := ⟨.hbm, 541, rfl⟩
abbrev main_call40_v0 : Ref sig .tc := ⟨.hbm, 542, rfl⟩
abbrev main_v318 : Ref sig .tc := ⟨.hbm, 543, rfl⟩
abbrev main_c_138 : Ref sig .tc := ⟨.hbm, 544, rfl⟩
abbrev main_call41_v0 : Ref sig .tc := ⟨.hbm, 545, rfl⟩
abbrev main_v319 : Ref sig .tc := ⟨.hbm, 546, rfl⟩
abbrev main_c_139 : Ref sig .tc := ⟨.hbm, 547, rfl⟩
abbrev main_call42_v0 : Ref sig .tc := ⟨.hbm, 548, rfl⟩
abbrev main_v320 : Ref sig .tc := ⟨.hbm, 549, rfl⟩
abbrev main_c_140 : Ref sig .tc := ⟨.hbm, 550, rfl⟩
abbrev main_call43_v0 : Ref sig .tc := ⟨.hbm, 551, rfl⟩
abbrev main_v321 : Ref sig .tc := ⟨.hbm, 552, rfl⟩
abbrev main_v322 : Ref sig .tc := ⟨.hbm, 553, rfl⟩
abbrev main_v323 : Ref sig .tc := ⟨.hbm, 554, rfl⟩

abbrev nD : Nat := 1
abbrev τ : Topo := Topo.v7x

variable {F : FTy → Type} [FloatOps F]
-- ==== Kernel20.lean ====
abbrev S16640x1024 : Shape := ⟨2, ![16640, 1024]⟩
abbrev S16640x512 : Shape := ⟨2, ![16640, 512]⟩
abbrev S16640x3072 : Shape := ⟨2, ![16640, 3072]⟩
abbrev S512x1024 : Shape := ⟨2, ![512, 1024]⟩
abbrev S1024x1024 : Shape := ⟨2, ![1024, 1024]⟩
abbrev S16384x1024 : Shape := ⟨2, ![16384, 1024]⟩
abbrev S_ : Shape := ⟨0, ![]⟩
abbrev S8x128 : Shape := ⟨2, ![8, 128]⟩
abbrev S320x1024 : Shape := ⟨2, ![320, 1024]⟩
abbrev S320x512 : Shape := ⟨2, ![320, 512]⟩
abbrev S320x3072 : Shape := ⟨2, ![320, 3072]⟩
abbrev S320x1 : Shape := ⟨2, ![320, 1]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 19
  | .vmem => 27
  | .smem => 0
  | _ => 0

abbrev bufTy : (tb : Table) → Fin (tcTables nBuf tb) → BufTy
  | .hbm, ⟨0, _⟩ => ⟨S16640x1024, .f32⟩
  | .hbm, ⟨1, _⟩ => ⟨S16640x512, .bf16⟩
  | .hbm, ⟨2, _⟩ => ⟨S16640x512, .bf16⟩
  | .hbm, ⟨3, _⟩ => ⟨S16640x512, .bf16⟩
  | .hbm, ⟨4, _⟩ => ⟨S16640x3072, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S16384x1024, .f32⟩
  | .hbm, ⟨10, _⟩ => ⟨S_, .i32⟩
  | .hbm, ⟨11, _⟩ => ⟨S_, .f32⟩
  | .hbm, ⟨12, _⟩ => ⟨S16640x1024, .f32⟩
  | .hbm, ⟨13, _⟩ => ⟨S16640x1024, .bf16⟩
  | .hbm, ⟨14, _⟩ => ⟨S16640x1024, .bf16⟩
  | .hbm, ⟨15, _⟩ => ⟨S16640x1024, .bf16⟩
  | .hbm, ⟨16, _⟩ => ⟨S16640x1024, .bf16⟩
  | .hbm, ⟨17, _⟩ => ⟨S16640x1024, .f32⟩
  | .hbm, ⟨18, _⟩ => ⟨S8x128, .f32⟩
  | .local _ .vmem, ⟨0, _⟩ => ⟨S320x1024, .f32⟩
  | .local _ .vmem, ⟨1, _⟩ => ⟨S320x1024, .f32⟩
  | .local _ .vmem, ⟨2, _⟩ => ⟨S320x512, .bf16⟩
  | .local _ .vmem, ⟨3, _⟩ => ⟨S320x512, .bf16⟩
  | .local _ .vmem, ⟨4, _⟩ => ⟨S320x512, .bf16⟩
  | .local _ .vmem, ⟨5, _⟩ => ⟨S320x512, .bf16⟩
  | .local _ .vmem, ⟨6, _⟩ => ⟨S320x512, .bf16⟩
  | .local _ .vmem, ⟨7, _⟩ => ⟨S320x512, .bf16⟩
  | .local _ .vmem, ⟨8, _⟩ => ⟨S320x3072, .bf16⟩
  | .local _ .vmem, ⟨9, _⟩ => ⟨S320x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S320x1024, .f32⟩
  | .local _ .vmem, ⟨15, _⟩ => ⟨S320x1024, .f32⟩
  | .local _ .vmem, ⟨16, _⟩ => ⟨S320x1024, .bf16⟩
  | .local _ .vmem, ⟨17, _⟩ => ⟨S320x1024, .bf16⟩
  | .local _ .vmem, ⟨18, _⟩ => ⟨S320x1024, .bf16⟩
  | .local _ .vmem, ⟨19, _⟩ => ⟨S320x1024, .bf16⟩
  | .local _ .vmem, ⟨20, _⟩ => ⟨S320x1024, .bf16⟩
  | .local _ .vmem, ⟨21, _⟩ => ⟨S320x1024, .bf16⟩
  | .local _ .vmem, ⟨22, _⟩ => ⟨S320x1024, .bf16⟩
  | .local _ .vmem, ⟨23, _⟩ => ⟨S320x1024, .bf16⟩
  | .local _ .vmem, ⟨24, _⟩ => ⟨S320x1024, .f32⟩
  | .local _ .vmem, ⟨25, _⟩ => ⟨S320x1024, .f32⟩
  | .local _ .vmem, ⟨26, _⟩ => ⟨S8x128, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v1_4 : Ref sig .tc := ⟨.hbm, 17, rfl⟩
abbrev main_v1_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S320x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S320x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S320x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S320x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S320x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference20Ideal.lean ====
abbrev S16640x1024 : Shape := ⟨2, ![16640, 1024]⟩
abbrev S16640x512 : Shape := ⟨2, ![16640, 512]⟩
abbrev S16640x3072 : Shape := ⟨2, ![16640, 3072]⟩
abbrev S512x1024 : Shape := ⟨2, ![512, 1024]⟩
abbrev S1024x1024 : Shape := ⟨2, ![1024, 1024]⟩
abbrev S16384x1024 : Shape := ⟨2, ![16384, 1024]⟩
abbrev S_ : Shape := ⟨0, ![]⟩
abbrev S16384 : Shape := ⟨1, ![16384]⟩
abbrev S8x128 : Shape := ⟨2, ![8, 128]⟩

abbrev nBuf : Space → Nat
  | .hbm => 70
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x512, .bf16⟩
  | .hbm, ⟨2, _⟩ => ⟨S16640x512, .bf16⟩
  | .hbm, ⟨3, _⟩ => ⟨S16640x512, .bf16⟩
  | .hbm, ⟨4, _⟩ => ⟨S16640x3072, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S16384x1024, .f32⟩
  | .hbm, ⟨10, _⟩ => ⟨S16640x512, .f32⟩
  | .hbm, ⟨11, _⟩ => ⟨S16640x512, .f32⟩
  | .hbm, ⟨12, _⟩ => ⟨S16640x512, .f32⟩
  | .hbm, ⟨13, _⟩ => ⟨S16640x3072, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S1024x1024, .f32⟩
  | .hbm, ⟨18, _⟩ => ⟨S16640x1024, .f32⟩
  | .hbm, ⟨19, _⟩ => ⟨S16640x1024, .f32⟩
  | .hbm, ⟨20, _⟩ => ⟨S16640x1024, .f32⟩
  | .hbm, ⟨21, _⟩ => ⟨S16640x3072, .f32⟩
  | .hbm, ⟨22, _⟩ => ⟨S16640x3072, .f32⟩
  | .hbm, ⟨23, _⟩ => ⟨S_, .f32⟩
  | .hbm, ⟨24, _⟩ => ⟨S16640x3072, .f32⟩
  | .hbm, ⟨25, _⟩ => ⟨S16640x3072, .f32⟩
  | .hbm, ⟨26, _⟩ => ⟨S_, .f32⟩
  | .hbm, ⟨27, _⟩ => ⟨S16640x3072, .f32⟩
  | .hbm, ⟨28, _⟩ => ⟨S16640x3072, .f32⟩
  | .hbm, ⟨29, _⟩ => ⟨S16640x1024, .f32⟩
  | .hbm, ⟨30, _⟩ => ⟨S16640x1024, .f32⟩
  | .hbm, ⟨31, _⟩ => ⟨S16640x1024, .f32⟩
  | .hbm, ⟨32, _⟩ => ⟨S16640x1024, .f32⟩
  | .hbm, ⟨33, _⟩ => ⟨S16640x1024, .f32⟩
  | .hbm, ⟨34, _⟩ => ⟨S16640x1024, .f32⟩
  | .hbm, ⟨35, _⟩ => ⟨S16640x1024, .f32⟩
  | .hbm, ⟨36, _⟩ => ⟨S16640x1024, .f32⟩
  | .hbm, ⟨37, _⟩ => ⟨S16640x1024, .f32⟩
  | .hbm, ⟨38, _⟩ => ⟨S16640x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S16384, .f32⟩
  | .hbm, ⟨58, _⟩ => ⟨S_, .f32⟩
  | .hbm, ⟨59, _⟩ => ⟨S16384, .f32⟩
  | .hbm, ⟨60, _⟩ => ⟨S16384, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16640x1024, .f32⟩
  | .hbm, ⟨65, _⟩ => ⟨S16640x1024, .bf16⟩
  | .hbm, ⟨66, _⟩ => ⟨S16640x1024, .bf16⟩
  | .hbm, ⟨67, _⟩ => ⟨S16640x1024, .bf16⟩
  | .hbm, ⟨68, _⟩ => ⟨S16640x1024, .bf16⟩
  | .hbm, ⟨69, _⟩ => ⟨S8x128, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_cst_6 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Kernel21.lean ====
abbrev S4x512 : Shape := ⟨2, ![4, 512]⟩
abbrev S512 : Shape := ⟨1, ![512]⟩
abbrev S1x512 : Shape := ⟨2, ![1, 512]⟩

abbrev nBuf : Space → Nat
  | .hbm => 3
  | .vmem => 3
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference21Ideal.lean ====
abbrev S4x512 : Shape := ⟨2, ![4, 512]⟩
abbrev S_ : Shape := ⟨0, ![]⟩
abbrev S512 : Shape := ⟨1, ![512]⟩
abbrev S1x512 : Shape := ⟨2, ![1, 512]⟩

abbrev nBuf : Space → Nat
  | .hbm => 104
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S_, .f32⟩
  | .hbm, ⟨3, _⟩ => ⟨S512, .f32⟩
  | .hbm, ⟨4, _⟩ => ⟨S1x512, .f32⟩
  | .hbm, ⟨5, _⟩ => ⟨S4x512, .f32⟩
  | .hbm, ⟨6, _⟩ => ⟨S4x512, .i1⟩
  | .hbm, ⟨7, _⟩ => ⟨S4x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .i1⟩
  | .hbm, ⟨16, _⟩ => ⟨S_, .f32⟩
  | .hbm, ⟨17, _⟩ => ⟨S512, .f32⟩
  | .hbm, ⟨18, _⟩ => ⟨S512, .i1⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S4x512, .f32⟩
  | .hbm, ⟨29, _⟩ => ⟨S4x512, .f32⟩
  | .hbm, ⟨30, _⟩ => ⟨S4x512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S4x512, .f32⟩
  | .hbm, ⟨35, _⟩ => ⟨S4x512, .f32⟩
  | .hbm, ⟨36, _⟩ => ⟨S1x512, .f32⟩
  | .hbm, ⟨37, _⟩ => ⟨S_, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S_, .f32⟩
  | .hbm, ⟨42, _⟩ => ⟨S4x512, .f32⟩
  | .hbm, ⟨43, _⟩ => ⟨S1x512, .f32⟩
  | .hbm, ⟨44, _⟩ => ⟨S4x512, .f32⟩
  | .hbm, ⟨45, _⟩ => ⟨S4x512, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4x512, .f32⟩
  | .hbm, ⟨50, _⟩ => ⟨S4x512, .f32⟩
  | .hbm, ⟨51, _⟩ => ⟨S4x512, .f32⟩
  | .hbm, ⟨52, _⟩ => ⟨S4x512, .i1⟩
  | .hbm, ⟨53, _⟩ => ⟨S4x512, .f32⟩
  | .hbm, ⟨54, _⟩ => ⟨S4x512, .i1⟩
  | .hbm, ⟨55, _⟩ => ⟨S_, .f32⟩
  | .hbm, ⟨56, _⟩ => ⟨S4x512, .f32⟩
  | .hbm, ⟨57, _⟩ => ⟨S_, .f32⟩
  | .hbm, ⟨58, _⟩ => ⟨S4x512, .f32⟩
  | .hbm, ⟨59, _⟩ => ⟨S_, .f32⟩
  | .hbm, ⟨60, _⟩ => ⟨S4x512, .f32⟩
  | .hbm, ⟨61, _⟩ => ⟨S4x512, .f32⟩
  | .hbm, ⟨62, _⟩ => ⟨S4x512, .f32⟩
  | .hbm, ⟨63, _⟩ => ⟨S_, .f32⟩
  | .hbm, ⟨64, _⟩ => ⟨S4x512, .f32⟩
  | .hbm, ⟨65, _⟩ => ⟨S4x512, .f32⟩
  | .hbm, ⟨66, _⟩ => ⟨S4x512, .f32⟩
  | .hbm, ⟨67, _⟩ => ⟨S4x512, .i1⟩
  | .hbm, ⟨68, _⟩ => ⟨S4x512, .f32⟩
  | .hbm, ⟨69, _⟩ => ⟨S4x512, .i1⟩
  | .hbm, ⟨70, _⟩ => ⟨S_, .f32⟩
  | .hbm, ⟨71, _⟩ => ⟨S4x512, .f32⟩
  | .hbm, ⟨72, _⟩ => ⟨S_, .f32⟩
  | .hbm, ⟨73, _⟩ => ⟨S4x512, .f32⟩
  | .hbm, ⟨74, _⟩ => ⟨S_, .f32⟩
  | .hbm, ⟨75, _⟩ => ⟨S4x512, .f32⟩
  | .hbm, ⟨76, _⟩ => ⟨S4x512, .f32⟩
  | .hbm, ⟨77, _⟩ => ⟨S4x512, .f32⟩
  | .hbm, ⟨78, _⟩ => ⟨S4x512, .f32⟩
  | .hbm, ⟨79, _⟩ => ⟨S4x512, .f32⟩
  | .hbm, ⟨80, _⟩ => ⟨S4x512, .f32⟩
  | .hbm, ⟨81, _⟩ => ⟨S_, .f32⟩
  | .hbm, ⟨82, _⟩ => ⟨S512, .f32⟩
  | .hbm, ⟨83, _⟩ => ⟨S1x512, .f32⟩
  | .hbm, ⟨84, _⟩ => ⟨S_, .f32⟩
  | .hbm, ⟨85, _⟩ => ⟨S4x512, .f32⟩
  | .hbm, ⟨86, _⟩ => ⟨S_, .f32⟩
  | .hbm, ⟨87, _⟩ => ⟨S_, .f32⟩
  | .hbm, ⟨88, _⟩ => ⟨S4x512, .f32⟩
  | .hbm, ⟨89, _⟩ => ⟨S4x512, .f32⟩
  | .hbm, ⟨90, _⟩ => ⟨S4x512, .f32⟩
  | .hbm, ⟨91, _⟩ => ⟨S4x512, .f32⟩
  | .hbm, ⟨92, _⟩ => ⟨S4x512, .f32⟩
  | .hbm, ⟨93, _⟩ => ⟨S_, .f32⟩
  | .hbm, ⟨94, _⟩ => ⟨S512, .f32⟩
  | .hbm, ⟨95, _⟩ => ⟨S1x512, .f32⟩
  | .hbm, ⟨96, _⟩ => ⟨S1x512, .f32⟩
  | .hbm, ⟨97, _⟩ => ⟨S4x512, .f32⟩
  | .hbm, ⟨98, _⟩ => ⟨S4x512, .f32⟩
  | .hbm, ⟨99, _⟩ => ⟨S_, .f32⟩
  | .hbm, ⟨100, _⟩ => ⟨S512, .f32⟩
  | .hbm, ⟨101, _⟩ => ⟨S4x512, .f32⟩
  | .hbm, ⟨102, _⟩ => ⟨S4x512, .f32⟩
  | .hbm, ⟨103, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_cst_10 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_cst : Ref sig .tc := ⟨.hbm, 55, rfl⟩
abbrev main_call1_v7 : Ref sig .tc := ⟨.hbm, 56, rfl⟩
abbrev main_call1_cst_0 : Ref sig .tc := ⟨.hbm, 57, rfl⟩
abbrev main_call1_v8 : Ref sig .tc := ⟨.hbm, 58, rfl⟩
abbrev main_call1_cst_1 : Ref sig .tc := ⟨.hbm, 59, rfl⟩
abbrev main_call1_v9 : Ref sig .tc := ⟨.hbm, 60, rfl⟩
abbrev main_call1_v10 : Ref sig .tc := ⟨.hbm, 61, rfl⟩
abbrev main_v32_1 : Ref sig .tc := ⟨.hbm, 62, rfl⟩
abbrev main_call1_v12 : Ref sig .tc := ⟨.hbm, 63, rfl⟩
abbrev main_call1_v13 : Ref sig .tc := ⟨.hbm, 64, rfl⟩
abbrev main_v32_0 : Ref sig .tc := ⟨.hbm, 65, rfl⟩
abbrev main_call1_v15 : Ref sig .tc := ⟨.hbm, 66, rfl⟩
abbrev main_call1_v16 : Ref sig .tc := ⟨.hbm, 67, rfl⟩
abbrev main_call1_v17 : Ref sig .tc := ⟨.hbm, 68, rfl⟩
abbrev main_call1_v18 : Ref sig .tc := ⟨.hbm, 69, rfl⟩
abbrev main_call1_cst_2 : Ref sig .tc := ⟨.hbm, 70, rfl⟩
abbrev main_call1_v19 : Ref sig .tc := ⟨.hbm, 71, rfl⟩
abbrev main_call1_cst_3 : Ref sig .tc := ⟨.hbm, 72, rfl⟩
abbrev main_call1_v20 : Ref sig .tc := ⟨.hbm, 73, rfl⟩
abbrev main_call1_cst_4 : Ref sig .tc := ⟨.hbm, 74, rfl⟩
abbrev main_call1_v21 : Ref sig .tc := ⟨.hbm, 75, rfl⟩
abbrev main_call1_v22 : Ref sig .tc := ⟨.hbm, 76, rfl⟩
abbrev main_v32_2 : Ref sig .tc := ⟨.hbm, 77, rfl⟩
abbrev main_call2_v0 : Ref sig .tc := ⟨.hbm, 78, rfl⟩
abbrev main_v33 : Ref sig .tc := ⟨.hbm, 79, rfl⟩
abbrev main_v34 : Ref sig .tc := ⟨.hbm, 80, rfl⟩
abbrev main_cst_11 : Ref sig .tc := ⟨.hbm, 81, rfl⟩
abbrev main_v35 : Ref sig .tc := ⟨.hbm, 82, rfl⟩
abbrev main_v36 : Ref sig .tc := ⟨.hbm, 83, rfl⟩
abbrev main_cst_12 : Ref sig .tc := ⟨.hbm, 84, rfl⟩
abbrev main_v37 : Ref sig .tc := ⟨.hbm, 85, rfl⟩
abbrev main_call3_call0_cst : Ref sig .tc := ⟨.hbm, 86, rfl⟩
abbrev main_call3_call0_v0 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_cst_13 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_14 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩

abbrev nD : Nat := 1
abbrev τ : Topo := Topo.v7x

variable {F : FTy → Type} [FloatOps F]
-- ==== Kernel22.lean ====
abbrev S4x512 : Shape := ⟨2, ![4, 512]⟩
abbrev S512 : Shape := ⟨1, ![512]⟩
abbrev S1x512 : Shape := ⟨2, ![1, 512]⟩

abbrev nBuf : Space → Nat
  | .hbm => 2
  | .vmem => 2
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .local _ .vmem, ⟨0, _⟩ => ⟨S4x512, .f32⟩
  | .local _ .vmem, ⟨1, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference22Ideal.lean ====
abbrev S4x512 : Shape := ⟨2, ![4, 512]⟩
abbrev S_ : Shape := ⟨0, ![]⟩
abbrev S512 : Shape := ⟨1, ![512]⟩
abbrev S1x512 : Shape := ⟨2, ![1, 512]⟩

abbrev nBuf : Space → Nat
  | .hbm => 29
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S4x512, .f32⟩
  | .hbm, ⟨8, _⟩ => ⟨S4x512, .f32⟩
  | .hbm, ⟨9, _⟩ => ⟨S4x512, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S_, .f32⟩
  | .hbm, ⟨17, _⟩ => ⟨S4x512, .f32⟩
  | .hbm, ⟨18, _⟩ => ⟨S1x512, .f32⟩
  | .hbm, ⟨19, _⟩ => ⟨S4x512, .f32⟩
  | .hbm, ⟨20, _⟩ => ⟨S4x512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Proof.Merge.lean ====
/-
  The gradient of the gated merge, as plain functions of the arrays: `mixed = Σ_n g_n · z_n` with `g_n` the logistic of the
  `n`-th third of the gate logits, the layer's output `mixed · wo`, and `dh` the gradient that arrives at it. Every function
  is read at a row and a column; sums are over a whole contracted axis.
-/
module

public import Idealize.ShloMosaic.Lib.Pipeline.ValueKit
public import Idealize.ShloMosaic.Lib.Pointwise

@[expose] public section

noncomputable section

namespace Cert.Merge

open Idealize.ShloMosaic

/-- An array of `a` rows and `b` columns of extended reals. -/
abbrev Arr (a b : Nat) : Type := (⟨2, ![a, b]⟩ : Shape).Idx → EReal

/-- Column `c` of the `n`-th third of the gate logits. -/
def third (o : Nat) (ho : o + 1024 ≤ 3072) (c : Fin 1024) : Fin 3072 := ⟨o + c.val, by omega⟩

theorem third_val (o : Nat) (ho : o + 1024 ≤ 3072) (c : Fin 1024) : third o ho c = ⟨o + c.val, by omega⟩ := rfl

theorem third_zero (ho : 0 + 1024 ≤ 3072) (c : Fin 1024) : third 0 ho c = ⟨c.val, by omega⟩ :=
  Fin.ext (Nat.zero_add _)

/-- The gradient at the merged rows: `dh · woᵀ`. -/
def dmix (dh : Arr 16640 1024) (wo : Arr 1024 1024) (r : Fin 16640) (c : Fin 1024) : EReal :=
  ∑ k : Fin 1024, dh (ix2 r k) * wo (ix2 c k)

/-- The gate of a branch. -/
def gate (ug : Arr 16640 3072) (o : Nat) (ho : o + 1024 ≤ 3072) (r : Fin 16640) (c : Fin 1024) : EReal :=
  Ideal.logistic (ug (ix2 r (third o ho c)))

/-- A branch's output `y · w`. -/
def branch (y : Arr 16640 512) (w : Arr 512 1024) (r : Fin 16640) (c : Fin 1024) : EReal :=
  ∑ k : Fin 512, y (ix2 r k) * w (ix2 k c)

/-- The gradient at a branch's output. -/
def dz (dh : Arr 16640 1024) (wo : Arr 1024 1024) (ug : Arr 16640 3072) (o : Nat) (ho : o + 1024 ≤ 3072)
    (r : Fin 16640) (c : Fin 1024) : EReal :=
  dmix dh wo r c * gate ug o ho r c

/-- The gradient at a branch's rows before its output product. -/
def dy (dh : Arr 16640 1024) (wo : Arr 1024 1024) (ug : Arr 16640 3072) (w : Arr 512 1024) (o : Nat) (ho : o + 1024 ≤ 3072)
    (r : Fin 16640) (c : Fin 512) : EReal :=
  ∑ k : Fin 1024, dz dh wo ug o ho r k * w (ix2 c k)

/-- The gradient at a third of the gate logits. -/
def dug (dh : Arr 16640 1024) (wo : Arr 1024 1024) (ug : Arr 16640 3072) (y : Arr 16640 512) (w : Arr 512 1024)
    (o : Nat) (ho : o + 1024 ≤ 3072) (r : Fin 16640) (c : Fin 1024) : EReal :=
  dz dh wo ug o ho r c * branch y w r c * (1 - gate ug o ho r c)

/-- The gradient at all the gate logits: each third of the columns is a branch's. -/
def dugAll (dh : Arr 16640 1024) (wo : Arr 1024 1024) (ug : Arr 16640 3072) (ya yb yc : Arr 16640 512)
    (wa wb wc : Arr 512 1024) (r : Fin 16640) (c : Fin 3072) : EReal :=
  if h : c.val < 1024 then dug dh wo ug ya wa 0 (by omega) r ⟨c.val, h⟩
  else if h' : c.val < 2048 then dug dh wo ug yb wb 1024 (by omega) r ⟨c.val - 1024, by omega⟩
  else dug dh wo ug yc wc 2048 (by omega) r ⟨c.val - 2048, by omega⟩

section

variable (dh : Arr 16640 1024) (wo : Arr 1024 1024) (ug : Arr 16640 3072) (ya yb yc : Arr 16640 512)
  (wa wb wc : Arr 512 1024) (r : Fin 16640)

/-- Column `c` of the first third is the first branch's, -/
theorem dugAll_first (j : Fin 3072) (c : Fin 1024) (h : j.val = c.val) :
    dugAll dh wo ug ya yb yc wa wb wc r j = dug dh wo ug ya wa 0 (by omega) r c := by
  unfold dugAll
  rw [dif_pos (by omega)]
  exact congrArg _ (Fin.ext h)

/-- column `1024 + c` the second's, -/
theorem dugAll_second (j : Fin 3072) (c : Fin 1024) (h : j.val = 1024 + c.val) :
    dugAll dh wo ug ya yb yc wa wb wc r j = dug dh wo ug yb wb 1024 (by omega) r c := by
  unfold dugAll
  rw [dif_neg (by omega), dif_pos (by omega)]
  exact congrArg _ (Fin.ext (by show j.val - 1024 = c.val; omega))

/-- and column `2048 + c` the third's. -/
theorem dugAll_last (j : Fin 3072) (c : Fin 1024) (h : j.val = 2048 + c.val) :
    dugAll dh wo ug ya yb yc wa wb wc r j = dug dh wo ug yc wc 2048 (by omega) r c := by
  unfold dugAll
  rw [dif_neg (by omega), dif_neg (by omega)]
  exact congrArg _ (Fin.ext (by show j.val - 2048 = c.val; omega))

end

end Cert.Merge

end
-- ==== Proof.MergeValue.lean ====
/-
  What the gated merge's kernel leaves in its seven result arrays: each is the gradient of `Merge.lean` as a function of the
  argument arrays, index by index.
-/
module

public import proofs.«01_k».proof.Proof.Gen.KernelIdeal.Value
public import proofs.«01_k».proof.Proof.Merge

@[expose] public section

set_option maxRecDepth 16384

noncomputable section

namespace Cert.Merge

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Which block each window holds at a grid point: the rows' windows move with the point, the weights stay. -/
theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] := by decide +kernel

/-- The argument arrays of device `c`. -/
abbrev aDh (c : Dev nD) : Arr 16640 1024 := m ((c : Thread nD τ).loc main_arg0)
abbrev aYa (c : Dev nD) : Arr 16640 512 := m ((c : Thread nD τ).loc main_arg1)
abbrev aYb (c : Dev nD) : Arr 16640 512 := m ((c : Thread nD τ).loc main_arg2)
abbrev aYc (c : Dev nD) : Arr 16640 512 := m ((c : Thread nD τ).loc main_arg3)
abbrev aUg (c : Dev nD) : Arr 16640 3072 := m ((c : Thread nD τ).loc main_arg4)
abbrev aWa (c : Dev nD) : Arr 512 1024 := m ((c : Thread nD τ).loc main_arg5)
abbrev aWb (c : Dev nD) : Arr 512 1024 := m ((c : Thread nD τ).loc main_arg6)
abbrev aWc (c : Dev nD) : Arr 512 1024 := m ((c : Thread nD τ).loc main_arg7)
abbrev aWo (c : Dev nD) : Arr 1024 1024 := m ((c : Thread nD τ).loc main_arg8)

/-- Row `a` of grid point `t`'s block, as a row of the array. -/
def row (t : Fin cfg0.N) (a : Fin 320) : Fin 16640 := ⟨t.val * 320 + a.val, by
  have h : t.val < 52 := t.isLt
  omega⟩

theorem row_val (t : Fin cfg0.N) (a : Fin 320) : (row t a).val = t.val * 320 + a.val := rfl

/-- Each input window's block at a point, read at an index, is its array read at the place of the block. -/
theorem read0 (c : Dev nD) (t : Fin cfg0.N) (a : Fin 320) (b : Fin 1024) :
    (iblk m c 0 t (ix2 a b) : EReal) = aDh m c (ix2 (row t a) b) := by
  blk_ext [iblk, V, idx t, row_val]
theorem read4 (c : Dev nD) (t : Fin cfg0.N) (a : Fin 320) (b : Fin 3072) :
    (iblk m c 4 t (ix2 a b) : EReal) = aUg m c (ix2 (row t a) b) := by
  blk_ext [iblk, V, idx t, row_val]
theorem read5 (c : Dev nD) (t : Fin cfg0.N) (a : Fin 512) (b : Fin 1024) :
    (iblk m c 5 t (ix2 a b) : EReal) = aWa m c (ix2 a b) := by
  blk_ext [iblk, V, idx t]
theorem read6 (c : Dev nD) (t : Fin cfg0.N) (a : Fin 512) (b : Fin 1024) :
    (iblk m c 6 t (ix2 a b) : EReal) = aWb m c (ix2 a b) := by
  blk_ext [iblk, V, idx t]
theorem read7 (c : Dev nD) (t : Fin cfg0.N) (a : Fin 512) (b : Fin 1024) :
    (iblk m c 7 t (ix2 a b) : EReal) = aWc m c (ix2 a b) := by
  blk_ext [iblk, V, idx t]
theorem read8 (c : Dev nD) (t : Fin cfg0.N) (a b : Fin 1024) :
    (iblk m c 8 t (ix2 a b) : EReal) = aWo m c (ix2 a b) := by
  blk_ext [iblk, V, idx t]
/-- The saved branch outputs are computed on the host before the kernel, by the product the branch ends with. -/
theorem read1 (c : Dev nD) (t : Fin cfg0.N) (a : Fin 320) (b : Fin 1024) :
    (iblk m c 1 t (ix2 a b) : EReal) = branch (aYa m c) (aWa m c) (row t a) b := by
  blk_simp [iblk]
  entry_read
  pointwise [branch]
  blk_point [idx t, row_val]
theorem read2 (c : Dev nD) (t : Fin cfg0.N) (a : Fin 320) (b : Fin 1024) :
    (iblk m c 2 t (ix2 a b) : EReal) = branch (aYb m c) (aWb m c) (row t a) b := by
  blk_simp [iblk]
  entry_read
  pointwise [branch]
  blk_point [idx t, row_val]
theorem read3 (c : Dev nD) (t : Fin cfg0.N) (a : Fin 320) (b : Fin 1024) :
    (iblk m c 3 t (ix2 a b) : EReal) = branch (aYc m c) (aWc m c) (row t a) b := by
  blk_simp [iblk]
  entry_read
  pointwise [branch]
  blk_point [idx t, row_val]

/-- Where an element of each result's block lies in the array. -/
theorem place9 (t : Fin cfg0.N) (y : S320x3072.Idx) :
    ((cfg0.win 9).blk t).view.emb y = ix2 (row t (y 0)) (y 1) := by
  blk_ext [idx t]
  exact (row_val t _).symm
theorem place10 (t : Fin cfg0.N) (y : S320x1024.Idx) :
    ((cfg0.win 10).blk t).view.emb y = ix2 (row t (y 0)) (y 1) := by
  blk_ext [idx t]
  exact (row_val t _).symm
theorem place11 (t : Fin cfg0.N) (y : S320x1024.Idx) :
    ((cfg0.win 11).blk t).view.emb y = ix2 (row t (y 0)) (y 1) := by
  blk_ext [idx t]
  exact (row_val t _).symm
theorem place12 (t : Fin cfg0.N) (y : S320x1024.Idx) :
    ((cfg0.win 12).blk t).view.emb y = ix2 (row t (y 0)) (y 1) := by
  blk_ext [idx t]
  exact (row_val t _).symm
theorem place13 (t : Fin cfg0.N) (y : S320x512.Idx) :
    ((cfg0.win 13).blk t).view.emb y = ix2 (row t (y 0)) (y 1) := by
  blk_ext [idx t]
  exact (row_val t _).symm
theorem place14 (t : Fin cfg0.N) (y : S320x512.Idx) :
    ((cfg0.win 14).blk t).view.emb y = ix2 (row t (y 0)) (y 1) := by
  blk_ext [idx t]
  exact (row_val t _).symm
theorem place15 (t : Fin cfg0.N) (y : S320x512.Idx) :
    ((cfg0.win 15).blk t).view.emb y = ix2 (row t (y 0)) (y 1) := by
  blk_ext [idx t]
  exact (row_val t _).symm

/-- The gradients at the three branches' outputs, -/
theorem final10 (c : Dev nD) : (dats m 0 c).arrAt 10 cfg0.N =
    fun i : S16640x1024.Idx => dz (aDh m c) (aWo m c) (aUg m c) 0 (by omega) (i 0) (i 1) := by
  refine (dats m 0 c).arrAt_eq_of_covers 10 _ (by decide +kernel) fun t hf y => ?_
  rw [place10]
  blk_simp
  rw [after0_10]
  frame_out
  unfold_payloads
  idx_vars y
  pointwise [dz, dmix, gate, third_zero, read0, read4, read8]
theorem final11 (c : Dev nD) : (dats m 0 c).arrAt 11 cfg0.N =
    fun i : S16640x1024.Idx => dz (aDh m c) (aWo m c) (aUg m c) 1024 (by omega) (i 0) (i 1) := by
  refine (dats m 0 c).arrAt_eq_of_covers 11 _ (by decide +kernel) fun t hf y => ?_
  rw [place11]
  blk_simp
  rw [after0_11]
  frame_out
  unfold_payloads
  idx_vars y
  pointwise [dz, dmix, gate, third_val, read0, read4, read8]
theorem final12 (c : Dev nD) : (dats m 0 c).arrAt 12 cfg0.N =
    fun i : S16640x1024.Idx => dz (aDh m c) (aWo m c) (aUg m c) 2048 (by omega) (i 0) (i 1) := by
  refine (dats m 0 c).arrAt_eq_of_covers 12 _ (by decide +kernel) fun t hf y => ?_
  rw [place12]
  blk_simp
  rw [after0_12]
  frame_out
  unfold_payloads
  idx_vars y
  pointwise [dz, dmix, gate, third_val, read0, read4, read8]

/-- at their rows before the output product, -/
theorem final13 (c : Dev nD) : (dats m 0 c).arrAt 13 cfg0.N =
    fun i : S16640x512.Idx => dy (aDh m c) (aWo m c) (aUg m c) (aWa m c) 0 (by omega) (i 0) (i 1) := by
  refine (dats m 0 c).arrAt_eq_of_covers 13 _ (by decide +kernel) fun t hf y => ?_
  rw [place13]
  blk_simp
  rw [after0_13]
  frame_out
  unfold_payloads
  idx_vars y
  pointwise [dy, dz, dmix, gate, third_zero, read0, read4, read8, read5]
theorem final14 (c : Dev nD) : (dats m 0 c).arrAt 14 cfg0.N =
    fun i : S16640x512.Idx => dy (aDh m c) (aWo m c) (aUg m c) (aWb m c) 1024 (by omega) (i 0) (i 1) := by
  refine (dats m 0 c).arrAt_eq_of_covers 14 _ (by decide +kernel) fun t hf y => ?_
  rw [place14]
  blk_simp
  rw [after0_14]
  frame_out
  unfold_payloads
  idx_vars y
  pointwise [dy, dz, dmix, gate, third_val, read0, read4, read8, read6]
theorem final15 (c : Dev nD) : (dats m 0 c).arrAt 15 cfg0.N =
    fun i : S16640x512.Idx => dy (aDh m c) (aWo m c) (aUg m c) (aWc m c) 2048 (by omega) (i 0) (i 1) := by
  refine (dats m 0 c).arrAt_eq_of_covers 15 _ (by decide +kernel) fun t hf y => ?_
  rw [place15]
  blk_simp
  rw [after0_15]
  frame_out
  unfold_payloads
  idx_vars y
  pointwise [dy, dz, dmix, gate, third_val, read0, read4, read8, read7]

/-- and at the gate logits: the kernel writes a block of them in three thirds. -/
theorem final9 (c : Dev nD) : (dats m 0 c).arrAt 9 cfg0.N =
    fun i : S16640x3072.Idx => dugAll (aDh m c) (aWo m c) (aUg m c) (aYa m c) (aYb m c) (aYc m c) (aWa m c) (aWb m c)
      (aWc m c) (i 0) (i 1) := by
  refine (dats m 0 c).arrAt_eq_of_covers 9 _ (by decide +kernel) fun t hf y => ?_
  rw [place9]
  blk_simp
  rw [after0_9]
  frame_out
  unfold_payloads
  canon_tiles x h
  · refine Eq.trans ?_ (dugAll_last _ _ _ _ _ _ _ _ _ (row t (y 0)) (y 1) (x 1) h1).symm
    rw [show (y 0 : Fin 320) = x 0 from Fin.ext h0]
    clear h0 h1 x0_lt x1_lt
    idx_vars x
    pointwise [dug, dz, dmix, gate, third_val, read0, read3, read4, read8]
  · refine Eq.trans ?_ (dugAll_second _ _ _ _ _ _ _ _ _ (row t (y 0)) (y 1) (x 1) h1).symm
    rw [show (y 0 : Fin 320) = x 0 from Fin.ext h0]
    clear h0 h1 x0_lt x1_lt
    idx_vars x
    pointwise [dug, dz, dmix, gate, third_val, read0, read2, read4, read8]
  · refine Eq.trans ?_ (dugAll_first _ _ _ _ _ _ _ _ _ (row t (y 0)) (y 1) (x 1) h1).symm
    rw [show (y 0 : Fin 320) = x 0 from Fin.ext h0]
    clear h0 h1 x0_lt x1_lt
    idx_vars x
    pointwise [dug, dz, dmix, gate, third_zero, read0, read1, read4, read8]

end Cert.Merge
-- ==== Proof.MergeRef.lean ====
/-
  The gradients that the reference's transposed program computes, index by index: the functions of `Merge.lean`.
-/
module

public import proofs.«01_k».proof.Proof.Gen.ReferenceIdeal.Read
public import proofs.«01_k».proof.Proof.Merge

@[expose] public section

set_option maxRecDepth 16384

noncomputable section

namespace Cert.Merge

open Cert.ReferenceIdeal Cert.ReferenceIdeal.Gen Cert.ReferenceIdeal.Read Idealize.ShloMosaic Idealize.ShloMosaic.TcCoe

variable (dh : Arr 16640 1024) (ya yb yc : Arr 16640 512) (ug : Arr 16640 3072) (wa wb wc : Arr 512 1024)
  (wo : Arr 1024 1024)

/-- The gradients at the branches' outputs, -/
theorem ref_v80 : val_main_v80 (F := Ideal) dh ug wo = fun i : S16640x1024.Idx => dz dh wo ug 0 (by omega) (i 0) (i 1) := by
  funext i
  idx_vars i
  pointwise [dz, dmix, gate, third_zero, val_main_v80, val_main_v74, val_main_v57, val_main_v53, val_main_v52, val_main_cst_6, val_main_v51, val_main_v50, val_main_cst_5, val_main_v49, val_main_v48, val_main_v3, val_main_v66, val_main_v7]
  exact mul_comm _ _
theorem ref_v81 : val_main_v81 (F := Ideal) dh ug wo = fun i : S16640x1024.Idx => dz dh wo ug 1024 (by omega) (i 0) (i 1) := by
  funext i
  idx_vars i
  pointwise [dz, dmix, gate, third_val, val_main_v81, val_main_v70, val_main_v59, val_main_v53, val_main_v52, val_main_cst_6, val_main_v51, val_main_v50, val_main_cst_5, val_main_v49, val_main_v48, val_main_v3, val_main_v66, val_main_v7]
  exact mul_comm _ _
theorem ref_v82 : val_main_v82 (F := Ideal) dh ug wo = fun i : S16640x1024.Idx => dz dh wo ug 2048 (by omega) (i 0) (i 1) := by
  funext i
  idx_vars i
  pointwise [dz, dmix, gate, third_val, val_main_v82, val_main_v67, val_main_v62, val_main_v53, val_main_v52, val_main_cst_6, val_main_v51, val_main_v50, val_main_cst_5, val_main_v49, val_main_v48, val_main_v3, val_main_v66, val_main_v7]
  exact mul_comm _ _

/-- at their rows before the output product, -/
theorem ref_v83 : val_main_v83 (F := Ideal) dh ug wa wo =
    fun i : S16640x512.Idx => dy dh wo ug wa 0 (by omega) (i 0) (i 1) := by
  funext i
  idx_vars i
  pointwise [dy, dz, dmix, gate, third_zero, val_main_v83, val_main_v44, val_main_v37, val_main_v20, val_main_v16, val_main_v15, val_main_cst_0, val_main_v14, val_main_v13, val_main_cst, val_main_v12, val_main_v11, val_main_v3, val_main_v29, val_main_v7, val_main_v4]
  exact Finset.sum_congr rfl fun _ _ => congrArg (· * _) (mul_comm _ _)
theorem ref_v84 : val_main_v84 (F := Ideal) dh ug wb wo =
    fun i : S16640x512.Idx => dy dh wo ug wb 1024 (by omega) (i 0) (i 1) := by
  funext i
  idx_vars i
  pointwise [dy, dz, dmix, gate, third_val, val_main_v84, val_main_v43, val_main_v33, val_main_v22, val_main_v16, val_main_v15, val_main_cst_0, val_main_v14, val_main_v13, val_main_cst, val_main_v12, val_main_v11, val_main_v3, val_main_v29, val_main_v7, val_main_v5]
  exact Finset.sum_congr rfl fun _ _ => congrArg (· * _) (mul_comm _ _)
theorem ref_v85 : val_main_v85 (F := Ideal) dh ug wc wo =
    fun i : S16640x512.Idx => dy dh wo ug wc 2048 (by omega) (i 0) (i 1) := by
  funext i
  idx_vars i
  pointwise [dy, dz, dmix, gate, third_val, val_main_v85, val_main_v42, val_main_v30, val_main_v25, val_main_v16, val_main_v15, val_main_cst_0, val_main_v14, val_main_v13, val_main_cst, val_main_v12, val_main_v11, val_main_v3, val_main_v29, val_main_v7, val_main_v6]
  exact Finset.sum_congr rfl fun _ _ => congrArg (· * _) (mul_comm _ _)

/-- The reference multiplies by `g · (1 - g)` at the end, the kernel by `g` first. -/
theorem regroup (a b g : EReal) : (a * b) * (g * (1 - g)) = ((a * g) * b) * (1 - g) := by
  rw [← mul_assoc, mul_right_comm a b g]

/-- The gradient at the gate logits: the three thirds, each padded with zeros to the whole width, added. -/
theorem ref_v79 : val_main_v79 (F := Ideal) dh ya yb yc ug wa wb wc wo =
    fun i : S16640x3072.Idx => dugAll dh wo ug ya yb yc wa wb wc (i 0) (i 1) := by
  funext i
  idx_vars i
  pointwise [dugAll, dug, dz, dmix, gate, branch, third_val, val_main_v79, val_main_v41, val_main_v40, val_main_v36, val_main_v32, val_main_v31, val_main_v29, val_main_v7, val_main_v10, val_main_v2, val_main_v6, val_main_cst_2, val_main_v35, val_main_v34, val_main_v9, val_main_v1, val_main_v5, val_main_cst_3, val_main_v39, val_main_v38, val_main_v8, val_main_v0, val_main_v4, val_main_cst_4, val_main_v19, val_main_v16, val_main_v15, val_main_cst_0, val_main_v14, val_main_v13, val_main_cst, val_main_v12, val_main_v11, val_main_v3, val_main_v18, val_main_v17, val_main_cst_1]
  by_cases h1 : i1.val < 1024
  · rw [dif_neg (by omega), dif_neg (by omega), dif_pos h1, dif_pos h1, zero_add, zero_add]
    exact regroup _ _ _
  · by_cases h2 : i1.val < 2048
    · have e : (⟨1024 + (i1.val - 1024), by omega⟩ : Fin 3072) = i1 := Fin.ext (by show 1024 + (i1.val - 1024) = i1.val; omega)
      rw [dif_neg (by omega), dif_pos (by omega), dif_neg h1, dif_neg h1, dif_pos h2, zero_add, add_zero, e]
      exact regroup _ _ _
    · have e : (⟨2048 + (i1.val - 2048), by omega⟩ : Fin 3072) = i1 := Fin.ext (by show 2048 + (i1.val - 2048) = i1.val; omega)
      rw [dif_pos (by omega), dif_neg (by omega), dif_neg h1, dif_neg h1, dif_neg h2, add_zero, add_zero, e]
      exact regroup _ _ _

end Cert.Merge
-- ==== Proof.MergeClaim.lean ====
/-
  The gated merge's claims: the frame of its reference, and the kernel's gradients equal to the reference's.
-/
module

public import proofs.«01_k».proof.Defs
public import proofs.«01_k».proof.Proof.Gen.ReferenceIdeal.Run
public import proofs.«01_k».proof.Proof.MergeValue
public import proofs.«01_k».proof.Proof.MergeRef
public import Idealize.ShloMosaic.Lib.Quiescent

@[expose] public section

set_option maxRecDepth 16384

noncomputable section

namespace Cert.Merge

open Idealize.ShloMosaic Idealize.ShloMosaic.TcCoe Idealize.SL.Sem Cert.ReferenceIdeal.Read

/-- The reference runs on the host alone: it ends with its arguments unchanged and no semaphore moved. -/
theorem frame_reference : Cert.quiescent_ReferenceIdeal := fun m ρ _ =>
  (θ_run Cert.ReferenceIdeal.defs _ _).mono
    (fun r h => ⟨fun c => (h c).2.2.2.2.2.2.2, sem_eq_zero_of_no_sems (by decide) r.2⟩)
    (Cert.ReferenceIdeal.Value.run (F := Ideal) m ρ)

/-- The kernel's result arrays are the reference's, from arguments that agree. -/
theorem algebraic : Cert.algebraic_KernelIdeal_ReferenceIdeal := by
  intro m ρ m' ρ' _ hagree
  refine ⟨fun c => (Cert.KernelIdeal.Gen.dats m 0 c).arrAt 9 Cert.KernelIdeal.cfg0.N, fun c => (Cert.KernelIdeal.Gen.dats m 0 c).arrAt 10 Cert.KernelIdeal.cfg0.N, fun c => (Cert.KernelIdeal.Gen.dats m 0 c).arrAt 11 Cert.KernelIdeal.cfg0.N, fun c => (Cert.KernelIdeal.Gen.dats m 0 c).arrAt 12 Cert.KernelIdeal.cfg0.N, fun c => (Cert.KernelIdeal.Gen.dats m 0 c).arrAt 13 Cert.KernelIdeal.cfg0.N, fun c => (Cert.KernelIdeal.Gen.dats m 0 c).arrAt 14 Cert.KernelIdeal.cfg0.N, fun c => (Cert.KernelIdeal.Gen.dats m 0 c).arrAt 15 Cert.KernelIdeal.cfg0.N, ?_, ?_⟩
  · exact Cert.KernelIdeal.Value.run_blocks m ρ
  · refine (θ_run Cert.ReferenceIdeal.defs _ _).mono (fun _ h c => ?_) (Cert.ReferenceIdeal.Value.run (F := Ideal) m' ρ')
    obtain ⟨e0, e1, e2, e3, e4, e5, e6, e7, e8⟩ := hagree c
    obtain ⟨r0, r1, r2, r3, r4, r5, r6, keep⟩ := h c
    refine ⟨r0.trans ?_, r1.trans ?_, r2.trans ?_, r3.trans ?_, r4.trans ?_, r5.trans ?_, r6.trans ?_, keep⟩
    · simp only [e0, e1, e2, e3, e4, e5, e6, e7, e8]
      exact (val_main_v79_eq _ _ _ _ _ _ _ _ _).trans ((ref_v79 _ _ _ _ _ _ _ _ _).trans (final9 m c).symm)
    · simp only [e0, e1, e2, e3, e4, e5, e6, e7, e8]
      exact (val_main_v80_eq _ _ _).trans ((ref_v80 _ _ _).trans (final10 m c).symm)
    · simp only [e0, e1, e2, e3, e4, e5, e6, e7, e8]
      exact (val_main_v81_eq _ _ _).trans ((ref_v81 _ _ _).trans (final11 m c).symm)
    · simp only [e0, e1, e2, e3, e4, e5, e6, e7, e8]
      exact (val_main_v82_eq _ _ _).trans ((ref_v82 _ _ _).trans (final12 m c).symm)
    · simp only [e0, e1, e2, e3, e4, e5, e6, e7, e8]
      exact (val_main_v83_eq _ _ _ _).trans ((ref_v83 _ _ _ _).trans (final13 m c).symm)
    · simp only [e0, e1, e2, e3, e4, e5, e6, e7, e8]
      exact (val_main_v84_eq _ _ _ _).trans ((ref_v84 _ _ _ _).trans (final14 m c).symm)
    · simp only [e0, e1, e2, e3, e4, e5, e6, e7, e8]
      exact (val_main_v85_eq _ _ _ _).trans ((ref_v85 _ _ _ _).trans (final15 m c).symm)

end Cert.Merge

end
-- ==== Proof.Project.lean ====
/-
  The products around the four parts of the input projection, as plain functions of the arrays: a part's columns of
  `hn · w_in`, and the gradient `duᵀ · hn` of a part's weights (kept transposed).
-/
module

public import Idealize.ShloMosaic.Lib.Pipeline.ValueKit
public import Idealize.ShloMosaic.Lib.Pointwise

@[expose] public section

noncomputable section

namespace Cert.Project

open Idealize.ShloMosaic

/-- An array of `a` rows and `b` columns of extended reals. -/
abbrev Arr (a b : Nat) : Type := (⟨2, ![a, b]⟩ : Shape).Idx → EReal

/-- Entry `(r, c)` of `hn · w_in`. -/
def proj (hn : Arr 16640 1024) (w : Arr 1024 7936) (r : Fin 16640) (c : Fin 7936) : EReal :=
  ∑ k : Fin 1024, hn (ix2 r k) * w (ix2 k c)

/-- The column of `w_in` that column `c` of the part starting at `o` is. -/
def col (n o : Nat) (ho : o + n ≤ 7936) (c : Fin n) : Fin 7936 := ⟨o + c.val, by omega⟩

theorem col_val (n o : Nat) (ho : o + n ≤ 7936) (c : Fin n) : (col n o ho c).val = o + c.val := rfl

/-- The column of `w_in` that column `c` of the attention's part is: its queries, then its gate, then its keys and values. -/
def colC (c : Fin 1280) : Fin 7936 :=
  if h : c.val < 512 then ⟨3584 + c.val, by omega⟩
  else if h' : c.val < 1024 then ⟨4352 + (c.val - 512), by omega⟩
  else ⟨4096 + (c.val - 1024), by omega⟩

/-- Entry `(i, j)` of `duᵀ · hn`: a sum over all the rows. -/
def wgrad {n p : Nat} (du : Arr 16640 n) (hn : Arr 16640 p) (i : Fin n) (j : Fin p) : EReal :=
  ∑ r : Fin 16640, du (ix2 r i) * hn (ix2 r j)

end Cert.Project

end
-- ==== Proof.Rms.lean ====
/-
  The gradient through a row's root-mean-square normalisation, on the extended reals. With `v` the row's mean square plus a
  positive number and `r = 1/√v`, the row is scaled by `r`; differentiating `r` as a function of the row gives
  `r · (d - x·r · mean(d·x·r))`, which is also what the chain rule through `-(1/2) · r/v` gives. The two agree on every row:
  where an entry is infinite, `r = 0` and both vanish.
-/
module

public import Idealize.ShloMosaic.Lib.Pipeline.ValueKit
public import Idealize.ShloMosaic.Lib.Pointwise

@[expose] public section

noncomputable section

namespace Cert.Rms

open Idealize.ShloMosaic

/-- The number under the norms' root: the rational of its word. -/
abbrev eps : ℝ := 8796093 / 8796093022208

/-- The words of the norms' two numbers: the rows' length and the number under the root. -/
theorem ofBits_len : Ideal.ofBits .f32 1149239296#32 = ((1024 : ℝ) : EReal) := by
  simp [Ideal.ofBits, Ideal.ieee, -EReal.coe_mul]; norm_num
theorem ofBits_eps : Ideal.ofBits .f32 897988541#32 = ((eps : ℝ) : EReal) := by
  simp [Ideal.ofBits, Ideal.ieee, -EReal.coe_mul]; norm_num
theorem ofBits_half : Ideal.ofBits .f32 3204448256#32 = ((-(1 / 2) : ℝ) : EReal) := by
  simp [Ideal.ofBits, Ideal.ieee, -EReal.coe_mul]; norm_num

/-- A nonnegative real times a sum of extended reals. -/
theorem real_mul_sum {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

theorem square_nonneg (x : EReal) : 0 ≤ x * x := by
  induction x with
  | bot => simp
  | top => simp
  | coe a => exact_mod_cast mul_self_nonneg a

/-- Twice a real multiple of an extended real. -/
theorem double (c : ℝ) (S : EReal) : (c : EReal) * S + (c : EReal) * S = ((2 * c : ℝ) : EReal) * S := by
  have two : ∀ z : EReal, z + z = ((2 : ℝ) : EReal) * z := by
    intro z
    induction z with
    | bot => rw [EReal.coe_mul_bot_of_pos (by norm_num)]; rfl
    | top => rw [EReal.coe_mul_top_of_pos (by norm_num)]; rfl
    | coe a => rw [← EReal.coe_mul, ← EReal.coe_add, two_mul]
  rw [two, ← mul_assoc, ← EReal.coe_mul]

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A row's mean square plus `e`. -/
def var {n : Nat} (N e : ℝ) (x : Fin n → EReal) : EReal := Ideal.div (∑ k, x k * x k) (N : EReal) + (e : EReal)

/-- The row's scale. -/
def scale {n : Nat} (N e : ℝ) (x : Fin n → EReal) : EReal := Ideal.rsqrt (var N e x)

theorem scale_real {n : Nat} {N e : ℝ} (hN : 0 < N) (he : 0 < e) (y : Fin n → ℝ) :
    ∃ v : ℝ, 0 < v ∧ var N e (fun k => (y k : EReal)) = (v : EReal)
      ∧ scale N e (fun k => (y k : EReal)) = (((Real.sqrt v)⁻¹ : ℝ) : EReal) := by
  have hv : var N e (fun k => (y k : EReal)) = (((∑ k, y k * y k) * (1 / N) + e : ℝ) : EReal) := by
    unfold var
    rw [Ideal.div_coe hN.ne', EReal.coe_add, EReal.coe_mul, ← coe_sum]
    simp only [EReal.coe_mul]
  have hpos : 0 < (∑ k, y k * y k) * (1 / N) + e := by
    have h1 : 0 ≤ ∑ k, y k * y k := Finset.sum_nonneg fun k _ => mul_self_nonneg _
    have h2 : 0 ≤ 1 / N := by positivity
    have := mul_nonneg h1 h2
    linarith
  refine ⟨_, hpos, hv, ?_⟩
  unfold scale
  rw [hv, Ideal.rsqrt_coe, if_neg (not_lt.2 hpos.le), if_neg hpos.ne']

theorem scale_infinite {n : Nat} {N e : ℝ} (hN : 0 < N) (x : Fin n → EReal) (k : Fin n) (hk : x k = ⊤ ∨ x k = ⊥) :
    var N e x = ⊤ ∧ scale N e x = 0 := by
  have ht : x k * x k = ⊤ := by rcases hk with h | h <;> rw [h] <;> rfl
  have hs : ∑ k, x k * x k = ⊤ := by
    refine le_antisymm le_top ?_
    rw [← ht]
    exact Finset.single_le_sum (f := fun k => x k * x k) (fun i _ => square_nonneg _) (Finset.mem_univ k)
  have hv : var N e x = ⊤ := by
    unfold var
    rw [hs, Ideal.div_coe hN.ne', EReal.top_mul_coe_of_pos (by positivity)]
    exact EReal.top_add_coe e
  exact ⟨hv, by unfold scale; rw [hv]; rfl⟩

/-- The two forms of the gradient at one entry of a row, added to what arrives past the normalisation. -/
theorem grad_eq {n : Nat} {N e : ℝ} (hN : 0 < N) (he : 0 < e) (x d : Fin n → EReal) (dh : EReal) (j : Fin n) :
    dh + scale N e x * (d j - x j * scale N e x * Ideal.div (∑ k, d k * (x k * scale N e x)) (N : EReal))
      = dh + d j * scale N e x
        + x j * Ideal.div ((∑ k, x k * d k) * (((-(1 / 2) : ℝ) : EReal) * Ideal.div (scale N e x) (var N e x))) (N : EReal)
        + Ideal.div ((∑ k, x k * d k) * (((-(1 / 2) : ℝ) : EReal) * Ideal.div (scale N e x) (var N e x))) (N : EReal) * x j := by
  by_cases hfin : ∃ k, x k = ⊤ ∨ x k = ⊥
  · obtain ⟨k, hk⟩ := hfin
    obtain ⟨hv, hr⟩ := scale_infinite (e := e) hN x k hk
    have h0 : Ideal.div 0 ⊤ = 0 := by
      rw [Ideal.div, if_neg (by decide)]
      simp
    have h1 : Ideal.div (0 : EReal) (N : EReal) = 0 := by rw [Ideal.div_coe hN.ne', zero_mul]
    simp only [hr, hv, h0, mul_zero, zero_mul, h1, add_zero]
  · obtain ⟨y, rfl⟩ : ∃ y : Fin n → ℝ, x = fun k => (y k : EReal) := by
      refine ⟨fun k => (x k).toReal, funext fun k => ?_⟩
      refine (EReal.coe_toReal (fun h => hfin ⟨k, Or.inl h⟩) (fun h => hfin ⟨k, Or.inr h⟩)).symm
    obtain ⟨v, hpos, hv, hr⟩ := scale_real hN he y
    set r : ℝ := (Real.sqrt v)⁻¹ with hrdef
    have hr0 : 0 ≤ r := inv_nonneg.2 (Real.sqrt_nonneg v)
    have hrr : r * r = 1 / v := by
      rw [hrdef, ← mul_inv, Real.mul_self_sqrt hpos.le, one_div]
    rw [hr, hv]
    set S : EReal := ∑ k, (y k : EReal) * d k with hS
    have hT : ∑ k, d k * ((y k : EReal) * (r : EReal)) = (r : EReal) * S := by
      rw [hS, real_mul_sum _ _ hr0]
      refine Finset.sum_congr rfl fun k _ => ?_
      rw [← mul_assoc, mul_comm, mul_comm (d k)]
    rw [hT, Ideal.div_coe hN.ne', Ideal.div_coe hN.ne', Ideal.div_coe hpos.ne', sub_eq_add_neg,
      EReal.left_distrib_of_nonneg_of_ne_top (by exact_mod_cast hr0) (EReal.coe_ne_top r)]
    have hL : (r : EReal) * -((y j : EReal) * (r : EReal) * ((r : EReal) * S * ((1 / N : ℝ) : EReal)))
        = ((-(y j * (r * (r * r)) * (1 / N)) : ℝ) : EReal) * S := by
      have e1 : (y j : EReal) * (r : EReal) * ((r : EReal) * S * ((1 / N : ℝ) : EReal))
          = ((y j * (r * r) * (1 / N) : ℝ) : EReal) * S := by
        simp only [EReal.coe_mul]
        ac_rfl
      rw [e1, mul_neg, ← mul_assoc, ← EReal.coe_mul, ← neg_mul, ← EReal.coe_neg]
      congr 2
      ring
    have hR : (y j : EReal) * (S * (((-(1 / 2) : ℝ) : EReal) * ((r : EReal) * ((1 / v : ℝ) : EReal))) * ((1 / N : ℝ) : EReal))
        = ((y j * (-(1 / 2) * (r * (r * r))) * (1 / N) : ℝ) : EReal) * S := by
      rw [hrr]
      simp only [EReal.coe_mul]
      ac_rfl
    rw [mul_comm _ (y j : EReal), hR, hL, mul_comm (d j), add_assoc, add_assoc, double]
    congr 4
    ring

/-- A sum over all the lanes, cut in two. -/
theorem sum_split {m n N : Nat} (h : m + n = N) (f : Fin N → EReal) :
    ∑ k, f k = (∑ k : Fin m, f ⟨k.val, by omega⟩) + ∑ k : Fin n, f ⟨m + k.val, by omega⟩ := by
  subst h
  exact Fin.sum_univ_add f

/-- A sum over the lanes from `o` on, cut in two after `m` lanes. -/
theorem sum_cut {N : Nat} (f : Fin N → EReal) (o m n p o' : Nat) (hp : m + n = p) (h : o + p ≤ N) (ho : o + m = o') :
    ∑ k : Fin p, f ⟨o + k.val, by omega⟩ = (∑ k : Fin m, f ⟨o + k.val, by omega⟩) + ∑ k : Fin n, f ⟨o' + k.val, by omega⟩ := by
  subst ho
  refine (sum_split hp _).trans (congrArg₂ (· + ·) rfl (Finset.sum_congr rfl fun k _ => ?_))
  exact congrArg f (Fin.ext (Nat.add_assoc o m k.val).symm)

end Cert.Rms

end
-- ==== Proof.InBwd.lean ====
/-
  The gradient through the input projection and the norm before it, as plain functions of the arrays: the four parts'
  gradients times the transposed weights, then the root-mean-square norm's gradient, row by row.
-/
module

public import proofs.«01_k».proof.Proof.Project
public import proofs.«01_k».proof.Proof.Rms

@[expose] public section

noncomputable section

namespace Cert.InBwd

open Idealize.ShloMosaic Cert.Project

/-- A row of an array. -/
def line (h : Arr 16640 1024) (r : Fin 16640) : Fin 1024 → EReal := fun k => h (ix2 r k)

/-- The row's scale `1/√(mean square + eps)`. -/
def scale (h : Arr 16640 1024) (r : Fin 16640) : EReal := Rms.scale 1024 Rms.eps (line h r)

/-- The gradient at the normed rows: each part's gradient times its columns of `w_in`, transposed. -/
def dhn (ug : Arr 16640 3072) (ua : Arr 16640 1536) (ub : Arr 16640 2048) (uc : Arr 16640 1280) (w : Arr 1024 7936)
    (r : Fin 16640) (j : Fin 1024) : EReal :=
  (∑ k : Fin 3072, ug (ix2 r k) * w (ix2 j (col 3072 4864 (by omega) k)))
    + (∑ k : Fin 1536, ua (ix2 r k) * w (ix2 j (col 1536 0 (by omega) k)))
    + (∑ k : Fin 2048, ub (ix2 r k) * w (ix2 j (col 2048 1536 (by omega) k)))
    + ∑ k : Fin 1280, uc (ix2 r k) * w (ix2 j (colC k))

/-- The gradient at the rows before the norm, from `dn` at the normed rows and `dh` past the layer. -/
def gradRow (dn : Fin 16640 → Fin 1024 → EReal) (h dh : Arr 16640 1024) (g : Arr 1 1024) (r : Fin 16640) (j : Fin 1024) : EReal :=
  dh (ix2 r j) + scale h r * (dn r j * g (ix2 0 j)
    - h (ix2 r j) * scale h r * Ideal.div (∑ k : Fin 1024, dn r k * g (ix2 0 k) * (h (ix2 r k) * scale h r)) ((1024 : ℝ) : EReal))

/-- The gradient of the norm's weights: a sum over the rows. -/
def gradG (dn : Fin 16640 → Fin 1024 → EReal) (h : Arr 16640 1024) (j : Fin 1024) : EReal :=
  ∑ r : Fin 16640, dn r j * (h (ix2 r j) * scale h r)

/-- The parts' gradients side by side, as the projection's columns lie. -/
def du (ug : Arr 16640 3072) (ua : Arr 16640 1536) (ub : Arr 16640 2048) (uc : Arr 16640 1280)
    (r : Fin 16640) (c : Fin 7936) : EReal :=
  if h1 : c.val < 1536 then ua (ix2 r ⟨c.val, h1⟩)
  else if h2 : c.val - 1536 < 2048 then ub (ix2 r ⟨c.val - 1536, h2⟩)
  else if h3 : c.val - 1536 - 2048 < 512 then uc (ix2 r ⟨c.val - 1536 - 2048, by omega⟩)
  else if h4 : c.val - 1536 - 2048 - 512 < 128 then uc (ix2 r ⟨1024 + (c.val - 1536 - 2048 - 512), by omega⟩)
  else if h5 : c.val - 1536 - 2048 - 512 - 128 < 128 then uc (ix2 r ⟨1152 + (c.val - 1536 - 2048 - 512 - 128), by omega⟩)
  else if h6 : c.val - 1536 - 2048 - 512 - 128 - 128 < 512 then uc (ix2 r ⟨512 + (c.val - 1536 - 2048 - 512 - 128 - 128), by omega⟩)
  else ug (ix2 r ⟨c.val - 1536 - 2048 - 512 - 128 - 128 - 512, by omega⟩)

section Parts

variable (ug : Arr 16640 3072) (ua : Arr 16640 1536) (ub : Arr 16640 2048) (uc : Arr 16640 1280) (r : Fin 16640)

theorem du_a (k : Fin 1536) : du ug ua ub uc r (col 1536 0 (by omega) k) = ua (ix2 r k) := by
  unfold du
  rw [dif_pos (by rw [col_val]; omega)]
  refine congrArg (fun x => ua (ix2 r x)) (Fin.ext ?_)
  rw [col_val]; exact Nat.zero_add _

theorem du_b (k : Fin 2048) : du ug ua ub uc r (⟨1536 + k.val, by omega⟩) = ub (ix2 r k) := by
  unfold du
  rw [dif_neg (by dsimp only; omega)]
  rw [dif_pos (by dsimp only; omega)]
  refine congrArg (fun x => ub (ix2 r x)) (Fin.ext ?_)
  dsimp only; omega

theorem du_q (k : Fin 512) : du ug ua ub uc r (⟨3584 + k.val, by omega⟩) = uc (ix2 r ⟨k.val, by omega⟩) := by
  unfold du
  rw [dif_neg (by dsimp only; omega)]
  rw [dif_neg (by dsimp only; omega)]
  rw [dif_pos (by dsimp only; omega)]
  refine congrArg (fun x => uc (ix2 r x)) (Fin.ext ?_)
  dsimp only; omega

theorem du_k (k : Fin 128) : du ug ua ub uc r (⟨4096 + k.val, by omega⟩) = uc (ix2 r ⟨1024 + k.val, by omega⟩) := by
  unfold du
  rw [dif_neg (by dsimp only; omega)]
  rw [dif_neg (by dsimp only; omega)]
  rw [dif_neg (by dsimp only; omega)]
  rw [dif_pos (by dsimp only; omega)]
  refine congrArg (fun x => uc (ix2 r x)) (Fin.ext ?_)
  dsimp only; omega

theorem du_v (k : Fin 128) : du ug ua ub uc r (⟨4224 + k.val, by omega⟩) = uc (ix2 r ⟨1152 + k.val, by omega⟩) := by
  unfold du
  rw [dif_neg (by dsimp only; omega)]
  rw [dif_neg (by dsimp only; omega)]
  rw [dif_neg (by dsimp only; omega)]
  rw [dif_neg (by dsimp only; omega)]
  rw [dif_pos (by dsimp only; omega)]
  refine congrArg (fun x => uc (ix2 r x)) (Fin.ext ?_)
  dsimp only; omega

theorem du_o (k : Fin 512) : du ug ua ub uc r (⟨4352 + k.val, by omega⟩) = uc (ix2 r ⟨512 + k.val, by omega⟩) := by
  unfold du
  rw [dif_neg (by dsimp only; omega)]
  rw [dif_neg (by dsimp only; omega)]
  rw [dif_neg (by dsimp only; omega)]
  rw [dif_neg (by dsimp only; omega)]
  rw [dif_neg (by dsimp only; omega)]
  rw [dif_pos (by dsimp only; omega)]
  refine congrArg (fun x => uc (ix2 r x)) (Fin.ext ?_)
  dsimp only; omega

theorem du_g (k : Fin 3072) : du ug ua ub uc r (⟨4864 + k.val, by omega⟩) = ug (ix2 r k) := by
  unfold du
  rw [dif_neg (by dsimp only; omega)]
  rw [dif_neg (by dsimp only; omega)]
  rw [dif_neg (by dsimp only; omega)]
  rw [dif_neg (by dsimp only; omega)]
  rw [dif_neg (by dsimp only; omega)]
  rw [dif_neg (by dsimp only; omega)]
  refine congrArg (fun x => ug (ix2 r x)) (Fin.ext ?_)
  dsimp only; omega

theorem colC_q (k : Fin 512) : colC ⟨k.val, by omega⟩ = ⟨3584 + k.val, by omega⟩ := by
  unfold colC
  rw [dif_pos (by dsimp only; omega)]

theorem colC_k (k : Fin 128) : colC ⟨1024 + k.val, by omega⟩ = ⟨4096 + k.val, by omega⟩ := by
  unfold colC
  rw [dif_neg (by dsimp only; omega), dif_neg (by dsimp only; omega)]
  exact Fin.ext (by dsimp only; omega)

theorem colC_v (k : Fin 128) : colC ⟨1152 + k.val, by omega⟩ = ⟨4224 + k.val, by omega⟩ := by
  unfold colC
  rw [dif_neg (by dsimp only; omega), dif_neg (by dsimp only; omega)]
  exact Fin.ext (by dsimp only; omega)

theorem colC_o (k : Fin 512) : colC ⟨512 + k.val, by omega⟩ = ⟨4352 + k.val, by omega⟩ := by
  unfold colC
  rw [dif_neg (by dsimp only; omega), dif_pos (by dsimp only; omega)]
  exact Fin.ext (by dsimp only; omega)

end Parts

/-- One product over all the columns is the four parts' products. -/
theorem dhn_eq (ug : Arr 16640 3072) (ua : Arr 16640 1536) (ub : Arr 16640 2048) (uc : Arr 16640 1280) (w : Arr 1024 7936)
    (r : Fin 16640) (j : Fin 1024) :
    ∑ c : Fin 7936, du ug ua ub uc r c * w (ix2 j c) = dhn ug ua ub uc w r j := by
  generalize hf : (fun c => du ug ua ub uc r c * w (ix2 j c)) = f
  have val : ∀ c : Fin 7936, du ug ua ub uc r c * w (ix2 j c) = f c := fun c => congrFun hf c
  have hL : ∑ c : Fin 7936, f c = _ := Rms.sum_split (m := 1536) (n := 6400) (by norm_num) f
  rw [Rms.sum_cut f 1536 2048 4352 6400 3584 (by norm_num) (by norm_num) (by norm_num),
    Rms.sum_cut f 3584 512 3840 4352 4096 (by norm_num) (by norm_num) (by norm_num),
    Rms.sum_cut f 4096 128 3712 3840 4224 (by norm_num) (by norm_num) (by norm_num),
    Rms.sum_cut f 4224 128 3584 3712 4352 (by norm_num) (by norm_num) (by norm_num),
    Rms.sum_cut f 4352 512 3072 3584 4864 (by norm_num) (by norm_num) (by norm_num)] at hL
  obtain ⟨fc, hfc⟩ : ∃ fc : Fin 1280 → EReal, ∀ k, uc (ix2 r k) * w (ix2 j (colC k)) = fc k := ⟨_, fun _ => rfl⟩
  have hC : ∑ k : Fin 1280, fc k = _ := Rms.sum_split (m := 512) (n := 768) (by norm_num) fc
  rw [Rms.sum_cut fc 512 512 256 768 1024 (by norm_num) (by norm_num) (by norm_num),
    Rms.sum_cut fc 1024 128 128 256 1152 (by norm_num) (by norm_num) (by norm_num)] at hC
  have piece : ∀ {n : Nat} {f g : Fin n → EReal}, (∀ k, f k = g k) → ∑ k, f k = ∑ k, g k :=
    fun h => Finset.sum_congr rfl fun k _ => h k
  have pa : ∀ k : Fin 1536, f ⟨k.val, by omega⟩ = ua (ix2 r k) * w (ix2 j (col 1536 0 (by omega) k)) := fun k => by
    rw [← val, show (⟨k.val, by omega⟩ : Fin 7936) = col 1536 0 (by omega) k from Fin.ext (Nat.zero_add _).symm]
    exact congrArg (· * _) (du_a ug ua ub uc r k)
  have pb : ∀ k : Fin 2048, f ⟨1536 + k.val, by omega⟩ = ub (ix2 r k) * w (ix2 j (col 2048 1536 (by omega) k)) := fun k => by
    rw [← val]
    exact congrArg (· * _) (du_b ug ua ub uc r k)
  have pg : ∀ k : Fin 3072, f ⟨4864 + k.val, by omega⟩ = ug (ix2 r k) * w (ix2 j (col 3072 4864 (by omega) k)) := fun k => by
    rw [← val]
    exact congrArg (· * _) (du_g ug ua ub uc r k)
  have part_c : ∀ (c : Fin 7936) (k : Fin 1280), colC k = c → du ug ua ub uc r c = uc (ix2 r k) → f c = fc k := fun c k h h' => by
    rw [← val, ← hfc, h, h']
  rw [hL, piece pa, piece pb, piece pg]
  unfold dhn
  rw [piece hfc, hC]
  rw [piece fun k : Fin 512 => part_c ⟨3584 + k.val, by omega⟩ ⟨k.val, by omega⟩ (colC_q k) (du_q ug ua ub uc r k),
    piece fun k : Fin 128 => part_c ⟨4096 + k.val, by omega⟩ ⟨1024 + k.val, by omega⟩ (colC_k k) (du_k ug ua ub uc r k),
    piece fun k : Fin 128 => part_c ⟨4224 + k.val, by omega⟩ ⟨1152 + k.val, by omega⟩ (colC_v k) (du_v ug ua ub uc r k),
    piece fun k : Fin 512 => part_c ⟨4352 + k.val, by omega⟩ ⟨512 + k.val, by omega⟩ (colC_o k) (du_o ug ua ub uc r k)]
  generalize (∑ k : Fin 3072, _ : EReal) = G, (∑ k : Fin 1536, _ : EReal) = A, (∑ k : Fin 2048, _ : EReal) = B
  abel

end Cert.InBwd

end
-- ==== Proof.InBwdValue.lean ====
/-
  What the kernel of the gradient through the input projection and the norm leaves in its two results: the gradient at the
  rows before the norm, and the gradient of the norm's weights, which its grid points sum.
-/
module

public import proofs.«01_k».proof.Proof.Gen.Kernel2Ideal.Value
public import proofs.«01_k».proof.Proof.InBwd
public import Idealize.ShloMosaic.Lib.Pipeline.ReadBack

@[expose] public section

set_option maxRecDepth 16384

noncomputable section

namespace Cert.InBwd

open Cert.Kernel2Ideal Cert.Kernel2Ideal.Gen Idealize.ShloMosaic Idealize.ShloMosaic.TcCoe Idealize.SL.Sem Cert.Project
open Idealize.ShloMosaic.Pipeline (Dat)

variable (m : (ℓ : Loc nD τ sig) → Buf (Elt Ideal) ℓ)

/-- Which block each window holds at a grid point: the rows' windows move with the point, the weights stay. -/
theorem idx : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![0, 0]
    ∧ win0_11.index t = ![t.val, 0] ∧ win0_12.index t = ![0, 0] := by decide +kernel

/-- The argument arrays of device `c`. -/
abbrev aDug (c : Dev nD) : Arr 16640 3072 := m ((c : Thread nD τ).loc main_arg0)
abbrev aDua (c : Dev nD) : Arr 16640 1536 := m ((c : Thread nD τ).loc main_arg1)
abbrev aDub (c : Dev nD) : Arr 16640 2048 := m ((c : Thread nD τ).loc main_arg2)
abbrev aDuc (c : Dev nD) : Arr 16640 1280 := m ((c : Thread nD τ).loc main_arg3)
abbrev aW (c : Dev nD) : Arr 1024 7936 := m ((c : Thread nD τ).loc main_arg4)
abbrev aH (c : Dev nD) : Arr 16640 1024 := m ((c : Thread nD τ).loc main_arg5)
abbrev aDh (c : Dev nD) : Arr 16640 1024 := m ((c : Thread nD τ).loc main_arg6)
abbrev aG (c : Dev nD) : Arr 1 1024 := m ((c : Thread nD τ).loc main_arg7)

/-- The gradient at the normed rows of device `c`. -/
def dn (c : Dev nD) : Fin 16640 → Fin 1024 → EReal := dhn (aDug m c) (aDua m c) (aDub m c) (aDuc m c) (aW m c)

/-- Row `a` of grid point `t`'s block, as a row of the array. -/
def row (t : Fin cfg0.N) (a : Fin 320) : Fin 16640 := ⟨t.val * 320 + a.val, by
  have h : t.val < 52 := t.isLt
  omega⟩

theorem row_val (t : Fin cfg0.N) (a : Fin 320) : (row t a).val = t.val * 320 + a.val := rfl

/-- Each input window's block at a point, read at an index, is its array read at the place of the block. -/
theorem read0 (c : Dev nD) (t : Fin cfg0.N) (a : Fin 320) (b : Fin 3072) :
    (iblk m c 0 t (ix2 a b) : EReal) = aDug m c (ix2 (row t a) b) := by
  blk_ext [iblk, V, idx t, row_val]
theorem read1 (c : Dev nD) (t : Fin cfg0.N) (a : Fin 320) (b : Fin 1536) :
    (iblk m c 1 t (ix2 a b) : EReal) = aDua m c (ix2 (row t a) b) := by
  blk_ext [iblk, V, idx t, row_val]
theorem read2 (c : Dev nD) (t : Fin cfg0.N) (a : Fin 320) (b : Fin 2048) :
    (iblk m c 2 t (ix2 a b) : EReal) = aDub m c (ix2 (row t a) b) := by
  blk_ext [iblk, V, idx t, row_val]
theorem read3 (c : Dev nD) (t : Fin cfg0.N) (a : Fin 320) (b : Fin 1280) :
    (iblk m c 3 t (ix2 a b) : EReal) = aDuc m c (ix2 (row t a) b) := by
  blk_ext [iblk, V, idx t, row_val]
theorem read8 (c : Dev nD) (t : Fin cfg0.N) (a : Fin 320) (b : Fin 1024) :
    (iblk m c 8 t (ix2 a b) : EReal) = aH m c (ix2 (row t a) b) := by
  blk_ext [iblk, V, idx t, row_val]
theorem read9 (c : Dev nD) (t : Fin cfg0.N) (a : Fin 320) (b : Fin 1024) :
    (iblk m c 9 t (ix2 a b) : EReal) = aDh m c (ix2 (row t a) b) := by
  blk_ext [iblk, V, idx t, row_val]
theorem read10 (c : Dev nD) (t : Fin cfg0.N) (a : Fin 1) (b : Fin 1024) :
    (iblk m c 10 t (ix2 a b) : EReal) = aG m c (ix2 a b) := by
  blk_ext [iblk, V, idx t]
/-- What the host leaves the kernel of the attention's weights: rows of the transposed `w_in`. -/
theorem V_w (c : Dev nD) : V m c main_v7 = concatenate S1280x1024 0
    [⟨S512x1024, extractStridedSlice S512x1024 ![3584, 0] (truncf (F := Ideal) .bf16 (transpose S7936x1024 [1, 0] (m ((c : Thread nD τ).loc main_arg4)) transposes_S1024x7936_S7936x1024_1_0) bitsLt_bf16_f32) slices_S7936x1024_S512x1024_3584_0⟩,
     ⟨S512x1024, extractStridedSlice S512x1024 ![4352, 0] (truncf (F := Ideal) .bf16 (transpose S7936x1024 [1, 0] (m ((c : Thread nD τ).loc main_arg4)) transposes_S1024x7936_S7936x1024_1_0) bitsLt_bf16_f32) slices_S7936x1024_S512x1024_4352_0⟩,
     ⟨S256x1024, extractStridedSlice S256x1024 ![4096, 0] (truncf (F := Ideal) .bf16 (transpose S7936x1024 [1, 0] (m ((c : Thread nD τ).loc main_arg4)) transposes_S1024x7936_S7936x1024_1_0) bitsLt_bf16_f32) slices_S7936x1024_S256x1024_4096_0⟩]
    concatenates_S512x1024_S512x1024_S256x1024_S1280x1024_d0 := by
  rfl

/-- Its entries. -/
theorem w_at (c : Dev nD) (b : Fin 1280) (k : Fin 1024) :
    (show FVec Ideal S1280x1024 .bf16 from V m c main_v7) (ix2 b k) = aW m c (ix2 k (colC b)) := by
  rw [V_w]
  pointwise []
  unfold colC
  by_cases h1 : b.val < 512
  · rw [dif_pos h1, dif_pos h1]
  · by_cases h2 : b.val - 512 < 512
    · rw [dif_neg h1, dif_neg h1, dif_pos h2, dif_pos (by omega)]
    · rw [dif_neg h1, dif_neg h1, dif_neg h2, dif_neg (by omega)]
      exact congrArg (fun x : Fin 7936 => aW m c (ix2 k x)) (Fin.ext (by dsimp only; omega))

/-- The weights' blocks, read at an index: the host transposes `w_in` and takes each part's rows. -/
theorem read4 (c : Dev nD) (t : Fin cfg0.N) (b : Fin 3072) (k : Fin 1024) :
    (iblk m c 4 t (ix2 b k) : EReal) = aW m c (ix2 k (col 3072 4864 (by omega) b)) := by
  blk_simp [iblk]
  entry_read
  pointwise [col]
  blk_point [idx t]
theorem read5 (c : Dev nD) (t : Fin cfg0.N) (b : Fin 1536) (k : Fin 1024) :
    (iblk m c 5 t (ix2 b k) : EReal) = aW m c (ix2 k (col 1536 0 (by omega) b)) := by
  blk_simp [iblk]
  entry_read
  pointwise [col]
  blk_point [idx t]
theorem read6 (c : Dev nD) (t : Fin cfg0.N) (b : Fin 2048) (k : Fin 1024) :
    (iblk m c 6 t (ix2 b k) : EReal) = aW m c (ix2 k (col 2048 1536 (by omega) b)) := by
  blk_simp [iblk]
  entry_read
  pointwise [col]
  blk_point [idx t]
theorem read7 (c : Dev nD) (t : Fin cfg0.N) (b : Fin 1280) (k : Fin 1024) :
    (iblk m c 7 t (ix2 b k) : EReal) = aW m c (ix2 k (colC b)) := by
  blk_simp [iblk]
  have e : ((cfg0.win 7).blk t).view.emb (ix2 b k : S1280x1024.Idx) = (ix2 b k : S1280x1024.Idx) := by blk_ext [idx t]
  exact (congrArg (show FVec Ideal S1280x1024 .bf16 from V m c main_v7) e).trans (w_at m c b k)

/-- What a grid point computes of its rows: the gradient at the normed rows, -/
theorem dn_at (c : Dev nD) (t : Fin cfg0.N) (a : Fin 320) (b : Fin 1024) :
    k0_pay5 (F := Ideal) (iblk m c 0 t) (iblk m c 4 t) (iblk m c 1 t) (iblk m c 5 t) (iblk m c 2 t) (iblk m c 6 t) (iblk m c 3 t)
      (iblk m c 7 t) (ix2 a b) = dn m c (row t a) b := by
  pointwise [k0_pay5, dn, dhn, read0, read1, read2, read3, read4, read5, read6, read7]

/-- the rows' scales, -/
theorem scale_at (c : Dev nD) (t : Fin cfg0.N) (a : Fin 320) (b : Fin 1) :
    k0_pay6 (F := Ideal) (iblk m c 8 t) (ix2 a b) = scale (aH m c) (row t a) := by
  pointwise [k0_pay6, scale, Rms.scale, Rms.var, line, read8]
  rw [Rms.ofBits_len, Rms.ofBits_eps]

/-- the gradient at the rows before the norm, -/
theorem row_at (c : Dev nD) (t : Fin cfg0.N) (a : Fin 320) (b : Fin 1024) :
    k0_pay3 (F := Ideal) (k0_pay5 (F := Ideal) (iblk m c 0 t) (iblk m c 4 t) (iblk m c 1 t) (iblk m c 5 t) (iblk m c 2 t)
      (iblk m c 6 t) (iblk m c 3 t) (iblk m c 7 t)) (iblk m c 8 t) (k0_pay6 (F := Ideal) (iblk m c 8 t)) (iblk m c 10 t) (iblk m c 9 t) (ix2 a b)
      = gradRow (dn m c) (aH m c) (aDh m c) (aG m c) (row t a) b := by
  pointwise [k0_pay3, k0_pay1, gradRow, dn_at, scale_at, read8, read9, read10]
  rw [Rms.ofBits_len]

/-- and its rows' part of the gradient of the norm's weights, added to what it finds. -/
theorem part_at (c : Dev nD) (t : Fin cfg0.N) (acc : Vec Ideal S1x1024 .f32) (a : Fin 1) (b : Fin 1024) :
    k0_pay2 (F := Ideal) (k0_pay5 (F := Ideal) (iblk m c 0 t) (iblk m c 4 t) (iblk m c 1 t) (iblk m c 5 t) (iblk m c 2 t)
      (iblk m c 6 t) (iblk m c 3 t) (iblk m c 7 t)) (iblk m c 8 t) (k0_pay6 (F := Ideal) (iblk m c 8 t)) acc (ix2 a b)
      = acc (ix2 a b) + ∑ r : Fin 320, dn m c (row t r) b * (aH m c (ix2 (row t r) b) * scale (aH m c) (row t r)) := by
  pointwise [k0_pay2, k0_pay1, dn_at, scale_at, read8]

/-- Where an element of the first result's block lies in the array. -/
theorem place11 (t : Fin cfg0.N) (y : S320x1024.Idx) :
    ((cfg0.win 11).blk t).view.emb y = ix2 (row t (y 0)) (y 1) := by
  blk_ext [idx t]
  exact (row_val t _).symm

/-- The gradient at the rows before the norm. -/
theorem final11 (c : Dev nD) : (dats m 0 c).arrAt 11 cfg0.N =
    fun i : S16640x1024.Idx => gradRow (dn m c) (aH m c) (aDh m c) (aG m c) (i 0) (i 1) := by
  refine (dats m 0 c).arrAt_eq_of_covers 11 _ (by decide +kernel) fun t hf y => ?_
  rw [place11]
  blk_simp
  rw [after0_11]
  by_cases h0 : t.val % 52 = 0
  · rw [outsAt0_A m c t h0]
    frame_out
    idx_vars y
    exact row_at m c t _ _
  · rw [outsAt0_B m c t h0]
    frame_out
    idx_vars y
    exact row_at m c t _ _

/-- Where an element of the second result's block lies: every point holds the whole array. -/
theorem place12 (t : Fin cfg0.N) (y : S8x1024.Idx) : ((cfg0.win 12).blk t).view.emb y = y := by
  blk_ext [idx t]

/-- A grid point's rows' part of the gradient of the norm's weights. -/
def term (c : Dev nD) (p : Fin cfg0.N) (j : S8x1024.Idx) : EReal :=
  if (j 0).val < 1 then ∑ r : Fin 320, dn m c (row p r) (j 1) * (aH m c (ix2 (row p r) (j 1)) * scale (aH m c) (row p r)) else 0

theorem term_at (c : Dev nD) (p : Fin cfg0.N) (a : Fin 8) (b : Fin 1024) : term m c p (ix2 a b)
    = if a.val < 1 then ∑ r : Fin 320, dn m c (row p r) b * (aH m c (ix2 (row p r) b) * scale (aH m c) (row p r)) else 0 := rfl

/-- An entry of the first row lies in the rectangle that the points store; an entry of another row doesn't. -/
theorem emb_row (b : Fin 1024) : (ix2 (0 : Fin 8) b : S8x1024.Idx)
    = (Rect.unit (s := S8x1024) ![0, 0] S1x1024.size inb_S8x1024_S1x1024_0_0).emb (ix2 (0 : Fin 1) b : S1x1024.Idx) := by
  blk_ext

theorem not_mem_row (a : Fin 8) (b : Fin 1024) (h : ¬a.val < 1) :
    (ix2 a b : S8x1024.Idx) ∉ (Rect.unit (s := S8x1024) ![0, 0] S1x1024.size inb_S8x1024_S1x1024_0_0).set := by
  rw [Rect.mem_set_unit]
  intro hm
  exact h (hm 0).2

/-- The first point fills the block with zeros and adds its part to the first row. -/
theorem first (c : Dev nD) (t : Fin cfg0.N) (h : t.val % 52 = 0) (j : S8x1024.Idx) :
    (outsAt0 m c t.val t.isLt).2 j = 0 + term m c t j := by
  rw [outsAt0_A m c t h]
  frame_out
  idx_vars j
  rw [term_at]
  by_cases h0 : j0.val < 1
  · obtain rfl : j0 = 0 := Fin.ext (by omega)
    rw [if_pos h0]
    refine (congrArg (View.canon _) (emb_row j1)).trans ((View.canon_cons_emb _ _ _ _).trans ((part_at m c t _ 0 j1).trans ?_))
    refine congrArg (fun x : EReal => x + _) ?_
    rw [View.readCov_fill _ _ _ _ _ (by decide)]
    pointwise [k0_pay4]
  · rw [if_neg h0, add_zero]
    refine (View.canon_cons_of_not_mem _ _ (not_mem_row j0 j1 h0)).trans ?_
    rw [View.canon_cons_unit_lit _ _ _ (by decide)]
    pointwise [k0_pay4]

/-- Every other point adds its part to the first row of what it finds. -/
theorem next (c : Dev nD) (t : Fin cfg0.N) (h : ¬t.val % 52 = 0) (j : S8x1024.Idx) :
    (outsAt0 m c t.val t.isLt).2 j
      = (outsAt0 m c (t.val - 1) (Nat.lt_of_le_of_lt (Nat.sub_le _ _) t.isLt)).2 j + term m c t j := by
  rw [outsAt0_B m c t h]
  frame_out
  generalize (outsAt0 m c (t.val - 1) (Nat.lt_of_le_of_lt (Nat.sub_le _ _) t.isLt)).2 = X
  idx_vars j
  rw [term_at]
  by_cases h0 : j0.val < 1
  · obtain rfl : j0 = 0 := Fin.ext (by omega)
    rw [if_pos h0]
    refine (congrArg (View.read _ _ _) (emb_row j1)).trans ((View.read_writes_cons_emb ..).trans ((part_at m c t _ 0 j1).trans ?_))
    refine congrArg (fun x : EReal => x + _) ?_
    exact congrArg X (emb_row j1).symm
  · rw [if_neg h0, add_zero]
    refine (View.read_writes_apply_of_forall_not_mem _ _ _ _ (fun p hp => by rw [List.mem_singleton.mp hp]; exact not_mem_row j0 j1 h0)).trans ?_
    rw [Memref.IsWhole.read_unread]

/-- The gradient of the norm's weights, in the first of the result's eight rows; the others stay zero. -/
theorem final12 (c : Dev nD) : (dats m 0 c).arrAt 12 cfg0.N =
    fun i : S8x1024.Idx => if (i 0).val < 1 then gradG (dn m c) (aH m c) (i 1) else 0 := by
  refine (dats m 0 c).arrAt_eq_of_covers 12 _ (by decide +kernel) fun t hf y => ?_
  rw [place12]
  blk_simp
  rw [after0_12, Pipeline.eq_sum_fin_of_reset_step_apply_of_flush (fun n h => (outsAt0 m c n h).2) 52 (fun _ => (0 : EReal))
    (term m c) (fun t h j => first m c t h j) (fun t h j => next m c t h j) t ((flush0_12 t).mp hf) _, zero_add]
  unfold term gradG
  by_cases h0 : (y 0).val < 1
  · simp only [if_pos h0]
    refine Fin.sum_mul_add_congr fun s r hl => ?_
    have e : row ⟨_, Pipeline.run_point_lt_of_flush t ((flush0_12 t).mp hf) s⟩ r = ⟨s.val * 320 + r.val, hl⟩ := by
      refine Fin.ext ?_
      rw [row_val]
      have h : t.val < 52 := t.isLt
      dsimp only
      omega
    exact congrArg (fun q => dn m c q (y 1) * (aH m c (ix2 q (y 1)) * scale (aH m c) q)) e
  · simp only [if_neg h0]
    show (∑ _s : Fin 52, (0 : EReal)) = 0
    exact Finset.sum_const_zero

end Cert.InBwd

end
-- ==== Proof.InBwdRef.lean ====
/-
  The gradient of the input projection and of the norm before it: what the reference computes, stage by stage. It lays the
  parts' gradients side by side, multiplies by `w_in` transposed, and differentiates the norm by the chain rule.
-/
module

public import proofs.«01_k».proof.Proof.Gen.Reference2Ideal.Read
public import proofs.«01_k».proof.Proof.InBwd

@[expose] public section

set_option maxRecDepth 16384

noncomputable section

namespace Cert.InBwd

open Idealize.ShloMosaic Idealize.ShloMosaic.TcCoe Cert.Project
open Cert.Reference2Ideal Cert.Reference2Ideal.Gen Cert.Reference2Ideal.Read

/-- The parts' gradients side by side. -/
theorem ref_du (ug : Arr 16640 3072) (ua : Arr 16640 1536) (ub : Arr 16640 2048) (uc : Arr 16640 1280) (r : Fin 16640) (k : Fin 7936) :
    val_main_v32 (F := Ideal) ug ua ub uc (ix2 r k) = du ug ua ub uc r k := by
  pointwise [val_main_v32, val_main_v24, val_main_v29, val_main_v27, val_main_v31, val_main_v30, val_main_v28, val_main_v26, val_main_v25]
  rfl

/-- The gradient at the normed rows. -/
theorem ref_dhn (ug : Arr 16640 3072) (ua : Arr 16640 1536) (ub : Arr 16640 2048) (uc : Arr 16640 1280) (w : Arr 1024 7936) (r : Fin 16640) (j : Fin 1024) :
    val_main_v33 (F := Ideal) ug ua ub uc w (ix2 r j) = dhn ug ua ub uc w r j := by
  rw [← dhn_eq]
  pointwise [val_main_v33, ref_du]

/-- The rows' scales. -/
theorem ref_scale (h : Arr 16640 1024) (r : Fin 16640) (a : Fin 1) :
    val_main_v7 (F := Ideal) h (ix2 r a) = scale h r := by
  pointwise [val_main_v7, val_main_v6, val_main_v5, val_main_cst_1, val_main_v4, val_main_v3, val_main_cst_0, val_main_v2, val_main_v1, val_main_cst, val_main_v0, scale, Rms.scale, Rms.var, line]
  rw [Rms.ofBits_len, Rms.ofBits_eps]

/-- The scales' derivative, as the chain rule leaves it. -/
theorem ref_slope (h : Arr 16640 1024) (r : Fin 16640) (a : Fin 1) :
    val_main_v10 (F := Ideal) h (ix2 r a)
      = ((-(1 / 2) : ℝ) : EReal) * Ideal.div (scale h r) (Rms.var 1024 Rms.eps (line h r)) := by
  pointwise [val_main_v10, val_main_v8, val_main_v6, val_main_v5, val_main_cst_1, val_main_v4, val_main_v3, val_main_cst_0, val_main_v2, val_main_v1, val_main_cst, val_main_v0, val_main_v9, val_main_cst_2, ref_scale, Rms.var, line]
  rw [Rms.ofBits_len, Rms.ofBits_eps, Rms.ofBits_half]

/-- The gradient at the rows before the norm. -/
theorem ref_row (ug : Arr 16640 3072) (ua : Arr 16640 1536) (ub : Arr 16640 2048) (uc : Arr 16640 1280) (w : Arr 1024 7936) (h dh : Arr 16640 1024) (g : Arr 1 1024) :
    val_main_v53 (F := Ideal) ug ua ub uc w h dh g
      = fun i : S16640x1024.Idx => gradRow (dhn ug ua ub uc w) h dh g (i 0) (i 1) := by
  funext i
  idx_vars i
  pointwise [val_main_v53, val_main_v52, val_main_v49, val_main_v48, val_main_cst_6, val_main_v47, val_main_v46, val_main_cst_5, val_main_v45, val_main_v41, val_main_v40, val_main_cst_4, val_main_v39, val_main_v38, val_main_v37, val_main_v51, val_main_v50, val_main_v44, val_main_v43, val_main_v42, ref_scale, ref_slope, ref_dhn]
  rw [Rms.ofBits_len]
  simp only [Fin.sum_univ_one]
  exact (Rms.grad_eq (N := 1024) (e := Rms.eps) (by norm_num) (by norm_num) (line h i0) (fun k => dhn ug ua ub uc w i0 k * g (ix2 0 k)) (dh (ix2 i0 i1)) i1).symm

/-- The gradient of the norm's weights. -/
theorem ref_weights (ug : Arr 16640 3072) (ua : Arr 16640 1536) (ub : Arr 16640 2048) (uc : Arr 16640 1280) (w : Arr 1024 7936) (h : Arr 16640 1024) :
    val_main_v54 (F := Ideal) ug ua ub uc w h
      = fun i : S8x1024.Idx => if (i 0).val < 1 then gradG (dhn ug ua ub uc w) h (i 1) else 0 := by
  funext i
  idx_vars i
  pointwise [val_main_v54, val_main_call0_v0, val_main_c, val_main_v36, val_main_v35, val_main_cst_3, val_main_v34, val_main_v12, val_main_v11, ref_scale, ref_dhn, gradG]
  have hz : FloatOps.sitofp (F := Ideal) FTy.f32 0#32 = (0 : EReal) := by
    show (((0#32 : BitVec 32).toInt : ℝ) : EReal) = 0
    simp
  rw [hz]
  by_cases h0 : i0.val < 1
  · rw [dif_pos h0, if_pos h0]
    exact Finset.sum_congr rfl fun r _ => mul_comm _ _
  · rw [dif_neg h0, if_neg h0]

end Cert.InBwd

end
-- ==== Proof.ClaimInBwd.lean ====
/-
  The gradient of the input projection and of the norm before it: its claims.
-/
module

public import proofs.«01_k».proof.Defs
public import proofs.«01_k».proof.Proof.Gen.Reference2Ideal.Run
public import proofs.«01_k».proof.Proof.InBwdValue
public import proofs.«01_k».proof.Proof.InBwdRef
public import Idealize.ShloMosaic.Lib.Quiescent

@[expose] public section

set_option maxRecDepth 16384

noncomputable section

namespace Cert.InBwd

open Idealize.ShloMosaic Idealize.ShloMosaic.TcCoe Idealize.SL.Sem

/-- The reference runs on the host alone: it ends with its arguments unchanged and no semaphore moved. -/
theorem frame_reference : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

/-- The kernel's result arrays are the reference's, from arguments that agree. -/
theorem algebraic : Cert.algebraic_Kernel2Ideal_Reference2Ideal := by
  intro m ρ m' ρ' _ hagree
  refine ⟨fun c => (Cert.Kernel2Ideal.Gen.dats m 0 c).arrAt 11 Cert.Kernel2Ideal.cfg0.N, fun c => (Cert.Kernel2Ideal.Gen.dats m 0 c).arrAt 12 Cert.Kernel2Ideal.cfg0.N, ?_, ?_⟩
  · exact Cert.Kernel2Ideal.Value.run_blocks m ρ
  · refine (θ_run Cert.Reference2Ideal.defs _ _).mono (fun _ h c => ?_) (Cert.Reference2Ideal.Value.run (F := Ideal) m' ρ')
    obtain ⟨e0, e1, e2, e3, e4, e5, e6, e7⟩ := hagree c
    obtain ⟨r0, r1, keep⟩ := h c
    refine ⟨r0.trans ?_, r1.trans ?_, keep⟩
    · refine (Cert.Reference2Ideal.Read.val_main_v53_eq m' c).trans ((ref_row _ _ _ _ _ _ _ _).trans ?_)
      simp only [e0, e1, e2, e3, e4, e5, e6, e7]
      exact (final11 m c).symm
    · refine (Cert.Reference2Ideal.Read.val_main_v54_eq _ _ _ _ _ _).trans ((ref_weights _ _ _ _ _ _).trans ?_)
      simp only [e0, e1, e2, e3, e4, e5, e6, e7]
      exact (final12 m c).symm

end Cert.InBwd

end
-- ==== Proof.ProjectGradG.lean ====
/-
  The gradient of the gate's part of the input projection's weights: what the kernel leaves in its result, and what the reference computes.
-/
module

public import proofs.«01_k».proof.Proof.Gen.Kernel3Ideal.Value
public import proofs.«01_k».proof.Proof.Gen.Reference3Ideal.Read
public import proofs.«01_k».proof.Proof.Project

@[expose] public section

set_option maxRecDepth 16384

noncomputable section

namespace Cert.Project.GradG

open Idealize.ShloMosaic Idealize.ShloMosaic.TcCoe Idealize.SL.Sem Cert.Project
open Idealize.ShloMosaic.Pipeline (Dat)

section Kernel

open Cert.Kernel3Ideal Cert.Kernel3Ideal.Gen

variable (m : (ℓ : Loc nD τ sig) → Buf (Elt Ideal) ℓ)

/-- Which block each window holds at a grid point. -/
theorem idx : ∀ t : Fin grid0.N, win0_0.index t = ![t.val % 13, t.val / 13] ∧ win0_1.index t = ![t.val % 13, 0]
    ∧ win0_2.index t = ![t.val / 13, 0] := by decide +kernel

/-- The argument arrays of device `c`. -/
abbrev aDu (c : Dev nD) : Arr 16640 3072 := m ((c : Thread nD τ).loc main_arg0)
abbrev aHn (c : Dev nD) : Arr 16640 1024 := m ((c : Thread nD τ).loc main_arg1)

/-- A block's product, read at an index. -/
theorem part (x0 : Vec Ideal S1280x1536 .bf16) (x1 : Vec Ideal S1280x1024 .bf16) (j : S1536x1024.Idx) :
    k0_pay1 (F := Ideal) x0 x1 j = ∑ r : Fin 1280, x0 (ix2 r (j 0)) * x1 (ix2 r (j 1)) := by
  idx_vars j
  pointwise [k0_pay1]

/-- What a later point leaves: what it finds plus its block's product. -/
theorem step (x0 : Vec Ideal S1280x1536 .bf16) (x1 : Vec Ideal S1280x1024 .bf16) (acc : Vec Ideal S1536x1024 .f32) (j : S1536x1024.Idx) :
    k0_pay2 (F := Ideal) x0 x1 acc j = acc j + ∑ r : Fin 1280, x0 (ix2 r (j 0)) * x1 (ix2 r (j 1)) := by
  idx_vars j
  pointwise [k0_pay2, k0_pay1]

/-- The result array after the kernel. -/
theorem final (c : Dev nD) : (dats m 0 c).arrAt 2 cfg0.N =
    fun i : S3072x1024.Idx => wgrad (aDu m c) (aHn m c) (i 0) (i 1) := by
  refine (dats m 0 c).arrAt_eq_of_covers 2 _ (by decide +kernel) fun t hf y => ?_
  blk_simp
  rw [after0_2, Pipeline.eq_sum_fin_of_reset_step_apply_of_flush (fun n h => outsAt0 m c n h) 13 (fun _ => (0 : EReal))
    (fun p j => ∑ r : Fin 1280, (show FVec Ideal S1280x1536 .bf16 from iblk m c 0 p) (ix2 r (j 0)) * (show FVec Ideal S1280x1024 .bf16 from iblk m c 1 p) (ix2 r (j 1)))
    (fun t h j => by
      rw [outsAt0_A m c t h (by omega)]
      frame_out
      rw [part]
      exact (zero_add _).symm)
    (fun t h j => by
      rw [outsAt0_B m c t h (by omega)]
      frame_out
      rw [step])
    t ((flush0_2 t).mp hf) _, zero_add]
  unfold wgrad
  refine Fin.sum_mul_add_congr fun s r hl => ?_
  blk_point [iblk, V, idx t, idx ⟨_, Pipeline.run_point_lt_of_flush t ((flush0_2 t).mp hf) s⟩]

end Kernel

section Reference

open Cert.Reference3Ideal Cert.Reference3Ideal.Gen Cert.Reference3Ideal.Read

/-- The reference's result. -/
theorem ref (du : Arr 16640 3072) (hn : Arr 16640 1024) :
    val_main_v7 (F := Ideal) du hn = fun i : S3072x1024.Idx => wgrad du hn (i 0) (i 1) := by
  funext i
  idx_vars i
  pointwise [wgrad, val_main_v7, val_main_v6, val_main_v5, val_main_v1, val_main_v4]

end Reference

end Cert.Project.GradG

end
-- ==== Proof.ClaimGradG.lean ====
/-
  The gradient of the gate's columns of the input projection's weights: its claims.
-/
module

public import proofs.«01_k».proof.Defs
public import proofs.«01_k».proof.Proof.Gen.Reference3Ideal.Run
public import proofs.«01_k».proof.Proof.ProjectGradG
public import Idealize.ShloMosaic.Lib.Quiescent

@[expose] public section

set_option maxRecDepth 16384

noncomputable section

namespace Cert.Project.GradG

open Idealize.ShloMosaic Idealize.ShloMosaic.TcCoe Idealize.SL.Sem

/-- The reference runs on the host alone: it ends with its arguments unchanged and no semaphore moved. -/
theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The kernel's result arrays are the reference's, from arguments that agree. -/
theorem algebraic : Cert.algebraic_Kernel3Ideal_Reference3Ideal := by
  intro m ρ m' ρ' _ hagree
  refine ⟨fun c => (Cert.Kernel3Ideal.Gen.dats m 0 c).arrAt 2 Cert.Kernel3Ideal.cfg0.N, ?_, ?_⟩
  · exact Cert.Kernel3Ideal.Value.run_blocks m ρ
  · refine (θ_run Cert.Reference3Ideal.defs _ _).mono (fun _ h c => ?_) (Cert.Reference3Ideal.Value.run (F := Ideal) m' ρ')
    obtain ⟨e0, e1⟩ := hagree c
    obtain ⟨r0, keep⟩ := h c
    refine ⟨r0.trans ?_, keep⟩
    · refine (Cert.Reference3Ideal.Read.val_main_v7_eq _ _).trans ((ref _ _).trans ?_)
      simp only [e0, e1]
      exact (final m c).symm

end Cert.Project.GradG

end
-- ==== Proof.ProjectGradA.lean ====
/-
  The gradient of the convolution's part of the input projection's weights: what the kernel leaves in its result, and what the reference computes.
-/
module

public import proofs.«01_k».proof.Proof.Gen.Kernel4Ideal.Value
public import proofs.«01_k».proof.Proof.Gen.Reference4Ideal.Read
public import proofs.«01_k».proof.Proof.Project

@[expose] public section

set_option maxRecDepth 16384

noncomputable section

namespace Cert.Project.GradA

open Idealize.ShloMosaic Idealize.ShloMosaic.TcCoe Idealize.SL.Sem Cert.Project
open Idealize.ShloMosaic.Pipeline (Dat)

section Kernel

open Cert.Kernel4Ideal Cert.Kernel4Ideal.Gen

variable (m : (ℓ : Loc nD τ sig) → Buf (Elt Ideal) ℓ)

/-- Which block each window holds at a grid point. -/
theorem idx : ∀ t : Fin grid0.N, win0_0.index t = ![t.val % 13, 0] ∧ win0_1.index t = ![t.val % 13, 0]
    ∧ win0_2.index t = ![0, 0] := by decide +kernel

/-- The argument arrays of device `c`. -/
abbrev aDu (c : Dev nD) : Arr 16640 1536 := m ((c : Thread nD τ).loc main_arg0)
abbrev aHn (c : Dev nD) : Arr 16640 1024 := m ((c : Thread nD τ).loc main_arg1)

/-- A block's product, read at an index. -/
theorem part (x0 : Vec Ideal S1280x1536 .bf16) (x1 : Vec Ideal S1280x1024 .bf16) (j : S1536x1024.Idx) :
    k0_pay1 (F := Ideal) x0 x1 j = ∑ r : Fin 1280, x0 (ix2 r (j 0)) * x1 (ix2 r (j 1)) := by
  idx_vars j
  pointwise [k0_pay1]

/-- What a later point leaves: what it finds plus its block's product. -/
theorem step (x0 : Vec Ideal S1280x1536 .bf16) (x1 : Vec Ideal S1280x1024 .bf16) (acc : Vec Ideal S1536x1024 .f32) (j : S1536x1024.Idx) :
    k0_pay2 (F := Ideal) x0 x1 acc j = acc j + ∑ r : Fin 1280, x0 (ix2 r (j 0)) * x1 (ix2 r (j 1)) := by
  idx_vars j
  pointwise [k0_pay2, k0_pay1]

/-- The result array after the kernel. -/
theorem final (c : Dev nD) : (dats m 0 c).arrAt 2 cfg0.N =
    fun i : S1536x1024.Idx => wgrad (aDu m c) (aHn m c) (i 0) (i 1) := by
  refine (dats m 0 c).arrAt_eq_of_covers 2 _ (by decide +kernel) fun t hf y => ?_
  blk_simp
  rw [after0_2, Pipeline.eq_sum_fin_of_reset_step_apply_of_flush (fun n h => outsAt0 m c n h) 13 (fun _ => (0 : EReal))
    (fun p j => ∑ r : Fin 1280, (show FVec Ideal S1280x1536 .bf16 from iblk m c 0 p) (ix2 r (j 0)) * (show FVec Ideal S1280x1024 .bf16 from iblk m c 1 p) (ix2 r (j 1)))
    (fun t h j => by
      rw [outsAt0_A m c t h (by have ht : t.val < 13 := t.isLt; omega)]
      frame_out
      rw [part]
      exact (zero_add _).symm)
    (fun t h j => by
      rw [outsAt0_B m c t h (by have ht : t.val < 13 := t.isLt; omega)]
      frame_out
      rw [step])
    t ((flush0_2 t).mp hf) _, zero_add]
  unfold wgrad
  refine Fin.sum_mul_add_congr fun s r hl => ?_
  blk_point [iblk, V, idx t, idx ⟨_, Pipeline.run_point_lt_of_flush t ((flush0_2 t).mp hf) s⟩]

end Kernel

section Reference

open Cert.Reference4Ideal Cert.Reference4Ideal.Gen Cert.Reference4Ideal.Read

/-- The reference's result. -/
theorem ref (du : Arr 16640 1536) (hn : Arr 16640 1024) :
    val_main_v7 (F := Ideal) du hn = fun i : S1536x1024.Idx => wgrad du hn (i 0) (i 1) := by
  funext i
  idx_vars i
  pointwise [wgrad, val_main_v7, val_main_v6, val_main_v5, val_main_v1, val_main_v4]

end Reference

end Cert.Project.GradA

end
-- ==== Proof.ClaimGradA.lean ====
/-
  The gradient of the convolution's columns of the input projection's weights: its claims.
-/
module

public import proofs.«01_k».proof.Defs
public import proofs.«01_k».proof.Proof.Gen.Reference4Ideal.Run
public import proofs.«01_k».proof.Proof.ProjectGradA
public import Idealize.ShloMosaic.Lib.Quiescent

@[expose] public section

set_option maxRecDepth 16384

noncomputable section

namespace Cert.Project.GradA

open Idealize.ShloMosaic Idealize.ShloMosaic.TcCoe Idealize.SL.Sem

/-- The reference runs on the host alone: it ends with its arguments unchanged and no semaphore moved. -/
theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The kernel's result arrays are the reference's, from arguments that agree. -/
theorem algebraic : Cert.algebraic_Kernel4Ideal_Reference4Ideal := by
  intro m ρ m' ρ' _ hagree
  refine ⟨fun c => (Cert.Kernel4Ideal.Gen.dats m 0 c).arrAt 2 Cert.Kernel4Ideal.cfg0.N, ?_, ?_⟩
  · exact Cert.Kernel4Ideal.Value.run_blocks m ρ
  · refine (θ_run Cert.Reference4Ideal.defs _ _).mono (fun _ h c => ?_) (Cert.Reference4Ideal.Value.run (F := Ideal) m' ρ')
    obtain ⟨e0, e1⟩ := hagree c
    obtain ⟨r0, keep⟩ := h c
    refine ⟨r0.trans ?_, keep⟩
    · refine (Cert.Reference4Ideal.Read.val_main_v7_eq _ _).trans ((ref _ _).trans ?_)
      simp only [e0, e1]
      exact (final m c).symm

end Cert.Project.GradA

end
-- ==== Proof.ProjectGradB.lean ====
/-
  The gradient of the recurrence's part of the input projection's weights: what the kernel leaves in its result, and what the reference computes.
-/
module

public import proofs.«01_k».proof.Proof.Gen.Kernel5Ideal.Value
public import proofs.«01_k».proof.Proof.Gen.Reference5Ideal.Read
public import proofs.«01_k».proof.Proof.Project

@[expose] public section

set_option maxRecDepth 16384

noncomputable section

namespace Cert.Project.GradB

open Idealize.ShloMosaic Idealize.ShloMosaic.TcCoe Idealize.SL.Sem Cert.Project
open Idealize.ShloMosaic.Pipeline (Dat)

section Kernel

open Cert.Kernel5Ideal Cert.Kernel5Ideal.Gen

variable (m : (ℓ : Loc nD τ sig) → Buf (Elt Ideal) ℓ)

/-- Which block each window holds at a grid point. -/
theorem idx : ∀ t : Fin grid0.N, win0_0.index t = ![t.val % 13, 0] ∧ win0_1.index t = ![t.val % 13, 0]
    ∧ win0_2.index t = ![0, 0] := by decide +kernel

/-- The argument arrays of device `c`. -/
abbrev aDu (c : Dev nD) : Arr 16640 2048 := m ((c : Thread nD τ).loc main_arg0)
abbrev aHn (c : Dev nD) : Arr 16640 1024 := m ((c : Thread nD τ).loc main_arg1)

/-- A block's product, read at an index. -/
theorem part (x0 : Vec Ideal S1280x2048 .bf16) (x1 : Vec Ideal S1280x1024 .bf16) (j : S2048x1024.Idx) :
    k0_pay1 (F := Ideal) x0 x1 j = ∑ r : Fin 1280, x0 (ix2 r (j 0)) * x1 (ix2 r (j 1)) := by
  idx_vars j
  pointwise [k0_pay1]

/-- What a later point leaves: what it finds plus its block's product. -/
theorem step (x0 : Vec Ideal S1280x2048 .bf16) (x1 : Vec Ideal S1280x1024 .bf16) (acc : Vec Ideal S2048x1024 .f32) (j : S2048x1024.Idx) :
    k0_pay2 (F := Ideal) x0 x1 acc j = acc j + ∑ r : Fin 1280, x0 (ix2 r (j 0)) * x1 (ix2 r (j 1)) := by
  idx_vars j
  pointwise [k0_pay2, k0_pay1]

/-- The result array after the kernel. -/
theorem final (c : Dev nD) : (dats m 0 c).arrAt 2 cfg0.N =
    fun i : S2048x1024.Idx => wgrad (aDu m c) (aHn m c) (i 0) (i 1) := by
  refine (dats m 0 c).arrAt_eq_of_covers 2 _ (by decide +kernel) fun t hf y => ?_
  blk_simp
  rw [after0_2, Pipeline.eq_sum_fin_of_reset_step_apply_of_flush (fun n h => outsAt0 m c n h) 13 (fun _ => (0 : EReal))
    (fun p j => ∑ r : Fin 1280, (show FVec Ideal S1280x2048 .bf16 from iblk m c 0 p) (ix2 r (j 0)) * (show FVec Ideal S1280x1024 .bf16 from iblk m c 1 p) (ix2 r (j 1)))
    (fun t h j => by
      rw [outsAt0_A m c t h (by have ht : t.val < 13 := t.isLt; omega)]
      frame_out
      rw [part]
      exact (zero_add _).symm)
    (fun t h j => by
      rw [outsAt0_B m c t h (by have ht : t.val < 13 := t.isLt; omega)]
      frame_out
      rw [step])
    t ((flush0_2 t).mp hf) _, zero_add]
  unfold wgrad
  refine Fin.sum_mul_add_congr fun s r hl => ?_
  blk_point [iblk, V, idx t, idx ⟨_, Pipeline.run_point_lt_of_flush t ((flush0_2 t).mp hf) s⟩]

end Kernel

section Reference

open Cert.Reference5Ideal Cert.Reference5Ideal.Gen Cert.Reference5Ideal.Read

/-- The reference's result. -/
theorem ref (du : Arr 16640 2048) (hn : Arr 16640 1024) :
    val_main_v7 (F := Ideal) du hn = fun i : S2048x1024.Idx => wgrad du hn (i 0) (i 1) := by
  funext i
  idx_vars i
  pointwise [wgrad, val_main_v7, val_main_v6, val_main_v5, val_main_v1, val_main_v4]

end Reference

end Cert.Project.GradB

end
-- ==== Proof.ClaimGradB.lean ====
/-
  The gradient of the recurrence's columns of the input projection's weights: its claims.
-/
module

public import proofs.«01_k».proof.Defs
public import proofs.«01_k».proof.Proof.Gen.Reference5Ideal.Run
public import proofs.«01_k».proof.Proof.ProjectGradB
public import Idealize.ShloMosaic.Lib.Quiescent

@[expose] public section

set_option maxRecDepth 16384

noncomputable section

namespace Cert.Project.GradB

open Idealize.ShloMosaic Idealize.ShloMosaic.TcCoe Idealize.SL.Sem

/-- The reference runs on the host alone: it ends with its arguments unchanged and no semaphore moved. -/
theorem frame_reference : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The kernel's result arrays are the reference's, from arguments that agree. -/
theorem algebraic : Cert.algebraic_Kernel5Ideal_Reference5Ideal := by
  intro m ρ m' ρ' _ hagree
  refine ⟨fun c => (Cert.Kernel5Ideal.Gen.dats m 0 c).arrAt 2 Cert.Kernel5Ideal.cfg0.N, ?_, ?_⟩
  · exact Cert.Kernel5Ideal.Value.run_blocks m ρ
  · refine (θ_run Cert.Reference5Ideal.defs _ _).mono (fun _ h c => ?_) (Cert.Reference5Ideal.Value.run (F := Ideal) m' ρ')
    obtain ⟨e0, e1⟩ := hagree c
    obtain ⟨r0, keep⟩ := h c
    refine ⟨r0.trans ?_, keep⟩
    · refine (Cert.Reference5Ideal.Read.val_main_v7_eq _ _).trans ((ref _ _).trans ?_)
      simp only [e0, e1]
      exact (final m c).symm

end Cert.Project.GradB

end
-- ==== Proof.ProjectGradC.lean ====
/-
  The gradient of the attention's part of the input projection's weights: what the kernel leaves in its result, and what the reference computes.
-/
module

public import proofs.«01_k».proof.Proof.Gen.Kernel6Ideal.Value
public import proofs.«01_k».proof.Proof.Gen.Reference6Ideal.Read
public import proofs.«01_k».proof.Proof.Project

@[expose] public section

set_option maxRecDepth 16384

noncomputable section

namespace Cert.Project.GradC

open Idealize.ShloMosaic Idealize.ShloMosaic.TcCoe Idealize.SL.Sem Cert.Project
open Idealize.ShloMosaic.Pipeline (Dat)

section Kernel

open Cert.Kernel6Ideal Cert.Kernel6Ideal.Gen

variable (m : (ℓ : Loc nD τ sig) → Buf (Elt Ideal) ℓ)

/-- Which block each window holds at a grid point. -/
theorem idx : ∀ t : Fin grid0.N, win0_0.index t = ![t.val % 13, 0] ∧ win0_1.index t = ![t.val % 13, 0]
    ∧ win0_2.index t = ![0, 0] := by decide +kernel

/-- The argument arrays of device `c`. -/
abbrev aDu (c : Dev nD) : Arr 16640 1280 := m ((c : Thread nD τ).loc main_arg0)
abbrev aHn (c : Dev nD) : Arr 16640 1024 := m ((c : Thread nD τ).loc main_arg1)

/-- A block's product, read at an index. -/
theorem part (x0 : Vec Ideal S1280x1280 .bf16) (x1 : Vec Ideal S1280x1024 .bf16) (j : S1280x1024.Idx) :
    k0_pay1 (F := Ideal) x0 x1 j = ∑ r : Fin 1280, x0 (ix2 r (j 0)) * x1 (ix2 r (j 1)) := by
  idx_vars j
  pointwise [k0_pay1]

/-- What a later point leaves: what it finds plus its block's product. -/
theorem step (x0 : Vec Ideal S1280x1280 .bf16) (x1 : Vec Ideal S1280x1024 .bf16) (acc : Vec Ideal S1280x1024 .f32) (j : S1280x1024.Idx) :
    k0_pay2 (F := Ideal) x0 x1 acc j = acc j + ∑ r : Fin 1280, x0 (ix2 r (j 0)) * x1 (ix2 r (j 1)) := by
  idx_vars j
  pointwise [k0_pay2, k0_pay1]

/-- The result array after the kernel. -/
theorem final (c : Dev nD) : (dats m 0 c).arrAt 2 cfg0.N =
    fun i : S1280x1024.Idx => wgrad (aDu m c) (aHn m c) (i 0) (i 1) := by
  refine (dats m 0 c).arrAt_eq_of_covers 2 _ (by decide +kernel) fun t hf y => ?_
  blk_simp
  rw [after0_2, Pipeline.eq_sum_fin_of_reset_step_apply_of_flush (fun n h => outsAt0 m c n h) 13 (fun _ => (0 : EReal))
    (fun p j => ∑ r : Fin 1280, (show FVec Ideal S1280x1280 .bf16 from iblk m c 0 p) (ix2 r (j 0)) * (show FVec Ideal S1280x1024 .bf16 from iblk m c 1 p) (ix2 r (j 1)))
    (fun t h j => by
      rw [outsAt0_A m c t h (by have ht : t.val < 13 := t.isLt; omega)]
      frame_out
      rw [part]
      exact (zero_add _).symm)
    (fun t h j => by
      rw [outsAt0_B m c t h (by have ht : t.val < 13 := t.isLt; omega)]
      frame_out
      rw [step])
    t ((flush0_2 t).mp hf) _, zero_add]
  unfold wgrad
  refine Fin.sum_mul_add_congr fun s r hl => ?_
  blk_point [iblk, V, idx t, idx ⟨_, Pipeline.run_point_lt_of_flush t ((flush0_2 t).mp hf) s⟩]

end Kernel

section Reference

open Cert.Reference6Ideal Cert.Reference6Ideal.Gen Cert.Reference6Ideal.Read

/-- The reference's result. -/
theorem ref (du : Arr 16640 1280) (hn : Arr 16640 1024) :
    val_main_v7 (F := Ideal) du hn = fun i : S1280x1024.Idx => wgrad du hn (i 0) (i 1) := by
  funext i
  idx_vars i
  pointwise [wgrad, val_main_v7, val_main_v6, val_main_v5, val_main_v1, val_main_v4]

end Reference

end Cert.Project.GradC

end
-- ==== Proof.ClaimGradC.lean ====
/-
  The gradient of the attention's columns of the input projection's weights: its claims.
-/
module

public import proofs.«01_k».proof.Defs
public import proofs.«01_k».proof.Proof.Gen.Reference6Ideal.Run
public import proofs.«01_k».proof.Proof.ProjectGradC
public import Idealize.ShloMosaic.Lib.Quiescent

@[expose] public section

set_option maxRecDepth 16384

noncomputable section

namespace Cert.Project.GradC

open Idealize.ShloMosaic Idealize.ShloMosaic.TcCoe Idealize.SL.Sem

/-- The reference runs on the host alone: it ends with its arguments unchanged and no semaphore moved. -/
theorem frame_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- The kernel's result arrays are the reference's, from arguments that agree. -/
theorem algebraic : Cert.algebraic_Kernel6Ideal_Reference6Ideal := by
  intro m ρ m' ρ' _ hagree
  refine ⟨fun c => (Cert.Kernel6Ideal.Gen.dats m 0 c).arrAt 2 Cert.Kernel6Ideal.cfg0.N, ?_, ?_⟩
  · exact Cert.Kernel6Ideal.Value.run_blocks m ρ
  · refine (θ_run Cert.Reference6Ideal.defs _ _).mono (fun _ h c => ?_) (Cert.Reference6Ideal.Value.run (F := Ideal) m' ρ')
    obtain ⟨e0, e1⟩ := hagree c
    obtain ⟨r0, keep⟩ := h c
    refine ⟨r0.trans ?_, keep⟩
    · refine (Cert.Reference6Ideal.Read.val_main_v7_eq _ _).trans ((ref _ _).trans ?_)
      simp only [e0, e1]
      exact (final m c).symm

end Cert.Project.GradC

end
-- ==== Proof.ProjectFwdG.lean ====
/-
  The gate's part of the input projection `hn · w_in`: what the kernel leaves in its result, and what the reference computes.
-/
module

public import proofs.«01_k».proof.Proof.Gen.Kernel7Ideal.Value
public import proofs.«01_k».proof.Proof.Gen.Reference7Ideal.Read
public import proofs.«01_k».proof.Proof.Project

@[expose] public section

set_option maxRecDepth 16384

noncomputable section

namespace Cert.Project.FwdG

open Idealize.ShloMosaic Idealize.ShloMosaic.TcCoe Idealize.SL.Sem Cert.Project
open Idealize.ShloMosaic.Pipeline (Dat)

section Kernel

open Cert.Kernel7Ideal Cert.Kernel7Ideal.Gen

variable (m : (ℓ : Loc nD τ sig) → Buf (Elt Ideal) ℓ)

/-- Which block each window holds at a grid point. -/
theorem idx : ∀ t : Fin grid0.N, win0_0.index t = ![t.val % 26, 0] ∧ win0_1.index t = ![t.val / 26, 0]
    ∧ win0_2.index t = ![t.val % 26, t.val / 26] := by decide +kernel

/-- The argument arrays of device `c`. -/
abbrev aHn (c : Dev nD) : Arr 16640 1024 := m ((c : Thread nD τ).loc main_arg0)
abbrev aW (c : Dev nD) : Arr 1024 7936 := m ((c : Thread nD τ).loc main_arg1)

/-- Row `a` of grid point `t`'s block, as a row of the array. -/
def row (t : Fin cfg0.N) (a : Fin 640) : Fin 16640 := ⟨t.val % 26 * 640 + a.val, by
  have h : t.val < 52 := t.isLt
  omega⟩

theorem row_val (t : Fin cfg0.N) (a : Fin 640) : (row t a).val = t.val % 26 * 640 + a.val := rfl

/-- Column `b` of grid point `t`'s block, as a column of the part. -/
def pos (t : Fin cfg0.N) (b : Fin 1536) : Fin 3072 := ⟨t.val / 26 * 1536 + b.val, by
  have h : t.val < 52 := t.isLt
  omega⟩

theorem pos_val (t : Fin cfg0.N) (b : Fin 1536) : (pos t b).val = t.val / 26 * 1536 + b.val := rfl

/-- The rows' block, read at an index. -/
theorem read0 (c : Dev nD) (t : Fin cfg0.N) (a : Fin 640) (b : Fin 1024) :
    (iblk m c 0 t (ix2 a b) : EReal) = aHn m c (ix2 (row t a) b) := by
  blk_ext [iblk, V, idx t, row_val]
/-- The weights' block, read at an index: the host transposes `w_in` and takes the part's rows. -/
theorem read1 (c : Dev nD) (t : Fin cfg0.N) (b : Fin 1536) (k : Fin 1024) :
    (iblk m c 1 t (ix2 b k) : EReal) = aW m c (ix2 k (col 3072 4864 (by omega) (pos t b))) := by
  blk_simp [iblk]
  entry_read
  pointwise [col, pos]
  blk_point [idx t]

/-- Where an element of the result's block lies in the array. -/
theorem place (t : Fin cfg0.N) (y : S640x1536.Idx) :
    ((cfg0.win 2).blk t).view.emb y = ix2 (row t (y 0)) (pos t (y 1)) := by
  blk_ext [idx t]
  · exact (row_val t _).symm
  · exact (pos_val t _).symm

/-- The result array after the kernel. -/
theorem final (c : Dev nD) : (dats m 0 c).arrAt 2 cfg0.N =
    fun i : S16640x3072.Idx => proj (aHn m c) (aW m c) (i 0) (col 3072 4864 (by omega) (i 1)) := by
  refine (dats m 0 c).arrAt_eq_of_covers 2 _ (by decide +kernel) fun t hf y => ?_
  rw [place]
  blk_simp
  rw [after0_2]
  frame_out
  unfold_payloads
  idx_vars y
  pointwise [proj, read0, read1]

end Kernel

section Reference

open Cert.Reference7Ideal Cert.Reference7Ideal.Gen Cert.Reference7Ideal.Read

/-- The reference's result. -/
theorem ref (hn : Arr 16640 1024) (w : Arr 1024 7936) :
    val_main_v10 (F := Ideal) hn w = fun i : S16640x3072.Idx => proj hn w (i 0) (col 3072 4864 (by omega) (i 1)) := by
  funext i
  idx_vars i
  pointwise [proj, col, val_main_v10, val_main_v8, val_main_v1, val_main_v0]

end Reference

end Cert.Project.FwdG

end
-- ==== Proof.ClaimFwdG.lean ====
/-
  The gate's part of the input projection: its claims.
-/
module

public import proofs.«01_k».proof.Defs
public import proofs.«01_k».proof.Proof.Gen.Reference7Ideal.Run
public import proofs.«01_k».proof.Proof.ProjectFwdG
public import Idealize.ShloMosaic.Lib.Quiescent

@[expose] public section

set_option maxRecDepth 16384

noncomputable section

namespace Cert.Project.FwdG

open Idealize.ShloMosaic Idealize.ShloMosaic.TcCoe Idealize.SL.Sem

/-- The reference runs on the host alone: it ends with its arguments unchanged and no semaphore moved. -/
theorem frame_reference : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

/-- The kernel's result arrays are the reference's, from arguments that agree. -/
theorem algebraic : Cert.algebraic_Kernel7Ideal_Reference7Ideal := by
  intro m ρ m' ρ' _ hagree
  refine ⟨fun c => (Cert.Kernel7Ideal.Gen.dats m 0 c).arrAt 2 Cert.Kernel7Ideal.cfg0.N, ?_, ?_⟩
  · exact Cert.Kernel7Ideal.Value.run_blocks m ρ
  · refine (θ_run Cert.Reference7Ideal.defs _ _).mono (fun _ h c => ?_) (Cert.Reference7Ideal.Value.run (F := Ideal) m' ρ')
    obtain ⟨e0, e1⟩ := hagree c
    obtain ⟨r0, keep⟩ := h c
    refine ⟨r0.trans ?_, keep⟩
    · refine (Cert.Reference7Ideal.Read.val_main_v10_eq _ _).trans ((ref _ _).trans ?_)
      simp only [e0, e1]
      exact (final m c).symm

end Cert.Project.FwdG

end
-- ==== Proof.ProjectFwdA.lean ====
/-
  The convolution's part of the input projection `hn · w_in`: what the kernel leaves in its result, and what the reference computes.
-/
module

public import proofs.«01_k».proof.Proof.Gen.Kernel8Ideal.Value
public import proofs.«01_k».proof.Proof.Gen.Reference8Ideal.Read
public import proofs.«01_k».proof.Proof.Project

@[expose] public section

set_option maxRecDepth 16384

noncomputable section

namespace Cert.Project.FwdA

open Idealize.ShloMosaic Idealize.ShloMosaic.TcCoe Idealize.SL.Sem Cert.Project
open Idealize.ShloMosaic.Pipeline (Dat)

section Kernel

open Cert.Kernel8Ideal Cert.Kernel8Ideal.Gen

variable (m : (ℓ : Loc nD τ sig) → Buf (Elt Ideal) ℓ)

/-- Which block each window holds at a grid point. -/
theorem idx : ∀ t : Fin grid0.N, win0_0.index t = ![t.val, 0] ∧ win0_1.index t = ![0, 0]
    ∧ win0_2.index t = ![t.val, 0] := by decide +kernel

/-- The argument arrays of device `c`. -/
abbrev aHn (c : Dev nD) : Arr 16640 1024 := m ((c : Thread nD τ).loc main_arg0)
abbrev aW (c : Dev nD) : Arr 1024 7936 := m ((c : Thread nD τ).loc main_arg1)

/-- Row `a` of grid point `t`'s block, as a row of the array. -/
def row (t : Fin cfg0.N) (a : Fin 640) : Fin 16640 := ⟨t.val * 640 + a.val, by
  have h : t.val < 26 := t.isLt
  omega⟩

theorem row_val (t : Fin cfg0.N) (a : Fin 640) : (row t a).val = t.val * 640 + a.val := rfl

/-- The rows' block, read at an index. -/
theorem read0 (c : Dev nD) (t : Fin cfg0.N) (a : Fin 640) (b : Fin 1024) :
    (iblk m c 0 t (ix2 a b) : EReal) = aHn m c (ix2 (row t a) b) := by
  blk_ext [iblk, V, idx t, row_val]
/-- The weights' block, read at an index: the host transposes `w_in` and takes the part's rows. -/
theorem read1 (c : Dev nD) (t : Fin cfg0.N) (b : Fin 1536) (k : Fin 1024) :
    (iblk m c 1 t (ix2 b k) : EReal) = aW m c (ix2 k (col 1536 0 (by omega) b)) := by
  blk_simp [iblk]
  entry_read
  pointwise [col]
  blk_point [idx t]

/-- Where an element of the result's block lies in the array. -/
theorem place (t : Fin cfg0.N) (y : S640x1536.Idx) :
    ((cfg0.win 2).blk t).view.emb y = ix2 (row t (y 0)) (y 1) := by
  blk_ext [idx t]
  exact (row_val t _).symm

/-- The result array after the kernel. -/
theorem final (c : Dev nD) : (dats m 0 c).arrAt 2 cfg0.N =
    fun i : S16640x1536.Idx => proj (aHn m c) (aW m c) (i 0) (col 1536 0 (by omega) (i 1)) := by
  refine (dats m 0 c).arrAt_eq_of_covers 2 _ (by decide +kernel) fun t hf y => ?_
  rw [place]
  blk_simp
  rw [after0_2]
  frame_out
  unfold_payloads
  idx_vars y
  pointwise [proj, read0, read1]

end Kernel

section Reference

open Cert.Reference8Ideal Cert.Reference8Ideal.Gen Cert.Reference8Ideal.Read

/-- The reference's result. -/
theorem ref (hn : Arr 16640 1024) (w : Arr 1024 7936) :
    val_main_v10 (F := Ideal) hn w = fun i : S16640x1536.Idx => proj hn w (i 0) (col 1536 0 (by omega) (i 1)) := by
  funext i
  idx_vars i
  pointwise [proj, col, val_main_v10, val_main_v2, val_main_v1, val_main_v0]

end Reference

end Cert.Project.FwdA

end
-- ==== Proof.ClaimFwdA.lean ====
/-
  The convolution's part of the input projection: its claims.
-/
module

public import proofs.«01_k».proof.Defs
public import proofs.«01_k».proof.Proof.Gen.Reference8Ideal.Run
public import proofs.«01_k».proof.Proof.ProjectFwdA
public import Idealize.ShloMosaic.Lib.Quiescent

@[expose] public section

set_option maxRecDepth 16384

noncomputable section

namespace Cert.Project.FwdA

open Idealize.ShloMosaic Idealize.ShloMosaic.TcCoe Idealize.SL.Sem

/-- The reference runs on the host alone: it ends with its arguments unchanged and no semaphore moved. -/
theorem frame_reference : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

/-- The kernel's result arrays are the reference's, from arguments that agree. -/
theorem algebraic : Cert.algebraic_Kernel8Ideal_Reference8Ideal := by
  intro m ρ m' ρ' _ hagree
  refine ⟨fun c => (Cert.Kernel8Ideal.Gen.dats m 0 c).arrAt 2 Cert.Kernel8Ideal.cfg0.N, ?_, ?_⟩
  · exact Cert.Kernel8Ideal.Value.run_blocks m ρ
  · refine (θ_run Cert.Reference8Ideal.defs _ _).mono (fun _ h c => ?_) (Cert.Reference8Ideal.Value.run (F := Ideal) m' ρ')
    obtain ⟨e0, e1⟩ := hagree c
    obtain ⟨r0, keep⟩ := h c
    refine ⟨r0.trans ?_, keep⟩
    · refine (Cert.Reference8Ideal.Read.val_main_v10_eq _ _).trans ((ref _ _).trans ?_)
      simp only [e0, e1]
      exact (final m c).symm

end Cert.Project.FwdA

end
-- ==== Proof.ProjectFwdB.lean ====
/-
  The recurrence's part of the input projection `hn · w_in`: what the kernel leaves in its result, and what the reference computes.
-/
module

public import proofs.«01_k».proof.Proof.Gen.Kernel9Ideal.Value
public import proofs.«01_k».proof.Proof.Gen.Reference9Ideal.Read
public import proofs.«01_k».proof.Proof.Project

@[expose] public section

set_option maxRecDepth 16384

noncomputable section

namespace Cert.Project.FwdB

open Idealize.ShloMosaic Idealize.ShloMosaic.TcCoe Idealize.SL.Sem Cert.Project
open Idealize.ShloMosaic.Pipeline (Dat)

section Kernel

open Cert.Kernel9Ideal Cert.Kernel9Ideal.Gen

variable (m : (ℓ : Loc nD τ sig) → Buf (Elt Ideal) ℓ)

/-- Which block each window holds at a grid point. -/
theorem idx : ∀ t : Fin grid0.N, win0_0.index t = ![t.val, 0] ∧ win0_1.index t = ![0, 0]
    ∧ win0_2.index t = ![t.val, 0] := by decide +kernel

/-- The argument arrays of device `c`. -/
abbrev aHn (c : Dev nD) : Arr 16640 1024 := m ((c : Thread nD τ).loc main_arg0)
abbrev aW (c : Dev nD) : Arr 1024 7936 := m ((c : Thread nD τ).loc main_arg1)

/-- Row `a` of grid point `t`'s block, as a row of the array. -/
def row (t : Fin cfg0.N) (a : Fin 640) : Fin 16640 := ⟨t.val * 640 + a.val, by
  have h : t.val < 26 := t.isLt
  omega⟩

theorem row_val (t : Fin cfg0.N) (a : Fin 640) : (row t a).val = t.val * 640 + a.val := rfl

/-- The rows' block, read at an index. -/
theorem read0 (c : Dev nD) (t : Fin cfg0.N) (a : Fin 640) (b : Fin 1024) :
    (iblk m c 0 t (ix2 a b) : EReal) = aHn m c (ix2 (row t a) b) := by
  blk_ext [iblk, V, idx t, row_val]
/-- The weights' block, read at an index: the host transposes `w_in` and takes the part's rows. -/
theorem read1 (c : Dev nD) (t : Fin cfg0.N) (b : Fin 2048) (k : Fin 1024) :
    (iblk m c 1 t (ix2 b k) : EReal) = aW m c (ix2 k (col 2048 1536 (by omega) b)) := by
  blk_simp [iblk]
  entry_read
  pointwise [col]
  blk_point [idx t]

/-- Where an element of the result's block lies in the array. -/
theorem place (t : Fin cfg0.N) (y : S640x2048.Idx) :
    ((cfg0.win 2).blk t).view.emb y = ix2 (row t (y 0)) (y 1) := by
  blk_ext [idx t]
  exact (row_val t _).symm

/-- The result array after the kernel. -/
theorem final (c : Dev nD) : (dats m 0 c).arrAt 2 cfg0.N =
    fun i : S16640x2048.Idx => proj (aHn m c) (aW m c) (i 0) (col 2048 1536 (by omega) (i 1)) := by
  refine (dats m 0 c).arrAt_eq_of_covers 2 _ (by decide +kernel) fun t hf y => ?_
  rw [place]
  blk_simp
  rw [after0_2]
  frame_out
  unfold_payloads
  idx_vars y
  pointwise [proj, read0, read1]

end Kernel

section Reference

open Cert.Reference9Ideal Cert.Reference9Ideal.Gen Cert.Reference9Ideal.Read

/-- The reference's result. -/
theorem ref (hn : Arr 16640 1024) (w : Arr 1024 7936) :
    val_main_v10 (F := Ideal) hn w = fun i : S16640x2048.Idx => proj hn w (i 0) (col 2048 1536 (by omega) (i 1)) := by
  funext i
  idx_vars i
  pointwise [proj, col, val_main_v10, val_main_v3, val_main_v1, val_main_v0]

end Reference

end Cert.Project.FwdB

end
-- ==== Proof.ClaimFwdB.lean ====
/-
  The recurrence's part of the input projection: its claims.
-/
module

public import proofs.«01_k».proof.Defs
public import proofs.«01_k».proof.Proof.Gen.Reference9Ideal.Run
public import proofs.«01_k».proof.Proof.ProjectFwdB
public import Idealize.ShloMosaic.Lib.Quiescent

@[expose] public section

set_option maxRecDepth 16384

noncomputable section

namespace Cert.Project.FwdB

open Idealize.ShloMosaic Idealize.ShloMosaic.TcCoe Idealize.SL.Sem

/-- The reference runs on the host alone: it ends with its arguments unchanged and no semaphore moved. -/
theorem frame_reference : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run (F := Ideal) m ρ)

/-- The kernel's result arrays are the reference's, from arguments that agree. -/
theorem algebraic : Cert.algebraic_Kernel9Ideal_Reference9Ideal := by
  intro m ρ m' ρ' _ hagree
  refine ⟨fun c => (Cert.Kernel9Ideal.Gen.dats m 0 c).arrAt 2 Cert.Kernel9Ideal.cfg0.N, ?_, ?_⟩
  · exact Cert.Kernel9Ideal.Value.run_blocks m ρ
  · refine (θ_run Cert.Reference9Ideal.defs _ _).mono (fun _ h c => ?_) (Cert.Reference9Ideal.Value.run (F := Ideal) m' ρ')
    obtain ⟨e0, e1⟩ := hagree c
    obtain ⟨r0, keep⟩ := h c
    refine ⟨r0.trans ?_, keep⟩
    · refine (Cert.Reference9Ideal.Read.val_main_v10_eq _ _).trans ((ref _ _).trans ?_)
      simp only [e0, e1]
      exact (final m c).symm

end Cert.Project.FwdB

end
-- ==== Proof.ProjectFwdC.lean ====
/-
  The attention's part of the input projection `hn · w_in`: what the kernel leaves in its result, and what the reference computes.
-/
module

public import proofs.«01_k».proof.Proof.Gen.Kernel10Ideal.Value
public import proofs.«01_k».proof.Proof.Gen.Reference10Ideal.Read
public import proofs.«01_k».proof.Proof.Project

@[expose] public section

set_option maxRecDepth 16384

noncomputable section

namespace Cert.Project.FwdC

open Idealize.ShloMosaic Idealize.ShloMosaic.TcCoe Idealize.SL.Sem Cert.Project
open Idealize.ShloMosaic.Pipeline (Dat)

section Kernel

open Cert.Kernel10Ideal Cert.Kernel10Ideal.Gen

variable (m : (ℓ : Loc nD τ sig) → Buf (Elt Ideal) ℓ)

/-- Which block each window holds at a grid point. -/
theorem idx : ∀ t : Fin grid0.N, win0_0.index t = ![t.val, 0] ∧ win0_1.index t = ![0, 0]
    ∧ win0_2.index t = ![t.val, 0] := by decide +kernel

/-- The argument arrays of device `c`. -/
abbrev aHn (c : Dev nD) : Arr 16640 1024 := m ((c : Thread nD τ).loc main_arg0)
abbrev aW (c : Dev nD) : Arr 1024 7936 := m ((c : Thread nD τ).loc main_arg1)

/-- Row `a` of grid point `t`'s block, as a row of the array. -/
def row (t : Fin cfg0.N) (a : Fin 640) : Fin 16640 := ⟨t.val * 640 + a.val, by
  have h : t.val < 26 := t.isLt
  omega⟩

theorem row_val (t : Fin cfg0.N) (a : Fin 640) : (row t a).val = t.val * 640 + a.val := rfl

/-- The rows' block, read at an index. -/
theorem read0 (c : Dev nD) (t : Fin cfg0.N) (a : Fin 640) (b : Fin 1024) :
    (iblk m c 0 t (ix2 a b) : EReal) = aHn m c (ix2 (row t a) b) := by
  blk_ext [iblk, V, idx t, row_val]
/-- What the host leaves the kernel of the weights: rows of the transposed `w_in`, the queries', the gate's, the keys' and values'. -/
theorem V_w (c : Dev nD) : V m c main_v7 = concatenate S1280x1024 0
    [⟨S512x1024, extractStridedSlice S512x1024 ![3584, 0] (truncf (F := Ideal) .bf16 (transpose S7936x1024 [1, 0] (m ((c : Thread nD τ).loc main_arg1)) transposes_S1024x7936_S7936x1024_1_0) bitsLt_bf16_f32) slices_S7936x1024_S512x1024_3584_0⟩,
     ⟨S512x1024, extractStridedSlice S512x1024 ![4352, 0] (truncf (F := Ideal) .bf16 (transpose S7936x1024 [1, 0] (m ((c : Thread nD τ).loc main_arg1)) transposes_S1024x7936_S7936x1024_1_0) bitsLt_bf16_f32) slices_S7936x1024_S512x1024_4352_0⟩,
     ⟨S256x1024, extractStridedSlice S256x1024 ![4096, 0] (truncf (F := Ideal) .bf16 (transpose S7936x1024 [1, 0] (m ((c : Thread nD τ).loc main_arg1)) transposes_S1024x7936_S7936x1024_1_0) bitsLt_bf16_f32) slices_S7936x1024_S256x1024_4096_0⟩]
    concatenates_S512x1024_S512x1024_S256x1024_S1280x1024_d0 := by
  rfl

/-- Its entries. -/
theorem w_at (c : Dev nD) (b : Fin 1280) (k : Fin 1024) :
    (show FVec Ideal S1280x1024 .bf16 from V m c main_v7) (ix2 b k) = aW m c (ix2 k (colC b)) := by
  rw [V_w]
  pointwise []
  unfold colC
  by_cases h1 : b.val < 512
  · rw [dif_pos h1, dif_pos h1]
  · by_cases h2 : b.val - 512 < 512
    · rw [dif_neg h1, dif_neg h1, dif_pos h2, dif_pos (by omega)]
    · rw [dif_neg h1, dif_neg h1, dif_neg h2, dif_neg (by omega)]
      exact congrArg (fun x : Fin 7936 => aW m c (ix2 k x)) (Fin.ext (by dsimp only; omega))

/-- The weights' block, read at an index: the host transposes `w_in` and takes the part's rows. -/
theorem read1 (c : Dev nD) (t : Fin cfg0.N) (b : Fin 1280) (k : Fin 1024) :
    (iblk m c 1 t (ix2 b k) : EReal) = aW m c (ix2 k (colC b)) := by
  blk_simp [iblk]
  have e : ((cfg0.win 1).blk t).view.emb (ix2 b k : S1280x1024.Idx) = (ix2 b k : S1280x1024.Idx) := by blk_ext [idx t]
  exact (congrArg (show FVec Ideal S1280x1024 .bf16 from V m c main_v7) e).trans (w_at m c b k)

/-- Where an element of the result's block lies in the array. -/
theorem place (t : Fin cfg0.N) (y : S640x1280.Idx) :
    ((cfg0.win 2).blk t).view.emb y = ix2 (row t (y 0)) (y 1) := by
  blk_ext [idx t]
  exact (row_val t _).symm

/-- The result array after the kernel. -/
theorem final (c : Dev nD) : (dats m 0 c).arrAt 2 cfg0.N =
    fun i : S16640x1280.Idx => proj (aHn m c) (aW m c) (i 0) (colC (i 1)) := by
  refine (dats m 0 c).arrAt_eq_of_covers 2 _ (by decide +kernel) fun t hf y => ?_
  rw [place]
  blk_simp
  rw [after0_2]
  frame_out
  unfold_payloads
  idx_vars y
  pointwise [proj, read0, read1]

end Kernel

section Reference

open Cert.Reference10Ideal Cert.Reference10Ideal.Gen Cert.Reference10Ideal.Read

/-- The reference's result. -/
theorem ref (hn : Arr 16640 1024) (w : Arr 1024 7936) :
    val_main_v10 (F := Ideal) hn w = fun i : S16640x1280.Idx => proj hn w (i 0) (colC (i 1)) := by
  funext i
  idx_vars i
  pointwise [val_main_v10, val_main_v9, val_main_v6, val_main_v1, val_main_v0, val_main_v5, val_main_v7, val_main_v4]
  unfold proj colC
  by_cases h1 : i1.val < 512
  · rw [dif_pos h1, dif_pos h1]
  · by_cases h2 : i1.val - 512 < 512
    · rw [dif_neg h1, dif_neg h1, dif_pos h2, dif_pos (by omega)]
    · by_cases h3 : i1.val - 512 - 512 < 128
      · rw [dif_neg h1, dif_neg h1, dif_neg h2, dif_pos h3, dif_neg (by omega)]
        exact congrArg (fun c : Fin 7936 => ∑ x : Fin 1024, hn (ix2 i0 x) * w (ix2 x c)) (Fin.ext (by dsimp only; omega))
      · rw [dif_neg h1, dif_neg h1, dif_neg h2, dif_neg h3, dif_neg (by omega)]
        exact congrArg (fun c : Fin 7936 => ∑ x : Fin 1024, hn (ix2 i0 x) * w (ix2 x c)) (Fin.ext (by dsimp only; omega))

end Reference

end Cert.Project.FwdC

end
-- ==== Proof.ClaimFwdC.lean ====
/-
  The attention's part of the input projection: its claims.
-/
module

public import proofs.«01_k».proof.Defs
public import proofs.«01_k».proof.Proof.Gen.Reference10Ideal.Run
public import proofs.«01_k».proof.Proof.ProjectFwdC
public import Idealize.ShloMosaic.Lib.Quiescent

@[expose] public section

set_option maxRecDepth 16384

noncomputable section

namespace Cert.Project.FwdC

open Idealize.ShloMosaic Idealize.ShloMosaic.TcCoe Idealize.SL.Sem

/-- The reference runs on the host alone: it ends with its arguments unchanged and no semaphore moved. -/
theorem frame_reference : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

/-- The kernel's result arrays are the reference's, from arguments that agree. -/
theorem algebraic : Cert.algebraic_Kernel10Ideal_Reference10Ideal := by
  intro m ρ m' ρ' _ hagree
  refine ⟨fun c => (Cert.Kernel10Ideal.Gen.dats m 0 c).arrAt 2 Cert.Kernel10Ideal.cfg0.N, ?_, ?_⟩
  · exact Cert.Kernel10Ideal.Value.run_blocks m ρ
  · refine (θ_run Cert.Reference10Ideal.defs _ _).mono (fun _ h c => ?_) (Cert.Reference10Ideal.Value.run (F := Ideal) m' ρ')
    obtain ⟨e0, e1⟩ := hagree c
    obtain ⟨r0, keep⟩ := h c
    refine ⟨r0.trans ?_, keep⟩
    · refine (Cert.Reference10Ideal.Read.val_main_v10_eq _ _).trans ((ref _ _).trans ?_)
      simp only [e0, e1]
      exact (final m c).symm

end Cert.Project.FwdC

end
-- ==== Proof.MixFwd.lean ====
/-
  The gated merge and the layer's end, as plain functions of the arrays: each branch's output product, the rows merged under
  their gates, the layer's output, and the next layer's normed rows.
-/
module

public import proofs.«01_k».proof.Proof.Merge
public import proofs.«01_k».proof.Proof.Rms

@[expose] public section

noncomputable section

namespace Cert.MixFwd

open Idealize.ShloMosaic Cert.Merge

/-- The merged rows: each branch's output under its gate, summed. -/
def mixed (ya yb yc : Arr 16640 512) (ug : Arr 16640 3072) (wa wb wc : Arr 512 1024) (r : Fin 16640) (c : Fin 1024) : EReal :=
  gate ug 0 (by omega) r c * branch ya wa r c + gate ug 1024 (by omega) r c * branch yb wb r c
    + gate ug 2048 (by omega) r c * branch yc wc r c

/-- The layer's output: what passes it, plus the merged rows' product. -/
def out (h : Arr 16640 1024) (mx : Fin 16640 → Fin 1024 → EReal) (wo : Arr 1024 1024) (r : Fin 16640) (c : Fin 1024) : EReal :=
  h (ix2 r c) + ∑ k : Fin 1024, mx r k * wo (ix2 k c)

/-- Rows normed by their root mean square, times the norm's weights. -/
def normed (h : Fin 16640 → Fin 1024 → EReal) (g : Arr 1 1024) (r : Fin 16640) (c : Fin 1024) : EReal :=
  h r c * Rms.scale 1024 Rms.eps (h r) * g (ix2 0 c)

end Cert.MixFwd

end
-- ==== Proof.MixFwdValue.lean ====
/-
  What the merge's kernel leaves in its six result arrays, index by index.
-/
module

public import proofs.«01_k».proof.Proof.Gen.Kernel11Ideal.Value
public import proofs.«01_k».proof.Proof.MixFwd

@[expose] public section

set_option maxRecDepth 16384

noncomputable section

namespace Cert.MixFwd

open Cert.Kernel11Ideal Cert.Kernel11Ideal.Gen Idealize.ShloMosaic Idealize.ShloMosaic.TcCoe Idealize.SL.Sem Cert.Merge
open Idealize.ShloMosaic.Pipeline (Dat)

variable (m : (ℓ : Loc nD τ sig) → Buf (Elt Ideal) ℓ)

/-- Which block each window holds at a grid point: the rows' windows move with the point, the weights stay. -/
theorem idx : ∀ t : Fin grid0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0] := by decide +kernel

/-- The argument arrays of device `c`. -/
abbrev aH (c : Dev nD) : Arr 16640 1024 := m ((c : Thread nD τ).loc main_arg0)
abbrev aYa (c : Dev nD) : Arr 16640 512 := m ((c : Thread nD τ).loc main_arg1)
abbrev aYb (c : Dev nD) : Arr 16640 512 := m ((c : Thread nD τ).loc main_arg2)
abbrev aYc (c : Dev nD) : Arr 16640 512 := m ((c : Thread nD τ).loc main_arg3)
abbrev aUg (c : Dev nD) : Arr 16640 3072 := m ((c : Thread nD τ).loc main_arg4)
abbrev aWa (c : Dev nD) : Arr 512 1024 := m ((c : Thread nD τ).loc main_arg5)
abbrev aWb (c : Dev nD) : Arr 512 1024 := m ((c : Thread nD τ).loc main_arg6)
abbrev aWc (c : Dev nD) : Arr 512 1024 := m ((c : Thread nD τ).loc main_arg7)
abbrev aWo (c : Dev nD) : Arr 1024 1024 := m ((c : Thread nD τ).loc main_arg8)
abbrev aG (c : Dev nD) : Arr 1 1024 := m ((c : Thread nD τ).loc main_arg9)

/-- The merged rows and the layer's output of device `c`. -/
def mixedAt (c : Dev nD) : Fin 16640 → Fin 1024 → EReal :=
  mixed (aYa m c) (aYb m c) (aYc m c) (aUg m c) (aWa m c) (aWb m c) (aWc m c)
def outAt (c : Dev nD) : Fin 16640 → Fin 1024 → EReal := out (aH m c) (mixedAt m c) (aWo m c)

/-- Row `a` of grid point `t`'s block, as a row of the array. -/
def row (t : Fin cfg0.N) (a : Fin 320) : Fin 16640 := ⟨t.val * 320 + a.val, by
  have h : t.val < 52 := t.isLt
  omega⟩

theorem row_val (t : Fin cfg0.N) (a : Fin 320) : (row t a).val = t.val * 320 + a.val := rfl

/-- Each input window's block at a point, read at an index, is its array read at the place of the block. -/
theorem read0 (c : Dev nD) (t : Fin cfg0.N) (a : Fin 320) (b : Fin 1024) :
    (iblk m c 0 t (ix2 a b) : EReal) = aH m c (ix2 (row t a) b) := by
  blk_ext [iblk, V, idx t, row_val]
theorem read1 (c : Dev nD) (t : Fin cfg0.N) (a : Fin 320) (b : Fin 512) :
    (iblk m c 1 t (ix2 a b) : EReal) = aYa m c (ix2 (row t a) b) := by
  blk_ext [iblk, V, idx t, row_val]
theorem read2 (c : Dev nD) (t : Fin cfg0.N) (a : Fin 320) (b : Fin 512) :
    (iblk m c 2 t (ix2 a b) : EReal) = aYb m c (ix2 (row t a) b) := by
  blk_ext [iblk, V, idx t, row_val]
theorem read3 (c : Dev nD) (t : Fin cfg0.N) (a : Fin 320) (b : Fin 512) :
    (iblk m c 3 t (ix2 a b) : EReal) = aYc m c (ix2 (row t a) b) := by
  blk_ext [iblk, V, idx t, row_val]
theorem read4 (c : Dev nD) (t : Fin cfg0.N) (a : Fin 320) (b : Fin 3072) :
    (iblk m c 4 t (ix2 a b) : EReal) = aUg m c (ix2 (row t a) b) := by
  blk_ext [iblk, V, idx t, row_val]
theorem read5 (c : Dev nD) (t : Fin cfg0.N) (a : Fin 512) (b : Fin 1024) :
    (iblk m c 5 t (ix2 a b) : EReal) = aWa m c (ix2 a b) := by
  blk_ext [iblk, V, idx t]
theorem read6 (c : Dev nD) (t : Fin cfg0.N) (a : Fin 512) (b : Fin 1024) :
    (iblk m c 6 t (ix2 a b) : EReal) = aWb m c (ix2 a b) := by
  blk_ext [iblk, V, idx t]
theorem read7 (c : Dev nD) (t : Fin cfg0.N) (a : Fin 512) (b : Fin 1024) :
    (iblk m c 7 t (ix2 a b) : EReal) = aWc m c (ix2 a b) := by
  blk_ext [iblk, V, idx t]
theorem read8 (c : Dev nD) (t : Fin cfg0.N) (a : Fin 1024) (b : Fin 1024) :
    (iblk m c 8 t (ix2 a b) : EReal) = aWo m c (ix2 a b) := by
  blk_ext [iblk, V, idx t]
theorem read9 (c : Dev nD) (t : Fin cfg0.N) (a : Fin 1) (b : Fin 1024) :
    (iblk m c 9 t (ix2 a b) : EReal) = aG m c (ix2 a b) := by
  blk_ext [iblk, V, idx t]

/-- Where an element of each result's block lies in the array. -/
theorem place10 (t : Fin cfg0.N) (y : S320x1024.Idx) :
    ((cfg0.win 10).blk t).view.emb y = ix2 (row t (y 0)) (y 1) := by
  blk_ext [idx t]
  exact (row_val t _).symm
theorem place11 (t : Fin cfg0.N) (y : S320x1024.Idx) :
    ((cfg0.win 11).blk t).view.emb y = ix2 (row t (y 0)) (y 1) := by
  blk_ext [idx t]
  exact (row_val t _).symm
theorem place12 (t : Fin cfg0.N) (y : S320x1024.Idx) :
    ((cfg0.win 12).blk t).view.emb y = ix2 (row t (y 0)) (y 1) := by
  blk_ext [idx t]
  exact (row_val t _).symm
theorem place13 (t : Fin cfg0.N) (y : S320x1024.Idx) :
    ((cfg0.win 13).blk t).view.emb y = ix2 (row t (y 0)) (y 1) := by
  blk_ext [idx t]
  exact (row_val t _).symm
theorem place14 (t : Fin cfg0.N) (y : S320x1024.Idx) :
    ((cfg0.win 14).blk t).view.emb y = ix2 (row t (y 0)) (y 1) := by
  blk_ext [idx t]
  exact (row_val t _).symm
theorem place15 (t : Fin cfg0.N) (y : S320x1024.Idx) :
    ((cfg0.win 15).blk t).view.emb y = ix2 (row t (y 0)) (y 1) := by
  blk_ext [idx t]
  exact (row_val t _).symm

/-- The output of branch `a`. -/
theorem final10 (c : Dev nD) : (dats m 0 c).arrAt 10 cfg0.N =
    fun i : S16640x1024.Idx => branch (aYa m c) (aWa m c) (i 0) (i 1) := by
  refine (dats m 0 c).arrAt_eq_of_covers 10 _ (by decide +kernel) fun t hf y => ?_
  rw [place10]
  blk_simp
  rw [after0_10]
  frame_out
  idx_vars y
  pointwise [branch, k0_pay5, k0_pay4, read1, read5]

/-- The output of branch `b`. -/
theorem final11 (c : Dev nD) : (dats m 0 c).arrAt 11 cfg0.N =
    fun i : S16640x1024.Idx => branch (aYb m c) (aWb m c) (i 0) (i 1) := by
  refine (dats m 0 c).arrAt_eq_of_covers 11 _ (by decide +kernel) fun t hf y => ?_
  rw [place11]
  blk_simp
  rw [after0_11]
  frame_out
  idx_vars y
  pointwise [branch, k0_pay7, k0_pay6, read2, read6]

/-- The output of branch `c`. -/
theorem final12 (c : Dev nD) : (dats m 0 c).arrAt 12 cfg0.N =
    fun i : S16640x1024.Idx => branch (aYc m c) (aWc m c) (i 0) (i 1) := by
  refine (dats m 0 c).arrAt_eq_of_covers 12 _ (by decide +kernel) fun t hf y => ?_
  rw [place12]
  blk_simp
  rw [after0_12]
  frame_out
  idx_vars y
  pointwise [branch, k0_pay10, k0_pay9, read3, read7]

/-- What a grid point computes: its merged rows, -/
theorem mixed_at (c : Dev nD) (t : Fin cfg0.N) (a : Fin 320) (b : Fin 1024) :
    k0_pay1 (F := Ideal) (k0_pay12 (F := Ideal) (iblk m c 0 t) (iblk m c 1 t) (iblk m c 2 t) (iblk m c 3 t) (iblk m c 4 t) (iblk m c 5 t) (iblk m c 6 t) (iblk m c 7 t) (iblk m c 8 t) (iblk m c 9 t))
      (k0_pay13 (F := Ideal) (iblk m c 0 t) (iblk m c 1 t) (iblk m c 2 t) (iblk m c 3 t) (iblk m c 4 t) (iblk m c 5 t) (iblk m c 6 t) (iblk m c 7 t) (iblk m c 8 t) (iblk m c 9 t))
      (k0_pay14 (F := Ideal) (iblk m c 0 t) (iblk m c 1 t) (iblk m c 2 t) (iblk m c 3 t) (iblk m c 4 t) (iblk m c 5 t) (iblk m c 6 t) (iblk m c 7 t) (iblk m c 8 t) (iblk m c 9 t)) (ix2 a b) = mixedAt m c (row t a) b := by
  pointwise [k0_pay1, k0_pay12, k0_pay13, k0_pay14, k0_pay8, k0_pay9, k0_pay4, k0_pay6, k0_pay11, mixedAt, mixed, gate, branch, third_zero,
    third_val, read1, read2, read3, read4, read5, read6, read7]

/-- and its rows of the layer's output. -/
theorem out_at (c : Dev nD) (t : Fin cfg0.N) (a : Fin 320) (b : Fin 1024) :
    k0_pay2 (F := Ideal) (k0_pay12 (F := Ideal) (iblk m c 0 t) (iblk m c 1 t) (iblk m c 2 t) (iblk m c 3 t) (iblk m c 4 t) (iblk m c 5 t) (iblk m c 6 t) (iblk m c 7 t) (iblk m c 8 t) (iblk m c 9 t))
      (k0_pay13 (F := Ideal) (iblk m c 0 t) (iblk m c 1 t) (iblk m c 2 t) (iblk m c 3 t) (iblk m c 4 t) (iblk m c 5 t) (iblk m c 6 t) (iblk m c 7 t) (iblk m c 8 t) (iblk m c 9 t))
      (k0_pay14 (F := Ideal) (iblk m c 0 t) (iblk m c 1 t) (iblk m c 2 t) (iblk m c 3 t) (iblk m c 4 t) (iblk m c 5 t) (iblk m c 6 t) (iblk m c 7 t) (iblk m c 8 t) (iblk m c 9 t)) (iblk m c 0 t) (iblk m c 8 t) (ix2 a b) = outAt m c (row t a) b := by
  pointwise [k0_pay2, mixed_at, outAt, out, read0, read8]

/-- The merged rows. -/
theorem final13 (c : Dev nD) : (dats m 0 c).arrAt 13 cfg0.N =
    fun i : S16640x1024.Idx => mixedAt m c (i 0) (i 1) := by
  refine (dats m 0 c).arrAt_eq_of_covers 13 _ (by decide +kernel) fun t hf y => ?_
  rw [place13]
  blk_simp
  rw [after0_13]
  frame_out
  idx_vars y
  exact mixed_at m c t _ _

/-- The layer's output. -/
theorem final14 (c : Dev nD) : (dats m 0 c).arrAt 14 cfg0.N =
    fun i : S16640x1024.Idx => outAt m c (i 0) (i 1) := by
  refine (dats m 0 c).arrAt_eq_of_covers 14 _ (by decide +kernel) fun t hf y => ?_
  rw [place14]
  blk_simp
  rw [after0_14]
  frame_out
  idx_vars y
  exact out_at m c t _ _

/-- The next layer's normed rows. -/
theorem final15 (c : Dev nD) : (dats m 0 c).arrAt 15 cfg0.N =
    fun i : S16640x1024.Idx => normed (outAt m c) (aG m c) (i 0) (i 1) := by
  refine (dats m 0 c).arrAt_eq_of_covers 15 _ (by decide +kernel) fun t hf y => ?_
  rw [place15]
  blk_simp
  rw [after0_15]
  frame_out
  idx_vars y
  pointwise [k0_pay3, normed, Rms.scale, Rms.var, out_at, read9]
  rw [Rms.ofBits_len, Rms.ofBits_eps]

end Cert.MixFwd

end
-- ==== Proof.MixFwdRef.lean ====
/-
  The gated merge and the layer's end: what the reference computes.
-/
module

public import proofs.«01_k».proof.Proof.Gen.Reference11Ideal.Read
public import proofs.«01_k».proof.Proof.MixFwd

@[expose] public section

set_option maxRecDepth 16384

noncomputable section

namespace Cert.MixFwd

open Idealize.ShloMosaic Idealize.ShloMosaic.TcCoe Cert.Merge
open Cert.Reference11Ideal Cert.Reference11Ideal.Gen Cert.Reference11Ideal.Read

/-- The branch's output product. -/
theorem ref_a (y : Arr 16640 512) (w : Arr 512 1024) :
    val_main_v27 (F := Ideal) y w = fun i : S16640x1024.Idx => branch y w (i 0) (i 1) := by
  funext i
  idx_vars i
  pointwise [val_main_v27, val_main_v8, val_main_v4, val_main_v0, branch]

/-- The branch's output product. -/
theorem ref_b (y : Arr 16640 512) (w : Arr 512 1024) :
    val_main_v28 (F := Ideal) y w = fun i : S16640x1024.Idx => branch y w (i 0) (i 1) := by
  funext i
  idx_vars i
  pointwise [val_main_v28, val_main_v9, val_main_v5, val_main_v1, branch]

/-- The branch's output product. -/
theorem ref_c (y : Arr 16640 512) (w : Arr 512 1024) :
    val_main_v29 (F := Ideal) y w = fun i : S16640x1024.Idx => branch y w (i 0) (i 1) := by
  funext i
  idx_vars i
  pointwise [val_main_v29, val_main_v10, val_main_v6, val_main_v2, branch]

/-- The merged rows. -/
theorem ref_mixed_at (ya yb yc : Arr 16640 512) (ug : Arr 16640 3072) (wa wb wc : Arr 512 1024) (r : Fin 16640) (c : Fin 1024) :
    val_main_v24 (F := Ideal) ya yb yc ug wa wb wc (ix2 r c) = mixed ya yb yc ug wa wb wc r c := by
  pointwise [val_main_v24, val_main_v23, val_main_v10, val_main_v6, val_main_v2, val_main_v22, val_main_v16, val_main_v14, val_main_v12, val_main_v11, val_main_v3, val_main_v13, val_main_cst, val_main_v15, val_main_cst_0, val_main_v21, val_main_v20, val_main_v9, val_main_v5, val_main_v1, val_main_v19, val_main_v18, val_main_v8, val_main_v4, val_main_v0, val_main_v17, mixed, gate, branch, third_zero]
  rfl

theorem ref_mixed (ya yb yc : Arr 16640 512) (ug : Arr 16640 3072) (wa wb wc : Arr 512 1024) :
    val_main_v30 (F := Ideal) ya yb yc ug wa wb wc = fun i : S16640x1024.Idx => mixed ya yb yc ug wa wb wc (i 0) (i 1) := by
  funext i
  idx_vars i
  pointwise [val_main_v30, ref_mixed_at]

/-- The layer's output. -/
theorem ref_out_at (h : Arr 16640 1024) (ya yb yc : Arr 16640 512) (ug : Arr 16640 3072) (wa wb wc : Arr 512 1024) (wo : Arr 1024 1024) (r : Fin 16640) (c : Fin 1024) :
    val_main_v26 (F := Ideal) h ya yb yc ug wa wb wc wo (ix2 r c) = out h (mixed ya yb yc ug wa wb wc) wo r c := by
  pointwise [val_main_v26, val_main_v25, val_main_v7, ref_mixed_at, out]

theorem ref_out (h : Arr 16640 1024) (ya yb yc : Arr 16640 512) (ug : Arr 16640 3072) (wa wb wc : Arr 512 1024) (wo : Arr 1024 1024) :
    val_main_v26 (F := Ideal) h ya yb yc ug wa wb wc wo
      = fun i : S16640x1024.Idx => out h (mixed ya yb yc ug wa wb wc) wo (i 0) (i 1) := by
  funext i
  idx_vars i
  exact ref_out_at h ya yb yc ug wa wb wc wo i0 i1

/-- The next layer's normed rows. -/
theorem ref_normed (h : Arr 16640 1024) (ya yb yc : Arr 16640 512) (ug : Arr 16640 3072) (wa wb wc : Arr 512 1024) (wo : Arr 1024 1024) (g : Arr 1 1024) :
    val_main_v43 (F := Ideal) h ya yb yc ug wa wb wc wo g
      = fun i : S16640x1024.Idx => normed (out h (mixed ya yb yc ug wa wb wc) wo) g (i 0) (i 1) := by
  funext i
  idx_vars i
  pointwise [val_main_v43, val_main_v42, val_main_v41, val_main_v40, val_main_v39, val_main_v38, val_main_v37, val_main_v36, val_main_cst_3, val_main_v35, val_main_v34, val_main_cst_2, val_main_v33, val_main_v32, val_main_cst_1, val_main_v31, ref_out_at, normed, Rms.scale, Rms.var]
  rw [Rms.ofBits_len, Rms.ofBits_eps]

end Cert.MixFwd

end
-- ==== Proof.ClaimMixFwd.lean ====
/-
  The gated merge and the layer's end: their claims.
-/
module

public import proofs.«01_k».proof.Defs
public import proofs.«01_k».proof.Proof.Gen.Reference11Ideal.Run
public import proofs.«01_k».proof.Proof.MixFwdValue
public import proofs.«01_k».proof.Proof.MixFwdRef
public import Idealize.ShloMosaic.Lib.Quiescent

@[expose] public section

set_option maxRecDepth 16384

noncomputable section

namespace Cert.MixFwd

open Idealize.ShloMosaic Idealize.ShloMosaic.TcCoe Idealize.SL.Sem

/-- The reference runs on the host alone: it ends with its arguments unchanged and no semaphore moved. -/
theorem frame_reference : Cert.quiescent_Reference11Ideal := fun m ρ _ =>
  (θ_run Cert.Reference11Ideal.defs _ _).mono
    (fun r h => ⟨fun c => (h c).2.2.2.2.2.2, sem_eq_zero_of_no_sems (by decide) r.2⟩)
    (Cert.Reference11Ideal.Value.run (F := Ideal) m ρ)

/-- The kernel's result arrays are the reference's, from arguments that agree. -/
theorem algebraic : Cert.algebraic_Kernel11Ideal_Reference11Ideal := by
  intro m ρ m' ρ' _ hagree
  refine ⟨fun c => (Cert.Kernel11Ideal.Gen.dats m 0 c).arrAt 10 Cert.Kernel11Ideal.cfg0.N, fun c => (Cert.Kernel11Ideal.Gen.dats m 0 c).arrAt 11 Cert.Kernel11Ideal.cfg0.N, fun c => (Cert.Kernel11Ideal.Gen.dats m 0 c).arrAt 12 Cert.Kernel11Ideal.cfg0.N, fun c => (Cert.Kernel11Ideal.Gen.dats m 0 c).arrAt 13 Cert.Kernel11Ideal.cfg0.N, fun c => (Cert.Kernel11Ideal.Gen.dats m 0 c).arrAt 14 Cert.Kernel11Ideal.cfg0.N, fun c => (Cert.Kernel11Ideal.Gen.dats m 0 c).arrAt 15 Cert.Kernel11Ideal.cfg0.N, ?_, ?_⟩
  · exact Cert.Kernel11Ideal.Value.run_blocks m ρ
  · refine (θ_run Cert.Reference11Ideal.defs _ _).mono (fun _ h c => ?_) (Cert.Reference11Ideal.Value.run (F := Ideal) m' ρ')
    obtain ⟨e0, e1, e2, e3, e4, e5, e6, e7, e8, e9⟩ := hagree c
    obtain ⟨r0, r1, r2, r3, r4, r5, keep⟩ := h c
    refine ⟨r0.trans ?_, r1.trans ?_, r2.trans ?_, r3.trans ?_, r4.trans ?_, r5.trans ?_, keep⟩
    · refine (Cert.Reference11Ideal.Read.val_main_v27_eq _ _).trans ((ref_a _ _).trans ?_)
      simp only [e0, e1, e2, e3, e4, e5, e6, e7, e8, e9]
      exact (final10 m c).symm
    · refine (Cert.Reference11Ideal.Read.val_main_v28_eq _ _).trans ((ref_b _ _).trans ?_)
      simp only [e0, e1, e2, e3, e4, e5, e6, e7, e8, e9]
      exact (final11 m c).symm
    · refine (Cert.Reference11Ideal.Read.val_main_v29_eq _ _).trans ((ref_c _ _).trans ?_)
      simp only [e0, e1, e2, e3, e4, e5, e6, e7, e8, e9]
      exact (final12 m c).symm
    · refine (Cert.Reference11Ideal.Read.val_main_v30_eq _ _ _ _ _ _ _).trans ((ref_mixed _ _ _ _ _ _ _).trans ?_)
      simp only [e0, e1, e2, e3, e4, e5, e6, e7, e8, e9]
      exact (final13 m c).symm
    · refine (Cert.Reference11Ideal.Read.val_main_v26_eq _ _ _ _ _ _ _ _ _).trans ((ref_out _ _ _ _ _ _ _ _ _).trans ?_)
      simp only [e0, e1, e2, e3, e4, e5, e6, e7, e8, e9]
      exact (final14 m c).symm
    · refine (Cert.Reference11Ideal.Read.val_main_v43_eq m' c).trans ((ref_normed _ _ _ _ _ _ _ _ _ _).trans ?_)
      simp only [e0, e1, e2, e3, e4, e5, e6, e7, e8, e9]
      exact (final15 m c).symm

end Cert.MixFwd

end
-- ==== Proof.ProjectGradOut.lean ====
/-
  The gradient of the output projection's weights: what the kernel leaves in its result, and what the reference computes.
-/
module

public import proofs.«01_k».proof.Proof.Gen.Kernel12Ideal.Value
public import proofs.«01_k».proof.Proof.Gen.Reference12Ideal.Read
public import proofs.«01_k».proof.Proof.Project

@[expose] public section

set_option maxRecDepth 16384

noncomputable section

namespace Cert.Project.GradOut

open Idealize.ShloMosaic Idealize.ShloMosaic.TcCoe Idealize.SL.Sem Cert.Project
open Idealize.ShloMosaic.Pipeline (Dat)

section Kernel

open Cert.Kernel12Ideal Cert.Kernel12Ideal.Gen

variable (m : (ℓ : Loc nD τ sig) → Buf (Elt Ideal) ℓ)

/-- Which block each window holds at a grid point. -/
theorem idx : ∀ t : Fin grid0.N, win0_0.index t = ![t.val % 13, 0] ∧ win0_1.index t = ![t.val % 13, 0]
    ∧ win0_2.index t = ![0, 0] := by decide +kernel

/-- The argument arrays of device `c`. -/
abbrev aMixed (c : Dev nD) : Arr 16640 1024 := m ((c : Thread nD τ).loc main_arg0)
abbrev aDh (c : Dev nD) : Arr 16640 1024 := m ((c : Thread nD τ).loc main_arg1)

/-- A block's product, read at an index. -/
theorem part (x0 : Vec Ideal S1280x1024 .bf16) (x1 : Vec Ideal S1280x1024 .f32) (j : S1024x1024.Idx) :
    k0_pay1 (F := Ideal) x0 x1 j = ∑ r : Fin 1280, x0 (ix2 r (j 0)) * x1 (ix2 r (j 1)) := by
  idx_vars j
  pointwise [k0_pay1]

/-- What a later point leaves: what it finds plus its block's product. -/
theorem step (x0 : Vec Ideal S1280x1024 .bf16) (x1 : Vec Ideal S1280x1024 .f32) (acc : Vec Ideal S1024x1024 .f32) (j : S1024x1024.Idx) :
    k0_pay2 (F := Ideal) x0 x1 acc j = acc j + ∑ r : Fin 1280, x0 (ix2 r (j 0)) * x1 (ix2 r (j 1)) := by
  idx_vars j
  pointwise [k0_pay2, k0_pay1]

/-- The result array after the kernel. -/
theorem final (c : Dev nD) : (dats m 0 c).arrAt 2 cfg0.N =
    fun i : S1024x1024.Idx => wgrad (aMixed m c) (aDh m c) (i 0) (i 1) := by
  refine (dats m 0 c).arrAt_eq_of_covers 2 _ (by decide +kernel) fun t hf y => ?_
  blk_simp
  rw [after0_2, Pipeline.eq_sum_fin_of_reset_step_apply_of_flush (fun n h => outsAt0 m c n h) 13 (fun _ => (0 : EReal))
    (fun p j => ∑ r : Fin 1280, (show FVec Ideal S1280x1024 .bf16 from iblk m c 0 p) (ix2 r (j 0)) * (show FVec Ideal S1280x1024 .f32 from iblk m c 1 p) (ix2 r (j 1)))
    (fun t h j => by
      rw [outsAt0_A m c t h (by have ht : t.val < 13 := t.isLt; omega)]
      frame_out
      rw [part]
      exact (zero_add _).symm)
    (fun t h j => by
      rw [outsAt0_B m c t h (by have ht : t.val < 13 := t.isLt; omega)]
      frame_out
      rw [step])
    t ((flush0_2 t).mp hf) _, zero_add]
  unfold wgrad
  refine Fin.sum_mul_add_congr fun s r hl => ?_
  blk_point [iblk, V, idx t, idx ⟨_, Pipeline.run_point_lt_of_flush t ((flush0_2 t).mp hf) s⟩]

end Kernel

section Reference

open Cert.Reference12Ideal Cert.Reference12Ideal.Gen Cert.Reference12Ideal.Read

/-- The reference's result. -/
theorem ref (du : Arr 16640 1024) (hn : Arr 16640 1024) :
    val_main_v4 (F := Ideal) du hn = fun i : S1024x1024.Idx => wgrad du hn (i 0) (i 1) := by
  funext i
  idx_vars i
  pointwise [wgrad, val_main_v4, val_main_v3, val_main_v1]
  exact Finset.sum_congr rfl fun _ _ => mul_comm _ _

end Reference

end Cert.Project.GradOut

end
-- ==== Proof.ClaimGradOut.lean ====
/-
  The gradient of the output projection's weights: its claims.
-/
module

public import proofs.«01_k».proof.Defs
public import proofs.«01_k».proof.Proof.Gen.Reference12Ideal.Run
public import proofs.«01_k».proof.Proof.ProjectGradOut
public import Idealize.ShloMosaic.Lib.Quiescent

@[expose] public section

set_option maxRecDepth 16384

noncomputable section

namespace Cert.Project.GradOut

open Idealize.ShloMosaic Idealize.ShloMosaic.TcCoe Idealize.SL.Sem

/-- The reference runs on the host alone: it ends with its arguments unchanged and no semaphore moved. -/
theorem frame_reference : Cert.quiescent_Reference12Ideal := fun m ρ _ =>
  (θ_run Cert.Reference12Ideal.defs _ _).mono
    (fun r h => ⟨fun c => (h c).2, sem_eq_zero_of_no_sems (by decide) r.2⟩)
    (Cert.Reference12Ideal.Value.run (F := Ideal) m ρ)

/-- The kernel's result arrays are the reference's, from arguments that agree. -/
theorem algebraic : Cert.algebraic_Kernel12Ideal_Reference12Ideal := by
  intro m ρ m' ρ' _ hagree
  refine ⟨fun c => (Cert.Kernel12Ideal.Gen.dats m 0 c).arrAt 2 Cert.Kernel12Ideal.cfg0.N, ?_, ?_⟩
  · exact Cert.Kernel12Ideal.Value.run_blocks m ρ
  · refine (θ_run Cert.Reference12Ideal.defs _ _).mono (fun _ h c => ?_) (Cert.Reference12Ideal.Value.run (F := Ideal) m' ρ')
    obtain ⟨e0, e1⟩ := hagree c
    obtain ⟨r0, keep⟩ := h c
    refine ⟨r0.trans ?_, keep⟩
    · refine (Cert.Reference12Ideal.Read.val_main_v4_eq _ _).trans ((ref _ _).trans ?_)
      simp only [e0, e1]
      exact (final m c).symm

end Cert.Project.GradOut

end
-- ==== Proof.GradBranches.lean ====
/-
  The gradients of the three branches' output weights: what the kernel leaves in its results, each summed over the grid's
  points, and what the reference computes.
-/
module

public import proofs.«01_k».proof.Proof.Gen.Kernel13Ideal.Value
public import proofs.«01_k».proof.Proof.Gen.Reference13Ideal.Read
public import proofs.«01_k».proof.Proof.Project

@[expose] public section

set_option maxRecDepth 16384

noncomputable section

namespace Cert.Project.GradBranches

open Idealize.ShloMosaic Idealize.ShloMosaic.TcCoe Idealize.SL.Sem Cert.Project
open Idealize.ShloMosaic.Pipeline (Dat)

section Kernel

open Cert.Kernel13Ideal Cert.Kernel13Ideal.Gen

variable (m : (ℓ : Loc nD τ sig) → Buf (Elt Ideal) ℓ)

/-- Which block each window holds at a grid point. -/
theorem idx : ∀ t : Fin grid0.N, win0_0.index t = ![t.val % 13, 0]
    ∧ win0_1.index t = ![t.val % 13, 0]
    ∧ win0_2.index t = ![t.val % 13, 0]
    ∧ win0_3.index t = ![t.val % 13, 0]
    ∧ win0_4.index t = ![t.val % 13, 0]
    ∧ win0_5.index t = ![t.val % 13, 0]
    ∧ win0_6.index t = ![0, 0]
    ∧ win0_7.index t = ![0, 0]
    ∧ win0_8.index t = ![0, 0] := by decide +kernel

/-- The argument arrays of device `c`. -/
abbrev aYa (c : Dev nD) : Arr 16640 512 := m ((c : Thread nD τ).loc main_arg0)
abbrev aYb (c : Dev nD) : Arr 16640 512 := m ((c : Thread nD τ).loc main_arg1)
abbrev aYc (c : Dev nD) : Arr 16640 512 := m ((c : Thread nD τ).loc main_arg2)
abbrev aDza (c : Dev nD) : Arr 16640 1024 := m ((c : Thread nD τ).loc main_arg3)
abbrev aDzb (c : Dev nD) : Arr 16640 1024 := m ((c : Thread nD τ).loc main_arg4)
abbrev aDzc (c : Dev nD) : Arr 16640 1024 := m ((c : Thread nD τ).loc main_arg5)

/-- A block's product, read at an index: the same in each branch, -/
theorem part_a (x0 : Vec Ideal S1280x512 .bf16) (x1 : Vec Ideal S1280x1024 .bf16) (j : S512x1024.Idx) :
    k0_pay2 (F := Ideal) x0 x1 j = ∑ r : Fin 1280, x0 (ix2 r (j 0)) * x1 (ix2 r (j 1)) := by
  idx_vars j
  pointwise [k0_pay2]
theorem part_b (x0 : Vec Ideal S1280x512 .bf16) (x1 : Vec Ideal S1280x1024 .bf16) (j : S512x1024.Idx) :
    k0_pay4 (F := Ideal) x0 x1 j = ∑ r : Fin 1280, x0 (ix2 r (j 0)) * x1 (ix2 r (j 1)) := part_a x0 x1 j
theorem part_c (x0 : Vec Ideal S1280x512 .bf16) (x1 : Vec Ideal S1280x1024 .bf16) (j : S512x1024.Idx) :
    k0_pay6 (F := Ideal) x0 x1 j = ∑ r : Fin 1280, x0 (ix2 r (j 0)) * x1 (ix2 r (j 1)) := part_a x0 x1 j

/-- and what a later point leaves: what it finds plus its block's product. -/
theorem step_a (x0 : Vec Ideal S1280x512 .bf16) (x1 : Vec Ideal S1280x1024 .bf16) (acc : Vec Ideal S512x1024 .f32) (j : S512x1024.Idx) :
    k0_pay3 (F := Ideal) x0 x1 acc j = acc j + ∑ r : Fin 1280, x0 (ix2 r (j 0)) * x1 (ix2 r (j 1)) := by
  idx_vars j
  pointwise [k0_pay3, k0_pay2]
theorem step_b (x0 : Vec Ideal S1280x512 .bf16) (x1 : Vec Ideal S1280x1024 .bf16) (acc : Vec Ideal S512x1024 .f32) (j : S512x1024.Idx) :
    k0_pay5 (F := Ideal) x0 x1 acc j = acc j + ∑ r : Fin 1280, x0 (ix2 r (j 0)) * x1 (ix2 r (j 1)) := step_a x0 x1 acc j
theorem step_c (x0 : Vec Ideal S1280x512 .bf16) (x1 : Vec Ideal S1280x1024 .bf16) (acc : Vec Ideal S512x1024 .f32) (j : S512x1024.Idx) :
    k0_pay1 (F := Ideal) (k0_pay6 (F := Ideal) x0 x1) acc j = acc j + ∑ r : Fin 1280, x0 (ix2 r (j 0)) * x1 (ix2 r (j 1)) := step_a x0 x1 acc j

/-- The gradient of branch `a`'s weights. -/
theorem final_a (c : Dev nD) : (dats m 0 c).arrAt 6 cfg0.N =
    fun i : S512x1024.Idx => wgrad (aYa m c) (aDza m c) (i 0) (i 1) := by
  refine (dats m 0 c).arrAt_eq_of_covers 6 _ (by decide +kernel) fun t hf y => ?_
  blk_simp
  rw [after0_6, Pipeline.eq_sum_fin_of_reset_step_apply_of_flush (fun n h => (outsAt0 m c n h).1) 13 (fun _ => (0 : EReal))
    (fun p j => ∑ r : Fin 1280, (show FVec Ideal S1280x512 .bf16 from iblk m c 0 p) (ix2 r (j 0)) * (show FVec Ideal S1280x1024 .bf16 from iblk m c 3 p) (ix2 r (j 1)))
    (fun t h j => by
      have ht : t.val < 13 := t.isLt
      rw [outsAt0_A m c t h (by omega) h (by omega) h (by omega)]
      frame_out
      rw [part_a]
      exact (zero_add _).symm)
    (fun t h j => by
      have ht : t.val < 13 := t.isLt
      rw [outsAt0_B m c t h (by omega) h (by omega) h (by omega)]
      frame_out
      rw [step_a])
    t ((flush0_6 t).mp hf) _, zero_add]
  unfold wgrad
  refine Fin.sum_mul_add_congr fun s r hl => ?_
  blk_point [iblk, V, idx t, idx ⟨_, Pipeline.run_point_lt_of_flush t ((flush0_6 t).mp hf) s⟩]

/-- The gradient of branch `b`'s weights. -/
theorem final_b (c : Dev nD) : (dats m 0 c).arrAt 7 cfg0.N =
    fun i : S512x1024.Idx => wgrad (aYb m c) (aDzb m c) (i 0) (i 1) := by
  refine (dats m 0 c).arrAt_eq_of_covers 7 _ (by decide +kernel) fun t hf y => ?_
  blk_simp
  rw [after0_7, Pipeline.eq_sum_fin_of_reset_step_apply_of_flush (fun n h => (outsAt0 m c n h).2.1) 13 (fun _ => (0 : EReal))
    (fun p j => ∑ r : Fin 1280, (show FVec Ideal S1280x512 .bf16 from iblk m c 1 p) (ix2 r (j 0)) * (show FVec Ideal S1280x1024 .bf16 from iblk m c 4 p) (ix2 r (j 1)))
    (fun t h j => by
      have ht : t.val < 13 := t.isLt
      rw [outsAt0_A m c t h (by omega) h (by omega) h (by omega)]
      frame_out
      rw [part_b]
      exact (zero_add _).symm)
    (fun t h j => by
      have ht : t.val < 13 := t.isLt
      rw [outsAt0_B m c t h (by omega) h (by omega) h (by omega)]
      frame_out
      rw [step_b])
    t ((flush0_7 t).mp hf) _, zero_add]
  unfold wgrad
  refine Fin.sum_mul_add_congr fun s r hl => ?_
  blk_point [iblk, V, idx t, idx ⟨_, Pipeline.run_point_lt_of_flush t ((flush0_7 t).mp hf) s⟩]

/-- The gradient of branch `c`'s weights. -/
theorem final_c (c : Dev nD) : (dats m 0 c).arrAt 8 cfg0.N =
    fun i : S512x1024.Idx => wgrad (aYc m c) (aDzc m c) (i 0) (i 1) := by
  refine (dats m 0 c).arrAt_eq_of_covers 8 _ (by decide +kernel) fun t hf y => ?_
  blk_simp
  rw [after0_8, Pipeline.eq_sum_fin_of_reset_step_apply_of_flush (fun n h => (outsAt0 m c n h).2.2) 13 (fun _ => (0 : EReal))
    (fun p j => ∑ r : Fin 1280, (show FVec Ideal S1280x512 .bf16 from iblk m c 2 p) (ix2 r (j 0)) * (show FVec Ideal S1280x1024 .bf16 from iblk m c 5 p) (ix2 r (j 1)))
    (fun t h j => by
      have ht : t.val < 13 := t.isLt
      rw [outsAt0_A m c t h (by omega) h (by omega) h (by omega)]
      frame_out
      rw [part_c]
      exact (zero_add _).symm)
    (fun t h j => by
      have ht : t.val < 13 := t.isLt
      rw [outsAt0_B m c t h (by omega) h (by omega) h (by omega)]
      frame_out
      rw [step_c])
    t ((flush0_8 t).mp hf) _, zero_add]
  unfold wgrad
  refine Fin.sum_mul_add_congr fun s r hl => ?_
  blk_point [iblk, V, idx t, idx ⟨_, Pipeline.run_point_lt_of_flush t ((flush0_8 t).mp hf) s⟩]

end Kernel

section Reference

open Cert.Reference13Ideal Cert.Reference13Ideal.Gen Cert.Reference13Ideal.Read

/-- The reference's gradient of branch `a`'s weights. -/
theorem ref_a (y : Arr 16640 512) (dz : Arr 16640 1024) :
    val_main_v15 (F := Ideal) y dz = fun i : S512x1024.Idx => wgrad y dz (i 0) (i 1) := by
  funext i
  idx_vars i
  pointwise [wgrad, val_main_v15, val_main_v14, val_main_v7, val_main_v1]
  refine Finset.sum_congr rfl fun r _ => ?_
  exact mul_comm _ _

/-- The reference's gradient of branch `b`'s weights. -/
theorem ref_b (y : Arr 16640 512) (dz : Arr 16640 1024) :
    val_main_v13 (F := Ideal) y dz = fun i : S512x1024.Idx => wgrad y dz (i 0) (i 1) := by
  funext i
  idx_vars i
  pointwise [wgrad, val_main_v13, val_main_v12, val_main_v8, val_main_v3]
  refine Finset.sum_congr rfl fun r _ => ?_
  exact mul_comm _ _

/-- The reference's gradient of branch `c`'s weights. -/
theorem ref_c (y : Arr 16640 512) (dz : Arr 16640 1024) :
    val_main_v11 (F := Ideal) y dz = fun i : S512x1024.Idx => wgrad y dz (i 0) (i 1) := by
  funext i
  idx_vars i
  pointwise [wgrad, val_main_v11, val_main_v10, val_main_v9, val_main_v5]
  refine Finset.sum_congr rfl fun r _ => ?_
  exact mul_comm _ _

end Reference

end Cert.Project.GradBranches

end
-- ==== Proof.ClaimGradBranches.lean ====
/-
  The gradients of the branches' output weights: their claims.
-/
module

public import proofs.«01_k».proof.Defs
public import proofs.«01_k».proof.Proof.Gen.Reference13Ideal.Run
public import proofs.«01_k».proof.Proof.GradBranches
public import Idealize.ShloMosaic.Lib.Quiescent

@[expose] public section

set_option maxRecDepth 16384

noncomputable section

namespace Cert.Project.GradBranches

open Idealize.ShloMosaic Idealize.ShloMosaic.TcCoe Idealize.SL.Sem

/-- The reference runs on the host alone: it ends with its arguments unchanged and no semaphore moved. -/
theorem frame_reference : Cert.quiescent_Reference13Ideal := fun m ρ _ =>
  (θ_run Cert.Reference13Ideal.defs _ _).mono
    (fun r h => ⟨fun c => (h c).2.2.2, sem_eq_zero_of_no_sems (by decide) r.2⟩)
    (Cert.Reference13Ideal.Value.run (F := Ideal) m ρ)

/-- The kernel's result arrays are the reference's, from arguments that agree. -/
theorem algebraic : Cert.algebraic_Kernel13Ideal_Reference13Ideal := by
  intro m ρ m' ρ' _ hagree
  refine ⟨fun c => (Cert.Kernel13Ideal.Gen.dats m 0 c).arrAt 6 Cert.Kernel13Ideal.cfg0.N, fun c => (Cert.Kernel13Ideal.Gen.dats m 0 c).arrAt 7 Cert.Kernel13Ideal.cfg0.N, fun c => (Cert.Kernel13Ideal.Gen.dats m 0 c).arrAt 8 Cert.Kernel13Ideal.cfg0.N, ?_, ?_⟩
  · exact Cert.Kernel13Ideal.Value.run_blocks m ρ
  · refine (θ_run Cert.Reference13Ideal.defs _ _).mono (fun _ h c => ?_) (Cert.Reference13Ideal.Value.run (F := Ideal) m' ρ')
    obtain ⟨e0, e1, e2, e3, e4, e5⟩ := hagree c
    obtain ⟨r0, r1, r2, keep⟩ := h c
    refine ⟨r0.trans ?_, r1.trans ?_, r2.trans ?_, keep⟩
    · refine (Cert.Reference13Ideal.Read.val_main_v15_eq _ _).trans ((ref_a _ _).trans ?_)
      simp only [e0, e1, e2, e3, e4, e5]
      exact (final_a m c).symm
    · refine (Cert.Reference13Ideal.Read.val_main_v13_eq _ _).trans ((ref_b _ _).trans ?_)
      simp only [e0, e1, e2, e3, e4, e5]
      exact (final_b m c).symm
    · refine (Cert.Reference13Ideal.Read.val_main_v11_eq _ _).trans ((ref_c _ _).trans ?_)
      simp only [e0, e1, e2, e3, e4, e5]
      exact (final_c m c).symm

end Cert.Project.GradBranches

end
-- ==== Proof.Adam.lean ====
/-
  The optimiser's update of one weight, on the extended reals. The kernel multiplies the moments by the reciprocals of the
  numbers that the reference divides by.
-/
module

public import Idealize.ShloMosaic.Lib.Pipeline.ValueKit
public import Idealize.ShloMosaic.Lib.Pointwise

@[expose] public section

noncomputable section

namespace Cert.Adam

open Idealize.ShloMosaic

/-- An array of three axes of extended reals. -/
abbrev Arr (a b c : Nat) : Type := (⟨3, ![a, b, c]⟩ : Shape).Idx → EReal

/-- The new first moment, from the old one and the gradient. -/
def first (m g : EReal) : EReal := Ideal.ofBits .f32 0x3F666666#32 * m + Ideal.ofBits .f32 0x3DCCCCCD#32 * g

/-- The new second moment. -/
def second (v g : EReal) : EReal := Ideal.ofBits .f32 0x3F7FBE77#32 * v + Ideal.ofBits .f32 0x3A83126F#32 * (g * g)

/-- The reciprocals of the bias corrections. -/
abbrev k1 : EReal := ((8388608 / 5463681 : ℝ) : EReal)
abbrev k2 : EReal := ((268435456 / 2672307 : ℝ) : EReal)

/-- The step, from the weight and its new moments. -/
def step (w m v : EReal) : EReal :=
  Ideal.ofBits .f32 0xBA83126F#32 *
    (Ideal.div (m * k1) (Ideal.sqrt (v * k2) + Ideal.ofBits .f32 0x322BCC77#32) + Ideal.ofBits .f32 0x3C23D70A#32 * w)

/-- Dividing by a bias correction is the product with its reciprocal. -/
theorem div_first (x : EReal) : Ideal.div x (Ideal.ofBits .f32 1059503362#32) = x * k1 := by
  have h : Ideal.ofBits .f32 1059503362#32 = ((5463681 / 8388608 : ℝ) : EReal) := by
    simp [Ideal.ofBits, Ideal.ieee, -EReal.coe_mul]; norm_num
  rw [h, Ideal.div_coe (by norm_num), one_div_div]
theorem div_second (x : EReal) : Ideal.div x (Ideal.ofBits .f32 1008933580#32) = x * k2 := by
  have h : Ideal.ofBits .f32 1008933580#32 = ((2672307 / 268435456 : ℝ) : EReal) := by
    simp [Ideal.ofBits, Ideal.ieee, -EReal.coe_mul]; norm_num
  rw [h, Ideal.div_coe (by norm_num), one_div_div]

end Cert.Adam

end
-- ==== Proof.AdamWIn.lean ====
/-
  The update of the input projection's weights: what the kernel leaves in its four results, and what the reference computes.
-/
module

public import proofs.«01_k».proof.Proof.Gen.Kernel14Ideal.Value
public import proofs.«01_k».proof.Proof.Gen.Reference14Ideal.Read
public import proofs.«01_k».proof.Proof.Adam

@[expose] public section

set_option maxRecDepth 16384

noncomputable section

namespace Cert.Adam.WIn

open Idealize.ShloMosaic Idealize.ShloMosaic.TcCoe Idealize.SL.Sem Cert.Adam
open Idealize.ShloMosaic.Pipeline (Dat)

/-- The gradient: the sum of the two cores' parts. -/
def gAt (a b : Arr 4 1984 1024) (l : Fin 4) (r : Fin 1984) (c : Fin 1024) : EReal := a (ix3 l r c) + b (ix3 l r c)
/-- The new moments and the step. -/
def mAt (m : Arr 4 1024 1984) (a b : Arr 4 1984 1024) (l : Fin 4) (r : Fin 1984) (c : Fin 1024) : EReal := first (m (ix3 l c r)) (gAt a b l r c)
def vAt (v : Arr 4 1024 1984) (a b : Arr 4 1984 1024) (l : Fin 4) (r : Fin 1984) (c : Fin 1024) : EReal := second (v (ix3 l c r)) (gAt a b l r c)
def dAt (w m v : Arr 4 1024 1984) (a b : Arr 4 1984 1024) (l : Fin 4) (r : Fin 1984) (c : Fin 1024) : EReal :=
  step (w (ix3 l c r)) (mAt m a b l r c) (vAt v a b l r c)

section Kernel

open Cert.Kernel14Ideal Cert.Kernel14Ideal.Gen

variable (m : (ℓ : Loc nD τ sig) → Buf (Elt Ideal) ℓ)

/-- The kernel's two named numbers. -/
theorem inv_c1 : Named.named (F := Ideal) Cert.Kernel14Ideal.κ "inv_c1" (φ := .f32) 0x3FC48605#32 = k1 :=
  IdealRules.named_const.ideal_named_scalar _ _ _ _ rfl
theorem inv_c2 : Named.named (F := Ideal) Cert.Kernel14Ideal.κ "inv_c2" (φ := .f32) 0x42C8E6D3#32 = k2 :=
  IdealRules.named_const.ideal_named_scalar _ _ _ _ rfl

/-- Which block each window holds at a grid point. -/
theorem idx : ∀ t : Fin grid0.N, win0_0.index t = ![t.val / 4, t.val % 4, 0]
    ∧ win0_1.index t = ![t.val / 4, t.val % 4, 0]
    ∧ win0_2.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] := by decide +kernel

/-- The argument arrays of device `c`. -/
abbrev aW (c : Dev nD) : Arr 4 1024 1984 := m ((c : Thread nD τ).loc main_arg0)
abbrev aM (c : Dev nD) : Arr 4 1024 1984 := m ((c : Thread nD τ).loc main_arg1)
abbrev aV (c : Dev nD) : Arr 4 1024 1984 := m ((c : Thread nD τ).loc main_arg2)
abbrev aA (c : Dev nD) : Arr 4 1984 1024 := m ((c : Thread nD τ).loc main_arg3)
abbrev aB (c : Dev nD) : Arr 4 1984 1024 := m ((c : Thread nD τ).loc main_arg4)

/-- The layer that grid point `t`'s block belongs to, and the block's row `r` as a row of the layer. -/
def lay (t : Fin cfg0.N) : Fin 4 := ⟨t.val / 4, by
  have h : t.val < 16 := t.isLt
  omega⟩
def row (t : Fin cfg0.N) (r : Fin 496) : Fin 1984 := ⟨t.val % 4 * 496 + r.val, by omega⟩

theorem lay_val (t : Fin cfg0.N) : (lay t).val = t.val / 4 := rfl
theorem row_val (t : Fin cfg0.N) (r : Fin 496) : (row t r).val = t.val % 4 * 496 + r.val := rfl

/-- Each input window's block at a point, read at an index, is its array read at the place of the block. -/
theorem read0 (d : Dev nD) (t : Fin cfg0.N) (z : Fin 1) (r : Fin 496) (c : Fin 1024) :
    (iblk m d 0 t (ix3 z r c) : EReal) = aW m d (ix3 (lay t) c (row t r)) := by
  blk_simp [iblk]
  entry_read
  pointwise []
  blk_point [idx t, lay_val, row_val]
theorem read1 (d : Dev nD) (t : Fin cfg0.N) (z : Fin 1) (r : Fin 496) (c : Fin 1024) :
    (iblk m d 1 t (ix3 z r c) : EReal) = aM m d (ix3 (lay t) c (row t r)) := by
  blk_simp [iblk]
  entry_read
  pointwise []
  blk_point [idx t, lay_val, row_val]
theorem read2 (d : Dev nD) (t : Fin cfg0.N) (z : Fin 1) (r : Fin 496) (c : Fin 1024) :
    (iblk m d 2 t (ix3 z r c) : EReal) = aV m d (ix3 (lay t) c (row t r)) := by
  blk_simp [iblk]
  entry_read
  pointwise []
  blk_point [idx t, lay_val, row_val]
theorem read3 (d : Dev nD) (t : Fin cfg0.N) (z : Fin 1) (r : Fin 496) (c : Fin 1024) :
    (iblk m d 3 t (ix3 z r c) : EReal) = aA m d (ix3 (lay t) (row t r) c) := by
  blk_ext [iblk, V, idx t, lay_val, row_val]
theorem read4 (d : Dev nD) (t : Fin cfg0.N) (z : Fin 1) (r : Fin 496) (c : Fin 1024) :
    (iblk m d 4 t (ix3 z r c) : EReal) = aB m d (ix3 (lay t) (row t r) c) := by
  blk_ext [iblk, V, idx t, lay_val, row_val]

/-- Where an element of each result's block lies in the array. -/
theorem place5 (t : Fin cfg0.N) (y : S1x496x1024.Idx) :
    ((cfg0.win 5).blk t).view.emb y = ix3 (lay t) (row t (y 1)) (y 2) := by
  blk_ext [idx t, lay_val, row_val]
  exact (row_val t _).symm
theorem place6 (t : Fin cfg0.N) (y : S1x496x1024.Idx) :
    ((cfg0.win 6).blk t).view.emb y = ix3 (lay t) (row t (y 1)) (y 2) := by
  blk_ext [idx t, lay_val, row_val]
  exact (row_val t _).symm
theorem place7 (t : Fin cfg0.N) (y : S1x496x1024.Idx) :
    ((cfg0.win 7).blk t).view.emb y = ix3 (lay t) (row t (y 1)) (y 2) := by
  blk_ext [idx t, lay_val, row_val]
  exact (row_val t _).symm
theorem place8 (t : Fin cfg0.N) (y : S1x496x1024.Idx) :
    ((cfg0.win 8).blk t).view.emb y = ix3 (lay t) (row t (y 1)) (y 2) := by
  blk_ext [idx t, lay_val, row_val]
  exact (row_val t _).symm

/-- The gradient. -/
theorem final5 (d : Dev nD) : (dats m 0 d).arrAt 5 cfg0.N = fun i : S4x1984x1024.Idx => gAt (aA m d) (aB m d) (i 0) (i 1) (i 2) := by
  refine (dats m 0 d).arrAt_eq_of_covers 5 _ (by decide +kernel) fun t hf y => ?_
  rw [place5]
  blk_simp
  rw [after0_5]
  frame_out
  unfold_payloads
  idx_vars y
  pointwise [gAt, mAt, vAt, dAt, first, second, step, inv_c1, inv_c2, read0, read1, read2, read3, read4]

/-- The step. -/
theorem final6 (d : Dev nD) : (dats m 0 d).arrAt 6 cfg0.N = fun i : S4x1984x1024.Idx => dAt (aW m d) (aM m d) (aV m d) (aA m d) (aB m d) (i 0) (i 1) (i 2) := by
  refine (dats m 0 d).arrAt_eq_of_covers 6 _ (by decide +kernel) fun t hf y => ?_
  rw [place6]
  blk_simp
  rw [after0_6]
  frame_out
  unfold_payloads
  idx_vars y
  pointwise [gAt, mAt, vAt, dAt, first, second, step, inv_c1, inv_c2, read0, read1, read2, read3, read4]

/-- The new first moment. -/
theorem final7 (d : Dev nD) : (dats m 0 d).arrAt 7 cfg0.N = fun i : S4x1984x1024.Idx => mAt (aM m d) (aA m d) (aB m d) (i 0) (i 1) (i 2) := by
  refine (dats m 0 d).arrAt_eq_of_covers 7 _ (by decide +kernel) fun t hf y => ?_
  rw [place7]
  blk_simp
  rw [after0_7]
  frame_out
  unfold_payloads
  idx_vars y
  pointwise [gAt, mAt, vAt, dAt, first, second, step, inv_c1, inv_c2, read0, read1, read2, read3, read4]

/-- The new second moment. -/
theorem final8 (d : Dev nD) : (dats m 0 d).arrAt 8 cfg0.N = fun i : S4x1984x1024.Idx => vAt (aV m d) (aA m d) (aB m d) (i 0) (i 1) (i 2) := by
  refine (dats m 0 d).arrAt_eq_of_covers 8 _ (by decide +kernel) fun t hf y => ?_
  rw [place8]
  blk_simp
  rw [after0_8]
  frame_out
  unfold_payloads
  idx_vars y
  pointwise [gAt, mAt, vAt, dAt, first, second, step, inv_c1, inv_c2, read0, read1, read2, read3, read4]

end Kernel

section Reference

open Cert.Reference14Ideal Cert.Reference14Ideal.Gen Cert.Reference14Ideal.Read

/-- The gradient, as the reference computes it. -/
theorem ref5 (a : Arr 4 1984 1024) (b : Arr 4 1984 1024) :
    val_main_v28 (F := Ideal) a b = fun i : S4x1984x1024.Idx => gAt a b (i 0) (i 1) (i 2) := by
  funext i
  idx_vars i
  pointwise [gAt, mAt, vAt, dAt, first, second, step, val_main_v28, val_main_v3, val_main_v2, val_main_v1, val_main_v0]

/-- The step, as the reference computes it. -/
theorem ref6 (w : Arr 4 1024 1984) (m : Arr 4 1024 1984) (v : Arr 4 1024 1984) (a : Arr 4 1984 1024) (b : Arr 4 1984 1024) :
    val_main_v29 (F := Ideal) w m v a b = fun i : S4x1984x1024.Idx => dAt w m v a b (i 0) (i 1) (i 2) := by
  funext i
  idx_vars i
  pointwise [gAt, mAt, vAt, dAt, first, second, step, val_main_v29, val_main_v27, val_main_v25, val_main_v24, val_main_v23, val_main_cst_6, val_main_v22, val_main_v21, val_main_v20, val_main_cst_5, val_main_v19, val_main_v18, val_main_v17, val_main_cst_4, val_main_v14, val_main_v13, val_main_v11, val_main_v3, val_main_v2, val_main_v1, val_main_v0, val_main_v12, val_main_cst_2, val_main_v10, val_main_v9, val_main_cst_1, val_main_v16, val_main_v15, val_main_cst_3, val_main_v8, val_main_v7, val_main_v6, val_main_cst_0, val_main_v5, val_main_v4, val_main_cst, val_main_v26, val_main_cst_7]
  rw [div_first, div_second]

/-- The new first moment, as the reference computes it. -/
theorem ref7 (m : Arr 4 1024 1984) (a : Arr 4 1984 1024) (b : Arr 4 1984 1024) :
    val_main_v30 (F := Ideal) m a b = fun i : S4x1984x1024.Idx => mAt m a b (i 0) (i 1) (i 2) := by
  funext i
  idx_vars i
  pointwise [gAt, mAt, vAt, dAt, first, second, step, val_main_v30, val_main_v8, val_main_v7, val_main_v3, val_main_v2, val_main_v1, val_main_v0, val_main_v6, val_main_cst_0, val_main_v5, val_main_v4, val_main_cst]

/-- The new second moment, as the reference computes it. -/
theorem ref8 (v : Arr 4 1024 1984) (a : Arr 4 1984 1024) (b : Arr 4 1984 1024) :
    val_main_v31 (F := Ideal) v a b = fun i : S4x1984x1024.Idx => vAt v a b (i 0) (i 1) (i 2) := by
  funext i
  idx_vars i
  pointwise [gAt, mAt, vAt, dAt, first, second, step, val_main_v31, val_main_v14, val_main_v13, val_main_v11, val_main_v3, val_main_v2, val_main_v1, val_main_v0, val_main_v12, val_main_cst_2, val_main_v10, val_main_v9, val_main_cst_1]

end Reference

end Cert.Adam.WIn

end
-- ==== Proof.ClaimAdamWIn.lean ====
/-
  The update of the input projection's weights: its claims.
-/
module

public import proofs.«01_k».proof.Defs
public import proofs.«01_k».proof.Proof.Gen.Reference14Ideal.Run
public import proofs.«01_k».proof.Proof.AdamWIn
public import Idealize.ShloMosaic.Lib.Quiescent

@[expose] public section

set_option maxRecDepth 16384

noncomputable section

namespace Cert.Adam.WIn

open Idealize.ShloMosaic Idealize.ShloMosaic.TcCoe Idealize.SL.Sem

/-- The reference runs on the host alone: it ends with its arguments unchanged and no semaphore moved. -/
theorem frame_reference : Cert.quiescent_Reference14Ideal := fun m ρ _ =>
  (θ_run Cert.Reference14Ideal.defs _ _).mono
    (fun r h => ⟨fun c => (h c).2.2.2.2, sem_eq_zero_of_no_sems (by decide) r.2⟩)
    (Cert.Reference14Ideal.Value.run (F := Ideal) m ρ)

/-- The kernel's two numbers are named as the reciprocals that they stand for. -/
theorem preserves : Cert.preserves_Kernel14_Kernel14Ideal :=
  ⟨IdealRules.named_const.statement Cert.Kernel14Ideal.κ "inv_c1" .f32 0x3FC48605#32 ((8388608 / 5463681 : ℝ) : EReal) rfl,
    IdealRules.named_const.statement Cert.Kernel14Ideal.κ "inv_c2" .f32 0x42C8E6D3#32 ((268435456 / 2672307 : ℝ) : EReal) rfl⟩

/-- The kernel's result arrays are the reference's, from arguments that agree. -/
theorem algebraic : Cert.algebraic_Kernel14Ideal_Reference14Ideal := by
  intro m ρ m' ρ' _ hagree
  refine ⟨fun c => (Cert.Kernel14Ideal.Gen.dats m 0 c).arrAt 5 Cert.Kernel14Ideal.cfg0.N, fun c => (Cert.Kernel14Ideal.Gen.dats m 0 c).arrAt 6 Cert.Kernel14Ideal.cfg0.N, fun c => (Cert.Kernel14Ideal.Gen.dats m 0 c).arrAt 7 Cert.Kernel14Ideal.cfg0.N, fun c => (Cert.Kernel14Ideal.Gen.dats m 0 c).arrAt 8 Cert.Kernel14Ideal.cfg0.N, ?_, ?_⟩
  · exact Cert.Kernel14Ideal.Value.run_blocks m ρ
  · refine (θ_run Cert.Reference14Ideal.defs _ _).mono (fun _ h c => ?_) (Cert.Reference14Ideal.Value.run (F := Ideal) m' ρ')
    obtain ⟨e0, e1, e2, e3, e4⟩ := hagree c
    obtain ⟨r0, r1, r2, r3, keep⟩ := h c
    refine ⟨r0.trans ?_, r1.trans ?_, r2.trans ?_, r3.trans ?_, keep⟩
    · refine (Cert.Reference14Ideal.Read.val_main_v28_eq _ _).trans ((ref5 _ _).trans ?_)
      simp only [e0, e1, e2, e3, e4]
      exact (final5 m c).symm
    · refine (Cert.Reference14Ideal.Read.val_main_v29_eq _ _ _ _ _).trans ((ref6 _ _ _ _ _).trans ?_)
      simp only [e0, e1, e2, e3, e4]
      exact (final6 m c).symm
    · refine (Cert.Reference14Ideal.Read.val_main_v30_eq _ _ _).trans ((ref7 _ _ _).trans ?_)
      simp only [e0, e1, e2, e3, e4]
      exact (final7 m c).symm
    · refine (Cert.Reference14Ideal.Read.val_main_v31_eq _ _ _).trans ((ref8 _ _ _).trans ?_)
      simp only [e0, e1, e2, e3, e4]
      exact (final8 m c).symm

end Cert.Adam.WIn

end
-- ==== Proof.AdamWAo.lean ====
/-
  The update of the convolution's output weights: what the kernel leaves in its four results, and what the reference computes.
-/
module

public import proofs.«01_k».proof.Proof.Gen.Kernel15Ideal.Value
public import proofs.«01_k».proof.Proof.Gen.Reference15Ideal.Read
public import proofs.«01_k».proof.Proof.Adam

@[expose] public section

set_option maxRecDepth 16384

noncomputable section

namespace Cert.Adam.WAo

open Idealize.ShloMosaic Idealize.ShloMosaic.TcCoe Idealize.SL.Sem Cert.Adam
open Idealize.ShloMosaic.Pipeline (Dat)

/-- The gradient: the sum of the two cores' parts. -/
def gAt (a b : Arr 4 512 256) (l : Fin 4) (r : Fin 512) (c : Fin 256) : EReal := a (ix3 l r c) + b (ix3 l r c)
/-- The new moments and the step. -/
def mAt (m : Arr 4 512 256) (a b : Arr 4 512 256) (l : Fin 4) (r : Fin 512) (c : Fin 256) : EReal := first (m (ix3 l r c)) (gAt a b l r c)
def vAt (v : Arr 4 512 256) (a b : Arr 4 512 256) (l : Fin 4) (r : Fin 512) (c : Fin 256) : EReal := second (v (ix3 l r c)) (gAt a b l r c)
def dAt (w m v : Arr 4 512 256) (a b : Arr 4 512 256) (l : Fin 4) (r : Fin 512) (c : Fin 256) : EReal :=
  step (w (ix3 l r c)) (mAt m a b l r c) (vAt v a b l r c)

section Kernel

open Cert.Kernel15Ideal Cert.Kernel15Ideal.Gen

variable (m : (ℓ : Loc nD τ sig) → Buf (Elt Ideal) ℓ)

/-- The kernel's two named numbers. -/
theorem inv_c1 : Named.named (F := Ideal) Cert.Kernel15Ideal.κ "inv_c1" (φ := .f32) 0x3FC48605#32 = k1 :=
  IdealRules.named_const.ideal_named_scalar _ _ _ _ rfl
theorem inv_c2 : Named.named (F := Ideal) Cert.Kernel15Ideal.κ "inv_c2" (φ := .f32) 0x42C8E6D3#32 = k2 :=
  IdealRules.named_const.ideal_named_scalar _ _ _ _ rfl

/-- Which block each window holds at a grid point. -/
theorem idx : ∀ t : Fin grid0.N, win0_0.index t = ![t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] := by decide +kernel

/-- The argument arrays of device `c`. -/
abbrev aW (c : Dev nD) : Arr 4 512 256 := m ((c : Thread nD τ).loc main_arg0)
abbrev aM (c : Dev nD) : Arr 4 512 256 := m ((c : Thread nD τ).loc main_arg1)
abbrev aV (c : Dev nD) : Arr 4 512 256 := m ((c : Thread nD τ).loc main_arg2)
abbrev aA (c : Dev nD) : Arr 4 512 256 := m ((c : Thread nD τ).loc main_arg3)
abbrev aB (c : Dev nD) : Arr 4 512 256 := m ((c : Thread nD τ).loc main_arg4)

/-- The layer that grid point `t`'s block belongs to. -/
def lay (t : Fin cfg0.N) : Fin 4 := ⟨t.val, t.isLt⟩

theorem lay_val (t : Fin cfg0.N) : (lay t).val = t.val := rfl

/-- Each input window's block at a point, read at an index, is its array read at the place of the block. -/
theorem read0 (d : Dev nD) (t : Fin cfg0.N) (z : Fin 1) (r : Fin 512) (c : Fin 256) :
    (iblk m d 0 t (ix3 z r c) : EReal) = aW m d (ix3 (lay t) r c) := by
  blk_ext [iblk, V, idx t, lay_val]
theorem read1 (d : Dev nD) (t : Fin cfg0.N) (z : Fin 1) (r : Fin 512) (c : Fin 256) :
    (iblk m d 1 t (ix3 z r c) : EReal) = aM m d (ix3 (lay t) r c) := by
  blk_ext [iblk, V, idx t, lay_val]
theorem read2 (d : Dev nD) (t : Fin cfg0.N) (z : Fin 1) (r : Fin 512) (c : Fin 256) :
    (iblk m d 2 t (ix3 z r c) : EReal) = aV m d (ix3 (lay t) r c) := by
  blk_ext [iblk, V, idx t, lay_val]
theorem read3 (d : Dev nD) (t : Fin cfg0.N) (z : Fin 1) (r : Fin 512) (c : Fin 256) :
    (iblk m d 3 t (ix3 z r c) : EReal) = aA m d (ix3 (lay t) r c) := by
  blk_ext [iblk, V, idx t, lay_val]
theorem read4 (d : Dev nD) (t : Fin cfg0.N) (z : Fin 1) (r : Fin 512) (c : Fin 256) :
    (iblk m d 4 t (ix3 z r c) : EReal) = aB m d (ix3 (lay t) r c) := by
  blk_ext [iblk, V, idx t, lay_val]

/-- Where an element of each result's block lies in the array. -/
theorem place5 (t : Fin cfg0.N) (y : S1x512x256.Idx) :
    ((cfg0.win 5).blk t).view.emb y = ix3 (lay t) (y 1) (y 2) := by
  blk_ext [idx t, lay_val]
theorem place6 (t : Fin cfg0.N) (y : S1x512x256.Idx) :
    ((cfg0.win 6).blk t).view.emb y = ix3 (lay t) (y 1) (y 2) := by
  blk_ext [idx t, lay_val]
theorem place7 (t : Fin cfg0.N) (y : S1x512x256.Idx) :
    ((cfg0.win 7).blk t).view.emb y = ix3 (lay t) (y 1) (y 2) := by
  blk_ext [idx t, lay_val]
theorem place8 (t : Fin cfg0.N) (y : S1x512x256.Idx) :
    ((cfg0.win 8).blk t).view.emb y = ix3 (lay t) (y 1) (y 2) := by
  blk_ext [idx t, lay_val]

/-- The gradient. -/
theorem final5 (d : Dev nD) : (dats m 0 d).arrAt 5 cfg0.N = fun i : S4x512x256.Idx => gAt (aA m d) (aB m d) (i 0) (i 1) (i 2) := by
  refine (dats m 0 d).arrAt_eq_of_covers 5 _ (by decide +kernel) fun t hf y => ?_
  rw [place5]
  blk_simp
  rw [after0_5]
  frame_out
  unfold_payloads
  idx_vars y
  pointwise [gAt, mAt, vAt, dAt, first, second, step, inv_c1, inv_c2, read0, read1, read2, read3, read4]

/-- The step. -/
theorem final6 (d : Dev nD) : (dats m 0 d).arrAt 6 cfg0.N = fun i : S4x512x256.Idx => dAt (aW m d) (aM m d) (aV m d) (aA m d) (aB m d) (i 0) (i 1) (i 2) := by
  refine (dats m 0 d).arrAt_eq_of_covers 6 _ (by decide +kernel) fun t hf y => ?_
  rw [place6]
  blk_simp
  rw [after0_6]
  frame_out
  unfold_payloads
  idx_vars y
  pointwise [gAt, mAt, vAt, dAt, first, second, step, inv_c1, inv_c2, read0, read1, read2, read3, read4]

/-- The new first moment. -/
theorem final7 (d : Dev nD) : (dats m 0 d).arrAt 7 cfg0.N = fun i : S4x512x256.Idx => mAt (aM m d) (aA m d) (aB m d) (i 0) (i 1) (i 2) := by
  refine (dats m 0 d).arrAt_eq_of_covers 7 _ (by decide +kernel) fun t hf y => ?_
  rw [place7]
  blk_simp
  rw [after0_7]
  frame_out
  unfold_payloads
  idx_vars y
  pointwise [gAt, mAt, vAt, dAt, first, second, step, inv_c1, inv_c2, read0, read1, read2, read3, read4]

/-- The new second moment. -/
theorem final8 (d : Dev nD) : (dats m 0 d).arrAt 8 cfg0.N = fun i : S4x512x256.Idx => vAt (aV m d) (aA m d) (aB m d) (i 0) (i 1) (i 2) := by
  refine (dats m 0 d).arrAt_eq_of_covers 8 _ (by decide +kernel) fun t hf y => ?_
  rw [place8]
  blk_simp
  rw [after0_8]
  frame_out
  unfold_payloads
  idx_vars y
  pointwise [gAt, mAt, vAt, dAt, first, second, step, inv_c1, inv_c2, read0, read1, read2, read3, read4]

end Kernel

section Reference

open Cert.Reference15Ideal Cert.Reference15Ideal.Gen Cert.Reference15Ideal.Read

/-- The gradient, as the reference computes it. -/
theorem ref5 (a : Arr 4 512 256) (b : Arr 4 512 256) :
    val_main_v2 (F := Ideal) a b = fun i : S4x512x256.Idx => gAt a b (i 0) (i 1) (i 2) := by
  funext i
  idx_vars i
  pointwise [gAt, mAt, vAt, dAt, first, second, step, val_main_v2, val_main_v1, val_main_v0]

/-- The step, as the reference computes it. -/
theorem ref6 (w : Arr 4 512 256) (m : Arr 4 512 256) (v : Arr 4 512 256) (a : Arr 4 512 256) (b : Arr 4 512 256) :
    val_main_v26 (F := Ideal) w m v a b = fun i : S4x512x256.Idx => dAt w m v a b (i 0) (i 1) (i 2) := by
  funext i
  idx_vars i
  pointwise [gAt, mAt, vAt, dAt, first, second, step, val_main_v26, val_main_v24, val_main_v23, val_main_v22, val_main_cst_6, val_main_v21, val_main_v20, val_main_v19, val_main_cst_5, val_main_v18, val_main_v17, val_main_v16, val_main_cst_4, val_main_v13, val_main_v12, val_main_v10, val_main_v2, val_main_v1, val_main_v0, val_main_v11, val_main_cst_2, val_main_v9, val_main_v8, val_main_cst_1, val_main_v15, val_main_v14, val_main_cst_3, val_main_v7, val_main_v6, val_main_v5, val_main_cst_0, val_main_v4, val_main_v3, val_main_cst, val_main_v25, val_main_cst_7]
  rw [div_first, div_second]

/-- The new first moment, as the reference computes it. -/
theorem ref7 (m : Arr 4 512 256) (a : Arr 4 512 256) (b : Arr 4 512 256) :
    val_main_v7 (F := Ideal) m a b = fun i : S4x512x256.Idx => mAt m a b (i 0) (i 1) (i 2) := by
  funext i
  idx_vars i
  pointwise [gAt, mAt, vAt, dAt, first, second, step, val_main_v7, val_main_v6, val_main_v2, val_main_v1, val_main_v0, val_main_v5, val_main_cst_0, val_main_v4, val_main_v3, val_main_cst]

/-- The new second moment, as the reference computes it. -/
theorem ref8 (v : Arr 4 512 256) (a : Arr 4 512 256) (b : Arr 4 512 256) :
    val_main_v13 (F := Ideal) v a b = fun i : S4x512x256.Idx => vAt v a b (i 0) (i 1) (i 2) := by
  funext i
  idx_vars i
  pointwise [gAt, mAt, vAt, dAt, first, second, step, val_main_v13, val_main_v12, val_main_v10, val_main_v2, val_main_v1, val_main_v0, val_main_v11, val_main_cst_2, val_main_v9, val_main_v8, val_main_cst_1]

end Reference

end Cert.Adam.WAo

end
-- ==== Proof.ClaimAdamWAo.lean ====
/-
  The update of the convolution's output weights: its claims.
-/
module

public import proofs.«01_k».proof.Defs
public import proofs.«01_k».proof.Proof.Gen.Reference15Ideal.Run
public import proofs.«01_k».proof.Proof.AdamWAo
public import Idealize.ShloMosaic.Lib.Quiescent

@[expose] public section

set_option maxRecDepth 16384

noncomputable section

namespace Cert.Adam.WAo

open Idealize.ShloMosaic Idealize.ShloMosaic.TcCoe Idealize.SL.Sem

/-- The reference runs on the host alone: it ends with its arguments unchanged and no semaphore moved. -/
theorem frame_reference : Cert.quiescent_Reference15Ideal := fun m ρ _ =>
  (θ_run Cert.Reference15Ideal.defs _ _).mono
    (fun r h => ⟨fun c => (h c).2.2.2.2, sem_eq_zero_of_no_sems (by decide) r.2⟩)
    (Cert.Reference15Ideal.Value.run (F := Ideal) m ρ)

/-- The kernel's two numbers are named as the reciprocals that they stand for. -/
theorem preserves : Cert.preserves_Kernel15_Kernel15Ideal :=
  ⟨IdealRules.named_const.statement Cert.Kernel15Ideal.κ "inv_c1" .f32 0x3FC48605#32 ((8388608 / 5463681 : ℝ) : EReal) rfl,
    IdealRules.named_const.statement Cert.Kernel15Ideal.κ "inv_c2" .f32 0x42C8E6D3#32 ((268435456 / 2672307 : ℝ) : EReal) rfl⟩

/-- The kernel's result arrays are the reference's, from arguments that agree. -/
theorem algebraic : Cert.algebraic_Kernel15Ideal_Reference15Ideal := by
  intro m ρ m' ρ' _ hagree
  refine ⟨fun c => (Cert.Kernel15Ideal.Gen.dats m 0 c).arrAt 5 Cert.Kernel15Ideal.cfg0.N, fun c => (Cert.Kernel15Ideal.Gen.dats m 0 c).arrAt 6 Cert.Kernel15Ideal.cfg0.N, fun c => (Cert.Kernel15Ideal.Gen.dats m 0 c).arrAt 7 Cert.Kernel15Ideal.cfg0.N, fun c => (Cert.Kernel15Ideal.Gen.dats m 0 c).arrAt 8 Cert.Kernel15Ideal.cfg0.N, ?_, ?_⟩
  · exact Cert.Kernel15Ideal.Value.run_blocks m ρ
  · refine (θ_run Cert.Reference15Ideal.defs _ _).mono (fun _ h c => ?_) (Cert.Reference15Ideal.Value.run (F := Ideal) m' ρ')
    obtain ⟨e0, e1, e2, e3, e4⟩ := hagree c
    obtain ⟨r0, r1, r2, r3, keep⟩ := h c
    refine ⟨r0.trans ?_, r1.trans ?_, r2.trans ?_, r3.trans ?_, keep⟩
    · refine (Cert.Reference15Ideal.Read.val_main_v2_eq _ _).trans ((ref5 _ _).trans ?_)
      simp only [e0, e1, e2, e3, e4]
      exact (final5 m c).symm
    · refine (Cert.Reference15Ideal.Read.val_main_v26_eq _ _ _ _ _).trans ((ref6 _ _ _ _ _).trans ?_)
      simp only [e0, e1, e2, e3, e4]
      exact (final6 m c).symm
    · refine (Cert.Reference15Ideal.Read.val_main_v7_eq _ _ _).trans ((ref7 _ _ _).trans ?_)
      simp only [e0, e1, e2, e3, e4]
      exact (final7 m c).symm
    · refine (Cert.Reference15Ideal.Read.val_main_v13_eq _ _ _).trans ((ref8 _ _ _).trans ?_)
      simp only [e0, e1, e2, e3, e4]
      exact (final8 m c).symm

end Cert.Adam.WAo

end
-- ==== Proof.AdamWBo.lean ====
/-
  The update of the recurrence's output weights: what the kernel leaves in its four results, and what the reference computes.
-/
module

public import proofs.«01_k».proof.Proof.Gen.Kernel16Ideal.Value
public import proofs.«01_k».proof.Proof.Gen.Reference16Ideal.Read
public import proofs.«01_k».proof.Proof.Adam

@[expose] public section

set_option maxRecDepth 16384

noncomputable section

namespace Cert.Adam.WBo

open Idealize.ShloMosaic Idealize.ShloMosaic.TcCoe Idealize.SL.Sem Cert.Adam
open Idealize.ShloMosaic.Pipeline (Dat)

/-- The gradient: the sum of the two cores' parts. -/
def gAt (a b : Arr 4 512 256) (l : Fin 4) (r : Fin 512) (c : Fin 256) : EReal := a (ix3 l r c) + b (ix3 l r c)
/-- The new moments and the step. -/
def mAt (m : Arr 4 512 256) (a b : Arr 4 512 256) (l : Fin 4) (r : Fin 512) (c : Fin 256) : EReal := first (m (ix3 l r c)) (gAt a b l r c)
def vAt (v : Arr 4 512 256) (a b : Arr 4 512 256) (l : Fin 4) (r : Fin 512) (c : Fin 256) : EReal := second (v (ix3 l r c)) (gAt a b l r c)
def dAt (w m v : Arr 4 512 256) (a b : Arr 4 512 256) (l : Fin 4) (r : Fin 512) (c : Fin 256) : EReal :=
  step (w (ix3 l r c)) (mAt m a b l r c) (vAt v a b l r c)

section Kernel

open Cert.Kernel16Ideal Cert.Kernel16Ideal.Gen

variable (m : (ℓ : Loc nD τ sig) → Buf (Elt Ideal) ℓ)

/-- The kernel's two named numbers. -/
theorem inv_c1 : Named.named (F := Ideal) Cert.Kernel16Ideal.κ "inv_c1" (φ := .f32) 0x3FC48605#32 = k1 :=
  IdealRules.named_const.ideal_named_scalar _ _ _ _ rfl
theorem inv_c2 : Named.named (F := Ideal) Cert.Kernel16Ideal.κ "inv_c2" (φ := .f32) 0x42C8E6D3#32 = k2 :=
  IdealRules.named_const.ideal_named_scalar _ _ _ _ rfl

/-- Which block each window holds at a grid point. -/
theorem idx : ∀ t : Fin grid0.N, win0_0.index t = ![t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] := by decide +kernel

/-- The argument arrays of device `c`. -/
abbrev aW (c : Dev nD) : Arr 4 512 256 := m ((c : Thread nD τ).loc main_arg0)
abbrev aM (c : Dev nD) : Arr 4 512 256 := m ((c : Thread nD τ).loc main_arg1)
abbrev aV (c : Dev nD) : Arr 4 512 256 := m ((c : Thread nD τ).loc main_arg2)
abbrev aA (c : Dev nD) : Arr 4 512 256 := m ((c : Thread nD τ).loc main_arg3)
abbrev aB (c : Dev nD) : Arr 4 512 256 := m ((c : Thread nD τ).loc main_arg4)

/-- The layer that grid point `t`'s block belongs to. -/
def lay (t : Fin cfg0.N) : Fin 4 := ⟨t.val, t.isLt⟩

theorem lay_val (t : Fin cfg0.N) : (lay t).val = t.val := rfl

/-- Each input window's block at a point, read at an index, is its array read at the place of the block. -/
theorem read0 (d : Dev nD) (t : Fin cfg0.N) (z : Fin 1) (r : Fin 512) (c : Fin 256) :
    (iblk m d 0 t (ix3 z r c) : EReal) = aW m d (ix3 (lay t) r c) := by
  blk_ext [iblk, V, idx t, lay_val]
theorem read1 (d : Dev nD) (t : Fin cfg0.N) (z : Fin 1) (r : Fin 512) (c : Fin 256) :
    (iblk m d 1 t (ix3 z r c) : EReal) = aM m d (ix3 (lay t) r c) := by
  blk_ext [iblk, V, idx t, lay_val]
theorem read2 (d : Dev nD) (t : Fin cfg0.N) (z : Fin 1) (r : Fin 512) (c : Fin 256) :
    (iblk m d 2 t (ix3 z r c) : EReal) = aV m d (ix3 (lay t) r c) := by
  blk_ext [iblk, V, idx t, lay_val]
theorem read3 (d : Dev nD) (t : Fin cfg0.N) (z : Fin 1) (r : Fin 512) (c : Fin 256) :
    (iblk m d 3 t (ix3 z r c) : EReal) = aA m d (ix3 (lay t) r c) := by
  blk_ext [iblk, V, idx t, lay_val]
theorem read4 (d : Dev nD) (t : Fin cfg0.N) (z : Fin 1) (r : Fin 512) (c : Fin 256) :
    (iblk m d 4 t (ix3 z r c) : EReal) = aB m d (ix3 (lay t) r c) := by
  blk_ext [iblk, V, idx t, lay_val]

/-- Where an element of each result's block lies in the array. -/
theorem place5 (t : Fin cfg0.N) (y : S1x512x256.Idx) :
    ((cfg0.win 5).blk t).view.emb y = ix3 (lay t) (y 1) (y 2) := by
  blk_ext [idx t, lay_val]
theorem place6 (t : Fin cfg0.N) (y : S1x512x256.Idx) :
    ((cfg0.win 6).blk t).view.emb y = ix3 (lay t) (y 1) (y 2) := by
  blk_ext [idx t, lay_val]
theorem place7 (t : Fin cfg0.N) (y : S1x512x256.Idx) :
    ((cfg0.win 7).blk t).view.emb y = ix3 (lay t) (y 1) (y 2) := by
  blk_ext [idx t, lay_val]
theorem place8 (t : Fin cfg0.N) (y : S1x512x256.Idx) :
    ((cfg0.win 8).blk t).view.emb y = ix3 (lay t) (y 1) (y 2) := by
  blk_ext [idx t, lay_val]

/-- The gradient. -/
theorem final5 (d : Dev nD) : (dats m 0 d).arrAt 5 cfg0.N = fun i : S4x512x256.Idx => gAt (aA m d) (aB m d) (i 0) (i 1) (i 2) := by
  refine (dats m 0 d).arrAt_eq_of_covers 5 _ (by decide +kernel) fun t hf y => ?_
  rw [place5]
  blk_simp
  rw [after0_5]
  frame_out
  unfold_payloads
  idx_vars y
  pointwise [gAt, mAt, vAt, dAt, first, second, step, inv_c1, inv_c2, read0, read1, read2, read3, read4]

/-- The step. -/
theorem final6 (d : Dev nD) : (dats m 0 d).arrAt 6 cfg0.N = fun i : S4x512x256.Idx => dAt (aW m d) (aM m d) (aV m d) (aA m d) (aB m d) (i 0) (i 1) (i 2) := by
  refine (dats m 0 d).arrAt_eq_of_covers 6 _ (by decide +kernel) fun t hf y => ?_
  rw [place6]
  blk_simp
  rw [after0_6]
  frame_out
  unfold_payloads
  idx_vars y
  pointwise [gAt, mAt, vAt, dAt, first, second, step, inv_c1, inv_c2, read0, read1, read2, read3, read4]

/-- The new first moment. -/
theorem final7 (d : Dev nD) : (dats m 0 d).arrAt 7 cfg0.N = fun i : S4x512x256.Idx => mAt (aM m d) (aA m d) (aB m d) (i 0) (i 1) (i 2) := by
  refine (dats m 0 d).arrAt_eq_of_covers 7 _ (by decide +kernel) fun t hf y => ?_
  rw [place7]
  blk_simp
  rw [after0_7]
  frame_out
  unfold_payloads
  idx_vars y
  pointwise [gAt, mAt, vAt, dAt, first, second, step, inv_c1, inv_c2, read0, read1, read2, read3, read4]

/-- The new second moment. -/
theorem final8 (d : Dev nD) : (dats m 0 d).arrAt 8 cfg0.N = fun i : S4x512x256.Idx => vAt (aV m d) (aA m d) (aB m d) (i 0) (i 1) (i 2) := by
  refine (dats m 0 d).arrAt_eq_of_covers 8 _ (by decide +kernel) fun t hf y => ?_
  rw [place8]
  blk_simp
  rw [after0_8]
  frame_out
  unfold_payloads
  idx_vars y
  pointwise [gAt, mAt, vAt, dAt, first, second, step, inv_c1, inv_c2, read0, read1, read2, read3, read4]

end Kernel

section Reference

open Cert.Reference16Ideal Cert.Reference16Ideal.Gen Cert.Reference16Ideal.Read

/-- The gradient, as the reference computes it. -/
theorem ref5 (a : Arr 4 512 256) (b : Arr 4 512 256) :
    val_main_v2 (F := Ideal) a b = fun i : S4x512x256.Idx => gAt a b (i 0) (i 1) (i 2) := by
  funext i
  idx_vars i
  pointwise [gAt, mAt, vAt, dAt, first, second, step, val_main_v2, val_main_v1, val_main_v0]

/-- The step, as the reference computes it. -/
theorem ref6 (w : Arr 4 512 256) (m : Arr 4 512 256) (v : Arr 4 512 256) (a : Arr 4 512 256) (b : Arr 4 512 256) :
    val_main_v26 (F := Ideal) w m v a b = fun i : S4x512x256.Idx => dAt w m v a b (i 0) (i 1) (i 2) := by
  funext i
  idx_vars i
  pointwise [gAt, mAt, vAt, dAt, first, second, step, val_main_v26, val_main_v24, val_main_v23, val_main_v22, val_main_cst_6, val_main_v21, val_main_v20, val_main_v19, val_main_cst_5, val_main_v18, val_main_v17, val_main_v16, val_main_cst_4, val_main_v13, val_main_v12, val_main_v10, val_main_v2, val_main_v1, val_main_v0, val_main_v11, val_main_cst_2, val_main_v9, val_main_v8, val_main_cst_1, val_main_v15, val_main_v14, val_main_cst_3, val_main_v7, val_main_v6, val_main_v5, val_main_cst_0, val_main_v4, val_main_v3, val_main_cst, val_main_v25, val_main_cst_7]
  rw [div_first, div_second]

/-- The new first moment, as the reference computes it. -/
theorem ref7 (m : Arr 4 512 256) (a : Arr 4 512 256) (b : Arr 4 512 256) :
    val_main_v7 (F := Ideal) m a b = fun i : S4x512x256.Idx => mAt m a b (i 0) (i 1) (i 2) := by
  funext i
  idx_vars i
  pointwise [gAt, mAt, vAt, dAt, first, second, step, val_main_v7, val_main_v6, val_main_v2, val_main_v1, val_main_v0, val_main_v5, val_main_cst_0, val_main_v4, val_main_v3, val_main_cst]

/-- The new second moment, as the reference computes it. -/
theorem ref8 (v : Arr 4 512 256) (a : Arr 4 512 256) (b : Arr 4 512 256) :
    val_main_v13 (F := Ideal) v a b = fun i : S4x512x256.Idx => vAt v a b (i 0) (i 1) (i 2) := by
  funext i
  idx_vars i
  pointwise [gAt, mAt, vAt, dAt, first, second, step, val_main_v13, val_main_v12, val_main_v10, val_main_v2, val_main_v1, val_main_v0, val_main_v11, val_main_cst_2, val_main_v9, val_main_v8, val_main_cst_1]

end Reference

end Cert.Adam.WBo

end
-- ==== Proof.ClaimAdamWBo.lean ====
/-
  The update of the recurrence's output weights: its claims.
-/
module

public import proofs.«01_k».proof.Defs
public import proofs.«01_k».proof.Proof.Gen.Reference16Ideal.Run
public import proofs.«01_k».proof.Proof.AdamWBo
public import Idealize.ShloMosaic.Lib.Quiescent

@[expose] public section

set_option maxRecDepth 16384

noncomputable section

namespace Cert.Adam.WBo

open Idealize.ShloMosaic Idealize.ShloMosaic.TcCoe Idealize.SL.Sem

/-- The reference runs on the host alone: it ends with its arguments unchanged and no semaphore moved. -/
theorem frame_reference : Cert.quiescent_Reference16Ideal := fun m ρ _ =>
  (θ_run Cert.Reference16Ideal.defs _ _).mono
    (fun r h => ⟨fun c => (h c).2.2.2.2, sem_eq_zero_of_no_sems (by decide) r.2⟩)
    (Cert.Reference16Ideal.Value.run (F := Ideal) m ρ)

/-- The kernel's two numbers are named as the reciprocals that they stand for. -/
theorem preserves : Cert.preserves_Kernel16_Kernel16Ideal :=
  ⟨IdealRules.named_const.statement Cert.Kernel16Ideal.κ "inv_c1" .f32 0x3FC48605#32 ((8388608 / 5463681 : ℝ) : EReal) rfl,
    IdealRules.named_const.statement Cert.Kernel16Ideal.κ "inv_c2" .f32 0x42C8E6D3#32 ((268435456 / 2672307 : ℝ) : EReal) rfl⟩

/-- The kernel's result arrays are the reference's, from arguments that agree. -/
theorem algebraic : Cert.algebraic_Kernel16Ideal_Reference16Ideal := by
  intro m ρ m' ρ' _ hagree
  refine ⟨fun c => (Cert.Kernel16Ideal.Gen.dats m 0 c).arrAt 5 Cert.Kernel16Ideal.cfg0.N, fun c => (Cert.Kernel16Ideal.Gen.dats m 0 c).arrAt 6 Cert.Kernel16Ideal.cfg0.N, fun c => (Cert.Kernel16Ideal.Gen.dats m 0 c).arrAt 7 Cert.Kernel16Ideal.cfg0.N, fun c => (Cert.Kernel16Ideal.Gen.dats m 0 c).arrAt 8 Cert.Kernel16Ideal.cfg0.N, ?_, ?_⟩
  · exact Cert.Kernel16Ideal.Value.run_blocks m ρ
  · refine (θ_run Cert.Reference16Ideal.defs _ _).mono (fun _ h c => ?_) (Cert.Reference16Ideal.Value.run (F := Ideal) m' ρ')
    obtain ⟨e0, e1, e2, e3, e4⟩ := hagree c
    obtain ⟨r0, r1, r2, r3, keep⟩ := h c
    refine ⟨r0.trans ?_, r1.trans ?_, r2.trans ?_, r3.trans ?_, keep⟩
    · refine (Cert.Reference16Ideal.Read.val_main_v2_eq _ _).trans ((ref5 _ _).trans ?_)
      simp only [e0, e1, e2, e3, e4]
      exact (final5 m c).symm
    · refine (Cert.Reference16Ideal.Read.val_main_v26_eq _ _ _ _ _).trans ((ref6 _ _ _ _ _).trans ?_)
      simp only [e0, e1, e2, e3, e4]
      exact (final6 m c).symm
    · refine (Cert.Reference16Ideal.Read.val_main_v7_eq _ _ _).trans ((ref7 _ _ _).trans ?_)
      simp only [e0, e1, e2, e3, e4]
      exact (final7 m c).symm
    · refine (Cert.Reference16Ideal.Read.val_main_v13_eq _ _ _).trans ((ref8 _ _ _).trans ?_)
      simp only [e0, e1, e2, e3, e4]
      exact (final8 m c).symm

end Cert.Adam.WBo

end
-- ==== Proof.AdamWCo.lean ====
/-
  The update of the attention's output weights: what the kernel leaves in its four results, and what the reference computes.
-/
module

public import proofs.«01_k».proof.Proof.Gen.Kernel17Ideal.Value
public import proofs.«01_k».proof.Proof.Gen.Reference17Ideal.Read
public import proofs.«01_k».proof.Proof.Adam

@[expose] public section

set_option maxRecDepth 16384

noncomputable section

namespace Cert.Adam.WCo

open Idealize.ShloMosaic Idealize.ShloMosaic.TcCoe Idealize.SL.Sem Cert.Adam
open Idealize.ShloMosaic.Pipeline (Dat)

/-- The gradient: the sum of the two cores' parts. -/
def gAt (a b : Arr 4 512 256) (l : Fin 4) (r : Fin 512) (c : Fin 256) : EReal := a (ix3 l r c) + b (ix3 l r c)
/-- The new moments and the step. -/
def mAt (m : Arr 4 512 256) (a b : Arr 4 512 256) (l : Fin 4) (r : Fin 512) (c : Fin 256) : EReal := first (m (ix3 l r c)) (gAt a b l r c)
def vAt (v : Arr 4 512 256) (a b : Arr 4 512 256) (l : Fin 4) (r : Fin 512) (c : Fin 256) : EReal := second (v (ix3 l r c)) (gAt a b l r c)
def dAt (w m v : Arr 4 512 256) (a b : Arr 4 512 256) (l : Fin 4) (r : Fin 512) (c : Fin 256) : EReal :=
  step (w (ix3 l r c)) (mAt m a b l r c) (vAt v a b l r c)

section Kernel

open Cert.Kernel17Ideal Cert.Kernel17Ideal.Gen

variable (m : (ℓ : Loc nD τ sig) → Buf (Elt Ideal) ℓ)

/-- The kernel's two named numbers. -/
theorem inv_c1 : Named.named (F := Ideal) Cert.Kernel17Ideal.κ "inv_c1" (φ := .f32) 0x3FC48605#32 = k1 :=
  IdealRules.named_const.ideal_named_scalar _ _ _ _ rfl
theorem inv_c2 : Named.named (F := Ideal) Cert.Kernel17Ideal.κ "inv_c2" (φ := .f32) 0x42C8E6D3#32 = k2 :=
  IdealRules.named_const.ideal_named_scalar _ _ _ _ rfl

/-- Which block each window holds at a grid point. -/
theorem idx : ∀ t : Fin grid0.N, win0_0.index t = ![t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] := by decide +kernel

/-- The argument arrays of device `c`. -/
abbrev aW (c : Dev nD) : Arr 4 512 256 := m ((c : Thread nD τ).loc main_arg0)
abbrev aM (c : Dev nD) : Arr 4 512 256 := m ((c : Thread nD τ).loc main_arg1)
abbrev aV (c : Dev nD) : Arr 4 512 256 := m ((c : Thread nD τ).loc main_arg2)
abbrev aA (c : Dev nD) : Arr 4 512 256 := m ((c : Thread nD τ).loc main_arg3)
abbrev aB (c : Dev nD) : Arr 4 512 256 := m ((c : Thread nD τ).loc main_arg4)

/-- The layer that grid point `t`'s block belongs to. -/
def lay (t : Fin cfg0.N) : Fin 4 := ⟨t.val, t.isLt⟩

theorem lay_val (t : Fin cfg0.N) : (lay t).val = t.val := rfl

/-- Each input window's block at a point, read at an index, is its array read at the place of the block. -/
theorem read0 (d : Dev nD) (t : Fin cfg0.N) (z : Fin 1) (r : Fin 512) (c : Fin 256) :
    (iblk m d 0 t (ix3 z r c) : EReal) = aW m d (ix3 (lay t) r c) := by
  blk_ext [iblk, V, idx t, lay_val]
theorem read1 (d : Dev nD) (t : Fin cfg0.N) (z : Fin 1) (r : Fin 512) (c : Fin 256) :
    (iblk m d 1 t (ix3 z r c) : EReal) = aM m d (ix3 (lay t) r c) := by
  blk_ext [iblk, V, idx t, lay_val]
theorem read2 (d : Dev nD) (t : Fin cfg0.N) (z : Fin 1) (r : Fin 512) (c : Fin 256) :
    (iblk m d 2 t (ix3 z r c) : EReal) = aV m d (ix3 (lay t) r c) := by
  blk_ext [iblk, V, idx t, lay_val]
theorem read3 (d : Dev nD) (t : Fin cfg0.N) (z : Fin 1) (r : Fin 512) (c : Fin 256) :
    (iblk m d 3 t (ix3 z r c) : EReal) = aA m d (ix3 (lay t) r c) := by
  blk_ext [iblk, V, idx t, lay_val]
theorem read4 (d : Dev nD) (t : Fin cfg0.N) (z : Fin 1) (r : Fin 512) (c : Fin 256) :
    (iblk m d 4 t (ix3 z r c) : EReal) = aB m d (ix3 (lay t) r c) := by
  blk_ext [iblk, V, idx t, lay_val]

/-- Where an element of each result's block lies in the array. -/
theorem place5 (t : Fin cfg0.N) (y : S1x512x256.Idx) :
    ((cfg0.win 5).blk t).view.emb y = ix3 (lay t) (y 1) (y 2) := by
  blk_ext [idx t, lay_val]
theorem place6 (t : Fin cfg0.N) (y : S1x512x256.Idx) :
    ((cfg0.win 6).blk t).view.emb y = ix3 (lay t) (y 1) (y 2) := by
  blk_ext [idx t, lay_val]
theorem place7 (t : Fin cfg0.N) (y : S1x512x256.Idx) :
    ((cfg0.win 7).blk t).view.emb y = ix3 (lay t) (y 1) (y 2) := by
  blk_ext [idx t, lay_val]
theorem place8 (t : Fin cfg0.N) (y : S1x512x256.Idx) :
    ((cfg0.win 8).blk t).view.emb y = ix3 (lay t) (y 1) (y 2) := by
  blk_ext [idx t, lay_val]

/-- The gradient. -/
theorem final5 (d : Dev nD) : (dats m 0 d).arrAt 5 cfg0.N = fun i : S4x512x256.Idx => gAt (aA m d) (aB m d) (i 0) (i 1) (i 2) := by
  refine (dats m 0 d).arrAt_eq_of_covers 5 _ (by decide +kernel) fun t hf y => ?_
  rw [place5]
  blk_simp
  rw [after0_5]
  frame_out
  unfold_payloads
  idx_vars y
  pointwise [gAt, mAt, vAt, dAt, first, second, step, inv_c1, inv_c2, read0, read1, read2, read3, read4]

/-- The step. -/
theorem final6 (d : Dev nD) : (dats m 0 d).arrAt 6 cfg0.N = fun i : S4x512x256.Idx => dAt (aW m d) (aM m d) (aV m d) (aA m d) (aB m d) (i 0) (i 1) (i 2) := by
  refine (dats m 0 d).arrAt_eq_of_covers 6 _ (by decide +kernel) fun t hf y => ?_
  rw [place6]
  blk_simp
  rw [after0_6]
  frame_out
  unfold_payloads
  idx_vars y
  pointwise [gAt, mAt, vAt, dAt, first, second, step, inv_c1, inv_c2, read0, read1, read2, read3, read4]

/-- The new first moment. -/
theorem final7 (d : Dev nD) : (dats m 0 d).arrAt 7 cfg0.N = fun i : S4x512x256.Idx => mAt (aM m d) (aA m d) (aB m d) (i 0) (i 1) (i 2) := by
  refine (dats m 0 d).arrAt_eq_of_covers 7 _ (by decide +kernel) fun t hf y => ?_
  rw [place7]
  blk_simp
  rw [after0_7]
  frame_out
  unfold_payloads
  idx_vars y
  pointwise [gAt, mAt, vAt, dAt, first, second, step, inv_c1, inv_c2, read0, read1, read2, read3, read4]

/-- The new second moment. -/
theorem final8 (d : Dev nD) : (dats m 0 d).arrAt 8 cfg0.N = fun i : S4x512x256.Idx => vAt (aV m d) (aA m d) (aB m d) (i 0) (i 1) (i 2) := by
  refine (dats m 0 d).arrAt_eq_of_covers 8 _ (by decide +kernel) fun t hf y => ?_
  rw [place8]
  blk_simp
  rw [after0_8]
  frame_out
  unfold_payloads
  idx_vars y
  pointwise [gAt, mAt, vAt, dAt, first, second, step, inv_c1, inv_c2, read0, read1, read2, read3, read4]

end Kernel

section Reference

open Cert.Reference17Ideal Cert.Reference17Ideal.Gen Cert.Reference17Ideal.Read

/-- The gradient, as the reference computes it. -/
theorem ref5 (a : Arr 4 512 256) (b : Arr 4 512 256) :
    val_main_v2 (F := Ideal) a b = fun i : S4x512x256.Idx => gAt a b (i 0) (i 1) (i 2) := by
  funext i
  idx_vars i
  pointwise [gAt, mAt, vAt, dAt, first, second, step, val_main_v2, val_main_v1, val_main_v0]

/-- The step, as the reference computes it. -/
theorem ref6 (w : Arr 4 512 256) (m : Arr 4 512 256) (v : Arr 4 512 256) (a : Arr 4 512 256) (b : Arr 4 512 256) :
    val_main_v26 (F := Ideal) w m v a b = fun i : S4x512x256.Idx => dAt w m v a b (i 0) (i 1) (i 2) := by
  funext i
  idx_vars i
  pointwise [gAt, mAt, vAt, dAt, first, second, step, val_main_v26, val_main_v24, val_main_v23, val_main_v22, val_main_cst_6, val_main_v21, val_main_v20, val_main_v19, val_main_cst_5, val_main_v18, val_main_v17, val_main_v16, val_main_cst_4, val_main_v13, val_main_v12, val_main_v10, val_main_v2, val_main_v1, val_main_v0, val_main_v11, val_main_cst_2, val_main_v9, val_main_v8, val_main_cst_1, val_main_v15, val_main_v14, val_main_cst_3, val_main_v7, val_main_v6, val_main_v5, val_main_cst_0, val_main_v4, val_main_v3, val_main_cst, val_main_v25, val_main_cst_7]
  rw [div_first, div_second]

/-- The new first moment, as the reference computes it. -/
theorem ref7 (m : Arr 4 512 256) (a : Arr 4 512 256) (b : Arr 4 512 256) :
    val_main_v7 (F := Ideal) m a b = fun i : S4x512x256.Idx => mAt m a b (i 0) (i 1) (i 2) := by
  funext i
  idx_vars i
  pointwise [gAt, mAt, vAt, dAt, first, second, step, val_main_v7, val_main_v6, val_main_v2, val_main_v1, val_main_v0, val_main_v5, val_main_cst_0, val_main_v4, val_main_v3, val_main_cst]

/-- The new second moment, as the reference computes it. -/
theorem ref8 (v : Arr 4 512 256) (a : Arr 4 512 256) (b : Arr 4 512 256) :
    val_main_v13 (F := Ideal) v a b = fun i : S4x512x256.Idx => vAt v a b (i 0) (i 1) (i 2) := by
  funext i
  idx_vars i
  pointwise [gAt, mAt, vAt, dAt, first, second, step, val_main_v13, val_main_v12, val_main_v10, val_main_v2, val_main_v1, val_main_v0, val_main_v11, val_main_cst_2, val_main_v9, val_main_v8, val_main_cst_1]

end Reference

end Cert.Adam.WCo

end
-- ==== Proof.ClaimAdamWCo.lean ====
/-
  The update of the attention's output weights: its claims.
-/
module

public import proofs.«01_k».proof.Defs
public import proofs.«01_k».proof.Proof.Gen.Reference17Ideal.Run
public import proofs.«01_k».proof.Proof.AdamWCo
public import Idealize.ShloMosaic.Lib.Quiescent

@[expose] public section

set_option maxRecDepth 16384

noncomputable section

namespace Cert.Adam.WCo

open Idealize.ShloMosaic Idealize.ShloMosaic.TcCoe Idealize.SL.Sem

/-- The reference runs on the host alone: it ends with its arguments unchanged and no semaphore moved. -/
theorem frame_reference : Cert.quiescent_Reference17Ideal := fun m ρ _ =>
  (θ_run Cert.Reference17Ideal.defs _ _).mono
    (fun r h => ⟨fun c => (h c).2.2.2.2, sem_eq_zero_of_no_sems (by decide) r.2⟩)
    (Cert.Reference17Ideal.Value.run (F := Ideal) m ρ)

/-- The kernel's two numbers are named as the reciprocals that they stand for. -/
theorem preserves : Cert.preserves_Kernel17_Kernel17Ideal :=
  ⟨IdealRules.named_const.statement Cert.Kernel17Ideal.κ "inv_c1" .f32 0x3FC48605#32 ((8388608 / 5463681 : ℝ) : EReal) rfl,
    IdealRules.named_const.statement Cert.Kernel17Ideal.κ "inv_c2" .f32 0x42C8E6D3#32 ((268435456 / 2672307 : ℝ) : EReal) rfl⟩

/-- The kernel's result arrays are the reference's, from arguments that agree. -/
theorem algebraic : Cert.algebraic_Kernel17Ideal_Reference17Ideal := by
  intro m ρ m' ρ' _ hagree
  refine ⟨fun c => (Cert.Kernel17Ideal.Gen.dats m 0 c).arrAt 5 Cert.Kernel17Ideal.cfg0.N, fun c => (Cert.Kernel17Ideal.Gen.dats m 0 c).arrAt 6 Cert.Kernel17Ideal.cfg0.N, fun c => (Cert.Kernel17Ideal.Gen.dats m 0 c).arrAt 7 Cert.Kernel17Ideal.cfg0.N, fun c => (Cert.Kernel17Ideal.Gen.dats m 0 c).arrAt 8 Cert.Kernel17Ideal.cfg0.N, ?_, ?_⟩
  · exact Cert.Kernel17Ideal.Value.run_blocks m ρ
  · refine (θ_run Cert.Reference17Ideal.defs _ _).mono (fun _ h c => ?_) (Cert.Reference17Ideal.Value.run (F := Ideal) m' ρ')
    obtain ⟨e0, e1, e2, e3, e4⟩ := hagree c
    obtain ⟨r0, r1, r2, r3, keep⟩ := h c
    refine ⟨r0.trans ?_, r1.trans ?_, r2.trans ?_, r3.trans ?_, keep⟩
    · refine (Cert.Reference17Ideal.Read.val_main_v2_eq _ _).trans ((ref5 _ _).trans ?_)
      simp only [e0, e1, e2, e3, e4]
      exact (final5 m c).symm
    · refine (Cert.Reference17Ideal.Read.val_main_v26_eq _ _ _ _ _).trans ((ref6 _ _ _ _ _).trans ?_)
      simp only [e0, e1, e2, e3, e4]
      exact (final6 m c).symm
    · refine (Cert.Reference17Ideal.Read.val_main_v7_eq _ _ _).trans ((ref7 _ _ _).trans ?_)
      simp only [e0, e1, e2, e3, e4]
      exact (final7 m c).symm
    · refine (Cert.Reference17Ideal.Read.val_main_v13_eq _ _ _).trans ((ref8 _ _ _).trans ?_)
      simp only [e0, e1, e2, e3, e4]
      exact (final8 m c).symm

end Cert.Adam.WCo

end
-- ==== Proof.AdamWOut.lean ====
/-
  The update of the output projection's weights: what the kernel leaves in its four results, and what the reference computes.
-/
module

public import proofs.«01_k».proof.Proof.Gen.Kernel18Ideal.Value
public import proofs.«01_k».proof.Proof.Gen.Reference18Ideal.Read
public import proofs.«01_k».proof.Proof.Adam

@[expose] public section

set_option maxRecDepth 16384

noncomputable section

namespace Cert.Adam.WOut

open Idealize.ShloMosaic Idealize.ShloMosaic.TcCoe Idealize.SL.Sem Cert.Adam
open Idealize.ShloMosaic.Pipeline (Dat)

/-- The gradient: the sum of the two cores' parts. -/
def gAt (a b : Arr 4 256 1024) (l : Fin 4) (r : Fin 256) (c : Fin 1024) : EReal := a (ix3 l r c) + b (ix3 l r c)
/-- The new moments and the step. -/
def mAt (m : Arr 4 256 1024) (a b : Arr 4 256 1024) (l : Fin 4) (r : Fin 256) (c : Fin 1024) : EReal := first (m (ix3 l r c)) (gAt a b l r c)
def vAt (v : Arr 4 256 1024) (a b : Arr 4 256 1024) (l : Fin 4) (r : Fin 256) (c : Fin 1024) : EReal := second (v (ix3 l r c)) (gAt a b l r c)
def dAt (w m v : Arr 4 256 1024) (a b : Arr 4 256 1024) (l : Fin 4) (r : Fin 256) (c : Fin 1024) : EReal :=
  step (w (ix3 l r c)) (mAt m a b l r c) (vAt v a b l r c)

section Kernel

open Cert.Kernel18Ideal Cert.Kernel18Ideal.Gen

variable (m : (ℓ : Loc nD τ sig) → Buf (Elt Ideal) ℓ)

/-- The kernel's two named numbers. -/
theorem inv_c1 : Named.named (F := Ideal) Cert.Kernel18Ideal.κ "inv_c1" (φ := .f32) 0x3FC48605#32 = k1 :=
  IdealRules.named_const.ideal_named_scalar _ _ _ _ rfl
theorem inv_c2 : Named.named (F := Ideal) Cert.Kernel18Ideal.κ "inv_c2" (φ := .f32) 0x42C8E6D3#32 = k2 :=
  IdealRules.named_const.ideal_named_scalar _ _ _ _ rfl

/-- Which block each window holds at a grid point. -/
theorem idx : ∀ t : Fin grid0.N, win0_0.index t = ![t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] := by decide +kernel

/-- The argument arrays of device `c`. -/
abbrev aW (c : Dev nD) : Arr 4 256 1024 := m ((c : Thread nD τ).loc main_arg0)
abbrev aM (c : Dev nD) : Arr 4 256 1024 := m ((c : Thread nD τ).loc main_arg1)
abbrev aV (c : Dev nD) : Arr 4 256 1024 := m ((c : Thread nD τ).loc main_arg2)
abbrev aA (c : Dev nD) : Arr 4 256 1024 := m ((c : Thread nD τ).loc main_arg3)
abbrev aB (c : Dev nD) : Arr 4 256 1024 := m ((c : Thread nD τ).loc main_arg4)

/-- The layer that grid point `t`'s block belongs to. -/
def lay (t : Fin cfg0.N) : Fin 4 := ⟨t.val, t.isLt⟩

theorem lay_val (t : Fin cfg0.N) : (lay t).val = t.val := rfl

/-- Each input window's block at a point, read at an index, is its array read at the place of the block. -/
theorem read0 (d : Dev nD) (t : Fin cfg0.N) (z : Fin 1) (r : Fin 256) (c : Fin 1024) :
    (iblk m d 0 t (ix3 z r c) : EReal) = aW m d (ix3 (lay t) r c) := by
  blk_ext [iblk, V, idx t, lay_val]
theorem read1 (d : Dev nD) (t : Fin cfg0.N) (z : Fin 1) (r : Fin 256) (c : Fin 1024) :
    (iblk m d 1 t (ix3 z r c) : EReal) = aM m d (ix3 (lay t) r c) := by
  blk_ext [iblk, V, idx t, lay_val]
theorem read2 (d : Dev nD) (t : Fin cfg0.N) (z : Fin 1) (r : Fin 256) (c : Fin 1024) :
    (iblk m d 2 t (ix3 z r c) : EReal) = aV m d (ix3 (lay t) r c) := by
  blk_ext [iblk, V, idx t, lay_val]
theorem read3 (d : Dev nD) (t : Fin cfg0.N) (z : Fin 1) (r : Fin 256) (c : Fin 1024) :
    (iblk m d 3 t (ix3 z r c) : EReal) = aA m d (ix3 (lay t) r c) := by
  blk_ext [iblk, V, idx t, lay_val]
theorem read4 (d : Dev nD) (t : Fin cfg0.N) (z : Fin 1) (r : Fin 256) (c : Fin 1024) :
    (iblk m d 4 t (ix3 z r c) : EReal) = aB m d (ix3 (lay t) r c) := by
  blk_ext [iblk, V, idx t, lay_val]

/-- Where an element of each result's block lies in the array. -/
theorem place5 (t : Fin cfg0.N) (y : S1x256x1024.Idx) :
    ((cfg0.win 5).blk t).view.emb y = ix3 (lay t) (y 1) (y 2) := by
  blk_ext [idx t, lay_val]
theorem place6 (t : Fin cfg0.N) (y : S1x256x1024.Idx) :
    ((cfg0.win 6).blk t).view.emb y = ix3 (lay t) (y 1) (y 2) := by
  blk_ext [idx t, lay_val]
theorem place7 (t : Fin cfg0.N) (y : S1x256x1024.Idx) :
    ((cfg0.win 7).blk t).view.emb y = ix3 (lay t) (y 1) (y 2) := by
  blk_ext [idx t, lay_val]
theorem place8 (t : Fin cfg0.N) (y : S1x256x1024.Idx) :
    ((cfg0.win 8).blk t).view.emb y = ix3 (lay t) (y 1) (y 2) := by
  blk_ext [idx t, lay_val]

/-- The gradient. -/
theorem final5 (d : Dev nD) : (dats m 0 d).arrAt 5 cfg0.N = fun i : S4x256x1024.Idx => gAt (aA m d) (aB m d) (i 0) (i 1) (i 2) := by
  refine (dats m 0 d).arrAt_eq_of_covers 5 _ (by decide +kernel) fun t hf y => ?_
  rw [place5]
  blk_simp
  rw [after0_5]
  frame_out
  unfold_payloads
  idx_vars y
  pointwise [gAt, mAt, vAt, dAt, first, second, step, inv_c1, inv_c2, read0, read1, read2, read3, read4]

/-- The step. -/
theorem final6 (d : Dev nD) : (dats m 0 d).arrAt 6 cfg0.N = fun i : S4x256x1024.Idx => dAt (aW m d) (aM m d) (aV m d) (aA m d) (aB m d) (i 0) (i 1) (i 2) := by
  refine (dats m 0 d).arrAt_eq_of_covers 6 _ (by decide +kernel) fun t hf y => ?_
  rw [place6]
  blk_simp
  rw [after0_6]
  frame_out
  unfold_payloads
  idx_vars y
  pointwise [gAt, mAt, vAt, dAt, first, second, step, inv_c1, inv_c2, read0, read1, read2, read3, read4]

/-- The new first moment. -/
theorem final7 (d : Dev nD) : (dats m 0 d).arrAt 7 cfg0.N = fun i : S4x256x1024.Idx => mAt (aM m d) (aA m d) (aB m d) (i 0) (i 1) (i 2) := by
  refine (dats m 0 d).arrAt_eq_of_covers 7 _ (by decide +kernel) fun t hf y => ?_
  rw [place7]
  blk_simp
  rw [after0_7]
  frame_out
  unfold_payloads
  idx_vars y
  pointwise [gAt, mAt, vAt, dAt, first, second, step, inv_c1, inv_c2, read0, read1, read2, read3, read4]

/-- The new second moment. -/
theorem final8 (d : Dev nD) : (dats m 0 d).arrAt 8 cfg0.N = fun i : S4x256x1024.Idx => vAt (aV m d) (aA m d) (aB m d) (i 0) (i 1) (i 2) := by
  refine (dats m 0 d).arrAt_eq_of_covers 8 _ (by decide +kernel) fun t hf y => ?_
  rw [place8]
  blk_simp
  rw [after0_8]
  frame_out
  unfold_payloads
  idx_vars y
  pointwise [gAt, mAt, vAt, dAt, first, second, step, inv_c1, inv_c2, read0, read1, read2, read3, read4]

end Kernel

section Reference

open Cert.Reference18Ideal Cert.Reference18Ideal.Gen Cert.Reference18Ideal.Read

/-- The gradient, as the reference computes it. -/
theorem ref5 (a : Arr 4 256 1024) (b : Arr 4 256 1024) :
    val_main_v2 (F := Ideal) a b = fun i : S4x256x1024.Idx => gAt a b (i 0) (i 1) (i 2) := by
  funext i
  idx_vars i
  pointwise [gAt, mAt, vAt, dAt, first, second, step, val_main_v2, val_main_v1, val_main_v0]

/-- The step, as the reference computes it. -/
theorem ref6 (w : Arr 4 256 1024) (m : Arr 4 256 1024) (v : Arr 4 256 1024) (a : Arr 4 256 1024) (b : Arr 4 256 1024) :
    val_main_v26 (F := Ideal) w m v a b = fun i : S4x256x1024.Idx => dAt w m v a b (i 0) (i 1) (i 2) := by
  funext i
  idx_vars i
  pointwise [gAt, mAt, vAt, dAt, first, second, step, val_main_v26, val_main_v24, val_main_v23, val_main_v22, val_main_cst_6, val_main_v21, val_main_v20, val_main_v19, val_main_cst_5, val_main_v18, val_main_v17, val_main_v16, val_main_cst_4, val_main_v13, val_main_v12, val_main_v10, val_main_v2, val_main_v1, val_main_v0, val_main_v11, val_main_cst_2, val_main_v9, val_main_v8, val_main_cst_1, val_main_v15, val_main_v14, val_main_cst_3, val_main_v7, val_main_v6, val_main_v5, val_main_cst_0, val_main_v4, val_main_v3, val_main_cst, val_main_v25, val_main_cst_7]
  rw [div_first, div_second]

/-- The new first moment, as the reference computes it. -/
theorem ref7 (m : Arr 4 256 1024) (a : Arr 4 256 1024) (b : Arr 4 256 1024) :
    val_main_v7 (F := Ideal) m a b = fun i : S4x256x1024.Idx => mAt m a b (i 0) (i 1) (i 2) := by
  funext i
  idx_vars i
  pointwise [gAt, mAt, vAt, dAt, first, second, step, val_main_v7, val_main_v6, val_main_v2, val_main_v1, val_main_v0, val_main_v5, val_main_cst_0, val_main_v4, val_main_v3, val_main_cst]

/-- The new second moment, as the reference computes it. -/
theorem ref8 (v : Arr 4 256 1024) (a : Arr 4 256 1024) (b : Arr 4 256 1024) :
    val_main_v13 (F := Ideal) v a b = fun i : S4x256x1024.Idx => vAt v a b (i 0) (i 1) (i 2) := by
  funext i
  idx_vars i
  pointwise [gAt, mAt, vAt, dAt, first, second, step, val_main_v13, val_main_v12, val_main_v10, val_main_v2, val_main_v1, val_main_v0, val_main_v11, val_main_cst_2, val_main_v9, val_main_v8, val_main_cst_1]

end Reference

end Cert.Adam.WOut

end
-- ==== Proof.ClaimAdamWOut.lean ====
/-
  The update of the output projection's weights: its claims.
-/
module

public import proofs.«01_k».proof.Defs
public import proofs.«01_k».proof.Proof.Gen.Reference18Ideal.Run
public import proofs.«01_k».proof.Proof.AdamWOut
public import Idealize.ShloMosaic.Lib.Quiescent

@[expose] public section

set_option maxRecDepth 16384

noncomputable section

namespace Cert.Adam.WOut

open Idealize.ShloMosaic Idealize.ShloMosaic.TcCoe Idealize.SL.Sem

/-- The reference runs on the host alone: it ends with its arguments unchanged and no semaphore moved. -/
theorem frame_reference : Cert.quiescent_Reference18Ideal := fun m ρ _ =>
  (θ_run Cert.Reference18Ideal.defs _ _).mono
    (fun r h => ⟨fun c => (h c).2.2.2.2, sem_eq_zero_of_no_sems (by decide) r.2⟩)
    (Cert.Reference18Ideal.Value.run (F := Ideal) m ρ)

/-- The kernel's two numbers are named as the reciprocals that they stand for. -/
theorem preserves : Cert.preserves_Kernel18_Kernel18Ideal :=
  ⟨IdealRules.named_const.statement Cert.Kernel18Ideal.κ "inv_c1" .f32 0x3FC48605#32 ((8388608 / 5463681 : ℝ) : EReal) rfl,
    IdealRules.named_const.statement Cert.Kernel18Ideal.κ "inv_c2" .f32 0x42C8E6D3#32 ((268435456 / 2672307 : ℝ) : EReal) rfl⟩

/-- The kernel's result arrays are the reference's, from arguments that agree. -/
theorem algebraic : Cert.algebraic_Kernel18Ideal_Reference18Ideal := by
  intro m ρ m' ρ' _ hagree
  refine ⟨fun c => (Cert.Kernel18Ideal.Gen.dats m 0 c).arrAt 5 Cert.Kernel18Ideal.cfg0.N, fun c => (Cert.Kernel18Ideal.Gen.dats m 0 c).arrAt 6 Cert.Kernel18Ideal.cfg0.N, fun c => (Cert.Kernel18Ideal.Gen.dats m 0 c).arrAt 7 Cert.Kernel18Ideal.cfg0.N, fun c => (Cert.Kernel18Ideal.Gen.dats m 0 c).arrAt 8 Cert.Kernel18Ideal.cfg0.N, ?_, ?_⟩
  · exact Cert.Kernel18Ideal.Value.run_blocks m ρ
  · refine (θ_run Cert.Reference18Ideal.defs _ _).mono (fun _ h c => ?_) (Cert.Reference18Ideal.Value.run (F := Ideal) m' ρ')
    obtain ⟨e0, e1, e2, e3, e4⟩ := hagree c
    obtain ⟨r0, r1, r2, r3, keep⟩ := h c
    refine ⟨r0.trans ?_, r1.trans ?_, r2.trans ?_, r3.trans ?_, keep⟩
    · refine (Cert.Reference18Ideal.Read.val_main_v2_eq _ _).trans ((ref5 _ _).trans ?_)
      simp only [e0, e1, e2, e3, e4]
      exact (final5 m c).symm
    · refine (Cert.Reference18Ideal.Read.val_main_v26_eq _ _ _ _ _).trans ((ref6 _ _ _ _ _).trans ?_)
      simp only [e0, e1, e2, e3, e4]
      exact (final6 m c).symm
    · refine (Cert.Reference18Ideal.Read.val_main_v7_eq _ _ _).trans ((ref7 _ _ _).trans ?_)
      simp only [e0, e1, e2, e3, e4]
      exact (final7 m c).symm
    · refine (Cert.Reference18Ideal.Read.val_main_v13_eq _ _ _).trans ((ref8 _ _ _).trans ?_)
      simp only [e0, e1, e2, e3, e4]
      exact (final8 m c).symm

end Cert.Adam.WOut

end
-- ==== Proof.AdamPack.lean ====
/-
  The small weights' pack: eleven arrays, each laid into rows of 512 and filled up, stacked into one array. The pack only
  moves entries, so a function of entries that keeps the fill commutes with it.
-/
module

public import proofs.«01_k».proof.Proof.Adam

@[expose] public section

set_option maxRecDepth 16384

noncomputable section

namespace Cert.Adam

open Idealize.ShloMosaic

/-- A shape of two, three axes. -/
abbrev S2 (a b : Nat) : Shape := ⟨2, ![a, b]⟩
abbrev S3 (a b c : Nat) : Shape := ⟨3, ![a, b, c]⟩
/-- The shape of one number. -/
abbrev S0 : Shape := ⟨0, ![]⟩

section General

variable {α β : Type} {s t u : Shape}

/-- Filling up commutes with a function of the entries. -/
theorem pad_map (f : α → β) (lo hi interior : Fin s.rank → Nat) (x : s.Idx → α) (v : u.Idx → α)
    (h : s.Pads lo hi interior t) (hu : 0 < u.numel) :
    pad t lo hi interior (fun i => f (x i)) (fun i => f (v i)) h hu = fun j => f (pad t lo hi interior x v h hu j) := by
  funext j
  simp only [pad]
  split_ifs <;> rfl

/-- So does re-laying. -/
theorem shapeCast_map (f : α → β) (x : s.Idx → α) (h : s.ShapeCasts t) :
    shapeCast t (fun i => f (x i)) h = fun j => f (shapeCast t x h j) := rfl

/-- So does repeating along new axes. -/
theorem broadcastInDim_map (f : α → β) (dims : Fin s.rank → Fin t.rank) (h : s.BroadcastsInDim t dims) (x : s.Idx → α) :
    broadcastInDim t dims h (fun i => f (x i)) = fun j => f (broadcastInDim t dims h x j) := rfl

/-- So does reading one of several stacked arrays. -/
theorem concatenateAt_map (f : α → β) (a : Fin t.rank) (j : t.Idx) : ∀ (xs : List ((s : Shape) × (s.Idx → α)))
    (h : ∀ s ∈ xs.map (·.1), s.FitsOff t a)
    (h' : ∀ s ∈ (xs.map fun p => (⟨p.1, fun i => f (p.2 i)⟩ : (s : Shape) × (s.Idx → β))).map (·.1), s.FitsOff t a) (c : Nat)
    (hc : c < (axisSizes t a xs).sum)
    (hc' : c < (axisSizes t a (xs.map fun p => (⟨p.1, fun i => f (p.2 i)⟩ : (s : Shape) × (s.Idx → β)))).sum),
    concatenateAt t a j (xs.map fun p => (⟨p.1, fun i => f (p.2 i)⟩ : (s : Shape) × (s.Idx → β))) h' c hc'
      = f (concatenateAt t a j xs h c hc)
  | [], _, _, _, hc, _ => absurd hc (Nat.not_lt_zero _)
  | [_], _, _, _, _, _ => rfl
  | p :: q :: xs, h, h', c, hc, hc' => by
    have hp : p.1.FitsOff t a := h p.1 List.mem_cons_self
    have n : c - p.1.size (a.cast hp.rank_eq.symm) < (axisSizes t a (q :: xs)).sum ∨ c < p.1.size (a.cast hp.rank_eq.symm) := by
      rw [axisSizes_cons t a p (q :: xs) hp, List.sum_cons] at hc; omega
    by_cases hlt : c < p.1.size (a.cast hp.rank_eq.symm)
    · exact (dif_pos hlt).trans (congrArg f (by rw [concatenateAt, dif_pos hlt]))
    · exact (dif_neg hlt).trans ((concatenateAt_map f a j (q :: xs) (fun s m => h s (List.mem_cons_of_mem _ m))
        (fun s m => h' s (List.mem_cons_of_mem _ m)) _ (n.resolve_right hlt) _).trans (congrArg f (by rw [concatenateAt, dif_neg hlt])))

end General

/-- The shapes stacked. -/
abbrev stackShapes : List Shape := [S2 16 512, S2 8 512, S2 128 512, S2 8 512, S2 8 512, S2 8 512, S2 8 512, S2 8 512, S2 8 512, S2 8 512, S2 8 512]

theorem stackable : Shape.Concatenates stackShapes (S2 216 512) 0 := by decide

/-- The eleven filled-up arrays, stacked. -/
def stack {α : Type} (y0 : (S2 16 512).Idx → α) (y1 : (S2 8 512).Idx → α) (y2 : (S2 128 512).Idx → α)
    (y3 y4 y5 y6 y7 y8 y9 y10 : (S2 8 512).Idx → α) : (S2 216 512).Idx → α :=
  concatenate (S2 216 512) 0 [⟨S2 16 512, y0⟩, ⟨S2 8 512, y1⟩, ⟨S2 128 512, y2⟩, ⟨S2 8 512, y3⟩, ⟨S2 8 512, y4⟩, ⟨S2 8 512, y5⟩, ⟨S2 8 512, y6⟩, ⟨S2 8 512, y7⟩, ⟨S2 8 512, y8⟩, ⟨S2 8 512, y9⟩, ⟨S2 8 512, y10⟩] stackable

theorem stack_map {α β : Type} (f : α → β) (y0 : (S2 16 512).Idx → α) (y1 : (S2 8 512).Idx → α) (y2 : (S2 128 512).Idx → α)
    (y3 y4 y5 y6 y7 y8 y9 y10 : (S2 8 512).Idx → α) :
    stack (fun i => f (y0 i)) (fun i => f (y1 i)) (fun i => f (y2 i)) (fun i => f (y3 i)) (fun i => f (y4 i)) (fun i => f (y5 i))
      (fun i => f (y6 i)) (fun i => f (y7 i)) (fun i => f (y8 i)) (fun i => f (y9 i)) (fun i => f (y10 i))
      = fun j => f (stack y0 y1 y2 y3 y4 y5 y6 y7 y8 y9 y10 j) := by
  funext j
  exact (concatenate_apply _ _ _ _ _).trans ((concatenateAt_map f 0 j
    [⟨S2 16 512, y0⟩, ⟨S2 8 512, y1⟩, ⟨S2 128 512, y2⟩, ⟨S2 8 512, y3⟩, ⟨S2 8 512, y4⟩, ⟨S2 8 512, y5⟩, ⟨S2 8 512, y6⟩, ⟨S2 8 512, y7⟩, ⟨S2 8 512, y8⟩, ⟨S2 8 512, y9⟩, ⟨S2 8 512, y10⟩]
    stackable.2.1 stackable.2.1 _ _ _).trans (congrArg f (concatenate_apply (S2 216 512) 0
    [⟨S2 16 512, y0⟩, ⟨S2 8 512, y1⟩, ⟨S2 128 512, y2⟩, ⟨S2 8 512, y3⟩, ⟨S2 8 512, y4⟩, ⟨S2 8 512, y5⟩, ⟨S2 8 512, y6⟩, ⟨S2 8 512, y7⟩, ⟨S2 8 512, y8⟩, ⟨S2 8 512, y9⟩, ⟨S2 8 512, y10⟩]
    stackable j).symm))

/-- The eleven small weights' arrays. -/
structure Small (α : Type) where
  x0 : (S2 16 256).Idx → α
  x1 : (S2 4 1024).Idx → α
  x2 : (S3 4 31 128).Idx → α
  x3 : (S2 4 512).Idx → α
  x4 : (S2 4 512).Idx → α
  x5 : (S2 4 512).Idx → α
  x6 : (S2 4 512).Idx → α
  x7 : (S2 4 128).Idx → α
  x8 : (S2 4 64).Idx → α
  x9 : (S2 4 64).Idx → α
  x10 : (S2 4 8).Idx → α

/-- A function of the entries. -/
def Small.map {α β : Type} (f : α → β) (X : Small α) : Small β :=
  ⟨fun i => f (X.x0 i), fun i => f (X.x1 i), fun i => f (X.x2 i), fun i => f (X.x3 i), fun i => f (X.x4 i), fun i => f (X.x5 i), fun i => f (X.x6 i), fun i => f (X.x7 i), fun i => f (X.x8 i), fun i => f (X.x9 i), fun i => f (X.x10 i)⟩

/-- Four families side by side. -/
def Small.zip {α : Type} (W M V G : Small α) : Small (α × α × α × α) :=
  ⟨fun i => (W.x0 i, M.x0 i, V.x0 i, G.x0 i), fun i => (W.x1 i, M.x1 i, V.x1 i, G.x1 i), fun i => (W.x2 i, M.x2 i, V.x2 i, G.x2 i), fun i => (W.x3 i, M.x3 i, V.x3 i, G.x3 i), fun i => (W.x4 i, M.x4 i, V.x4 i, G.x4 i), fun i => (W.x5 i, M.x5 i, V.x5 i, G.x5 i), fun i => (W.x6 i, M.x6 i, V.x6 i, G.x6 i), fun i => (W.x7 i, M.x7 i, V.x7 i, G.x7 i), fun i => (W.x8 i, M.x8 i, V.x8 i, G.x8 i), fun i => (W.x9 i, M.x9 i, V.x9 i, G.x9 i), fun i => (W.x10 i, M.x10 i, V.x10 i, G.x10 i)⟩

/-- Each array re-laid into rows and filled up with `z`, and all stacked. -/
def pack {α : Type} (z : S0.Idx → α) (X : Small α) : (S3 1 216 512).Idx → α :=
  broadcastInDim (S3 1 216 512) ![1, 2] (by decide) (stack
    (pad (S2 16 512) ![0, 0] ![0, 256] ![0, 0] X.x0 z (by decide) (by decide))
    (pad (S2 8 512) ![0, 0] ![0, 0] ![0, 0] (shapeCast (S2 8 512) X.x1 (by decide)) z (by decide) (by decide))
    (pad (S2 128 512) ![0, 0] ![4, 384] ![0, 0] (shapeCast (S2 124 128) X.x2 (by decide)) z (by decide) (by decide))
    (pad (S2 8 512) ![0, 0] ![4, 0] ![0, 0] X.x3 z (by decide) (by decide))
    (pad (S2 8 512) ![0, 0] ![4, 0] ![0, 0] X.x4 z (by decide) (by decide))
    (pad (S2 8 512) ![0, 0] ![4, 0] ![0, 0] X.x5 z (by decide) (by decide))
    (pad (S2 8 512) ![0, 0] ![4, 0] ![0, 0] X.x6 z (by decide) (by decide))
    (pad (S2 8 512) ![0, 0] ![4, 384] ![0, 0] X.x7 z (by decide) (by decide))
    (pad (S2 8 512) ![0, 0] ![4, 448] ![0, 0] X.x8 z (by decide) (by decide))
    (pad (S2 8 512) ![0, 0] ![4, 448] ![0, 0] X.x9 z (by decide) (by decide))
    (pad (S2 8 512) ![0, 0] ![4, 504] ![0, 0] X.x10 z (by decide) (by decide)))

theorem pack_map {α β : Type} (f : α → β) (z : S0.Idx → α) (X : Small α) :
    pack (fun i => f (z i)) (X.map f) = fun j => f (pack z X j) := by
  unfold pack Small.map
  simp only [shapeCast_map, pad_map, stack_map, broadcastInDim_map]

/-- The pack of an update is the update of the packs, where the update of zeros is zero. -/
theorem pack_update (F : EReal × EReal × EReal × EReal → EReal) (h0 : F (0, 0, 0, 0) = 0) (W M V G : Small EReal) :
    pack (fun _ => 0) ((Small.zip W M V G).map F)
      = fun j => F (pack (fun _ => 0) W j, pack (fun _ => 0) M j, pack (fun _ => 0) V j, pack (fun _ => 0) G j) := by
  have e := pack_map F (fun _ => (0, 0, 0, 0)) (Small.zip W M V G)
  rw [h0] at e
  rw [e]
  funext j
  refine congrArg F (Prod.ext ?_ (Prod.ext ?_ (Prod.ext ?_ ?_)))
  · exact (congrFun (pack_map (fun p => p.1) (fun _ => (0, 0, 0, 0)) (Small.zip W M V G)) j).symm
  · exact (congrFun (pack_map (fun p => p.2.1) (fun _ => (0, 0, 0, 0)) (Small.zip W M V G)) j).symm
  · exact (congrFun (pack_map (fun p => p.2.2.1) (fun _ => (0, 0, 0, 0)) (Small.zip W M V G)) j).symm
  · exact (congrFun (pack_map (fun p => p.2.2.2) (fun _ => (0, 0, 0, 0)) (Small.zip W M V G)) j).symm

/-- The update of zeros. -/
theorem first_zero : first 0 0 = 0 := by simp [first]
theorem second_zero : second 0 0 = 0 := by simp [second]
theorem step_zero : step 0 0 0 = 0 := by
  have h : Ideal.ofBits .f32 0x322BCC77#32 = ((11258999 / 1125899906842624 : ℝ) : EReal) := by
    simp [Ideal.ofBits, Ideal.ieee, -EReal.coe_mul]; norm_num
  have s : Ideal.sqrt 0 = 0 := by
    rw [← EReal.coe_zero, Ideal.sqrt_coe]; simp
  simp only [step, zero_mul, mul_zero, add_zero, s, zero_add, h]
  rw [Ideal.div_coe (by norm_num)]
  simp

end Cert.Adam

end
-- ==== Proof.AdamSmall.lean ====
/-
  The update of the eleven small weights: what the kernel leaves in its four packed results, and what the reference computes.
-/
module

public import proofs.«01_k».proof.Proof.Gen.Kernel19Ideal.Value
public import proofs.«01_k».proof.Proof.Gen.Reference19Ideal.Read
public import proofs.«01_k».proof.Proof.AdamPack

@[expose] public section

set_option maxRecDepth 16384

noncomputable section

namespace Cert.Adam.Small

open Idealize.ShloMosaic Idealize.ShloMosaic.TcCoe Idealize.SL.Sem Cert.Adam
open Idealize.ShloMosaic.Pipeline (Dat)

/-- The number that fills the pack up. -/
abbrev fill : S0.Idx → EReal := sitofp (F := Ideal) .f32 (constantI S0 32 0#32)

theorem fill_eq : fill = fun _ => 0 := by
  funext i
  show (((0#32 : BitVec 32).toInt : ℝ) : EReal) = 0
  simp

/-- The four results, from the packs of the weights, the moments and the gradients. -/
def gOf (_ _ _ g : EReal) : EReal := g
def mOf (_ m _ g : EReal) : EReal := first m g
def vOf (_ _ v g : EReal) : EReal := second v g
def dOf (w m v g : EReal) : EReal := step w (first m g) (second v g)

/-- A result's pack, from the four packs. -/
def packed (F : EReal → EReal → EReal → EReal → EReal) (W M V G : Cert.Adam.Small EReal) : (S3 1 216 512).Idx → EReal :=
  fun i => F (pack fill W (ix3 0 (i 1) (i 2))) (pack fill M (ix3 0 (i 1) (i 2))) (pack fill V (ix3 0 (i 1) (i 2)))
    (pack fill G (ix3 0 (i 1) (i 2)))

section Kernel

open Cert.Kernel19Ideal Cert.Kernel19Ideal.Gen

variable (m : (ℓ : Loc nD τ sig) → Buf (Elt Ideal) ℓ)

/-- The kernel's two named numbers. -/
theorem inv_c1 : Named.named (F := Ideal) Cert.Kernel19Ideal.κ "inv_c1" (φ := .f32) 0x3FC48605#32 = k1 :=
  IdealRules.named_const.ideal_named_scalar _ _ _ _ rfl
theorem inv_c2 : Named.named (F := Ideal) Cert.Kernel19Ideal.κ "inv_c2" (φ := .f32) 0x42C8E6D3#32 = k2 :=
  IdealRules.named_const.ideal_named_scalar _ _ _ _ rfl

/-- Which block each window holds at the one grid point. -/
theorem idx : ∀ t : Fin grid0.N, win0_0.index t = ![0, 0, 0]
    ∧ win0_1.index t = ![0, 0, 0]
    ∧ win0_2.index t = ![0, 0, 0]
    ∧ win0_3.index t = ![0, 0, 0]
    ∧ win0_4.index t = ![0, 0, 0]
    ∧ win0_5.index t = ![0, 0, 0]
    ∧ win0_6.index t = ![0, 0, 0]
    ∧ win0_7.index t = ![0, 0, 0] := by decide +kernel

/-- The weights of device `c`. -/
def kW (c : Dev nD) : Cert.Adam.Small EReal :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10)⟩
/-- The first moments of device `c`. -/
def kM (c : Dev nD) : Cert.Adam.Small EReal :=
  ⟨m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21)⟩
/-- The second moments of device `c`. -/
def kV (c : Dev nD) : Cert.Adam.Small EReal :=
  ⟨m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31), m ((c : Thread nD τ).loc main_arg32)⟩
/-- The gradients of device `c`. -/
def kG (c : Dev nD) : Cert.Adam.Small EReal :=
  ⟨m ((c : Thread nD τ).loc main_arg33), m ((c : Thread nD τ).loc main_arg34), m ((c : Thread nD τ).loc main_arg35), m ((c : Thread nD τ).loc main_arg36), m ((c : Thread nD τ).loc main_arg37), m ((c : Thread nD τ).loc main_arg38), m ((c : Thread nD τ).loc main_arg39), m ((c : Thread nD τ).loc main_arg40), m ((c : Thread nD τ).loc main_arg41), m ((c : Thread nD τ).loc main_arg42), m ((c : Thread nD τ).loc main_arg43)⟩
theorem V_W (c : Dev nD) : (show FVec Ideal S1x216x512 .f32 from V m c main_v56) = pack fill (kW m c) := by
  rfl
theorem V_M (c : Dev nD) : (show FVec Ideal S1x216x512 .f32 from V m c main_v57) = pack fill (kM m c) := by
  rfl
theorem V_V (c : Dev nD) : (show FVec Ideal S1x216x512 .f32 from V m c main_v58) = pack fill (kV m c) := by
  rfl
theorem V_G (c : Dev nD) : (show FVec Ideal S1x216x512 .f32 from V m c main_v59) = pack fill (kG m c) := by
  rfl

theorem read0 (c : Dev nD) (t : Fin cfg0.N) (z : Fin 1) (r : Fin 216) (k : Fin 512) :
    (iblk m c 0 t (ix3 z r k) : EReal) = pack fill (kW m c) (ix3 0 r k) := by
  have e : ((cfg0.win 0).blk t).view.emb (ix3 z r k : S1x216x512.Idx) = (ix3 0 r k : S1x216x512.Idx) := by
    blk_ext [idx t]
  exact (congrArg (show FVec Ideal S1x216x512 .f32 from V m c main_v56) e).trans (congrFun (V_W m c) _)
theorem read1 (c : Dev nD) (t : Fin cfg0.N) (z : Fin 1) (r : Fin 216) (k : Fin 512) :
    (iblk m c 1 t (ix3 z r k) : EReal) = pack fill (kM m c) (ix3 0 r k) := by
  have e : ((cfg0.win 1).blk t).view.emb (ix3 z r k : S1x216x512.Idx) = (ix3 0 r k : S1x216x512.Idx) := by
    blk_ext [idx t]
  exact (congrArg (show FVec Ideal S1x216x512 .f32 from V m c main_v57) e).trans (congrFun (V_M m c) _)
theorem read2 (c : Dev nD) (t : Fin cfg0.N) (z : Fin 1) (r : Fin 216) (k : Fin 512) :
    (iblk m c 2 t (ix3 z r k) : EReal) = pack fill (kV m c) (ix3 0 r k) := by
  have e : ((cfg0.win 2).blk t).view.emb (ix3 z r k : S1x216x512.Idx) = (ix3 0 r k : S1x216x512.Idx) := by
    blk_ext [idx t]
  exact (congrArg (show FVec Ideal S1x216x512 .f32 from V m c main_v58) e).trans (congrFun (V_V m c) _)
theorem read3 (c : Dev nD) (t : Fin cfg0.N) (z : Fin 1) (r : Fin 216) (k : Fin 512) :
    (iblk m c 3 t (ix3 z r k) : EReal) = pack fill (kG m c) (ix3 0 r k) := by
  have e : ((cfg0.win 3).blk t).view.emb (ix3 z r k : S1x216x512.Idx) = (ix3 0 r k : S1x216x512.Idx) := by
    blk_ext [idx t]
  exact (congrArg (show FVec Ideal S1x216x512 .f32 from V m c main_v59) e).trans (congrFun (V_G m c) _)

/-- Where an element of each result's block lies in the array. -/
theorem place4 (t : Fin cfg0.N) (y : S1x216x512.Idx) :
    ((cfg0.win 4).blk t).view.emb y = ix3 0 (y 1) (y 2) := by
  blk_ext [idx t]
theorem place5 (t : Fin cfg0.N) (y : S1x216x512.Idx) :
    ((cfg0.win 5).blk t).view.emb y = ix3 0 (y 1) (y 2) := by
  blk_ext [idx t]
theorem place6 (t : Fin cfg0.N) (y : S1x216x512.Idx) :
    ((cfg0.win 6).blk t).view.emb y = ix3 0 (y 1) (y 2) := by
  blk_ext [idx t]
theorem place7 (t : Fin cfg0.N) (y : S1x216x512.Idx) :
    ((cfg0.win 7).blk t).view.emb y = ix3 0 (y 1) (y 2) := by
  blk_ext [idx t]

/-- The gradient. -/
theorem final4 (c : Dev nD) : (dats m 0 c).arrAt 4 cfg0.N = packed gOf (kW m c) (kM m c) (kV m c) (kG m c) := by
  refine (dats m 0 c).arrAt_eq_of_covers 4 _ (by decide +kernel) fun t hf y => ?_
  rw [place4]
  blk_simp
  rw [after0_4]
  frame_out
  unfold_payloads
  idx_vars y
  pointwise [packed, gOf, mOf, vOf, dOf, first, second, step, inv_c1, inv_c2, read0, read1, read2, read3]

/-- The step. -/
theorem final5 (c : Dev nD) : (dats m 0 c).arrAt 5 cfg0.N = packed dOf (kW m c) (kM m c) (kV m c) (kG m c) := by
  refine (dats m 0 c).arrAt_eq_of_covers 5 _ (by decide +kernel) fun t hf y => ?_
  rw [place5]
  blk_simp
  rw [after0_5]
  frame_out
  unfold_payloads
  idx_vars y
  pointwise [packed, gOf, mOf, vOf, dOf, first, second, step, inv_c1, inv_c2, read0, read1, read2, read3]

/-- The new first moment. -/
theorem final6 (c : Dev nD) : (dats m 0 c).arrAt 6 cfg0.N = packed mOf (kW m c) (kM m c) (kV m c) (kG m c) := by
  refine (dats m 0 c).arrAt_eq_of_covers 6 _ (by decide +kernel) fun t hf y => ?_
  rw [place6]
  blk_simp
  rw [after0_6]
  frame_out
  unfold_payloads
  idx_vars y
  pointwise [packed, gOf, mOf, vOf, dOf, first, second, step, inv_c1, inv_c2, read0, read1, read2, read3]

/-- The new second moment. -/
theorem final7 (c : Dev nD) : (dats m 0 c).arrAt 7 cfg0.N = packed vOf (kW m c) (kM m c) (kV m c) (kG m c) := by
  refine (dats m 0 c).arrAt_eq_of_covers 7 _ (by decide +kernel) fun t hf y => ?_
  rw [place7]
  blk_simp
  rw [after0_7]
  frame_out
  unfold_payloads
  idx_vars y
  pointwise [packed, gOf, mOf, vOf, dOf, first, second, step, inv_c1, inv_c2, read0, read1, read2, read3]

end Kernel

section Reference

open Cert.Reference19Ideal Cert.Reference19Ideal.Gen Cert.Reference19Ideal.Read

/-- The step as the reference writes it: it divides by the bias corrections. -/
def dRef (w m v g : EReal) : EReal :=
  Ideal.ofBits .f32 0xBA83126F#32 *
    (Ideal.div (Ideal.div (first m g) (Ideal.ofBits .f32 1059503362#32))
      (Ideal.sqrt (Ideal.div (second v g) (Ideal.ofBits .f32 1008933580#32)) + Ideal.ofBits .f32 0x322BCC77#32)
      + Ideal.ofBits .f32 0x3C23D70A#32 * w)

theorem dRef_eq (w m v g : EReal) : dRef w m v g = dOf w m v g := by
  rw [dRef, div_first, div_second]; rfl

/-- The pack of the updates, of which the update of zeros is zero, is the update of the packs. -/
theorem pack_packed (F : EReal → EReal → EReal → EReal → EReal) (h0 : F 0 0 0 0 = 0) (W M V G : Cert.Adam.Small EReal) :
    pack fill ((Cert.Adam.Small.zip W M V G).map fun p => F p.1 p.2.1 p.2.2.1 p.2.2.2) = packed F W M V G := by
  unfold packed
  rw [fill_eq, pack_update (fun p => F p.1 p.2.1 p.2.2.1 p.2.2.2) h0]
  funext j
  have e : j = ix3 0 (j 1) (j 2) := by
    funext a
    match a with
    | ⟨0, _⟩ => exact Subsingleton.elim (α := Fin 1) _ _
    | ⟨1, _⟩ => rfl
    | ⟨2, _⟩ => rfl
  exact congrArg (fun i => F (pack (fun _ => 0) W i) (pack (fun _ => 0) M i) (pack (fun _ => 0) V i) (pack (fun _ => 0) G i)) e

/-- The gradient, as the reference computes it. -/
theorem ref4 (W M V : Cert.Adam.Small EReal) (x33 : (S2 16 256).Idx → EReal) (x34 : (S2 4 1024).Idx → EReal) (x35 : (S3 4 31 128).Idx → EReal) (x36 : (S2 4 512).Idx → EReal) (x37 : (S2 4 512).Idx → EReal) (x38 : (S2 4 512).Idx → EReal) (x39 : (S2 4 512).Idx → EReal) (x40 : (S2 4 128).Idx → EReal) (x41 : (S2 4 64).Idx → EReal) (x42 : (S2 4 64).Idx → EReal) (x43 : (S2 4 8).Idx → EReal) :
    val_main_v278 (F := Ideal) x33 x34 x35 x36 x37 x38 x39 x40 x41 x42 x43
      = packed gOf W M V ⟨x33, x34, x35, x36, x37, x38, x39, x40, x41, x42, x43⟩ := by
  have e : val_main_v278 (F := Ideal) x33 x34 x35 x36 x37 x38 x39 x40 x41 x42 x43
      = pack fill ((Cert.Adam.Small.zip W M V ⟨x33, x34, x35, x36, x37, x38, x39, x40, x41, x42, x43⟩).map fun p => gOf p.1 p.2.1 p.2.2.1 p.2.2.2) := by
    rfl
  exact e.trans (pack_packed gOf (rfl) _ _ _ _)

/-- The step, as the reference computes it. -/
theorem ref5 (x0 : (S2 16 256).Idx → EReal) (x1 : (S2 4 1024).Idx → EReal) (x2 : (S3 4 31 128).Idx → EReal) (x3 : (S2 4 512).Idx → EReal) (x4 : (S2 4 512).Idx → EReal) (x5 : (S2 4 512).Idx → EReal) (x6 : (S2 4 512).Idx → EReal) (x7 : (S2 4 128).Idx → EReal) (x8 : (S2 4 64).Idx → EReal) (x9 : (S2 4 64).Idx → EReal) (x10 : (S2 4 8).Idx → EReal)
    (x11 : (S2 16 256).Idx → EReal) (x12 : (S2 4 1024).Idx → EReal) (x13 : (S3 4 31 128).Idx → EReal) (x14 : (S2 4 512).Idx → EReal) (x15 : (S2 4 512).Idx → EReal) (x16 : (S2 4 512).Idx → EReal) (x17 : (S2 4 512).Idx → EReal) (x18 : (S2 4 128).Idx → EReal) (x19 : (S2 4 64).Idx → EReal) (x20 : (S2 4 64).Idx → EReal) (x21 : (S2 4 8).Idx → EReal)
    (x22 : (S2 16 256).Idx → EReal) (x23 : (S2 4 1024).Idx → EReal) (x24 : (S3 4 31 128).Idx → EReal) (x25 : (S2 4 512).Idx → EReal) (x26 : (S2 4 512).Idx → EReal) (x27 : (S2 4 512).Idx → EReal) (x28 : (S2 4 512).Idx → EReal) (x29 : (S2 4 128).Idx → EReal) (x30 : (S2 4 64).Idx → EReal) (x31 : (S2 4 64).Idx → EReal) (x32 : (S2 4 8).Idx → EReal)
    (x33 : (S2 16 256).Idx → EReal) (x34 : (S2 4 1024).Idx → EReal) (x35 : (S3 4 31 128).Idx → EReal) (x36 : (S2 4 512).Idx → EReal) (x37 : (S2 4 512).Idx → EReal) (x38 : (S2 4 512).Idx → EReal) (x39 : (S2 4 512).Idx → EReal) (x40 : (S2 4 128).Idx → EReal) (x41 : (S2 4 64).Idx → EReal) (x42 : (S2 4 64).Idx → EReal) (x43 : (S2 4 8).Idx → EReal) :
    val_main_v293 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43
      = packed dOf ⟨x0, x1, x2, x3, x4, x5, x6, x7, x8, x9, x10⟩ ⟨x11, x12, x13, x14, x15, x16, x17, x18, x19, x20, x21⟩ ⟨x22, x23, x24, x25, x26, x27, x28, x29, x30, x31, x32⟩ ⟨x33, x34, x35, x36, x37, x38, x39, x40, x41, x42, x43⟩ := by
  have e : val_main_v293 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43
      = pack fill ((Cert.Adam.Small.zip ⟨x0, x1, x2, x3, x4, x5, x6, x7, x8, x9, x10⟩ ⟨x11, x12, x13, x14, x15, x16, x17, x18, x19, x20, x21⟩ ⟨x22, x23, x24, x25, x26, x27, x28, x29, x30, x31, x32⟩ ⟨x33, x34, x35, x36, x37, x38, x39, x40, x41, x42, x43⟩).map fun p => dRef p.1 p.2.1 p.2.2.1 p.2.2.2) := by
    rfl
  simp only [dRef_eq] at e
  exact e.trans (pack_packed dOf (by rw [dOf, first_zero, second_zero, step_zero]) _ _ _ _)

/-- The new first moment, as the reference computes it. -/
theorem ref6 (W V : Cert.Adam.Small EReal) (x11 : (S2 16 256).Idx → EReal) (x12 : (S2 4 1024).Idx → EReal) (x13 : (S3 4 31 128).Idx → EReal) (x14 : (S2 4 512).Idx → EReal) (x15 : (S2 4 512).Idx → EReal) (x16 : (S2 4 512).Idx → EReal) (x17 : (S2 4 512).Idx → EReal) (x18 : (S2 4 128).Idx → EReal) (x19 : (S2 4 64).Idx → EReal) (x20 : (S2 4 64).Idx → EReal) (x21 : (S2 4 8).Idx → EReal)
    (x33 : (S2 16 256).Idx → EReal) (x34 : (S2 4 1024).Idx → EReal) (x35 : (S3 4 31 128).Idx → EReal) (x36 : (S2 4 512).Idx → EReal) (x37 : (S2 4 512).Idx → EReal) (x38 : (S2 4 512).Idx → EReal) (x39 : (S2 4 512).Idx → EReal) (x40 : (S2 4 128).Idx → EReal) (x41 : (S2 4 64).Idx → EReal) (x42 : (S2 4 64).Idx → EReal) (x43 : (S2 4 8).Idx → EReal) :
    val_main_v308 (F := Ideal) x11 x12 x13 x14 x15 x16 x17 x18 x19 x20 x21 x33 x34 x35 x36 x37 x38 x39 x40 x41 x42 x43
      = packed mOf W ⟨x11, x12, x13, x14, x15, x16, x17, x18, x19, x20, x21⟩ V ⟨x33, x34, x35, x36, x37, x38, x39, x40, x41, x42, x43⟩ := by
  have e : val_main_v308 (F := Ideal) x11 x12 x13 x14 x15 x16 x17 x18 x19 x20 x21 x33 x34 x35 x36 x37 x38 x39 x40 x41 x42 x43
      = pack fill ((Cert.Adam.Small.zip W ⟨x11, x12, x13, x14, x15, x16, x17, x18, x19, x20, x21⟩ V ⟨x33, x34, x35, x36, x37, x38, x39, x40, x41, x42, x43⟩).map fun p => mOf p.1 p.2.1 p.2.2.1 p.2.2.2) := by
    rfl
  exact e.trans (pack_packed mOf (first_zero) _ _ _ _)

/-- The new second moment, as the reference computes it. -/
theorem ref7 (W M : Cert.Adam.Small EReal) (x22 : (S2 16 256).Idx → EReal) (x23 : (S2 4 1024).Idx → EReal) (x24 : (S3 4 31 128).Idx → EReal) (x25 : (S2 4 512).Idx → EReal) (x26 : (S2 4 512).Idx → EReal) (x27 : (S2 4 512).Idx → EReal) (x28 : (S2 4 512).Idx → EReal) (x29 : (S2 4 128).Idx → EReal) (x30 : (S2 4 64).Idx → EReal) (x31 : (S2 4 64).Idx → EReal) (x32 : (S2 4 8).Idx → EReal)
    (x33 : (S2 16 256).Idx → EReal) (x34 : (S2 4 1024).Idx → EReal) (x35 : (S3 4 31 128).Idx → EReal) (x36 : (S2 4 512).Idx → EReal) (x37 : (S2 4 512).Idx → EReal) (x38 : (S2 4 512).Idx → EReal) (x39 : (S2 4 512).Idx → EReal) (x40 : (S2 4 128).Idx → EReal) (x41 : (S2 4 64).Idx → EReal) (x42 : (S2 4 64).Idx → EReal) (x43 : (S2 4 8).Idx → EReal) :
    val_main_v323 (F := Ideal) x22 x23 x24 x25 x26 x27 x28 x29 x30 x31 x32 x33 x34 x35 x36 x37 x38 x39 x40 x41 x42 x43
      = packed vOf W M ⟨x22, x23, x24, x25, x26, x27, x28, x29, x30, x31, x32⟩ ⟨x33, x34, x35, x36, x37, x38, x39, x40, x41, x42, x43⟩ := by
  have e : val_main_v323 (F := Ideal) x22 x23 x24 x25 x26 x27 x28 x29 x30 x31 x32 x33 x34 x35 x36 x37 x38 x39 x40 x41 x42 x43
      = pack fill ((Cert.Adam.Small.zip W M ⟨x22, x23, x24, x25, x26, x27, x28, x29, x30, x31, x32⟩ ⟨x33, x34, x35, x36, x37, x38, x39, x40, x41, x42, x43⟩).map fun p => vOf p.1 p.2.1 p.2.2.1 p.2.2.2) := by
    rfl
  exact e.trans (pack_packed vOf (second_zero) _ _ _ _)

end Reference

end Cert.Adam.Small

end
-- ==== Proof.ClaimAdamSmall.lean ====
/-
  The update of the eleven small weights: its claims.
-/
module

public import proofs.«01_k».proof.Defs
public import proofs.«01_k».proof.Proof.Gen.Reference19Ideal.Run
public import proofs.«01_k».proof.Proof.AdamSmall
public import Idealize.ShloMosaic.Lib.Quiescent

@[expose] public section

set_option maxRecDepth 16384

noncomputable section

namespace Cert.Adam.Small

open Idealize.ShloMosaic Idealize.ShloMosaic.TcCoe Idealize.SL.Sem

/-- The reference runs on the host alone: it ends with its arguments unchanged and no semaphore moved. -/
theorem frame_reference : Cert.quiescent_Reference19Ideal := fun m ρ _ =>
  (θ_run Cert.Reference19Ideal.defs _ _).mono
    (fun r h => ⟨fun c => (h c).2.2.2.2, sem_eq_zero_of_no_sems (by decide) r.2⟩)
    (Cert.Reference19Ideal.Value.run (F := Ideal) m ρ)

/-- The kernel's two numbers are named as the reciprocals that they stand for. -/
theorem preserves : Cert.preserves_Kernel19_Kernel19Ideal :=
  ⟨IdealRules.named_const.statement Cert.Kernel19Ideal.κ "inv_c1" .f32 0x3FC48605#32 ((8388608 / 5463681 : ℝ) : EReal) rfl,
    IdealRules.named_const.statement Cert.Kernel19Ideal.κ "inv_c2" .f32 0x42C8E6D3#32 ((268435456 / 2672307 : ℝ) : EReal) rfl⟩

/-- The weights of the reference's device `c`. -/
def rW (m' : (ℓ : Loc Cert.Reference19Ideal.nD Cert.Reference19Ideal.τ Cert.Reference19Ideal.sig) → Buf (Elt Ideal) ℓ) (c : Dev Cert.Reference19Ideal.nD) :
    Cert.Adam.Small EReal :=
  ⟨m' ((c.tc : Thread Cert.Reference19Ideal.nD Cert.Reference19Ideal.τ).loc Cert.Reference19Ideal.main_arg0), m' ((c.tc : Thread Cert.Reference19Ideal.nD Cert.Reference19Ideal.τ).loc Cert.Reference19Ideal.main_arg1), m' ((c.tc : Thread Cert.Reference19Ideal.nD Cert.Reference19Ideal.τ).loc Cert.Reference19Ideal.main_arg2), m' ((c.tc : Thread Cert.Reference19Ideal.nD Cert.Reference19Ideal.τ).loc Cert.Reference19Ideal.main_arg3), m' ((c.tc : Thread Cert.Reference19Ideal.nD Cert.Reference19Ideal.τ).loc Cert.Reference19Ideal.main_arg4), m' ((c.tc : Thread Cert.Reference19Ideal.nD Cert.Reference19Ideal.τ).loc Cert.Reference19Ideal.main_arg5), m' ((c.tc : Thread Cert.Reference19Ideal.nD Cert.Reference19Ideal.τ).loc Cert.Reference19Ideal.main_arg6), m' ((c.tc : Thread Cert.Reference19Ideal.nD Cert.Reference19Ideal.τ).loc Cert.Reference19Ideal.main_arg7), m' ((c.tc : Thread Cert.Reference19Ideal.nD Cert.Reference19Ideal.τ).loc Cert.Reference19Ideal.main_arg8), m' ((c.tc : Thread Cert.Reference19Ideal.nD Cert.Reference19Ideal.τ).loc Cert.Reference19Ideal.main_arg9), m' ((c.tc : Thread Cert.Reference19Ideal.nD Cert.Reference19Ideal.τ).loc Cert.Reference19Ideal.main_arg10)⟩
/-- The first moments of the reference's device `c`. -/
def rM (m' : (ℓ : Loc Cert.Reference19Ideal.nD Cert.Reference19Ideal.τ Cert.Reference19Ideal.sig) → Buf (Elt Ideal) ℓ) (c : Dev Cert.Reference19Ideal.nD) :
    Cert.Adam.Small EReal :=
  ⟨m' ((c.tc : Thread Cert.Reference19Ideal.nD Cert.Reference19Ideal.τ).loc Cert.Reference19Ideal.main_arg11), m' ((c.tc : Thread Cert.Reference19Ideal.nD Cert.Reference19Ideal.τ).loc Cert.Reference19Ideal.main_arg12), m' ((c.tc : Thread Cert.Reference19Ideal.nD Cert.Reference19Ideal.τ).loc Cert.Reference19Ideal.main_arg13), m' ((c.tc : Thread Cert.Reference19Ideal.nD Cert.Reference19Ideal.τ).loc Cert.Reference19Ideal.main_arg14), m' ((c.tc : Thread Cert.Reference19Ideal.nD Cert.Reference19Ideal.τ).loc Cert.Reference19Ideal.main_arg15), m' ((c.tc : Thread Cert.Reference19Ideal.nD Cert.Reference19Ideal.τ).loc Cert.Reference19Ideal.main_arg16), m' ((c.tc : Thread Cert.Reference19Ideal.nD Cert.Reference19Ideal.τ).loc Cert.Reference19Ideal.main_arg17), m' ((c.tc : Thread Cert.Reference19Ideal.nD Cert.Reference19Ideal.τ).loc Cert.Reference19Ideal.main_arg18), m' ((c.tc : Thread Cert.Reference19Ideal.nD Cert.Reference19Ideal.τ).loc Cert.Reference19Ideal.main_arg19), m' ((c.tc : Thread Cert.Reference19Ideal.nD Cert.Reference19Ideal.τ).loc Cert.Reference19Ideal.main_arg20), m' ((c.tc : Thread Cert.Reference19Ideal.nD Cert.Reference19Ideal.τ).loc Cert.Reference19Ideal.main_arg21)⟩
/-- The second moments of the reference's device `c`. -/
def rV (m' : (ℓ : Loc Cert.Reference19Ideal.nD Cert.Reference19Ideal.τ Cert.Reference19Ideal.sig) → Buf (Elt Ideal) ℓ) (c : Dev Cert.Reference19Ideal.nD) :
    Cert.Adam.Small EReal :=
  ⟨m' ((c.tc : Thread Cert.Reference19Ideal.nD Cert.Reference19Ideal.τ).loc Cert.Reference19Ideal.main_arg22), m' ((c.tc : Thread Cert.Reference19Ideal.nD Cert.Reference19Ideal.τ).loc Cert.Reference19Ideal.main_arg23), m' ((c.tc : Thread Cert.Reference19Ideal.nD Cert.Reference19Ideal.τ).loc Cert.Reference19Ideal.main_arg24), m' ((c.tc : Thread Cert.Reference19Ideal.nD Cert.Reference19Ideal.τ).loc Cert.Reference19Ideal.main_arg25), m' ((c.tc : Thread Cert.Reference19Ideal.nD Cert.Reference19Ideal.τ).loc Cert.Reference19Ideal.main_arg26), m' ((c.tc : Thread Cert.Reference19Ideal.nD Cert.Reference19Ideal.τ).loc Cert.Reference19Ideal.main_arg27), m' ((c.tc : Thread Cert.Reference19Ideal.nD Cert.Reference19Ideal.τ).loc Cert.Reference19Ideal.main_arg28), m' ((c.tc : Thread Cert.Reference19Ideal.nD Cert.Reference19Ideal.τ).loc Cert.Reference19Ideal.main_arg29), m' ((c.tc : Thread Cert.Reference19Ideal.nD Cert.Reference19Ideal.τ).loc Cert.Reference19Ideal.main_arg30), m' ((c.tc : Thread Cert.Reference19Ideal.nD Cert.Reference19Ideal.τ).loc Cert.Reference19Ideal.main_arg31), m' ((c.tc : Thread Cert.Reference19Ideal.nD Cert.Reference19Ideal.τ).loc Cert.Reference19Ideal.main_arg32)⟩
/-- The gradients of the reference's device `c`. -/
def rG (m' : (ℓ : Loc Cert.Reference19Ideal.nD Cert.Reference19Ideal.τ Cert.Reference19Ideal.sig) → Buf (Elt Ideal) ℓ) (c : Dev Cert.Reference19Ideal.nD) :
    Cert.Adam.Small EReal :=
  ⟨m' ((c.tc : Thread Cert.Reference19Ideal.nD Cert.Reference19Ideal.τ).loc Cert.Reference19Ideal.main_arg33), m' ((c.tc : Thread Cert.Reference19Ideal.nD Cert.Reference19Ideal.τ).loc Cert.Reference19Ideal.main_arg34), m' ((c.tc : Thread Cert.Reference19Ideal.nD Cert.Reference19Ideal.τ).loc Cert.Reference19Ideal.main_arg35), m' ((c.tc : Thread Cert.Reference19Ideal.nD Cert.Reference19Ideal.τ).loc Cert.Reference19Ideal.main_arg36), m' ((c.tc : Thread Cert.Reference19Ideal.nD Cert.Reference19Ideal.τ).loc Cert.Reference19Ideal.main_arg37), m' ((c.tc : Thread Cert.Reference19Ideal.nD Cert.Reference19Ideal.τ).loc Cert.Reference19Ideal.main_arg38), m' ((c.tc : Thread Cert.Reference19Ideal.nD Cert.Reference19Ideal.τ).loc Cert.Reference19Ideal.main_arg39), m' ((c.tc : Thread Cert.Reference19Ideal.nD Cert.Reference19Ideal.τ).loc Cert.Reference19Ideal.main_arg40), m' ((c.tc : Thread Cert.Reference19Ideal.nD Cert.Reference19Ideal.τ).loc Cert.Reference19Ideal.main_arg41), m' ((c.tc : Thread Cert.Reference19Ideal.nD Cert.Reference19Ideal.τ).loc Cert.Reference19Ideal.main_arg42), m' ((c.tc : Thread Cert.Reference19Ideal.nD Cert.Reference19Ideal.τ).loc Cert.Reference19Ideal.main_arg43)⟩

/-- The kernel's result arrays are the reference's, from arguments that agree. -/
theorem algebraic : Cert.algebraic_Kernel19Ideal_Reference19Ideal := by
  intro m ρ m' ρ' _ hagree
  refine ⟨fun c => (Cert.Kernel19Ideal.Gen.dats m 0 c).arrAt 4 Cert.Kernel19Ideal.cfg0.N, fun c => (Cert.Kernel19Ideal.Gen.dats m 0 c).arrAt 5 Cert.Kernel19Ideal.cfg0.N, fun c => (Cert.Kernel19Ideal.Gen.dats m 0 c).arrAt 6 Cert.Kernel19Ideal.cfg0.N, fun c => (Cert.Kernel19Ideal.Gen.dats m 0 c).arrAt 7 Cert.Kernel19Ideal.cfg0.N, ?_, ?_⟩
  · exact Cert.Kernel19Ideal.Value.run_blocks m ρ
  · refine (θ_run Cert.Reference19Ideal.defs _ _).mono (fun _ h c => ?_) (Cert.Reference19Ideal.Value.run (F := Ideal) m' ρ')
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := hagree c
    obtain ⟨r0, r1, r2, r3, keep⟩ := h c
    have aW : rW m' c = kW m c := by
      unfold rW kW
      rw [e0, e1, e2, e3, e4, e5, e6, e7, e8, e9, e10]
    have aM : rM m' c = kM m c := by
      unfold rM kM
      rw [e11, e12, e13, e14, e15, e16, e17, e18, e19, e20, e21]
    have aV : rV m' c = kV m c := by
      unfold rV kV
      rw [e22, e23, e24, e25, e26, e27, e28, e29, e30, e31, e32]
    have aG : rG m' c = kG m c := by
      unfold rG kG
      rw [e33, e34, e35, e36, e37, e38, e39, e40, e41, e42, e43]
    refine ⟨r0.trans ?_, r1.trans ?_, r2.trans ?_, r3.trans ?_, keep⟩
    · have e : packed gOf (kW m c) (kM m c) (kV m c) (rG m' c) = packed gOf (kW m c) (kM m c) (kV m c) (kG m c) := by
        rw [aG]
      exact (Cert.Reference19Ideal.Read.val_main_v278_eq (StableHlo.launchContents m' c)).trans
        ((ref4 (kW m c) (kM m c) (kV m c) _ _ _ _ _ _ _ _ _ _ _).trans (e.trans (final4 m c).symm))
    · have e : packed dOf (rW m' c) (rM m' c) (rV m' c) (rG m' c) = packed dOf (kW m c) (kM m c) (kV m c) (kG m c) := by
        rw [aW, aM, aV, aG]
      exact (Cert.Reference19Ideal.Read.val_main_v293_eq (StableHlo.launchContents m' c)).trans
        ((ref5 _ _ _ _ _ _ _ _ _ _ _ _ _ _ _ _ _ _ _ _ _ _ _ _ _ _ _ _ _ _ _ _ _ _ _ _ _ _ _ _ _ _ _ _).trans (e.trans (final5 m c).symm))
    · have e : packed mOf (kW m c) (rM m' c) (kV m c) (rG m' c) = packed mOf (kW m c) (kM m c) (kV m c) (kG m c) := by
        rw [aM, aG]
      exact (Cert.Reference19Ideal.Read.val_main_v308_eq (StableHlo.launchContents m' c)).trans
        ((ref6 (kW m c) (kV m c) _ _ _ _ _ _ _ _ _ _ _ _ _ _ _ _ _ _ _ _ _ _).trans (e.trans (final6 m c).symm))
    · have e : packed vOf (kW m c) (kM m c) (rV m' c) (rG m' c) = packed vOf (kW m c) (kM m c) (kV m c) (kG m c) := by
        rw [aV, aG]
      exact (Cert.Reference19Ideal.Read.val_main_v323_eq (StableHlo.launchContents m' c)).trans
        ((ref7 (kW m c) (kM m c) _ _ _ _ _ _ _ _ _ _ _ _ _ _ _ _ _ _ _ _ _ _).trans (e.trans (final7 m c).symm))

end Cert.Adam.Small

end
-- ==== Proof.MixLoss.lean ====
/-
  The last layer's end, as plain functions of the arrays: the error of the layer's output against the target on the tokens'
  rows, the loss (half the sum over the tokens of the mean squared error) and its gradient at the layer's output.
-/
module

public import proofs.«01_k».proof.Proof.MixFwd

@[expose] public section

noncomputable section

namespace Cert.MixLoss

open Idealize.ShloMosaic Cert.Merge

/-- The rows that hold tokens: those after the meta tokens and before the padding. -/
def token (r : Fin 16640) : Prop := 64 ≤ r.val ∧ r.val < 16448

instance (r : Fin 16640) : Decidable (token r) := inferInstanceAs (Decidable (_ ∧ _))

/-- The error at a row: the output minus the target on a token's row, zero elsewhere. -/
def err (o : Fin 16640 → Fin 1024 → EReal) (t : Arr 16384 1024) (r : Fin 16640) (c : Fin 1024) : EReal :=
  if h : token r then o r c - t (ix2 ⟨r.val - 64, by have := h.1; have := h.2; omega⟩ c) else 0

/-- The gradient of the loss at the layer's output. -/
def dout (o : Fin 16640 → Fin 1024 → EReal) (t : Arr 16384 1024) (r : Fin 16640) (c : Fin 1024) : EReal :=
  err o t r c * ((1 / 1024 : ℝ) : EReal)

/-- The loss: half of each token's mean squared error, summed. -/
def loss (o : Fin 16640 → Fin 1024 → EReal) (t : Arr 16384 1024) : EReal :=
  ((1 / 2048 : ℝ) : EReal) * ∑ r : Fin 16640, ∑ c : Fin 1024, err o t r c * err o t r c

/-- The words of the loss's numbers. -/
theorem ofBits_mean : Ideal.ofBits .f32 981467136#32 = ((1 / 1024 : ℝ) : EReal) := by
  simp [Ideal.ofBits, Ideal.ieee, -EReal.coe_mul]; norm_num
theorem ofBits_halfMean : Ideal.ofBits .f32 973078528#32 = ((1 / 2048 : ℝ) : EReal) := by
  simp [Ideal.ofBits, Ideal.ieee, -EReal.coe_mul]; norm_num
theorem ofBits_half : Ideal.ofBits .f32 1056964608#32 = ((1 / 2 : ℝ) : EReal) := by
  simp [Ideal.ofBits, Ideal.ieee, -EReal.coe_mul]; norm_num
theorem ofBits_two : Ideal.ofBits .f32 1073741824#32 = ((2 : ℝ) : EReal) := by
  simp [Ideal.ofBits, Ideal.ieee, -EReal.coe_mul]; norm_num
theorem ofBits_one : Ideal.ofBits .f32 1065353216#32 = ((1 : ℝ) : EReal) := by
  simp [Ideal.ofBits, Ideal.ieee, -EReal.coe_mul]; norm_num

/-- A token's row in the whole array. -/
def tokenRow (r : Fin 16384) : Fin 16640 := ⟨64 + r.val, by omega⟩

theorem err_token (o : Fin 16640 → Fin 1024 → EReal) (t : Arr 16384 1024) (r : Fin 16384) (c : Fin 1024) :
    err o t (tokenRow r) c = o (tokenRow r) c - t (ix2 r c) := by
  have h : token (tokenRow r) := ⟨Nat.le_add_right _ _, by show 64 + r.val < 16448; omega⟩
  unfold err
  rw [dif_pos h]
  exact congrArg (fun q => _ - t (ix2 q c)) (Fin.ext (Nat.add_sub_cancel_left 64 r.val))

/-- A sum over all the rows of what vanishes off the tokens' rows is the sum over the tokens. -/
theorem sum_tokens (f : Fin 16640 → EReal) (h : ∀ r, ¬token r → f r = 0) : ∑ r : Fin 16640, f r = ∑ r : Fin 16384, f (tokenRow r) := by
  refine (Fintype.sum_of_injective tokenRow (fun a b e => ?_) _ _ (fun r hr => h r fun ht => hr ?_) fun r => rfl).symm
  · have := congrArg Fin.val e
    exact Fin.ext (Nat.add_left_cancel (n := 64) this)
  · have h1 := ht.1
    have h2 := ht.2
    exact ⟨⟨r.val - 64, by omega⟩, Fin.ext (by show 64 + (r.val - 64) = r.val; omega)⟩

/-- The loss as the reference sums it: half the sum of the tokens' means. -/
theorem loss_eq (o : Fin 16640 → Fin 1024 → EReal) (t : Arr 16384 1024) :
    ((1 / 2 : ℝ) : EReal) * ∑ r : Fin 16384, (∑ c : Fin 1024, (o (tokenRow r) c - t (ix2 r c)) * (o (tokenRow r) c - t (ix2 r c)))
        * ((1 / 1024 : ℝ) : EReal)
      = loss o t := by
  unfold loss
  rw [sum_tokens _ fun r hr => by
    refine Finset.sum_eq_zero fun c _ => ?_
    unfold err
    rw [dif_neg hr, zero_mul]]
  simp only [err_token, mul_comm _ ((1 / 1024 : ℝ) : EReal)]
  rw [← Rms.real_mul_sum _ _ (by norm_num), ← mul_assoc, ← EReal.coe_mul]
  norm_num

end Cert.MixLoss

end
-- ==== Proof.MixLossValue.lean ====
/-
  What the last layer's kernel leaves in its arrays: the branches' outputs, the merged rows and the loss's gradient.
-/
module

public import proofs.«01_k».proof.Proof.Gen.Kernel20Ideal.Value
public import proofs.«01_k».proof.Proof.MixLoss
public import Idealize.ShloMosaic.Lib.KernelVsHost
public import Idealize.ShloMosaic.Lib.WordArith

@[expose] public section

set_option maxRecDepth 16384

noncomputable section

namespace Cert.MixLoss

open Cert.MixFwd Cert.Kernel20Ideal Cert.Kernel20Ideal.Gen Idealize.ShloMosaic Idealize.ShloMosaic.TcCoe Idealize.SL.Sem Cert.Merge
open Idealize.ShloMosaic.Pipeline (Dat)

variable (m : (ℓ : Loc nD τ sig) → Buf (Elt Ideal) ℓ)

/-- Which block each window holds at a grid point: the rows' windows move with the point, the weights stay. -/
theorem idx : ∀ t : Fin grid0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![0, 0] := by decide +kernel

/-- The argument arrays of device `c`. -/
abbrev aH (c : Dev nD) : Arr 16640 1024 := m ((c : Thread nD τ).loc main_arg0)
abbrev aYa (c : Dev nD) : Arr 16640 512 := m ((c : Thread nD τ).loc main_arg1)
abbrev aYb (c : Dev nD) : Arr 16640 512 := m ((c : Thread nD τ).loc main_arg2)
abbrev aYc (c : Dev nD) : Arr 16640 512 := m ((c : Thread nD τ).loc main_arg3)
abbrev aUg (c : Dev nD) : Arr 16640 3072 := m ((c : Thread nD τ).loc main_arg4)
abbrev aWa (c : Dev nD) : Arr 512 1024 := m ((c : Thread nD τ).loc main_arg5)
abbrev aWb (c : Dev nD) : Arr 512 1024 := m ((c : Thread nD τ).loc main_arg6)
abbrev aWc (c : Dev nD) : Arr 512 1024 := m ((c : Thread nD τ).loc main_arg7)
abbrev aWo (c : Dev nD) : Arr 1024 1024 := m ((c : Thread nD τ).loc main_arg8)
abbrev aT (c : Dev nD) : Arr 16384 1024 := m ((c : Thread nD τ).loc main_arg9)

/-- The merged rows and the layer's output of device `c`. -/
def mixedAt (c : Dev nD) : Fin 16640 → Fin 1024 → EReal :=
  mixed (aYa m c) (aYb m c) (aYc m c) (aUg m c) (aWa m c) (aWb m c) (aWc m c)
def outAt (c : Dev nD) : Fin 16640 → Fin 1024 → EReal := out (aH m c) (mixedAt m c) (aWo m c)

/-- Row `a` of grid point `t`'s block, as a row of the array. -/
def row (t : Fin cfg0.N) (a : Fin 320) : Fin 16640 := ⟨t.val * 320 + a.val, by
  have h : t.val < 52 := t.isLt
  omega⟩

theorem row_val (t : Fin cfg0.N) (a : Fin 320) : (row t a).val = t.val * 320 + a.val := rfl

/-- Each input window's block at a point, read at an index, is its array read at the place of the block. -/
theorem read0 (c : Dev nD) (t : Fin cfg0.N) (a : Fin 320) (b : Fin 1024) :
    (iblk m c 0 t (ix2 a b) : EReal) = aH m c (ix2 (row t a) b) := by
  blk_ext [iblk, V, idx t, row_val]
theorem read1 (c : Dev nD) (t : Fin cfg0.N) (a : Fin 320) (b : Fin 512) :
    (iblk m c 1 t (ix2 a b) : EReal) = aYa m c (ix2 (row t a) b) := by
  blk_ext [iblk, V, idx t, row_val]
theorem read2 (c : Dev nD) (t : Fin cfg0.N) (a : Fin 320) (b : Fin 512) :
    (iblk m c 2 t (ix2 a b) : EReal) = aYb m c (ix2 (row t a) b) := by
  blk_ext [iblk, V, idx t, row_val]
theorem read3 (c : Dev nD) (t : Fin cfg0.N) (a : Fin 320) (b : Fin 512) :
    (iblk m c 3 t (ix2 a b) : EReal) = aYc m c (ix2 (row t a) b) := by
  blk_ext [iblk, V, idx t, row_val]
theorem read4 (c : Dev nD) (t : Fin cfg0.N) (a : Fin 320) (b : Fin 3072) :
    (iblk m c 4 t (ix2 a b) : EReal) = aUg m c (ix2 (row t a) b) := by
  blk_ext [iblk, V, idx t, row_val]
theorem read5 (c : Dev nD) (t : Fin cfg0.N) (a : Fin 512) (b : Fin 1024) :
    (iblk m c 5 t (ix2 a b) : EReal) = aWa m c (ix2 a b) := by
  blk_ext [iblk, V, idx t]
theorem read6 (c : Dev nD) (t : Fin cfg0.N) (a : Fin 512) (b : Fin 1024) :
    (iblk m c 6 t (ix2 a b) : EReal) = aWb m c (ix2 a b) := by
  blk_ext [iblk, V, idx t]
theorem read7 (c : Dev nD) (t : Fin cfg0.N) (a : Fin 512) (b : Fin 1024) :
    (iblk m c 7 t (ix2 a b) : EReal) = aWc m c (ix2 a b) := by
  blk_ext [iblk, V, idx t]
theorem read8 (c : Dev nD) (t : Fin cfg0.N) (a : Fin 1024) (b : Fin 1024) :
    (iblk m c 8 t (ix2 a b) : EReal) = aWo m c (ix2 a b) := by
  blk_ext [iblk, V, idx t]
/-- The target, padded to the rows of the layer's output: the host prepares it before the call. -/
def padded (c : Dev nD) : FVec Ideal S16640x1024 .f32 :=
  pad S16640x1024 ![64, 0] ![192, 0] ![0, 0] (aT m c) (sitofp .f32 (constantI S_ 32 0#32)) pads_S16384x1024_S16640x1024_641920_000 h_S_

theorem V_target (c : Dev nD) : (show FVec Ideal S16640x1024 .f32 from V m c main_v0) = padded m c := by rfl

theorem read9 (c : Dev nD) (t : Fin cfg0.N) (a : Fin 320) (b : Fin 1024) :
    (iblk m c 9 t (ix2 a b) : EReal) = padded m c (ix2 (row t a) b) := by
  have e : ((cfg0.win 9).blk t).view.emb (ix2 a b : S320x1024.Idx) = ix2 (row t a) b := by
    blk_ext [idx t]
    exact (row_val t _).symm
  exact (congrArg (show FVec Ideal S16640x1024 .f32 from V m c main_v0) e).trans (congrFun (V_target m c) _)

/-- On a token's row the padded target is the target. -/
theorem padded_token (c : Dev nD) (r : Fin 16640) (h : token r) (b : Fin 1024) :
    padded m c (ix2 r b) = aT m c (ix2 ⟨r.val - 64, by have := h.1; have := h.2; omega⟩ b) := by
  refine pad_apply_of_inside _ _ _ _ _ _ _ _ _ fun a => ?_
  match a with
  | ⟨0, _⟩ => show r.val = 64 + (r.val - 64) * 1; have := h.1; omega
  | ⟨1, _⟩ => show b.val = 0 + b.val * 1; omega

/-- Where an element of each result's block lies in the array. -/
theorem place10 (t : Fin cfg0.N) (y : S320x1024.Idx) :
    ((cfg0.win 10).blk t).view.emb y = ix2 (row t (y 0)) (y 1) := by
  blk_ext [idx t]
  exact (row_val t _).symm
theorem place11 (t : Fin cfg0.N) (y : S320x1024.Idx) :
    ((cfg0.win 11).blk t).view.emb y = ix2 (row t (y 0)) (y 1) := by
  blk_ext [idx t]
  exact (row_val t _).symm
theorem place12 (t : Fin cfg0.N) (y : S320x1024.Idx) :
    ((cfg0.win 12).blk t).view.emb y = ix2 (row t (y 0)) (y 1) := by
  blk_ext [idx t]
  exact (row_val t _).symm
theorem place13 (t : Fin cfg0.N) (y : S320x1024.Idx) :
    ((cfg0.win 13).blk t).view.emb y = ix2 (row t (y 0)) (y 1) := by
  blk_ext [idx t]
  exact (row_val t _).symm
theorem place14 (t : Fin cfg0.N) (y : S320x1024.Idx) :
    ((cfg0.win 14).blk t).view.emb y = ix2 (row t (y 0)) (y 1) := by
  blk_ext [idx t]
  exact (row_val t _).symm
theorem place15 (t : Fin cfg0.N) (y : S8x128.Idx) : ((cfg0.win 15).blk t).view.emb y = y := by
  blk_ext [idx t]

/-- The output of branch `a`. -/
theorem final10 (c : Dev nD) : (dats m 0 c).arrAt 10 cfg0.N =
    fun i : S16640x1024.Idx => branch (aYa m c) (aWa m c) (i 0) (i 1) := by
  refine (dats m 0 c).arrAt_eq_of_covers 10 _ (by decide +kernel) fun t hf y => ?_
  rw [place10]
  blk_simp
  rw [after0_10]
  by_cases h0 : t.val % 52 = 0
  · rw [outsAt0_A m c t h0]
    frame_out
    idx_vars y
    pointwise [branch, k0_pay3, k0_pay2, read1, read5]
  · rw [outsAt0_B m c t h0]
    frame_out
    idx_vars y
    pointwise [branch, k0_pay3, k0_pay2, read1, read5]

/-- The output of branch `b`. -/
theorem final11 (c : Dev nD) : (dats m 0 c).arrAt 11 cfg0.N =
    fun i : S16640x1024.Idx => branch (aYb m c) (aWb m c) (i 0) (i 1) := by
  refine (dats m 0 c).arrAt_eq_of_covers 11 _ (by decide +kernel) fun t hf y => ?_
  rw [place11]
  blk_simp
  rw [after0_11]
  by_cases h0 : t.val % 52 = 0
  · rw [outsAt0_A m c t h0]
    frame_out
    idx_vars y
    pointwise [branch, k0_pay5, k0_pay4, read2, read6]
  · rw [outsAt0_B m c t h0]
    frame_out
    idx_vars y
    pointwise [branch, k0_pay5, k0_pay4, read2, read6]

/-- The output of branch `c`. -/
theorem final12 (c : Dev nD) : (dats m 0 c).arrAt 12 cfg0.N =
    fun i : S16640x1024.Idx => branch (aYc m c) (aWc m c) (i 0) (i 1) := by
  refine (dats m 0 c).arrAt_eq_of_covers 12 _ (by decide +kernel) fun t hf y => ?_
  rw [place12]
  blk_simp
  rw [after0_12]
  by_cases h0 : t.val % 52 = 0
  · rw [outsAt0_A m c t h0]
    frame_out
    idx_vars y
    pointwise [branch, k0_pay8, k0_pay7, read3, read7]
  · rw [outsAt0_B m c t h0]
    frame_out
    idx_vars y
    pointwise [branch, k0_pay8, k0_pay7, read3, read7]

/-- What a grid point computes of the branches: the first two under their gates, -/
def two (c : Dev nD) (t : Fin cfg0.N) : FVec Ideal S320x1024 .f32 :=
  k0_pay6 (F := Ideal) (iblk m c 1 t) (iblk m c 5 t) (View.ld (iblk m c 4 t) (Rect.unit ![0, 0] ![320, 1024] inb_S320x3072_S320x1024_0_0))
    (iblk m c 2 t) (iblk m c 6 t) (View.ld (iblk m c 4 t) (Rect.unit ![0, 1024] ![320, 1024] inb_S320x3072_S320x1024_0_1024))

/-- the third, -/
def lastBranch (c : Dev nD) (t : Fin cfg0.N) : FVec Ideal S320x1024 .f32 := k0_pay7 (F := Ideal) (iblk m c 3 t) (iblk m c 7 t)

/-- and the third's gate's logits. -/
def lastGate (c : Dev nD) (t : Fin cfg0.N) : FVec Ideal S320x1024 .f32 :=
  k0_pay9 (F := Ideal) (View.ld (iblk m c 4 t) (Rect.unit ![0, 2048] ![320, 1024] inb_S320x3072_S320x1024_0_2048))

/-- The merged rows of a grid point, -/
theorem mixed_at (c : Dev nD) (t : Fin cfg0.N) (a : Fin 320) (b : Fin 1024) :
    k0_pay10 (F := Ideal) (two m c t) (lastBranch m c t) (lastGate m c t) (ix2 a b) = mixedAt m c (row t a) b := by
  unfold two lastBranch lastGate
  pointwise [k0_pay10, k0_pay6, k0_pay7, k0_pay9, k0_pay2, k0_pay4, mixedAt, mixed, gate, branch, third_zero,
    third_val, read1, read2, read3, read4, read5, read6, read7]

/-- The merged rows. -/
theorem final13 (c : Dev nD) : (dats m 0 c).arrAt 13 cfg0.N =
    fun i : S16640x1024.Idx => mixedAt m c (i 0) (i 1) := by
  refine (dats m 0 c).arrAt_eq_of_covers 13 _ (by decide +kernel) fun t hf y => ?_
  rw [place13]
  blk_simp
  rw [after0_13]
  by_cases h0 : t.val % 52 = 0
  · rw [outsAt0_A m c t h0]
    frame_out
    idx_vars y
    exact mixed_at m c t _ _
  · rw [outsAt0_B m c t h0]
    frame_out
    idx_vars y
    exact mixed_at m c t _ _

/-- A grid point's number, as its word counts it. -/
theorem point_val (t : Fin cfg0.N) : (grid0.coords t 0).val = t.val := by
  have h : t.val < 52 := t.isLt
  rw [Pipeline.Grid.coords_val (G := grid0) t 0 (S := 1) (B := 52) rfl rfl]
  omega

/-- The kernel's mask is the tokens' rows. -/
theorem mask (t : Fin cfg0.N) (a : Fin 320) :
    (IntOp.andi
        (IntOp.cmpi .sge (IntOp.addi (Scalar.muli (BitVec.ofNat 32 (grid0.coords t 0).val) 320#32) (BitVec.ofNat 32 a.val)) 64#32)
        (IntOp.cmpi .slt (IntOp.addi (Scalar.muli (BitVec.ofNat 32 (grid0.coords t 0).val) 320#32) (BitVec.ofNat 32 a.val)) 16448#32)
      = 1#1) ↔ token (row t a) := by
  have h : t.val < 52 := t.isLt
  rw [point_val]
  have e : IntOp.addi (Scalar.muli (BitVec.ofNat 32 t.val) 320#32) (BitVec.ofNat 32 a.val) = BitVec.ofNat 32 (row t a).val := by
    show BitVec.ofNat 32 t.val * BitVec.ofNat 32 320 + BitVec.ofNat 32 a.val = _
    rw [← BitVec.ofNat_mul, ← BitVec.ofNat_add, row_val]
  have hr := (row t a).isLt
  have hi : (BitVec.ofNat 32 (row t a).val).toInt = (row t a).val := WordArith.toInt_ofNat_small _ (by omega)
  rw [e]
  show IntOp.andi (BitVec.ofBool (BitVec.sle 64#32 (BitVec.ofNat 32 (row t a).val))) (BitVec.ofBool (BitVec.slt (BitVec.ofNat 32 (row t a).val) 16448#32)) = 1#1 ↔ _
  rw [WordArith.andi_ofBool, WordArith.ofBool_eq_one_iff, Bool.and_eq_true, BitVec.sle_iff_toInt_le, BitVec.slt_iff_toInt_lt, hi]
  show ((64 : Int) ≤ _ ∧ _ < (16448 : Int)) ↔ _
  unfold token
  omega

/-- A grid point's error. -/
theorem err_at (c : Dev nD) (t : Fin cfg0.N) (a : Fin 320) (b : Fin 1024) :
    k0_pay12 (F := Ideal) (BitVec.ofNat 32 (grid0.coords t 0)) (two m c t) (lastBranch m c t) (lastGate m c t) (iblk m c 0 t) (iblk m c 8 t) (iblk m c 9 t) (ix2 a b)
      = err (outAt m c) (aT m c) (row t a) b := by
  pointwise [k0_pay12, mixed_at, read0, read8, read9]
  unfold err
  by_cases h : token (row t a)
  · rw [dif_pos h, padded_token m c _ h]
    exact if_pos ((mask t a).mpr h)
  · rw [dif_neg h]
    exact if_neg fun e => h ((mask t a).mp e)

/-- The gradient of the loss at the layer's output. -/
theorem final14 (c : Dev nD) : (dats m 0 c).arrAt 14 cfg0.N =
    fun i : S16640x1024.Idx => dout (outAt m c) (aT m c) (i 0) (i 1) := by
  have point : ∀ (t : Fin cfg0.N) (a : Fin 320) (b : Fin 1024),
      k0_pay13 (F := Ideal) (BitVec.ofNat 32 (grid0.coords t 0)) (two m c t) (lastBranch m c t) (lastGate m c t) (iblk m c 0 t) (iblk m c 8 t) (iblk m c 9 t) (ix2 a b)
        = dout (outAt m c) (aT m c) (row t a) b := fun t a b => by
    pointwise [k0_pay13, err_at, dout]
    rw [ofBits_mean]
  refine (dats m 0 c).arrAt_eq_of_covers 14 _ (by decide +kernel) fun t hf y => ?_
  rw [place14]
  blk_simp
  rw [after0_14]
  by_cases h0 : t.val % 52 = 0
  · rw [outsAt0_A m c t h0]
    frame_out
    idx_vars y
    exact point t _ _
  · rw [outsAt0_B m c t h0]
    frame_out
    idx_vars y
    exact point t _ _

/-- A grid point's part of the loss. -/
def term (c : Dev nD) (p : Fin cfg0.N) (_ : S8x128.Idx) : EReal :=
  ((1 / 2048 : ℝ) : EReal) * ∑ b : Fin 1024, ∑ a : Fin 320, err (outAt m c) (aT m c) (row p a) b * err (outAt m c) (aT m c) (row p a) b

theorem term_at (c : Dev nD) (p : Fin cfg0.N) (j : S8x128.Idx) : term m c p j
    = ((1 / 2048 : ℝ) : EReal) * ∑ b : Fin 1024, ∑ a : Fin 320, err (outAt m c) (aT m c) (row p a) b * err (outAt m c) (aT m c) (row p a) b := rfl

/-- What a point stores: what it finds plus its part. -/
theorem part_at (c : Dev nD) (t : Fin cfg0.N) (X : FVec Ideal S8x128 .f32) (a : Fin 8) (b : Fin 128) :
    k0_pay1 (F := Ideal) (k0_pay14 (F := Ideal) X)
      (k0_pay15 (F := Ideal) (BitVec.ofNat 32 (grid0.coords t 0)) (two m c t) (lastBranch m c t) (lastGate m c t) (iblk m c 0 t) (iblk m c 8 t) (iblk m c 9 t)) (ix2 a b)
      = X (ix2 a b) + term m c t (ix2 a b) := by
  rw [term_at]
  pointwise [k0_pay1, k0_pay14, k0_pay15, err_at]
  rw [ofBits_halfMean]

/-- The first point starts from zeros, -/
theorem first (c : Dev nD) (t : Fin cfg0.N) (h : t.val % 52 = 0) (j : S8x128.Idx) :
    (outsAt0 m c t.val t.isLt).2.2.2.2.2 j = 0 + term m c t j := by
  rw [outsAt0_A m c t h]
  frame_out
  idx_vars j
  refine (part_at m c t _ _ _).trans (congrArg (fun x : EReal => x + _) ?_)
  pointwise [k0_pay11]

/-- and every other point adds its part to what it finds. -/
theorem next (c : Dev nD) (t : Fin cfg0.N) (h : ¬t.val % 52 = 0) (j : S8x128.Idx) :
    (outsAt0 m c t.val t.isLt).2.2.2.2.2 j
      = (outsAt0 m c (t.val - 1) (Nat.lt_of_le_of_lt (Nat.sub_le _ _) t.isLt)).2.2.2.2.2 j + term m c t j := by
  rw [outsAt0_B m c t h]
  frame_out
  generalize (outsAt0 m c (t.val - 1) (Nat.lt_of_le_of_lt (Nat.sub_le _ _) t.isLt)).2.2.2.2.2 = X
  idx_vars j
  exact part_at m c t X _ _

/-- The loss, in every entry of the last result. -/
theorem final15 (c : Dev nD) : (dats m 0 c).arrAt 15 cfg0.N =
    fun _ : S8x128.Idx => loss (outAt m c) (aT m c) := by
  refine (dats m 0 c).arrAt_eq_of_covers 15 _ (by decide +kernel) fun t hf y => ?_
  blk_simp
  rw [after0_15, Pipeline.eq_sum_fin_of_reset_step_apply_of_flush (fun n h => (outsAt0 m c n h).2.2.2.2.2) 52 (fun _ => (0 : EReal))
    (term m c) (fun t h j => first m c t h j) (fun t h j => next m c t h j) t ((flush0_15 t).mp hf) _, zero_add]
  unfold term loss
  rw [← Rms.real_mul_sum _ _ (by norm_num)]
  refine congrArg (fun x : EReal => _ * x) ?_
  simp only [Finset.sum_comm (s := (Finset.univ : Finset (Fin 1024)))]
  refine Fin.sum_mul_add_congr fun s r hl => ?_
  have e : row ⟨_, Pipeline.run_point_lt_of_flush t ((flush0_15 t).mp hf) s⟩ r = ⟨s.val * 320 + r.val, hl⟩ := by
    refine Fin.ext ?_
    rw [row_val]
    have h : t.val < 52 := t.isLt
    dsimp only
    omega
  exact congrArg (fun q => ∑ b : Fin 1024, err (outAt m c) (aT m c) q b * err (outAt m c) (aT m c) q b) e

end Cert.MixLoss

end
-- ==== Proof.MixLossRef.lean ====
/-
  The last layer's end and the loss: what the reference computes.
-/
module

public import proofs.«01_k».proof.Proof.Gen.Reference20Ideal.Read
public import proofs.«01_k».proof.Proof.MixLoss
public import Idealize.ShloMosaic.Lib.KernelVsHost

@[expose] public section

set_option maxRecDepth 16384

noncomputable section

namespace Cert.MixLoss

open Idealize.ShloMosaic Idealize.ShloMosaic.TcCoe Cert.Merge Cert.MixFwd
open Cert.Reference20Ideal Cert.Reference20Ideal.Gen Cert.Reference20Ideal.Read

/-- The branch's output product. -/
theorem ref_a (y : Arr 16640 512) (w : Arr 512 1024) :
    val_main_v44 (F := Ideal) y w = fun i : S16640x1024.Idx => branch y w (i 0) (i 1) := by
  funext i
  idx_vars i
  pointwise [val_main_v44, val_main_v8, val_main_v4, val_main_v0, branch]

/-- The branch's output product. -/
theorem ref_b (y : Arr 16640 512) (w : Arr 512 1024) :
    val_main_v45 (F := Ideal) y w = fun i : S16640x1024.Idx => branch y w (i 0) (i 1) := by
  funext i
  idx_vars i
  pointwise [val_main_v45, val_main_v9, val_main_v5, val_main_v1, branch]

/-- The branch's output product. -/
theorem ref_c (y : Arr 16640 512) (w : Arr 512 1024) :
    val_main_v46 (F := Ideal) y w = fun i : S16640x1024.Idx => branch y w (i 0) (i 1) := by
  funext i
  idx_vars i
  pointwise [val_main_v46, val_main_v10, val_main_v6, val_main_v2, branch]

/-- The merged rows. -/
theorem ref_mixed_at (ya yb yc : Arr 16640 512) (ug : Arr 16640 3072) (wa wb wc : Arr 512 1024) (r : Fin 16640) (c : Fin 1024) :
    val_main_v24 (F := Ideal) ya yb yc ug wa wb wc (ix2 r c) = mixed ya yb yc ug wa wb wc r c := by
  pointwise [val_main_v24, val_main_v23, val_main_v10, val_main_v6, val_main_v2, val_main_v22, val_main_v16, val_main_v14, val_main_v12, val_main_v11, val_main_v3, val_main_v13, val_main_cst, val_main_v15, val_main_cst_0, val_main_v21, val_main_v20, val_main_v9, val_main_v5, val_main_v1, val_main_v19, val_main_v18, val_main_v8, val_main_v4, val_main_v0, val_main_v17, mixed, gate, branch, third_zero]
  rfl

theorem ref_mixed (ya yb yc : Arr 16640 512) (ug : Arr 16640 3072) (wa wb wc : Arr 512 1024) :
    val_main_v47 (F := Ideal) ya yb yc ug wa wb wc = fun i : S16640x1024.Idx => mixed ya yb yc ug wa wb wc (i 0) (i 1) := by
  funext i
  idx_vars i
  pointwise [val_main_v47, ref_mixed_at]

/-- The layer's output. -/
theorem ref_out_at (h : Arr 16640 1024) (ya yb yc : Arr 16640 512) (ug : Arr 16640 3072) (wa wb wc : Arr 512 1024) (wo : Arr 1024 1024) (r : Fin 16640) (c : Fin 1024) :
    val_main_v26 (F := Ideal) h ya yb yc ug wa wb wc wo (ix2 r c) = out h (mixed ya yb yc ug wa wb wc) wo r c := by
  pointwise [val_main_v26, val_main_v25, val_main_v7, ref_mixed_at, out]

/-- The error on a token's row. -/
theorem ref_err_at (h : Arr 16640 1024) (ya yb yc : Arr 16640 512) (ug : Arr 16640 3072) (wa wb wc : Arr 512 1024) (wo : Arr 1024 1024) (t : Arr 16384 1024) (r : Fin 16384) (c : Fin 1024) :
    val_main_v28 (F := Ideal) h ya yb yc ug wa wb wc wo t (ix2 r c) = err (out h (mixed ya yb yc ug wa wb wc) wo) t (tokenRow r) c := by
  rw [err_token]
  pointwise [val_main_v28, val_main_v27, ref_out_at]
  rfl

/-- The gradient on a token's row. -/
theorem ref_dout_at (h : Arr 16640 1024) (ya yb yc : Arr 16640 512) (ug : Arr 16640 3072) (wa wb wc : Arr 512 1024) (wo : Arr 1024 1024) (t : Arr 16384 1024) (r : Fin 16384) (c : Fin 1024) :
    val_main_v42 (F := Ideal) h ya yb yc ug wa wb wc wo t (ix2 r c) = dout (out h (mixed ya yb yc ug wa wb wc) wo) t (tokenRow r) c := by
  pointwise [val_main_v42, val_main_v41, val_main_v40, val_main_v39, val_main_cst_8, val_main_v38, val_main_v37, val_main_cst_7,
    val_main_cst_6, val_main_v31, val_main_v30, val_main_cst_1, ref_err_at, dout]
  rw [Rms.ofBits_len, ofBits_half, ofBits_two, Ideal.div_coe (by norm_num), ← EReal.coe_mul, ← mul_assoc, ← EReal.coe_mul, mul_comm]
  norm_num

/-- The gradient of the loss at the layer's output: zero off the tokens' rows. -/
theorem ref_dout (h : Arr 16640 1024) (ya yb yc : Arr 16640 512) (ug : Arr 16640 3072) (wa wb wc : Arr 512 1024) (wo : Arr 1024 1024) (t : Arr 16384 1024) :
    val_main_v43 (F := Ideal) h ya yb yc ug wa wb wc wo t = fun i : S16640x1024.Idx => dout (out h (mixed ya yb yc ug wa wb wc) wo) t (i 0) (i 1) := by
  funext i
  idx_vars i
  unfold val_main_v43
  by_cases hr : token i0
  · have h1 := hr.1
    have h2 := hr.2
    have e : tokenRow ⟨i0.val - 64, by omega⟩ = i0 := Fin.ext (by show 64 + (i0.val - 64) = i0.val; omega)
    refine (pad_apply_of_inside _ _ _ _ _ _ _ _ (ix2 ⟨i0.val - 64, by omega⟩ i1) fun a => ?_).trans
      ((ref_dout_at h ya yb yc ug wa wb wc wo t _ _).trans (congrArg (fun q => dout _ t q i1) e))
    match a with
    | ⟨0, _⟩ => show i0.val = 64 + (i0.val - 64) * 1; omega
    | ⟨1, _⟩ => show i1.val = 0 + i1.val * 1; omega
  · refine (pad_apply_of_not_inside _ _ _ _ _ _ _ _ (0 : Fin 2) fun hin => hr ?_).trans ?_
    · have h1 : 64 ≤ i0.val := hin.1
      have h2 : (i0.val - 64) / 1 < 16384 := hin.2.2
      exact ⟨h1, by rw [Nat.div_one] at h2; omega⟩
    · show val_main_cst_9 (F := Ideal) _ = dout _ t i0 i1
      unfold dout err
      rw [dif_neg hr, zero_mul]
      pointwise [val_main_cst_9]

/-- The loss. -/
theorem ref_loss (h : Arr 16640 1024) (ya yb yc : Arr 16640 512) (ug : Arr 16640 3072) (wa wb wc : Arr 512 1024) (wo : Arr 1024 1024) (t : Arr 16384 1024) :
    val_main_v48 (F := Ideal) h ya yb yc ug wa wb wc wo t = fun _ : S8x128.Idx => loss (out h (mixed ya yb yc ug wa wb wc) wo) t := by
  funext i
  idx_vars i
  rw [← loss_eq]
  pointwise [val_main_v48, val_main_v36, val_main_cst_5, val_main_v35, val_main_cst_4, val_main_v34, val_main_v33, val_main_cst_3,
    val_main_v32, val_main_cst_2, val_main_v29]
  rw [ofBits_half, Rms.ofBits_len]
  simp only [Ideal.div_coe (show (1024 : ℝ) ≠ 0 by norm_num), ref_err_at, err_token]

end Cert.MixLoss

end
-- ==== Proof.ClaimMixFwdLoss.lean ====
/-
  The last layer's end and the loss: their claims.
-/
module

public import proofs.«01_k».proof.Defs
public import proofs.«01_k».proof.Proof.Gen.Reference20Ideal.Run
public import proofs.«01_k».proof.Proof.MixLossValue
public import proofs.«01_k».proof.Proof.MixLossRef
public import Idealize.ShloMosaic.Lib.Quiescent

@[expose] public section

set_option maxRecDepth 16384

noncomputable section

namespace Cert.MixLoss

open Idealize.ShloMosaic Idealize.ShloMosaic.TcCoe Idealize.SL.Sem

/-- The reference runs on the host alone: it ends with its arguments unchanged and no semaphore moved. -/
theorem frame_reference : Cert.quiescent_Reference20Ideal := fun m ρ _ =>
  (θ_run Cert.Reference20Ideal.defs _ _).mono
    (fun r h => ⟨fun c => (h c).2.2.2.2.2.2, sem_eq_zero_of_no_sems (by decide) r.2⟩)
    (Cert.Reference20Ideal.Value.run (F := Ideal) m ρ)

/-- The kernel's result arrays are the reference's, from arguments that agree. -/
theorem algebraic : Cert.algebraic_Kernel20Ideal_Reference20Ideal := by
  intro m ρ m' ρ' _ hagree
  refine ⟨fun c => (Cert.Kernel20Ideal.Gen.dats m 0 c).arrAt 10 Cert.Kernel20Ideal.cfg0.N, fun c => (Cert.Kernel20Ideal.Gen.dats m 0 c).arrAt 11 Cert.Kernel20Ideal.cfg0.N, fun c => (Cert.Kernel20Ideal.Gen.dats m 0 c).arrAt 12 Cert.Kernel20Ideal.cfg0.N, fun c => (Cert.Kernel20Ideal.Gen.dats m 0 c).arrAt 13 Cert.Kernel20Ideal.cfg0.N, fun c => (Cert.Kernel20Ideal.Gen.dats m 0 c).arrAt 14 Cert.Kernel20Ideal.cfg0.N, fun c => (Cert.Kernel20Ideal.Gen.dats m 0 c).arrAt 15 Cert.Kernel20Ideal.cfg0.N, ?_, ?_⟩
  · exact Cert.Kernel20Ideal.Value.run_blocks m ρ
  · refine (θ_run Cert.Reference20Ideal.defs _ _).mono (fun _ h c => ?_) (Cert.Reference20Ideal.Value.run (F := Ideal) m' ρ')
    obtain ⟨e0, e1, e2, e3, e4, e5, e6, e7, e8, e9⟩ := hagree c
    obtain ⟨r0, r1, r2, r3, r4, r5, keep⟩ := h c
    refine ⟨r0.trans ?_, r1.trans ?_, r2.trans ?_, r3.trans ?_, r4.trans ?_, r5.trans ?_, keep⟩
    · refine (Cert.Reference20Ideal.Read.val_main_v44_eq _ _).trans ((ref_a _ _).trans ?_)
      simp only [e0, e1, e2, e3, e4, e5, e6, e7, e8, e9]
      exact (final10 m c).symm
    · refine (Cert.Reference20Ideal.Read.val_main_v45_eq _ _).trans ((ref_b _ _).trans ?_)
      simp only [e0, e1, e2, e3, e4, e5, e6, e7, e8, e9]
      exact (final11 m c).symm
    · refine (Cert.Reference20Ideal.Read.val_main_v46_eq _ _).trans ((ref_c _ _).trans ?_)
      simp only [e0, e1, e2, e3, e4, e5, e6, e7, e8, e9]
      exact (final12 m c).symm
    · refine (Cert.Reference20Ideal.Read.val_main_v47_eq _ _ _ _ _ _ _).trans ((ref_mixed _ _ _ _ _ _ _).trans ?_)
      simp only [e0, e1, e2, e3, e4, e5, e6, e7, e8, e9]
      exact (final13 m c).symm
    · refine (Cert.Reference20Ideal.Read.val_main_v43_eq _ _ _ _ _ _ _ _ _ _).trans ((ref_dout _ _ _ _ _ _ _ _ _ _).trans ?_)
      simp only [e0, e1, e2, e3, e4, e5, e6, e7, e8, e9]
      exact (final14 m c).symm
    · refine (Cert.Reference20Ideal.Read.val_main_v48_eq m' c).trans ((ref_loss _ _ _ _ _ _ _ _ _ _).trans ?_)
      simp only [e0, e1, e2, e3, e4, e5, e6, e7, e8, e9]
      exact (final15 m c).symm

end Cert.MixLoss

end
-- ==== Proof.LowerBounds.lean ====
/-
  The layers' lower bounds and their gradient, in one column, on the reals. The bounds are the running sums of a softmax over
  the layers, less the first layer's share, clipped to [0, 1]. Every share is positive and they sum to one, so the clip acts
  only at the first layer, whose bound is the constant zero: its gradient drops out, and the others' pass through.
-/
module

public import Idealize.ShloMosaic.Lib.Pipeline.ValueKit
public import Idealize.ShloMosaic.Lib.Pointwise

@[expose] public section

noncomputable section

namespace Cert.LowerBounds

open Idealize.ShloMosaic

/-- An array with a row for each layer. -/
abbrev Arr : Type := (⟨2, ![4, 512]⟩ : Shape).Idx → EReal

/-- The greatest of a column's four logits. -/
def peak (x : Fin 4 → ℝ) : ℝ := max (x 0) (max (x 1) (max (x 2) (x 3)))

/-- A layer's exponential, the column's total and the layer's share of it. -/
def raised (x : Fin 4 → ℝ) (k : Fin 4) : ℝ := Real.exp (x k - peak x)
def total (x : Fin 4 → ℝ) : ℝ := raised x 0 + raised x 1 + raised x 2 + raised x 3
def share (x : Fin 4 → ℝ) (k : Fin 4) : ℝ := raised x k * (1 / total x)

theorem raised_pos (x : Fin 4 → ℝ) (k : Fin 4) : 0 < raised x k := Real.exp_pos _

theorem total_pos (x : Fin 4 → ℝ) : 0 < total x := by
  have := raised_pos x 0; have := raised_pos x 1; have := raised_pos x 2; have := raised_pos x 3
  unfold total; linarith

theorem share_pos (x : Fin 4 → ℝ) (k : Fin 4) : 0 < share x k :=
  mul_pos (raised_pos x k) (one_div_pos.2 (total_pos x))

theorem share_sum (x : Fin 4 → ℝ) : share x 0 + share x 1 + share x 2 + share x 3 = 1 := by
  have h := (total_pos x).ne'
  unfold share
  rw [← add_mul, ← add_mul, ← add_mul]
  exact mul_one_div_cancel h

/-- The gradient at the shares: a layer's share enters the bounds of its own and the later layers. -/
def later (d : Fin 4 → ℝ) : Fin 4 → ℝ := ![0, d 1 + d 2 + d 3, d 2 + d 3, d 3]

/-- The mean of that gradient under the shares. -/
def mean (x d : Fin 4 → ℝ) : ℝ :=
  later d 1 * share x 1 + later d 2 * share x 2 + later d 3 * share x 3

/-- The gradient at the logits. -/
def grad (x d : Fin 4 → ℝ) (k : Fin 4) : ℝ := share x k * (later d k - mean x d)

/-- The gradient written with the quotient's two derivatives, as differentiating `raised / total` gives it. -/
theorem grad_quotient (x d : Fin 4 → ℝ) (k : Fin 4) :
    (later d k * (1 / total x)
        + -(later d 0 * (1 / (total x * total x)) * raised x 0 + later d 1 * (1 / (total x * total x)) * raised x 1
          + later d 2 * (1 / (total x * total x)) * raised x 2 + later d 3 * (1 / (total x * total x)) * raised x 3)) * raised x k
      = grad x d k := by
  have h := (total_pos x).ne'
  have h0 : later d 0 = 0 := rfl
  unfold grad mean share
  rw [h0]
  field_simp
  ring

/-- The greatest entry as a fold from minus infinity. -/
theorem fold_peak (x : Fin 4 → ℝ) :
    (Finset.univ : Finset (Fin 4)).fold max ⊥ (fun k => ((x k : ℝ) : EReal)) = ((peak x : ℝ) : EReal) := by
  have h : (Finset.univ : Finset (Fin 4)) = {0, 1, 2, 3} := by decide
  rw [h]
  have hm (a b : ℝ) : ((max a b : ℝ) : EReal) = max (a : EReal) (b : EReal) := EReal.coe_strictMono.monotone.map_max
  simp only [peak, hm]
  rw [Finset.fold_insert (by decide), Finset.fold_insert (by decide), Finset.fold_insert (by decide), Finset.fold_singleton]
  simp

/-- The words of the programs' numbers. -/
theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_bot : Ideal.ofBits .f32 0xFF800000#32 = ⊥ := by
  simp [Ideal.ofBits, Ideal.ieee]
theorem ofBits_top : Ideal.ofBits .f32 0x7F800000#32 = ⊤ := by
  simp [Ideal.ofBits, Ideal.ieee]

end Cert.LowerBounds

end
-- ==== Proof.LowerBoundsValue.lean ====
/-
  What the lower bounds' gradient kernel leaves in its result array: row by row, at every column of finite logits and finite
  gradients, the gradient of `LowerBounds.lean`.
-/
module

public import proofs.«01_k».proof.Proof.Gen.Kernel21Ideal.Value
public import proofs.«01_k».proof.Proof.LowerBounds

@[expose] public section

noncomputable section

namespace Cert.LowerBounds

open Cert.Kernel21Ideal Cert.Kernel21Ideal.Gen Idealize.ShloMosaic Idealize.ShloMosaic.TcCoe

variable {a0 a1 : Arr} {c : Fin 512} {x d : Fin 4 → ℝ}

/-- The load of the whole array reads it. -/
theorem load_all (a : Arr) : View.ld (Val := Elt Ideal) (e' := .f32) a r0_0 = a :=
  View.ld_unit_zero (funext fun i => by fin_cases i <;> rfl) _ _

/-- The kernel's softmax. -/
theorem share_at (hx : ∀ k, a0 (ix2 k c) = ((x k : ℝ) : EReal)) (k : Fin 4) :
    (k0_pay10 (F := Ideal) a0 (ix2 k c) : EReal) = ((share x k : ℝ) : EReal) := by
  unfold k0_pay10
  pointwise
  rw [ofBits_bot]
  simp only [hx, fold_peak, ← EReal.coe_sub, Ideal.exp_coe, Fin.sum_univ_four, ← EReal.coe_add]
  refine (Ideal.div_coe (total_pos x).ne' _).trans ?_
  rw [← EReal.coe_mul]
  rfl

/-- A running sum of shares passes the kernel's test. -/
theorem pass {r : ℝ} (h0 : 0 ≤ r) (h1 : r ≤ 1) (u v : EReal) :
    Scalar.select (IntOp.andi (BitVec.ofBool (decide ((0 : EReal) ≤ (r : EReal)))) (BitVec.ofBool (decide ((r : EReal) ≤ 1)))) u v = u := by
  rw [decide_eq_true (by exact_mod_cast h0), decide_eq_true (by exact_mod_cast h1)]
  rfl

theorem pay18_at (hx : ∀ k, a0 (ix2 k c) = ((x k : ℝ) : EReal)) (hd : ∀ k, a1 (ix2 k c) = ((d k : ℝ) : EReal)) :
    (k0_pay18 (F := Ideal) a0 a1 (ix2 0 c) : EReal) = ((d 1 : ℝ) : EReal) := by
  unfold k0_pay18 k0_pay12 k0_pay11
  rw [load_all]
  pointwise
  rw [share_at hx, hd]
  have := share_pos x 0; have := share_pos x 1; have := share_pos x 2; have := share_pos x 3; have := share_sum x
  exact pass (by linarith) (by linarith) _ _

theorem pay19_at (hx : ∀ k, a0 (ix2 k c) = ((x k : ℝ) : EReal)) (hd : ∀ k, a1 (ix2 k c) = ((d k : ℝ) : EReal)) :
    (k0_pay19 (F := Ideal) a0 a1 (ix2 0 c) : EReal) = ((d 2 : ℝ) : EReal) := by
  unfold k0_pay19 k0_pay14 k0_pay13 k0_pay11
  rw [load_all]
  pointwise
  rw [share_at hx, share_at hx, hd, ← EReal.coe_add]
  have := share_pos x 0; have := share_pos x 1; have := share_pos x 2; have := share_pos x 3; have := share_sum x
  exact pass (by linarith) (by linarith) _ _

theorem pay20_at (hx : ∀ k, a0 (ix2 k c) = ((x k : ℝ) : EReal)) (hd : ∀ k, a1 (ix2 k c) = ((d k : ℝ) : EReal)) (v : EReal) :
    Scalar.select (k0_pay20 (F := Ideal) a0 a1 (ix2 0 c)) (a1 (ix2 3 c)) v = ((d 3 : ℝ) : EReal) := by
  unfold k0_pay20 k0_pay15 k0_pay13 k0_pay11
  rw [load_all]
  pointwise
  rw [share_at hx, share_at hx, share_at hx, hd, ← EReal.coe_add, ← EReal.coe_add]
  have := share_pos x 0; have := share_pos x 1; have := share_pos x 2; have := share_pos x 3; have := share_sum x
  exact pass (by linarith) (by linarith) _ _

/-! The four rows that the kernel stores. -/

theorem row0 (hx : ∀ k, a0 (ix2 k c) = ((x k : ℝ) : EReal)) (hd : ∀ k, a1 (ix2 k c) = ((d k : ℝ) : EReal)) :
    (k0_pay6 (F := Ideal) (k0_pay17 a0 a1) (k0_pay18 a0 a1) (k0_pay19 a0 a1) (k0_pay20 (F := Ideal) a0 a1) (View.ld a1 r0_3) (k0_pay21 a0 a1)
      (ix2 0 c) : EReal) = ((grad x d 0 : ℝ) : EReal) := by
  unfold k0_pay6 k0_pay5 k0_pay4 k0_pay3 k0_pay2 k0_pay1
  pointwise
  unfold k0_pay17
  rw [load_all, pay18_at hx hd, pay19_at hx hd, pay20_at hx hd]
  simp only [share_at hx, zero_mul, zero_add, ← EReal.coe_zero, ← EReal.coe_add, ← EReal.coe_mul, ← EReal.coe_sub]
  rfl

theorem row1 (hx : ∀ k, a0 (ix2 k c) = ((x k : ℝ) : EReal)) (hd : ∀ k, a1 (ix2 k c) = ((d k : ℝ) : EReal)) :
    (k0_pay7 (F := Ideal) (k0_pay17 a0 a1) (k0_pay18 a0 a1) (k0_pay19 a0 a1) (k0_pay20 (F := Ideal) a0 a1) (View.ld a1 r0_3) (k0_pay21 a0 a1)
      (ix2 0 c) : EReal) = ((grad x d 1 : ℝ) : EReal) := by
  unfold k0_pay7 k0_pay5 k0_pay4 k0_pay3 k0_pay2 k0_pay1
  pointwise
  unfold k0_pay17
  rw [load_all, pay18_at hx hd, pay19_at hx hd, pay20_at hx hd]
  simp only [share_at hx, zero_mul, zero_add, ← EReal.coe_zero, ← EReal.coe_add, ← EReal.coe_mul, ← EReal.coe_sub]
  rfl

theorem row2 (hx : ∀ k, a0 (ix2 k c) = ((x k : ℝ) : EReal)) (hd : ∀ k, a1 (ix2 k c) = ((d k : ℝ) : EReal)) :
    (k0_pay8 (F := Ideal) (k0_pay17 a0 a1) (k0_pay18 a0 a1) (k0_pay19 a0 a1) (k0_pay20 (F := Ideal) a0 a1) (View.ld a1 r0_3) (k0_pay21 a0 a1)
      (ix2 0 c) : EReal) = ((grad x d 2 : ℝ) : EReal) := by
  unfold k0_pay8 k0_pay5 k0_pay4 k0_pay3 k0_pay2 k0_pay1
  pointwise
  unfold k0_pay17
  rw [load_all, pay18_at hx hd, pay19_at hx hd, pay20_at hx hd]
  simp only [share_at hx, zero_mul, zero_add, ← EReal.coe_zero, ← EReal.coe_add, ← EReal.coe_mul, ← EReal.coe_sub]
  rfl

theorem row3 (hx : ∀ k, a0 (ix2 k c) = ((x k : ℝ) : EReal)) (hd : ∀ k, a1 (ix2 k c) = ((d k : ℝ) : EReal)) :
    (k0_pay9 (F := Ideal) (k0_pay17 a0 a1) (k0_pay18 a0 a1) (k0_pay19 a0 a1) (k0_pay20 (F := Ideal) a0 a1) (View.ld a1 r0_3) (k0_pay21 a0 a1)
      (ix2 0 c) : EReal) = ((grad x d 3 : ℝ) : EReal) := by
  unfold k0_pay9 k0_pay5 k0_pay4 k0_pay3 k0_pay2 k0_pay1
  pointwise
  unfold k0_pay17
  rw [load_all, pay18_at hx hd, pay19_at hx hd, pay20_at hx hd]
  simp only [share_at hx, zero_mul, zero_add, ← EReal.coe_zero, ← EReal.coe_add, ← EReal.coe_mul, ← EReal.coe_sub]
  rfl

/-- A row's rectangle holds no index of another row. -/
theorem off_row {k : Fin 4} {c : Fin 512} {off : Fin 2 → ℕ} {inb} (h : off 0 ≠ k.val) :
    (ix2 k c : S4x512.Idx) ∉ (Rect.unit (s := S4x512) off S1x512.size inb).set := fun hm => by
  have h0 : off 0 ≤ k.val ∧ k.val < off 0 + 1 := Rect.mem_set_unit.mp hm 0
  omega

/-- The index that a row's rectangle names. -/
theorem in_row {k : Fin 4} {c : Fin 512} {off : Fin 2 → ℕ} {inb} (h0 : off 0 = k.val) (h1 : off 1 = 0) :
    (Rect.unit (s := S4x512) off S1x512.size inb).emb (ix2 0 c) = (ix2 k c : S4x512.Idx) := by
  funext i
  match i with
  | ⟨0, _⟩ => exact Fin.ext (show off 0 + 1 * 0 = k.val by omega)
  | ⟨1, _⟩ => exact Fin.ext (show off 1 + 1 * c.val = c.val by omega)

/-! The indices that the stores write, and those that they leave. -/

theorem in0 (c : Fin 512) : r0_4.emb (ix2 0 c) = (ix2 0 c : S4x512.Idx) := in_row rfl rfl
theorem in1 (c : Fin 512) : r0_1.emb (ix2 0 c) = (ix2 1 c : S4x512.Idx) := in_row rfl rfl
theorem in2 (c : Fin 512) : r0_2.emb (ix2 0 c) = (ix2 2 c : S4x512.Idx) := in_row rfl rfl
theorem in3 (c : Fin 512) : r0_3.emb (ix2 0 c) = (ix2 3 c : S4x512.Idx) := in_row rfl rfl
theorem off10 (c : Fin 512) : (ix2 0 c : S4x512.Idx) ∉ r0_1.set := off_row (by decide)
theorem off20 (c : Fin 512) : (ix2 0 c : S4x512.Idx) ∉ r0_2.set := off_row (by decide)
theorem off21 (c : Fin 512) : (ix2 1 c : S4x512.Idx) ∉ r0_2.set := off_row (by decide)
theorem off30 (c : Fin 512) : (ix2 0 c : S4x512.Idx) ∉ r0_3.set := off_row (by decide)
theorem off31 (c : Fin 512) : (ix2 1 c : S4x512.Idx) ∉ r0_3.set := off_row (by decide)
theorem off32 (c : Fin 512) : (ix2 2 c : S4x512.Idx) ∉ r0_3.set := off_row (by decide)

/-- A row written under later writes elsewhere, and as the last write. -/
theorem under {p : View.Piece (Elt Ideal) S4x512 .f32} {L : List (View.Piece (Elt Ideal) S4x512 .f32)} {y : S4x512.Idx} {e : EReal}
    (h : y ∉ p.1.set) (he : View.canon L y = e) : View.canon (p :: L) y = e :=
  (View.canon_cons_of_not_mem p L h).trans he
theorem top {r : Rect S4x512} {w : r.shape.Idx → Elt Ideal .f32} {L : List (View.Piece (Elt Ideal) S4x512 .f32)} {y : S4x512.Idx} {e : EReal}
    (z : r.shape.Idx) (h : r.emb z = y) (he : w z = e) : View.canon (⟨r, w⟩ :: L) y = e := by
  subst h
  exact (View.canon_cons_emb r w L z).trans he

/-- The result array of the kernel. -/
theorem result_at (hx : ∀ k, a0 (ix2 k c) = ((x k : ℝ) : EReal)) (hd : ∀ k, a1 (ix2 k c) = ((d k : ℝ) : EReal)) :
    ∀ k : Fin 4, (Value.G2 (F := Ideal) a0 a1 (ix2 k c) : EReal) = ((grad x d k : ℝ) : EReal)
  | 0 => under (off30 c) (under (off20 c) (under (off10 c) (top _ (in0 c) (row0 hx hd))))
  | 1 => under (off31 c) (under (off21 c) (top _ (in1 c) (row1 hx hd)))
  | 2 => under (off32 c) (top _ (in2 c) (row2 hx hd))
  | 3 => top _ (in3 c) (row3 hx hd)

end Cert.LowerBounds

end
-- ==== Proof.LowerBoundsRunning.lean ====
/-
  What the reference's running sums are: a window of four rows that reaches three rows up, or three rows down, with zeros beyond
  the array's edge.
-/
module

public import proofs.«01_k».proof.Proof.LowerBounds

@[expose] public section

noncomputable section

namespace Cert.LowerBounds

open Idealize.ShloMosaic Idealize.ShloMosaic.TcCoe

/-- A window's positions in row-major order are its rows. -/
theorem window_row (n : Fin (Shape.numel ⟨2, ![4, 1]⟩)) : ((⟨2, ![4, 1]⟩ : Shape).rowMajor.symm n 0).val = n.val := by
  revert n; decide
theorem window_lane (n : Fin (Shape.numel ⟨2, ![4, 1]⟩)) : ((⟨2, ![4, 1]⟩ : Shape).rowMajor.symm n 1).val = 0 := by
  revert n; decide

/-- A sum over windows of four rows. -/
theorem window_sum (lo hi : Fin 2 → ℕ) (h : (⟨2, ![4, 512]⟩ : Shape).ReduceWindows ![4, 1] ![1, 1] lo hi ⟨2, ![4, 512]⟩)
    (hu : 0 < (⟨0, ![]⟩ : Shape).numel) (v : FVec Ideal ⟨2, ![4, 512]⟩ .f32) (z : FVec Ideal ⟨0, ![]⟩ .f32)
    (hz : (z (Shape.Idx.first hu) : EReal) = 0) (h1 : lo 1 = 0) (k : Fin 4) (c : Fin 512) :
    (Host.reduceWindowAdd ![4, 1] ![1, 1] lo hi v z h hu (ix2 k c) : EReal)
      = ∑ n : Fin 4, if hin : lo 0 ≤ k.val + n.val ∧ k.val + n.val - lo 0 < 4 then (v (ix2 ⟨k.val + n.val - lo 0, hin.2⟩ c) : EReal) else 0 := by
  have key : ∀ g : Fin 4 → EReal, (List.finRange 4).foldl (fun r n => r + g n) 0 = ∑ n, g n := fun g => by
    simp [List.finRange_succ, Fin.sum_univ_four]
  rw [← key]
  unfold Host.reduceWindowAdd
  rw [Ideal.hostReduceWindowAdd_def]
  unfold Ideal.hostReduceWindowAdd Host.reduceWindow
  refine (congrArg (fun e : EReal => List.foldl _ e _) hz).trans ?_
  refine congrArg (fun f => List.foldl f (0 : EReal) (List.finRange 4)) (funext fun r => funext fun n => congrArg (r + ·) ?_)
  have r0 : k.val * 1 + ((⟨2, ![4, 1]⟩ : Shape).rowMajor.symm n 0).val = k.val + n.val := by rw [window_row, Nat.mul_one]
  have r1 : c.val * 1 + ((⟨2, ![4, 1]⟩ : Shape).rowMajor.symm n 1).val = c.val := by rw [window_lane, Nat.mul_one, Nat.add_zero]
  by_cases hin : lo 0 ≤ k.val + n.val ∧ k.val + n.val - lo 0 < 4
  · rw [dif_pos hin]
    have all : ∀ a : Fin 2, lo a ≤ ((ix2 k c : (⟨2, ![4, 512]⟩ : Shape).Idx) a).val * (![1, 1] : Fin 2 → ℕ) a + ((⟨2, ![4, 1]⟩ : Shape).rowMajor.symm n a).val
        ∧ ((ix2 k c : (⟨2, ![4, 512]⟩ : Shape).Idx) a).val * (![1, 1] : Fin 2 → ℕ) a + ((⟨2, ![4, 1]⟩ : Shape).rowMajor.symm n a).val - lo a < (![4, 512] : Fin 2 → ℕ) a := fun a => by
      match a with
      | ⟨0, _⟩ => exact r0.symm ▸ hin
      | ⟨1, _⟩ =>
        refine r1.symm ▸ ⟨?_, ?_⟩
        · show lo 1 ≤ c.val; omega
        · show c.val - lo 1 < 512; have := c.isLt; omega
    refine (dif_pos all).trans (congrArg v (funext fun a => Fin.ext ?_))
    match a with
    | ⟨0, _⟩ => exact congrArg (· - lo 0) r0
    | ⟨1, _⟩ => exact (congrArg (· - lo 1) r1).trans (by rw [h1]; rfl)
  · rw [dif_neg hin]
    exact (dif_neg fun all => hin (r0 ▸ all 0)).trans hz

/-- A column's running sums from the first layer, and from the last. -/
def upTo (f : Fin 4 → ℝ) : Fin 4 → ℝ := ![f 0, f 0 + f 1, f 0 + f 1 + f 2, f 0 + f 1 + f 2 + f 3]
def onward (f : Fin 4 → ℝ) : Fin 4 → ℝ := ![f 0 + f 1 + f 2 + f 3, f 1 + f 2 + f 3, f 2 + f 3, f 3]

theorem window_up (hi : Fin 2 → ℕ) (h : (⟨2, ![4, 512]⟩ : Shape).ReduceWindows ![4, 1] ![1, 1] ![3, 0] hi ⟨2, ![4, 512]⟩)
    (hu : 0 < (⟨0, ![]⟩ : Shape).numel) (v : FVec Ideal ⟨2, ![4, 512]⟩ .f32) (z : FVec Ideal ⟨0, ![]⟩ .f32)
    (hz : (z (Shape.Idx.first hu) : EReal) = 0) (c : Fin 512) (f : Fin 4 → ℝ) (hv : ∀ k, (v (ix2 k c) : EReal) = ((f k : ℝ) : EReal))
    (k : Fin 4) : (Host.reduceWindowAdd ![4, 1] ![1, 1] ![3, 0] hi v z h hu (ix2 k c) : EReal) = ((upTo f k : ℝ) : EReal) := by
  rw [window_sum _ _ _ _ _ _ hz rfl, Fin.sum_univ_four]
  simp only [hv]
  fin_cases k <;> simp [upTo]

theorem window_down (hi : Fin 2 → ℕ) (h : (⟨2, ![4, 512]⟩ : Shape).ReduceWindows ![4, 1] ![1, 1] ![0, 0] hi ⟨2, ![4, 512]⟩)
    (hu : 0 < (⟨0, ![]⟩ : Shape).numel) (v : FVec Ideal ⟨2, ![4, 512]⟩ .f32) (z : FVec Ideal ⟨0, ![]⟩ .f32)
    (hz : (z (Shape.Idx.first hu) : EReal) = 0) (c : Fin 512) (f : Fin 4 → ℝ) (hv : ∀ k, (v (ix2 k c) : EReal) = ((f k : ℝ) : EReal))
    (k : Fin 4) : (Host.reduceWindowAdd ![4, 1] ![1, 1] ![0, 0] hi v z h hu (ix2 k c) : EReal) = ((onward f k : ℝ) : EReal) := by
  rw [window_sum _ _ _ _ _ _ hz rfl, Fin.sum_univ_four]
  simp only [hv]
  fin_cases k <;> simp [onward]

end Cert.LowerBounds

end
-- ==== Proof.LowerBoundsRef.lean ====
/-
  What the reference computes for the lower bounds' gradient, array by array, at finite logits and gradients: the softmax, its
  running sums less the first layer's share, the clip's derivative, the running sums backwards and the softmax's derivative.
-/
module

public import proofs.«01_k».proof.Proof.Gen.Reference21Ideal.Read
public import proofs.«01_k».proof.Proof.LowerBoundsRunning
public import Idealize.ShloMosaic.Lib.KernelVsHost

@[expose] public section

noncomputable section

namespace Cert.LowerBounds

open Cert.Reference21Ideal Cert.Reference21Ideal.Gen Cert.Reference21Ideal.Read Idealize.ShloMosaic Idealize.ShloMosaic.TcCoe

variable {a0 a1 : Arr} {X D : Fin 512 → Fin 4 → ℝ}

/-- The array holds these numbers, column by column. -/
abbrev Holds (a : Arr) (X : Fin 512 → Fin 4 → ℝ) : Prop := ∀ i, a i = ((X (i 1) (i 0) : ℝ) : EReal)

theorem eta2 {r : ℕ} (i : (⟨2, ![r, 512]⟩ : Shape).Idx) : i = ix2 (i 0) (i 1) :=
  funext fun a => by match a with | ⟨0, _⟩ => rfl | ⟨1, _⟩ => rfl

theorem column : S4x512.Reduces [0] S512 := by decide

theorem v0_at (hx : Holds a0 X) (i : S512.Idx) : (val_main_v0 (F := Ideal) a0 i : EReal) = ((peak (X (i 0)) : ℝ) : EReal) := by
  have e : val_main_v0 (F := Ideal) a0
      = multiReduction (F := Ideal) (φ := .f32) (s := S4x512) .maximumf [0] S512 (a0 : FVec Ideal S4x512 .f32) 0xFF800000#32 column (.inl rfl) rfl :=
    hostReduce_maximumf_eq_multiReduction (F := Ideal) (φ := .f32) (a0 : FVec Ideal S4x512 .f32) _ reducesTo_S4x512_S512_d0 h_S_ column (.inl rfl) rfl
  rw [e]
  refine (Ideal.multiReduction_maximumf_single (φ := .f32) a0 _ _ _ _ i).trans ?_
  refine Eq.trans ?_ (fold_peak (X (i 0)))
  exact congrArg₂ (fun b f => Finset.fold max b f Finset.univ) ofBits_bot (funext fun k => (hx _).trans rfl)

theorem v18_at (hx : Holds a0 X) (i : S4x512.Idx) : (val_main_v18 (F := Ideal) a0 i : EReal) = ((peak (X (i 1)) : ℝ) : EReal) := by
  rw [val_main_v18_apply, val_main_v17_apply, val_main_v7_apply, v0_at hx, val_main_v6_apply, val_main_cst_1_apply]
  exact (congrArg (fun e : EReal => max e _) ofBits_bot).trans (max_eq_right bot_le)

theorem v20_at (hx : Holds a0 X) (i : S4x512.Idx) : (val_main_v20 (F := Ideal) a0 i : EReal) = ((raised (X (i 1)) (i 0) : ℝ) : EReal) := by
  rw [val_main_v20_apply, val_main_v19_apply, v18_at hx, hx]
  show Ideal.exp (((_ : ℝ) : EReal) - ((_ : ℝ) : EReal)) = _
  rw [← EReal.coe_sub, Ideal.exp_coe]
  rfl

theorem v21_at (hx : Holds a0 X) (i : S512.Idx) : (val_main_v21 (F := Ideal) a0 i : EReal) = ((total (X (i 0)) : ℝ) : EReal) := by
  rw [val_main_v21_apply, val_main_cst_7_apply, Fin.sum_univ_four, v20_at hx, v20_at hx, v20_at hx, v20_at hx]
  refine (congrArg (fun e : EReal => e + _) ofBits_zero).trans ?_
  rw [← EReal.coe_add, ← EReal.coe_add, ← EReal.coe_add, ← EReal.coe_add, zero_add]
  rfl

theorem v22_at (hx : Holds a0 X) (i : S1x512.Idx) : (val_main_v22 (F := Ideal) a0 i : EReal) = ((total (X (i 1)) : ℝ) : EReal) :=
  (val_main_v22_apply (F := Ideal) a0 i).trans (v21_at hx _)

theorem v24_at (hx : Holds a0 X) (i : S4x512.Idx) : (val_main_v24 (F := Ideal) a0 i : EReal) = ((share (X (i 1)) (i 0) : ℝ) : EReal) := by
  rw [val_main_v24_apply, val_main_v23_apply, v20_at hx, v22_at hx]
  refine (Ideal.div_coe (total_pos _).ne' _).trans ?_
  rw [← EReal.coe_mul]
  rfl

theorem v27_at (hx : Holds a0 X) (i : S1x512.Idx) :
    (val_main_v27 (F := Ideal) a0 i : EReal) = ((1 / (total (X (i 1)) * total (X (i 1))) : ℝ) : EReal) := by
  rw [val_main_v27_apply, val_main_v25_apply, v22_at hx, val_main_v26_apply, val_main_cst_8_apply]
  show Ideal.div (Ideal.ofBits .f32 _) (((_ : ℝ) : EReal) * ((_ : ℝ) : EReal)) = _
  rw [ofBits_one, ← EReal.coe_mul]
  refine (Ideal.div_coe (mul_pos (total_pos _) (total_pos _)).ne' _).trans ?_
  rw [← EReal.coe_mul, one_mul]

/-- The lower bounds before the clip. -/
def bound (x : Fin 4 → ℝ) (k : Fin 4) : ℝ := upTo (share x) k - share x 0

theorem bound_first (x : Fin 4 → ℝ) : bound x 0 = 0 := sub_self _
theorem bound_pos (x : Fin 4 → ℝ) : ∀ k : Fin 4, k ≠ 0 → 0 < bound x k := by
  have := share_pos x 0; have := share_pos x 1; have := share_pos x 2; have := share_pos x 3
  intro k hk
  fin_cases k
  · exact absurd rfl hk
  all_goals simp [bound, upTo]; linarith
theorem bound_lt (x : Fin 4 → ℝ) : ∀ k : Fin 4, bound x k < 1 := by
  have := share_pos x 0; have := share_pos x 1; have := share_pos x 2; have := share_pos x 3; have := share_sum x
  intro k
  fin_cases k <;> simp [bound, upTo] <;> linarith

theorem v31_at (hx : Holds a0 X) (i : S4x512.Idx) : (val_main_v31 (F := Ideal) a0 i : EReal) = ((bound (X (i 1)) (i 0) : ℝ) : EReal) := by
  have e28 : (val_main_v28 (F := Ideal) a0 i : EReal) = ((upTo (share (X (i 1))) (i 0) : ℝ) : EReal) := by
    refine (congrArg (val_main_v28 (F := Ideal) a0) (eta2 i)).trans ?_
    exact window_up _ _ _ _ _ ofBits_zero (i 1) (share (X (i 1))) (fun k => v24_at hx _) (i 0)
  rw [val_main_v31_apply, e28, val_main_v30_apply, val_main_v29_apply, v24_at hx]
  exact (EReal.coe_sub _ _).symm

/-- A comparison that holds chooses the first number; one that does not, the second. -/
theorem choose_first {b : Bool} (h : b = true) (u v : EReal) : Scalar.select (BitVec.ofBool b) u v = u := by
  subst h; rfl
theorem choose_second {b : Bool} (h : b = false) (u v : EReal) : Scalar.select (BitVec.ofBool b) u v = v := by
  subst h; rfl

/-- The clip's derivative at one: every bound is below one. -/
theorem v32_2_at (hx : Holds a0 X) (i : S4x512.Idx) : (val_main_v32_2 (F := Ideal) a0 i : EReal) = ((1 : ℝ) : EReal) := by
  rw [val_main_v32_2_apply, val_main_call1_v16_apply, val_main_call1_v15_apply, val_main_call1_v12_apply, val_main_cst_10_apply,
    val_main_call1_v2_apply, v31_at hx, val_main_call1_v1_apply, val_main_call1_v0_apply, val_main_cst_9_apply,
    val_main_call1_v19_apply, val_main_call1_cst_2_apply]
  refine (choose_first (decide_eq_true ?_) _ _).trans ofBits_one
  show max (Ideal.ofBits .f32 _) _ < Ideal.ofBits .f32 _
  rw [ofBits_one, ofBits_zero]
  exact max_lt (EReal.coe_lt_coe_iff.2 zero_lt_one) (EReal.coe_lt_coe_iff.2 (bound_lt _ _))

/-- The clip's derivative at zero: the first layer's bound is zero, where it is a half; the others are above. -/
theorem v32_1_first (hx : Holds a0 X) (i : S4x512.Idx) (hi : i 0 = (0 : Fin 4)) :
    (val_main_v32_1 (F := Ideal) a0 i : EReal) = ((1 / 2 : ℝ) : EReal) := by
  rw [val_main_v32_1_apply, val_main_call1_v4_apply, v31_at hx, val_main_call1_v3_apply, val_main_call1_v0_apply, val_main_cst_9_apply,
    val_main_call1_v10_apply, val_main_call1_v6_apply, v31_at hx, val_main_call1_v5_apply, val_main_call1_v0_apply, val_main_cst_9_apply,
    val_main_call1_v9_apply, val_main_call1_cst_1_apply, hi, bound_first]
  refine (choose_second (decide_eq_false ?_) _ _).trans ((choose_first (decide_eq_true ?_) _ _).trans ofBits_half)
  · show ¬ Ideal.ofBits .f32 _ < _
    rw [ofBits_zero]
    exact lt_irrefl _
  · show _ = Ideal.ofBits .f32 _
    exact ofBits_zero.symm
theorem v32_1_later (hx : Holds a0 X) (i : S4x512.Idx) (hi : i 0 ≠ (0 : Fin 4)) :
    (val_main_v32_1 (F := Ideal) a0 i : EReal) = ((1 : ℝ) : EReal) := by
  rw [val_main_v32_1_apply, val_main_call1_v4_apply, v31_at hx, val_main_call1_v3_apply, val_main_call1_v0_apply, val_main_cst_9_apply,
    val_main_call1_v7_apply, val_main_call1_cst_apply]
  refine (choose_first (decide_eq_true ?_) _ _).trans ofBits_one
  show Ideal.ofBits .f32 _ < _
  rw [ofBits_zero]
  exact EReal.coe_lt_coe_iff.2 (bound_pos _ _ hi)

/-- The gradient that passes the clip. -/
def passed (d : Fin 4 → ℝ) (k : Fin 4) : ℝ := if k = 0 then d 0 * (1 / 2) else d k

theorem v33_at (hx : Holds a0 X) (hd : Holds a1 D) (i : S4x512.Idx) :
    (val_main_v33 (F := Ideal) a0 a1 i : EReal) = ((passed (D (i 1)) (i 0) : ℝ) : EReal) := by
  rw [val_main_v33_apply, val_main_call2_v0_apply, v32_2_at hx, hd]
  by_cases hi : i 0 = (0 : Fin 4)
  · rw [v32_1_first hx i hi]
    show ((_ : ℝ) : EReal) * ((_ : ℝ) : EReal) * ((_ : ℝ) : EReal) = _
    rw [← EReal.coe_mul, ← EReal.coe_mul, mul_one, hi]
    rfl
  · rw [v32_1_later hx i hi]
    show ((_ : ℝ) : EReal) * ((_ : ℝ) : EReal) * ((_ : ℝ) : EReal) = _
    rw [← EReal.coe_mul, ← EReal.coe_mul, mul_one, mul_one]
    exact congrArg _ (if_neg hi).symm

/-- What the first layer's share loses. -/
def lost (d : Fin 4 → ℝ) : ℝ := -passed d 0 + -passed d 1 + -passed d 2 + -passed d 3

theorem v36_at (hx : Holds a0 X) (hd : Holds a1 D) (c : Fin 512) :
    (val_main_v36 (F := Ideal) a0 a1 (ix2 0 c) : EReal) = ((lost (D c) : ℝ) : EReal) := by
  have ec : (idx_main_v36 (ix2 (0 : Fin 1) c) 0 : Fin 512) = c := Fin.ext (show 0 * 512 + c.val = c.val by omega)
  rw [val_main_v36_apply, val_main_v35_apply, val_main_cst_11_apply, Fin.sum_univ_four]
  simp only [val_main_v34_apply, v33_at hx hd]
  show Ideal.ofBits .f32 _ + (-((_ : ℝ) : EReal) + -((_ : ℝ) : EReal) + -((_ : ℝ) : EReal) + -((_ : ℝ) : EReal)) = _
  rw [ofBits_zero]
  simp only [← EReal.coe_neg, ← EReal.coe_add, zero_add]
  show ((lost (D (idx_main_v36 (ix2 (0 : Fin 1) c) 0)) : ℝ) : EReal) = _
  rw [ec]

/-- The first layer's entry alone. -/
def firstOnly (r : ℝ) (k : Fin 4) : ℝ := if k = 0 then r else 0

theorem v39_at (hx : Holds a0 X) (hd : Holds a1 D) (i : S4x512.Idx) :
    (val_main_v39 (F := Ideal) a0 a1 i : EReal) = ((later (D (i 1)) (i 0) : ℝ) : EReal) := by
  have e38 : (val_main_v38 (F := Ideal) a0 a1 i : EReal) = ((onward (passed (D (i 1))) (i 0) : ℝ) : EReal) := by
    refine (congrArg (val_main_v38 (F := Ideal) a0 a1) (eta2 i)).trans ?_
    exact window_down _ _ _ _ _ ofBits_zero (i 1) (passed (D (i 1))) (fun k => v33_at hx hd _) (i 0)
  have e37 : (val_main_v37 (F := Ideal) a0 a1 i : EReal) = ((firstOnly (lost (D (i 1))) (i 0) : ℝ) : EReal) := by
    by_cases hi : i 0 = (0 : Fin 4)
    · refine Eq.trans ?_ (congrArg _ (if_pos hi).symm)
      refine (pad_apply_of_inside _ _ _ _ _ _ _ i (ix2 0 (i 1)) fun a => ?_).trans (v36_at hx hd (i 1))
      match a with
      | ⟨0, _⟩ => exact congrArg Fin.val hi
      | ⟨1, _⟩ => exact (Nat.zero_add _).symm.trans (congrArg (0 + ·) (Nat.mul_one _).symm)
    · refine Eq.trans ?_ (congrArg _ (if_neg hi).symm)
      refine (pad_apply_of_not_inside _ _ _ _ _ _ _ i 0 fun h => hi (Fin.ext ?_)).trans ofBits_zero
      have h2 : ((i 0).val - 0) / (0 + 1) < 1 := h.2.2
      show (i 0).val = 0
      omega
  rw [val_main_v39_apply, e37, e38]
  show ((_ : ℝ) : EReal) + ((_ : ℝ) : EReal) = _
  rw [← EReal.coe_add]
  generalize D (i 1) = d
  generalize h : (i 0 : Fin 4) = k
  refine congrArg _ ?_
  fin_cases k <;> simp [firstOnly, lost, onward, later, passed] <;> ring

/-- A layer's term of the softmax's derivative. -/
def term (x d : Fin 4 → ℝ) (k : Fin 4) : ℝ := later d k * (1 / (total x * total x)) * raised x k

theorem v48_at (hx : Holds a0 X) (hd : Holds a1 D) (i : S512.Idx) :
    (val_main_v48 (F := Ideal) a0 a1 i : EReal)
      = ((-(term (X (i 0)) (D (i 0)) 0 + term (X (i 0)) (D (i 0)) 1 + term (X (i 0)) (D (i 0)) 2 + term (X (i 0)) (D (i 0)) 3) : ℝ) : EReal) := by
  have e42 (j : S4x512.Idx) : (val_main_v42 (F := Ideal) a0 a1 j : EReal) = ((term (X (j 1)) (D (j 1)) (j 0) : ℝ) : EReal) := by
    rw [val_main_v42_apply, val_main_v41_apply, v39_at hx hd, val_main_v40_apply, v27_at hx, v20_at hx]
    show ((_ : ℝ) : EReal) * ((_ : ℝ) : EReal) * ((_ : ℝ) : EReal) = _
    rw [← EReal.coe_mul, ← EReal.coe_mul]
    rfl
  have e43 (j : S512.Idx) : (val_main_v43 (F := Ideal) a0 a1 j : EReal)
      = ((term (X (j 0)) (D (j 0)) 0 + term (X (j 0)) (D (j 0)) 1 + term (X (j 0)) (D (j 0)) 2 + term (X (j 0)) (D (j 0)) 3 : ℝ) : EReal) := by
    rw [val_main_v43_apply, val_main_cst_13_apply, Fin.sum_univ_four, e42, e42, e42, e42]
    refine (congrArg (fun e : EReal => e + _) ofBits_zero).trans ?_
    rw [← EReal.coe_add, ← EReal.coe_add, ← EReal.coe_add, ← EReal.coe_add, zero_add]
    rfl
  have ec : (idx_main_v44 (idx_main_v48 i 0) 0 : Fin 512) = i 0 := Fin.ext (show 0 * 512 + (i 0).val = (i 0).val by omega)
  rw [val_main_v48_apply, val_main_cst_14_apply, Fin.sum_univ_one, val_main_v45_apply, val_main_v44_apply, e43, ec]
  refine (congrArg (fun e : EReal => e + _) ofBits_zero).trans ?_
  show ((0 : ℝ) : EReal) + -((_ : ℝ) : EReal) = _
  rw [← EReal.coe_neg, ← EReal.coe_add, zero_add]

/-- The result array of the reference. -/
theorem reference_at (hx : Holds a0 X) (hd : Holds a1 D) (i : S4x512.Idx) :
    (val_main_v51 (F := Ideal) a0 a1 i : EReal) = ((grad (X (i 1)) (D (i 1)) (i 0) : ℝ) : EReal) := by
  have e47 : (val_main_v47 (F := Ideal) a0 a1 i : EReal) = ((later (D (i 1)) (i 0) * (1 / total (X (i 1))) : ℝ) : EReal) := by
    rw [val_main_v47_apply, v39_at hx hd, val_main_v46_apply, v22_at hx]
    refine (Ideal.div_coe (total_pos _).ne' _).trans ?_
    rw [← EReal.coe_mul]
    rfl
  rw [val_main_v51_apply, val_main_v50_apply, e47, val_main_v49_apply, v48_at hx hd, v20_at hx]
  show (((_ : ℝ) : EReal) + ((_ : ℝ) : EReal)) * ((_ : ℝ) : EReal) = _
  rw [← EReal.coe_add, ← EReal.coe_mul]
  exact congrArg _ (grad_quotient _ _ _)

end Cert.LowerBounds

end
-- ==== Proof.ClaimLowerBounds.lean ====
/-
  The lower bounds' gradient: its claims.
-/
module

public import proofs.«01_k».proof.Defs
public import proofs.«01_k».proof.Proof.Gen.Reference21Ideal.Run
public import proofs.«01_k».proof.Proof.Gen.Pre_finite
public import proofs.«01_k».proof.Proof.LowerBoundsValue
public import proofs.«01_k».proof.Proof.LowerBoundsRef
public import Idealize.ShloMosaic.Lib.Quiescent

@[expose] public section

set_option maxRecDepth 16384

noncomputable section

namespace Cert.LowerBounds

open Idealize.ShloMosaic Idealize.ShloMosaic.TcCoe Idealize.SL.Sem

/-- The reference runs on the host alone: it ends with its arguments unchanged and no semaphore moved. -/
theorem frame_reference : Cert.quiescent_Reference21Ideal := fun m ρ _ =>
  (θ_run Cert.Reference21Ideal.defs _ _).mono
    (fun r h => ⟨fun c => (h c).2, sem_eq_zero_of_no_sems (by decide) r.2⟩)
    (Cert.Reference21Ideal.Value.run (F := Ideal) m ρ)

/-- The same of finite arguments. -/
theorem frame_reference_finite : Cert.quiescent_Reference21Ideal_pre_finite := fun m ρ _ =>
  frame_reference m ρ trivial

/-- Idealizing changes no number of the kernel. -/
theorem preserves : Cert.preserves_Kernel21_Kernel21Ideal := trivial

/-- A number whose absolute value is below infinity is real. -/
theorem real_of_abs {a : EReal} (h : max a (-a) < ⊤) : a = ((a.toReal : ℝ) : EReal) := by
  refine (EReal.coe_toReal (lt_of_le_of_lt (le_max_left _ _) h).ne fun e => ?_).symm
  subst e
  simp at h

theorem both {p q : Bool} (h : IntOp.andi (BitVec.ofBool p) (BitVec.ofBool q) = 1#1) : p = true ∧ q = true := by
  revert h; cases p <;> cases q <;> decide

/-- A column of an array as real numbers. -/
def reals (a : Arr) (c : Fin 512) (k : Fin 4) : ℝ := (a (ix2 k c)).toReal

/-- Finite arrays hold real numbers. -/
theorem finite_holds {a0 a1 : Arr} (h : Cert.Pre_finite.fn (F := Ideal) a0 a1 = fun _ => 1#1) :
    Holds a0 (reals a0) ∧ Holds a1 (reals a1) := by
  have key (i : (⟨2, ![4, 512]⟩ : Shape).Idx) : max (a0 i) (-a0 i) < ⊤ ∧ max (a1 i) (-a1 i) < ⊤ := by
    have hi : IntOp.andi (BitVec.ofBool (decide (max (a0 i) (-a0 i) < Ideal.ofBits .f32 0x7F800000#32)))
        (BitVec.ofBool (decide (max (a1 i) (-a1 i) < Ideal.ofBits .f32 0x7F800000#32))) = 1#1 := congrFun h i
    rw [ofBits_top] at hi
    exact ⟨of_decide_eq_true (both hi).1, of_decide_eq_true (both hi).2⟩
  refine ⟨fun i => ?_, fun i => ?_⟩
  · exact (real_of_abs (key i).1).trans (congrArg (fun j => (((a0 j).toReal : ℝ) : EReal)) (eta2 i))
  · exact (real_of_abs (key i).2).trans (congrArg (fun j => (((a1 j).toReal : ℝ) : EReal)) (eta2 i))

/-- Of finite arrays the kernel's result is the reference's. -/
theorem results_agree {a0 a1 : Arr} (h : Cert.Pre_finite.fn (F := Ideal) a0 a1 = fun _ => 1#1) :
    Cert.Reference21Ideal.Read.val_main_v51 (F := Ideal) a0 a1 = Cert.Kernel21Ideal.Value.G2 (F := Ideal) a0 a1 := by
  obtain ⟨hx, hd⟩ := finite_holds h
  funext i
  refine (reference_at hx hd i).trans ?_
  refine Eq.trans ?_ (congrArg (Cert.Kernel21Ideal.Value.G2 (F := Ideal) a0 a1) (eta2 i)).symm
  exact (result_at (x := reals a0 (i 1)) (d := reals a1 (i 1)) (fun k => hx _) (fun k => hd _) (i 0)).symm

/-- The kernel's result array is the reference's, from finite arguments that agree. -/
theorem algebraic : Cert.algebraic_Kernel21Ideal_Reference21Ideal_pre_finite := by
  intro m ρ m' ρ' hpre hagree
  refine ⟨fun c => Cert.Kernel21Ideal.Value.G2 (F := Ideal) (m ((c : Thread Cert.Kernel21Ideal.nD Cert.Kernel21Ideal.τ).loc Cert.Kernel21Ideal.main_arg0))
      (m ((c : Thread Cert.Kernel21Ideal.nD Cert.Kernel21Ideal.τ).loc Cert.Kernel21Ideal.main_arg1)), ?_, ?_⟩
  · exact Cert.Kernel21Ideal.Value.run m ρ
  · refine (θ_run Cert.Reference21Ideal.defs _ _).mono (fun _ h c => ?_) (Cert.Reference21Ideal.Value.run (F := Ideal) m' ρ')
    obtain ⟨e0, e1⟩ := hagree c
    refine ⟨(h c).1.trans ((Cert.Reference21Ideal.Read.val_main_v51_eq _ _).trans ?_), (h c).2⟩
    simp only [e0, e1]
    exact results_agree (hpre c)

end Cert.LowerBounds

end
-- ==== Proof.BoundsParts.lean ====
/-
  The softmax over the layers in one column of any logits, and the bounds that come of it. The exponentials are real numbers that
  are not negative. If they are all zero every share is minus infinity, and every bound is clipped to zero; otherwise the shares
  are real, and the first layer's share cancels in the running sums.
-/
module

public import proofs.«01_k».proof.Proof.LowerBounds

@[expose] public section

noncomputable section

namespace Cert.LowerBounds

open Idealize.ShloMosaic

/-- The layers' numbers in a column of an array. -/
abbrev layers (a : Arr) (c : Fin 512) (k : Fin 4) : EReal := a (ix2 k c)

/-- The greatest of a column's logits, a layer's exponential and its share of the total. -/
def greatest (x : Fin 4 → EReal) : EReal := (Finset.univ : Finset (Fin 4)).fold max ⊥ x
def lift (x : Fin 4 → EReal) (k : Fin 4) : EReal := Ideal.exp (x k - greatest x)
def part (x : Fin 4 → EReal) (k : Fin 4) : EReal := Ideal.div (lift x k) (lift x 0 + lift x 1 + lift x 2 + lift x 3)

theorem le_greatest (x : Fin 4 → EReal) (k : Fin 4) : x k ≤ greatest x :=
  (Finset.le_fold_max _).2 (.inr ⟨k, Finset.mem_univ k, le_rfl⟩)

/-- An exponential is a real number that is not negative. -/
theorem lift_real (x : Fin 4 → EReal) (k : Fin 4) : ∃ r : ℝ, 0 ≤ r ∧ lift x k = (r : EReal) := by
  have h := le_greatest x k
  unfold lift
  generalize greatest x = g at h
  generalize x k = y at h
  induction y with
  | bot => exact ⟨0, le_rfl, by rw [EReal.bot_sub]; rfl⟩
  | top => exact ⟨0, le_rfl, by rw [top_le_iff.1 h, EReal.sub_top]; rfl⟩
  | coe y =>
    induction g with
    | bot => exact absurd (le_bot_iff.1 h) (EReal.coe_ne_bot _)
    | top => exact ⟨0, le_rfl, by rw [EReal.sub_top]; rfl⟩
    | coe g => exact ⟨Real.exp (y - g), (Real.exp_pos _).le, by rw [← EReal.coe_sub, Ideal.exp_coe]⟩

/-- Either the shares are real, or all of them are minus infinity. -/
theorem part_cases (x : Fin 4 → EReal) :
    (∃ s : Fin 4 → ℝ, ∀ k, part x k = ((s k : ℝ) : EReal)) ∨ ∀ k, part x k = ⊥ := by
  choose r h0 hr using lift_real x
  have ht : lift x 0 + lift x 1 + lift x 2 + lift x 3 = ((r 0 + r 1 + r 2 + r 3 : ℝ) : EReal) := by
    simp only [hr, EReal.coe_add]
  by_cases h : r 0 + r 1 + r 2 + r 3 = 0
  · refine .inr fun k => ?_
    have hk : r k = 0 := by
      have := h0 0; have := h0 1; have := h0 2; have := h0 3
      fin_cases k <;> simp <;> linarith
    unfold part
    rw [ht, hr, h, hk]
    simp [Ideal.div]
  · refine .inl ⟨fun k => r k * (1 / (r 0 + r 1 + r 2 + r 3)), fun k => ?_⟩
    unfold part
    rw [ht, hr]
    refine (Ideal.div_coe h _).trans ?_
    rw [← EReal.coe_mul]

/-- The clip to [0, 1]. -/
def clip (e : EReal) : EReal := min 1 (max 0 e)

/-- A layer's bound, as the sum of the shares after the first, clipped. -/
def clipped (x : Fin 4 → EReal) : Fin 4 → EReal :=
  ![clip 0, clip (part x 1), clip (part x 1 + part x 2), clip (part x 1 + part x 2 + part x 3)]

/-- The running sum of the shares. -/
def running (s : Fin 4 → EReal) : Fin 4 → EReal := ![s 0, s 0 + s 1, s 0 + s 1 + s 2, s 0 + s 1 + s 2 + s 3]

/-- The first layer's share cancels, or the clip hides that it does not. -/
theorem running_clipped (x : Fin 4 → EReal) (k : Fin 4) : clip (running (part x) k - part x 0) = clipped x k := by
  rcases part_cases x with ⟨s, hs⟩ | hs
  · have e : running (part x) k - part x 0 = ((![0, s 1, s 1 + s 2, s 1 + s 2 + s 3] k : ℝ) : EReal) := by
      fin_cases k <;> simp [running, hs] <;> norm_cast <;> ring_nf
    rw [e]
    fin_cases k <;> simp [clipped, hs]
  · fin_cases k <;> simp [running, clipped, hs, clip]

end Cert.LowerBounds

end
-- ==== Proof.BoundsValue.lean ====
/-
  What the lower bounds' kernel leaves in its result array, row by row.
-/
module

public import proofs.«01_k».proof.Proof.Gen.Kernel22Ideal.Value
public import proofs.«01_k».proof.Proof.LowerBoundsValue
public import proofs.«01_k».proof.Proof.BoundsParts

@[expose] public section

noncomputable section

namespace Cert.LowerBounds.Forward

open Cert.Kernel22Ideal Cert.Kernel22Ideal.Gen Idealize.ShloMosaic Idealize.ShloMosaic.TcCoe

variable {a0 : Arr} {c : Fin 512}

/-- The kernel's softmax. -/
theorem part_at (k : Fin 4) : (k0_pay1 (F := Ideal) a0 (ix2 k c) : EReal) = part (layers a0 c) k := by
  unfold k0_pay1
  pointwise
  rw [ofBits_bot]
  simp only [Fin.sum_univ_four]
  rfl

/-! The four rows that the kernel stores. -/

theorem row0 : (k0_pay3 (F := Ideal) (ix2 0 c) : EReal) = clipped (layers a0 c) 0 := by
  unfold k0_pay3 k0_pay2
  pointwise
  rfl

theorem row1 : (k0_pay5 (F := Ideal) a0 (ix2 0 c) : EReal) = clipped (layers a0 c) 1 := by
  unfold k0_pay5 k0_pay4 k0_pay2
  pointwise
  rw [part_at]
  rfl

theorem row2 : (k0_pay7 (F := Ideal) a0 (ix2 0 c) : EReal) = clipped (layers a0 c) 2 := by
  unfold k0_pay7 k0_pay6 k0_pay4 k0_pay2
  pointwise
  rw [part_at, part_at]
  rfl

theorem row3 : (k0_pay8 (F := Ideal) a0 (ix2 0 c) : EReal) = clipped (layers a0 c) 3 := by
  unfold k0_pay8 k0_pay6 k0_pay4 k0_pay2
  pointwise
  rw [part_at, part_at, part_at]
  rfl

/-! The indices that the stores write, and those that they leave. -/

theorem in0 (c : Fin 512) : r0_1.emb (ix2 0 c) = (ix2 0 c : S4x512.Idx) := in_row rfl rfl
theorem in1 (c : Fin 512) : r0_2.emb (ix2 0 c) = (ix2 1 c : S4x512.Idx) := in_row rfl rfl
theorem in2 (c : Fin 512) : r0_3.emb (ix2 0 c) = (ix2 2 c : S4x512.Idx) := in_row rfl rfl
theorem in3 (c : Fin 512) : r0_4.emb (ix2 0 c) = (ix2 3 c : S4x512.Idx) := in_row rfl rfl
theorem off10 (c : Fin 512) : (ix2 0 c : S4x512.Idx) ∉ r0_2.set := off_row (by decide)
theorem off20 (c : Fin 512) : (ix2 0 c : S4x512.Idx) ∉ r0_3.set := off_row (by decide)
theorem off21 (c : Fin 512) : (ix2 1 c : S4x512.Idx) ∉ r0_3.set := off_row (by decide)
theorem off30 (c : Fin 512) : (ix2 0 c : S4x512.Idx) ∉ r0_4.set := off_row (by decide)
theorem off31 (c : Fin 512) : (ix2 1 c : S4x512.Idx) ∉ r0_4.set := off_row (by decide)
theorem off32 (c : Fin 512) : (ix2 2 c : S4x512.Idx) ∉ r0_4.set := off_row (by decide)

/-- The result array of the kernel. -/
theorem result_at : ∀ k : Fin 4, (Value.G1 (F := Ideal) a0 (ix2 k c) : EReal) = clipped (layers a0 c) k
  | 0 => under (off30 c) (under (off20 c) (under (off10 c) (top _ (in0 c) row0)))
  | 1 => under (off31 c) (under (off21 c) (top _ (in1 c) row1))
  | 2 => under (off32 c) (top _ (in2 c) row2)
  | 3 => top _ (in3 c) row3

end Cert.LowerBounds.Forward

end
-- ==== Proof.BoundsRef.lean ====
/-
  What the reference computes for the lower bounds: the softmax, its running sums less the first layer's share, the clip.
-/
module

public import proofs.«01_k».proof.Proof.Gen.Reference22Ideal.Read
public import proofs.«01_k».proof.Proof.LowerBoundsRunning
public import proofs.«01_k».proof.Proof.BoundsParts
public import Idealize.ShloMosaic.Lib.KernelVsHost

@[expose] public section

noncomputable section

namespace Cert.LowerBounds.Forward

open Cert.Reference22Ideal Cert.Reference22Ideal.Gen Cert.Reference22Ideal.Read Idealize.ShloMosaic Idealize.ShloMosaic.TcCoe

variable {a0 : Arr}

theorem reduced : S4x512.Reduces [0] S512 := by decide

theorem v0_at (i : S512.Idx) : (val_main_v0 (F := Ideal) a0 i : EReal) = greatest (layers a0 (i 0)) := by
  have e : val_main_v0 (F := Ideal) a0
      = multiReduction (F := Ideal) (φ := .f32) (s := S4x512) .maximumf [0] S512 (a0 : FVec Ideal S4x512 .f32) 0xFF800000#32 reduced (.inl rfl) rfl :=
    hostReduce_maximumf_eq_multiReduction (F := Ideal) (φ := .f32) (a0 : FVec Ideal S4x512 .f32) _ reducesTo_S4x512_S512_d0 h_S_ reduced (.inl rfl) rfl
  rw [e]
  refine (Ideal.multiReduction_maximumf_single (φ := .f32) a0 _ _ _ _ i).trans ?_
  refine congrArg₂ (fun b f => Finset.fold max b f Finset.univ) ofBits_bot (funext fun k => congrArg a0 (funext fun a => ?_))
  match a with
  | ⟨0, _⟩ => rfl
  | ⟨1, _⟩ => rfl

theorem v4_at (i : S4x512.Idx) : (val_main_v4 (F := Ideal) a0 i : EReal) = greatest (layers a0 (i 1)) := by
  rw [val_main_v4_apply, val_main_v3_apply, val_main_v2_apply, v0_at, val_main_v1_apply, val_main_cst_0_apply]
  exact (congrArg (fun e : EReal => max e _) ofBits_bot).trans (max_eq_right bot_le)

theorem v6_at (k : Fin 4) (c : Fin 512) : (val_main_v6 (F := Ideal) a0 (ix2 k c) : EReal) = lift (layers a0 c) k := by
  rw [val_main_v6_apply, val_main_v5_apply, v4_at]
  rfl

theorem v7_at (i : S512.Idx) : (val_main_v7 (F := Ideal) a0 i : EReal)
    = lift (layers a0 (i 0)) 0 + lift (layers a0 (i 0)) 1 + lift (layers a0 (i 0)) 2 + lift (layers a0 (i 0)) 3 := by
  have ei (k : Fin 4) : idx_main_v7 i k = ix2 k (i 0) := funext fun a => by
    match a with
    | ⟨0, _⟩ => rfl
    | ⟨1, _⟩ => rfl
  rw [val_main_v7_apply, val_main_cst_1_apply, Fin.sum_univ_four]
  simp only [ei]
  refine (congrArg (fun e : EReal => e + _) (ofBits_zero.trans EReal.coe_zero)).trans ((zero_add _).trans ?_)
  exact congrArg₂ (· + ·) (congrArg₂ (· + ·) (congrArg₂ (· + ·) (v6_at 0 (i 0)) (v6_at 1 (i 0))) (v6_at 2 (i 0))) (v6_at 3 (i 0))

theorem v10_at (k : Fin 4) (c : Fin 512) : (val_main_v10 (F := Ideal) a0 (ix2 k c) : EReal) = part (layers a0 c) k := by
  rw [val_main_v10_apply, v6_at, val_main_v9_apply, val_main_v8_apply, v7_at]
  rfl

theorem v11_at (k : Fin 4) (c : Fin 512) : (val_main_v11 (F := Ideal) a0 (ix2 k c) : EReal) = running (part (layers a0 c)) k := by
  refine (window_sum _ _ _ _ _ _ (ofBits_zero.trans EReal.coe_zero) rfl k c).trans ?_
  rw [Fin.sum_univ_four]
  simp only [v10_at]
  fin_cases k <;> simp [running]

/-- The result array of the reference. -/
theorem reference_at (k : Fin 4) (c : Fin 512) : (val_main_v15 (F := Ideal) a0 (ix2 k c) : EReal) = clipped (layers a0 c) k := by
  have e13 : (val_main_v13 (F := Ideal) a0 (ix2 k c) : EReal) = part (layers a0 c) 0 := by
    rw [val_main_v13_apply, val_main_v12_apply]
    refine (congrArg (val_main_v10 (F := Ideal) a0) (funext fun a => ?_)).trans (v10_at 0 c)
    match a with
    | ⟨0, _⟩ => rfl
    | ⟨1, _⟩ => exact Fin.ext (by simp [idx_main_v12, idx_main_v13])
  rw [val_main_v15_apply, val_main_call1_v2_apply, val_main_v14_apply, v11_at, e13, val_main_call1_v4_apply, val_main_call1_v3_apply,
    val_main_cst_3_apply, val_main_call1_v1_apply, val_main_call1_v0_apply, val_main_cst_2_apply]
  refine Eq.trans ?_ (running_clipped (layers a0 c) k)
  refine (congrArg₂ (fun p q : EReal => min p (max q _)) ofBits_one ofBits_zero).trans ?_
  rfl

end Cert.LowerBounds.Forward

end
-- ==== Proof.ClaimBounds.lean ====
/-
  The lower bounds: their claims.
-/
module

public import proofs.«01_k».proof.Defs
public import proofs.«01_k».proof.Proof.Gen.Reference22Ideal.Run
public import proofs.«01_k».proof.Proof.BoundsValue
public import proofs.«01_k».proof.Proof.BoundsRef
public import proofs.«01_k».proof.Proof.LowerBoundsRef
public import Idealize.ShloMosaic.Lib.Quiescent

@[expose] public section

set_option maxRecDepth 16384

noncomputable section

namespace Cert.LowerBounds.Forward

open Idealize.ShloMosaic Idealize.ShloMosaic.TcCoe Idealize.SL.Sem

/-- The reference runs on the host alone: it ends with its argument unchanged and no semaphore moved. -/
theorem frame_reference : Cert.quiescent_Reference22Ideal := fun m ρ _ =>
  (θ_run Cert.Reference22Ideal.defs _ _).mono
    (fun r h => ⟨fun c => (h c).2, sem_eq_zero_of_no_sems (by decide) r.2⟩)
    (Cert.Reference22Ideal.Value.run (F := Ideal) m ρ)

/-- Idealizing changes no number of the kernel. -/
theorem preserves : Cert.preserves_Kernel22_Kernel22Ideal := trivial

/-- Of every array of logits the kernel's result is the reference's. -/
theorem results_agree (a0 : Arr) :
    Cert.Reference22Ideal.Read.val_main_v15 (F := Ideal) a0 = Cert.Kernel22Ideal.Value.G1 (F := Ideal) a0 := by
  funext i
  rw [eta2 i]
  exact (reference_at (i 0) (i 1)).trans (result_at (i 0)).symm

/-- The kernel's result array is the reference's, from arguments that agree. -/
theorem algebraic : Cert.algebraic_Kernel22Ideal_Reference22Ideal := by
  intro m ρ m' ρ' _ hagree
  refine ⟨fun c => Cert.Kernel22Ideal.Value.G1 (F := Ideal) (m ((c : Thread Cert.Kernel22Ideal.nD Cert.Kernel22Ideal.τ).loc Cert.Kernel22Ideal.main_arg0)), ?_, ?_⟩
  · exact Cert.Kernel22Ideal.Value.run m ρ
  · refine (θ_run Cert.Reference22Ideal.defs _ _).mono (fun _ h c => ?_) (Cert.Reference22Ideal.Value.run (F := Ideal) m' ρ')
    refine ⟨(h c).1.trans ((Cert.Reference22Ideal.Read.val_main_v15_eq _).trans ?_), (h c).2⟩
    simp only [hagree c]
    exact results_agree _

end Cert.LowerBounds.Forward

end
-- ==== Proof.lean ====
/- Everything that is claimed of the training step's calls, put together: the frames of every program as generated, and
   each call's value claim from the module of its name. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.MergeClaim
public import proofs.«01_k».proof.Proof.ClaimInBwd
public import proofs.«01_k».proof.Proof.ClaimGradG
public import proofs.«01_k».proof.Proof.ClaimGradA
public import proofs.«01_k».proof.Proof.ClaimGradB
public import proofs.«01_k».proof.Proof.ClaimGradC
public import proofs.«01_k».proof.Proof.ClaimFwdG
public import proofs.«01_k».proof.Proof.ClaimFwdA
public import proofs.«01_k».proof.Proof.ClaimFwdB
public import proofs.«01_k».proof.Proof.ClaimFwdC
public import proofs.«01_k».proof.Proof.ClaimMixFwd
public import proofs.«01_k».proof.Proof.ClaimGradOut
public import proofs.«01_k».proof.Proof.ClaimGradBranches
public import proofs.«01_k».proof.Proof.ClaimAdamWIn
public import proofs.«01_k».proof.Proof.ClaimAdamWAo
public import proofs.«01_k».proof.Proof.ClaimAdamWBo
public import proofs.«01_k».proof.Proof.ClaimAdamWCo
public import proofs.«01_k».proof.Proof.ClaimAdamWOut
public import proofs.«01_k».proof.Proof.ClaimAdamSmall
public import proofs.«01_k».proof.Proof.ClaimMixFwdLoss
public import proofs.«01_k».proof.Proof.ClaimLowerBounds
public import proofs.«01_k».proof.Proof.ClaimBounds
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Pre_finite.Gen.facts,
    fun m ρ _ => Cert.Kernel.Gen.frame m ρ,
    fun m ρ _ => Cert.KernelIdeal.Gen.frame m ρ,
    Cert.Merge.frame_reference,
    fun m ρ _ => Cert.Kernel2.Gen.frame m ρ,
    fun m ρ _ => Cert.Kernel2Ideal.Gen.frame m ρ,
    Cert.InBwd.frame_reference,
    fun m ρ _ => Cert.Kernel3.Gen.frame m ρ,
    fun m ρ _ => Cert.Kernel3Ideal.Gen.frame m ρ,
    Cert.Project.GradG.frame_reference,
    fun m ρ _ => Cert.Kernel4.Gen.frame m ρ,
    fun m ρ _ => Cert.Kernel4Ideal.Gen.frame m ρ,
    Cert.Project.GradA.frame_reference,
    fun m ρ _ => Cert.Kernel5.Gen.frame m ρ,
    fun m ρ _ => Cert.Kernel5Ideal.Gen.frame m ρ,
    Cert.Project.GradB.frame_reference,
    fun m ρ _ => Cert.Kernel6.Gen.frame m ρ,
    fun m ρ _ => Cert.Kernel6Ideal.Gen.frame m ρ,
    Cert.Project.GradC.frame_reference,
    fun m ρ _ => Cert.Kernel7.Gen.frame m ρ,
    fun m ρ _ => Cert.Kernel7Ideal.Gen.frame m ρ,
    Cert.Project.FwdG.frame_reference,
    fun m ρ _ => Cert.Kernel8.Gen.frame m ρ,
    fun m ρ _ => Cert.Kernel8Ideal.Gen.frame m ρ,
    Cert.Project.FwdA.frame_reference,
    fun m ρ _ => Cert.Kernel9.Gen.frame m ρ,
    fun m ρ _ => Cert.Kernel9Ideal.Gen.frame m ρ,
    Cert.Project.FwdB.frame_reference,
    fun m ρ _ => Cert.Kernel10.Gen.frame m ρ,
    fun m ρ _ => Cert.Kernel10Ideal.Gen.frame m ρ,
    Cert.Project.FwdC.frame_reference,
    fun m ρ _ => Cert.Kernel11.Gen.frame m ρ,
    fun m ρ _ => Cert.Kernel11Ideal.Gen.frame m ρ,
    Cert.MixFwd.frame_reference,
    fun m ρ _ => Cert.Kernel12.Gen.frame m ρ,
    fun m ρ _ => Cert.Kernel12Ideal.Gen.frame m ρ,
    Cert.Project.GradOut.frame_reference,
    fun m ρ _ => Cert.Kernel13.Gen.frame m ρ,
    fun m ρ _ => Cert.Kernel13Ideal.Gen.frame m ρ,
    Cert.Project.GradBranches.frame_reference,
    fun m ρ _ => Cert.Kernel14.Gen.frame m ρ,
    fun m ρ _ => Cert.Kernel14Ideal.Gen.frame m ρ,
    Cert.Adam.WIn.frame_reference,
    fun m ρ _ => Cert.Kernel15.Gen.frame m ρ,
    fun m ρ _ => Cert.Kernel15Ideal.Gen.frame m ρ,
    Cert.Adam.WAo.frame_reference,
    fun m ρ _ => Cert.Kernel16.Gen.frame m ρ,
    fun m ρ _ => Cert.Kernel16Ideal.Gen.frame m ρ,
    Cert.Adam.WBo.frame_reference,
    fun m ρ _ => Cert.Kernel17.Gen.frame m ρ,
    fun m ρ _ => Cert.Kernel17Ideal.Gen.frame m ρ,
    Cert.Adam.WCo.frame_reference,
    fun m ρ _ => Cert.Kernel18.Gen.frame m ρ,
    fun m ρ _ => Cert.Kernel18Ideal.Gen.frame m ρ,
    Cert.Adam.WOut.frame_reference,
    fun m ρ _ => Cert.Kernel19.Gen.frame m ρ,
    fun m ρ _ => Cert.Kernel19Ideal.Gen.frame m ρ,
    Cert.Adam.Small.frame_reference,
    fun m ρ _ => Cert.Kernel20.Gen.frame m ρ,
    fun m ρ _ => Cert.Kernel20Ideal.Gen.frame m ρ,
    Cert.MixLoss.frame_reference,
    fun m ρ _ => Cert.Kernel21.Gen.frame m ρ,
    fun m ρ _ => Cert.Kernel21Ideal.Gen.frame m ρ,
    fun m ρ _ => Cert.Kernel21Ideal.Gen.frame m ρ,
    Cert.LowerBounds.frame_reference,
    Cert.LowerBounds.frame_reference_finite,
    fun m ρ _ => Cert.Kernel22.Gen.frame m ρ,
    fun m ρ _ => Cert.Kernel22Ideal.Gen.frame m ρ,
    Cert.LowerBounds.Forward.frame_reference,
    trivial,
    Cert.Merge.algebraic,
    trivial,
    Cert.InBwd.algebraic,
    trivial,
    Cert.Project.GradG.algebraic,
    trivial,
    Cert.Project.GradA.algebraic,
    trivial,
    Cert.Project.GradB.algebraic,
    trivial,
    Cert.Project.GradC.algebraic,
    trivial,
    Cert.Project.FwdG.algebraic,
    trivial,
    Cert.Project.FwdA.algebraic,
    trivial,
    Cert.Project.FwdB.algebraic,
    trivial,
    Cert.Project.FwdC.algebraic,
    trivial,
    Cert.MixFwd.algebraic,
    trivial,
    Cert.Project.GradOut.algebraic,
    trivial,
    Cert.Project.GradBranches.algebraic,
    Cert.Adam.WIn.preserves,
    Cert.Adam.WIn.algebraic,
    Cert.Adam.WAo.preserves,
    Cert.Adam.WAo.algebraic,
    Cert.Adam.WBo.preserves,
    Cert.Adam.WBo.algebraic,
    Cert.Adam.WCo.preserves,
    Cert.Adam.WCo.algebraic,
    Cert.Adam.WOut.preserves,
    Cert.Adam.WOut.algebraic,
    Cert.Adam.Small.preserves,
    Cert.Adam.Small.algebraic,
    trivial,
    Cert.MixLoss.algebraic,
    trivial,
    Cert.LowerBounds.algebraic,
    trivial,
    Cert.LowerBounds.Forward.algebraic⟩

end Cert.Proof

end
